-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_premix [hPre_finite_premix : Cert.Pre_finite_premix.Facts] (m : (ℓ : Loc Cert.KernelIdeal.nD Cert.KernelIdeal.τ Cert.KernelIdeal.sig) → Buf (Elt Ideal) ℓ) : Prop :=
  ∀ c : Dev Cert.KernelIdeal.nD,
    (Cert.Pre_finite_premix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_premix [hPre_finite_premix : Cert.Pre_finite_premix.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_premix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_loss [hPre_finite_loss : Cert.Pre_finite_loss.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_loss.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_loss [hPre_finite_loss : Cert.Pre_finite_loss.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_loss.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mixnorm [hPre_finite_mixnorm : Cert.Pre_finite_mixnorm.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mixnorm.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mixnorm [hPre_finite_mixnorm : Cert.Pre_finite_mixnorm.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mixnorm.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_conv [hPre_finite_conv : Cert.Pre_finite_conv.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_conv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_conv [hPre_finite_conv : Cert.Pre_finite_conv.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_conv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sgu [hPre_finite_sgu : Cert.Pre_finite_sgu.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sgu.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sgu [hPre_finite_sgu : Cert.Pre_finite_sgu.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sgu.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_mid [hPre_finite_mid : Cert.Pre_finite_mid.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_mid.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_mid [hPre_finite_mid : Cert.Pre_finite_mid.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_mid.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_prep [hPre_finite_prep : Cert.Pre_finite_prep.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_prep.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_prep [hPre_finite_prep : Cert.Pre_finite_prep.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_prep.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_premix [hKernelIdeal : Cert.KernelIdeal.Facts] [hPre_finite_premix : Cert.Pre_finite_premix.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_premix m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_premix [hReferenceIdeal : Cert.ReferenceIdeal.Facts] [hPre_finite_premix : Cert.Pre_finite_premix.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_premix m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_loss [hKernel2Ideal : Cert.Kernel2Ideal.Facts] [hPre_finite_loss : Cert.Pre_finite_loss.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_loss m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_loss [hReference2Ideal : Cert.Reference2Ideal.Facts] [hPre_finite_loss : Cert.Pre_finite_loss.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_loss m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_mixnorm [hKernel3Ideal : Cert.Kernel3Ideal.Facts] [hPre_finite_mixnorm : Cert.Pre_finite_mixnorm.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mixnorm m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_mixnorm [hReference3Ideal : Cert.Reference3Ideal.Facts] [hPre_finite_mixnorm : Cert.Pre_finite_mixnorm.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mixnorm m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_conv [hKernel4Ideal : Cert.Kernel4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_conv m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_conv [hReference4Ideal : Cert.Reference4Ideal.Facts] [hPre_finite_conv : Cert.Pre_finite_conv.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_conv m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_sgu [hKernel5Ideal : Cert.Kernel5Ideal.Facts] [hPre_finite_sgu : Cert.Pre_finite_sgu.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sgu m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_sgu [hReference5Ideal : Cert.Reference5Ideal.Facts] [hPre_finite_sgu : Cert.Pre_finite_sgu.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sgu m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite_mid [hKernel6Ideal : Cert.Kernel6Ideal.Facts] [hPre_finite_mid : Cert.Pre_finite_mid.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_mid m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite_mid [hReference6Ideal : Cert.Reference6Ideal.Facts] [hPre_finite_mid : Cert.Pre_finite_mid.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_mid m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite_prep [hKernel7Ideal : Cert.Kernel7Ideal.Facts] [hPre_finite_prep : Cert.Pre_finite_prep.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_prep m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite_prep [hReference7Ideal : Cert.Reference7Ideal.Facts] [hPre_finite_prep : Cert.Pre_finite_prep.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_prep m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def preserves_Kernel_KernelIdeal : Prop :=
  True

def algebraic_KernelIdeal_ReferenceIdeal_pre_finite_premix [hKernelIdeal : Cert.KernelIdeal.Facts] [hReferenceIdeal : Cert.ReferenceIdeal.Facts] [hPre_finite_premix : Cert.Pre_finite_premix.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_premix m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_loss [hKernel2Ideal : Cert.Kernel2Ideal.Facts] [hReference2Ideal : Cert.Reference2Ideal.Facts] [hPre_finite_loss : Cert.Pre_finite_loss.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_loss m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_mixnorm [hKernel3Ideal : Cert.Kernel3Ideal.Facts] [hReference3Ideal : Cert.Reference3Ideal.Facts] [hPre_finite_mixnorm : Cert.Pre_finite_mixnorm.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mixnorm m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_v35) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_conv [hKernel4Ideal : Cert.Kernel4Ideal.Facts] [hReference4Ideal : Cert.Reference4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_conv m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)) (v8 : (c : Dev Cert.Kernel4Ideal.nD) → Buf (Elt Ideal) ((c.tc : Thread Cert.Kernel4Ideal.nD Cert.Kernel4Ideal.τ).loc Cert.Kernel4Ideal.main_v0_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_v0_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v74) = v2 c
          ∧ r.2.mem ((c.tc : Thread Cert.Reference4Ideal.nD Cert.Reference4Ideal.τ).loc Cert.Reference4Ideal.main_v75) = v3 c
          ∧ r.2.mem ((c.tc : Thread Cert.Reference4Ideal.nD Cert.Reference4Ideal.τ).loc Cert.Reference4Ideal.main_v76) = v4 c
          ∧ r.2.mem ((c.tc : Thread Cert.Reference4Ideal.nD Cert.Reference4Ideal.τ).loc Cert.Reference4Ideal.main_v77) = v5 c
          ∧ r.2.mem ((c.tc : Thread Cert.Reference4Ideal.nD Cert.Reference4Ideal.τ).loc Cert.Reference4Ideal.main_v78) = v6 c
          ∧ r.2.mem ((c.tc : Thread Cert.Reference4Ideal.nD Cert.Reference4Ideal.τ).loc Cert.Reference4Ideal.main_v79) = v7 c
          ∧ r.2.mem ((c.tc : Thread Cert.Reference4Ideal.nD Cert.Reference4Ideal.τ).loc Cert.Reference4Ideal.main_v80) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "gelu_cubic" .f32 0x3D372713#32 ((8943 / 200000 : ℝ) : EReal)
  ∧ IdealRules.named_const.Statement Cert.Kernel5Ideal.κ "gelu_cubic_3" .f32 0x3E095D4F#32 ((26829 / 200000 : ℝ) : EReal)

def algebraic_Kernel5Ideal_Reference5Ideal_pre_finite_sgu [hKernel5Ideal : Cert.Kernel5Ideal.Facts] [hReference5Ideal : Cert.Reference5Ideal.Facts] [hPre_finite_sgu : Cert.Pre_finite_sgu.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sgu m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)) (v4 : (c : Dev Cert.Kernel5Ideal.nD) → Buf (Elt Ideal) ((c.tc : Thread Cert.Kernel5Ideal.nD Cert.Kernel5Ideal.τ).loc Cert.Kernel5Ideal.main_v7_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_v7_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v154) = v0 c
          ∧ r.2.mem ((c.tc : Thread Cert.Reference5Ideal.nD Cert.Reference5Ideal.τ).loc Cert.Reference5Ideal.main_v104) = v1 c
          ∧ r.2.mem ((c.tc : Thread Cert.Reference5Ideal.nD Cert.Reference5Ideal.τ).loc Cert.Reference5Ideal.main_v101) = v2 c
          ∧ r.2.mem ((c.tc : Thread Cert.Reference5Ideal.nD Cert.Reference5Ideal.τ).loc Cert.Reference5Ideal.main_v92) = v3 c
          ∧ r.2.mem ((c.tc : Thread Cert.Reference5Ideal.nD Cert.Reference5Ideal.τ).loc Cert.Reference5Ideal.main_v155) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite_mid [hKernel6Ideal : Cert.Kernel6Ideal.Facts] [hReference6Ideal : Cert.Reference6Ideal.Facts] [hPre_finite_mid : Cert.Pre_finite_mid.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_mid m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)) (v4 : (c : Dev Cert.Kernel6Ideal.nD) → Buf (Elt Ideal) ((c.tc : Thread Cert.Kernel6Ideal.nD Cert.Kernel6Ideal.τ).loc Cert.Kernel6Ideal.main_v1_4)) (v5 : (c : Dev Cert.Kernel6Ideal.nD) → Buf (Elt Ideal) ((c.tc : Thread Cert.Kernel6Ideal.nD Cert.Kernel6Ideal.τ).loc Cert.Kernel6Ideal.main_v1_5)) (v6 : (c : Dev Cert.Kernel6Ideal.nD) → Buf (Elt Ideal) ((c.tc : Thread Cert.Kernel6Ideal.nD Cert.Kernel6Ideal.τ).loc Cert.Kernel6Ideal.main_v1_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_v1_4) = v4 c
          ∧ r.2.mem ((c.tc : Thread Cert.Kernel6Ideal.nD Cert.Kernel6Ideal.τ).loc Cert.Kernel6Ideal.main_v1_5) = v5 c
          ∧ r.2.mem ((c.tc : Thread Cert.Kernel6Ideal.nD Cert.Kernel6Ideal.τ).loc Cert.Kernel6Ideal.main_v1_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v92) = v1 c
          ∧ r.2.mem ((c.tc : Thread Cert.Reference6Ideal.nD Cert.Reference6Ideal.τ).loc Cert.Reference6Ideal.main_v44) = v2 c
          ∧ r.2.mem ((c.tc : Thread Cert.Reference6Ideal.nD Cert.Reference6Ideal.τ).loc Cert.Reference6Ideal.main_v41) = v3 c
          ∧ r.2.mem ((c.tc : Thread Cert.Reference6Ideal.nD Cert.Reference6Ideal.τ).loc Cert.Reference6Ideal.main_v49) = v4 c
          ∧ r.2.mem ((c.tc : Thread Cert.Reference6Ideal.nD Cert.Reference6Ideal.τ).loc Cert.Reference6Ideal.main_v72) = v5 c
          ∧ r.2.mem ((c.tc : Thread Cert.Reference6Ideal.nD Cert.Reference6Ideal.τ).loc Cert.Reference6Ideal.main_v75) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal_pre_finite_prep [hKernel7Ideal : Cert.Kernel7Ideal.Facts] [hReference7Ideal : Cert.Reference7Ideal.Facts] [hPre_finite_prep : Cert.Pre_finite_prep.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_prep m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v14_0)) (v1 : (c : Dev Cert.Kernel7Ideal.nD) → Buf (Elt Ideal) ((c.tc : Thread Cert.Kernel7Ideal.nD Cert.Kernel7Ideal.τ).loc Cert.Kernel7Ideal.main_v14_1)) (v2 : (c : Dev Cert.Kernel7Ideal.nD) → Buf (Elt Ideal) ((c.tc : Thread Cert.Kernel7Ideal.nD Cert.Kernel7Ideal.τ).loc Cert.Kernel7Ideal.main_v14_2)) (v3 : (c : Dev Cert.Kernel7Ideal.nD) → Buf (Elt Ideal) ((c.tc : Thread Cert.Kernel7Ideal.nD Cert.Kernel7Ideal.τ).loc Cert.Kernel7Ideal.main_v14_3)) (v4 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_0) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_v14_2) = v2 c
          ∧ r.2.mem ((c.tc : Thread Cert.Kernel7Ideal.nD Cert.Kernel7Ideal.τ).loc Cert.Kernel7Ideal.main_v14_3) = v3 c
          ∧ r.2.mem ((c.tc : Thread Cert.Kernel7Ideal.nD Cert.Kernel7Ideal.τ).loc Cert.Kernel7Ideal.main_v17) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v141) = v0 c
          ∧ r.2.mem ((c.tc : Thread Cert.Reference7Ideal.nD Cert.Reference7Ideal.τ).loc Cert.Reference7Ideal.main_v143) = v1 c
          ∧ r.2.mem ((c.tc : Thread Cert.Reference7Ideal.nD Cert.Reference7Ideal.τ).loc Cert.Reference7Ideal.main_v144) = v2 c
          ∧ r.2.mem ((c.tc : Thread Cert.Reference7Ideal.nD Cert.Reference7Ideal.τ).loc Cert.Reference7Ideal.main_v145) = v3 c
          ∧ r.2.mem ((c.tc : Thread Cert.Reference7Ideal.nD Cert.Reference7Ideal.τ).loc Cert.Reference7Ideal.main_v146) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_v14) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v33) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  IdealRules.named_const.Statement Cert.Kernel13Ideal.κ "gelu_cubic" .f32 0x3D372713#32 ((8943 / 200000 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v65) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg1) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_1)) (v2 : (c : Dev Cert.Kernel19Ideal.nD) → Buf (Elt Ideal) ((c.tc : Thread Cert.Kernel19Ideal.nD Cert.Kernel19Ideal.τ).loc Cert.Kernel19Ideal.main_v2_2)) (v3 : (c : Dev Cert.Kernel19Ideal.nD) → Buf (Elt Ideal) ((c.tc : Thread Cert.Kernel19Ideal.nD Cert.Kernel19Ideal.τ).loc Cert.Kernel19Ideal.main_v2_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_1) = v1 c
          ∧ r.2.mem ((c.tc : Thread Cert.Kernel19Ideal.nD Cert.Kernel19Ideal.τ).loc Cert.Kernel19Ideal.main_v2_2) = v2 c
          ∧ r.2.mem ((c.tc : Thread Cert.Kernel19Ideal.nD Cert.Kernel19Ideal.τ).loc Cert.Kernel19Ideal.main_v2_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v5)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v5) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v8_0)) (v1 : (c : Dev Cert.Kernel23Ideal.nD) → Buf (Elt Ideal) ((c.tc : Thread Cert.Kernel23Ideal.nD Cert.Kernel23Ideal.τ).loc Cert.Kernel23Ideal.main_v8_1)) (v2 : (c : Dev Cert.Kernel23Ideal.nD) → Buf (Elt Ideal) ((c.tc : Thread Cert.Kernel23Ideal.nD Cert.Kernel23Ideal.τ).loc Cert.Kernel23Ideal.main_v8_2)) (v3 : (c : Dev Cert.Kernel23Ideal.nD) → Buf (Elt Ideal) ((c.tc : Thread Cert.Kernel23Ideal.nD Cert.Kernel23Ideal.τ).loc Cert.Kernel23Ideal.main_v8_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v8_0) = v0 c
          ∧ r.2.mem ((c.tc : Thread Cert.Kernel23Ideal.nD Cert.Kernel23Ideal.τ).loc Cert.Kernel23Ideal.main_v8_1) = v1 c
          ∧ r.2.mem ((c.tc : Thread Cert.Kernel23Ideal.nD Cert.Kernel23Ideal.τ).loc Cert.Kernel23Ideal.main_v8_2) = v2 c
          ∧ r.2.mem ((c.tc : Thread Cert.Kernel23Ideal.nD Cert.Kernel23Ideal.τ).loc Cert.Kernel23Ideal.main_v8_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v59) = v0 c
          ∧ r.2.mem ((c.tc : Thread Cert.Reference23Ideal.nD Cert.Reference23Ideal.τ).loc Cert.Reference23Ideal.main_v62) = v1 c
          ∧ r.2.mem ((c.tc : Thread Cert.Reference23Ideal.nD Cert.Reference23Ideal.τ).loc Cert.Reference23Ideal.main_v64) = v2 c
          ∧ r.2.mem ((c.tc : Thread Cert.Reference23Ideal.nD Cert.Reference23Ideal.τ).loc Cert.Reference23Ideal.main_v66) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite_premix : Cert.Pre_finite_premix.Facts) (hPre_finite_loss : Cert.Pre_finite_loss.Facts) (hPre_finite_mixnorm : Cert.Pre_finite_mixnorm.Facts) (hPre_finite_conv : Cert.Pre_finite_conv.Facts) (hPre_finite_sgu : Cert.Pre_finite_sgu.Facts) (hPre_finite_mid : Cert.Pre_finite_mid.Facts) (hPre_finite_prep : Cert.Pre_finite_prep.Facts),
    quiescent_Kernel (hKernel := hKernel)
    ∧ quiescent_KernelIdeal (hKernelIdeal := hKernelIdeal)
    ∧ quiescent_KernelIdeal_pre_finite_premix (hKernelIdeal := hKernelIdeal) (hPre_finite_premix := hPre_finite_premix)
    ∧ quiescent_ReferenceIdeal (hReferenceIdeal := hReferenceIdeal)
    ∧ quiescent_ReferenceIdeal_pre_finite_premix (hReferenceIdeal := hReferenceIdeal) (hPre_finite_premix := hPre_finite_premix)
    ∧ quiescent_Kernel2 (hKernel2 := hKernel2)
    ∧ quiescent_Kernel2Ideal (hKernel2Ideal := hKernel2Ideal)
    ∧ quiescent_Kernel2Ideal_pre_finite_loss (hKernel2Ideal := hKernel2Ideal) (hPre_finite_loss := hPre_finite_loss)
    ∧ quiescent_Reference2Ideal (hReference2Ideal := hReference2Ideal)
    ∧ quiescent_Reference2Ideal_pre_finite_loss (hReference2Ideal := hReference2Ideal) (hPre_finite_loss := hPre_finite_loss)
    ∧ quiescent_Kernel3 (hKernel3 := hKernel3)
    ∧ quiescent_Kernel3Ideal (hKernel3Ideal := hKernel3Ideal)
    ∧ quiescent_Kernel3Ideal_pre_finite_mixnorm (hKernel3Ideal := hKernel3Ideal) (hPre_finite_mixnorm := hPre_finite_mixnorm)
    ∧ quiescent_Reference3Ideal (hReference3Ideal := hReference3Ideal)
    ∧ quiescent_Reference3Ideal_pre_finite_mixnorm (hReference3Ideal := hReference3Ideal) (hPre_finite_mixnorm := hPre_finite_mixnorm)
    ∧ quiescent_Kernel4 (hKernel4 := hKernel4)
    ∧ quiescent_Kernel4Ideal (hKernel4Ideal := hKernel4Ideal)
    ∧ quiescent_Kernel4Ideal_pre_finite_conv (hKernel4Ideal := hKernel4Ideal) (hPre_finite_conv := hPre_finite_conv)
    ∧ quiescent_Reference4Ideal (hReference4Ideal := hReference4Ideal)
    ∧ quiescent_Reference4Ideal_pre_finite_conv (hReference4Ideal := hReference4Ideal) (hPre_finite_conv := hPre_finite_conv)
    ∧ quiescent_Kernel5 (hKernel5 := hKernel5)
    ∧ quiescent_Kernel5Ideal (hKernel5Ideal := hKernel5Ideal)
    ∧ quiescent_Kernel5Ideal_pre_finite_sgu (hKernel5Ideal := hKernel5Ideal) (hPre_finite_sgu := hPre_finite_sgu)
    ∧ quiescent_Reference5Ideal (hReference5Ideal := hReference5Ideal)
    ∧ quiescent_Reference5Ideal_pre_finite_sgu (hReference5Ideal := hReference5Ideal) (hPre_finite_sgu := hPre_finite_sgu)
    ∧ quiescent_Kernel6 (hKernel6 := hKernel6)
    ∧ quiescent_Kernel6Ideal (hKernel6Ideal := hKernel6Ideal)
    ∧ quiescent_Kernel6Ideal_pre_finite_mid (hKernel6Ideal := hKernel6Ideal) (hPre_finite_mid := hPre_finite_mid)
    ∧ quiescent_Reference6Ideal (hReference6Ideal := hReference6Ideal)
    ∧ quiescent_Reference6Ideal_pre_finite_mid (hReference6Ideal := hReference6Ideal) (hPre_finite_mid := hPre_finite_mid)
    ∧ quiescent_Kernel7 (hKernel7 := hKernel7)
    ∧ quiescent_Kernel7Ideal (hKernel7Ideal := hKernel7Ideal)
    ∧ quiescent_Kernel7Ideal_pre_finite_prep (hKernel7Ideal := hKernel7Ideal) (hPre_finite_prep := hPre_finite_prep)
    ∧ quiescent_Reference7Ideal (hReference7Ideal := hReference7Ideal)
    ∧ quiescent_Reference7Ideal_pre_finite_prep (hReference7Ideal := hReference7Ideal) (hPre_finite_prep := hPre_finite_prep)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite_premix (hKernelIdeal := hKernelIdeal) (hReferenceIdeal := hReferenceIdeal) (hPre_finite_premix := hPre_finite_premix)
    ∧ preserves_Kernel2_Kernel2Ideal
    ∧ algebraic_Kernel2Ideal_Reference2Ideal_pre_finite_loss (hKernel2Ideal := hKernel2Ideal) (hReference2Ideal := hReference2Ideal) (hPre_finite_loss := hPre_finite_loss)
    ∧ preserves_Kernel3_Kernel3Ideal
    ∧ algebraic_Kernel3Ideal_Reference3Ideal_pre_finite_mixnorm (hKernel3Ideal := hKernel3Ideal) (hReference3Ideal := hReference3Ideal) (hPre_finite_mixnorm := hPre_finite_mixnorm)
    ∧ preserves_Kernel4_Kernel4Ideal
    ∧ algebraic_Kernel4Ideal_Reference4Ideal_pre_finite_conv (hKernel4Ideal := hKernel4Ideal) (hReference4Ideal := hReference4Ideal) (hPre_finite_conv := hPre_finite_conv)
    ∧ preserves_Kernel5_Kernel5Ideal
    ∧ algebraic_Kernel5Ideal_Reference5Ideal_pre_finite_sgu (hKernel5Ideal := hKernel5Ideal) (hReference5Ideal := hReference5Ideal) (hPre_finite_sgu := hPre_finite_sgu)
    ∧ preserves_Kernel6_Kernel6Ideal
    ∧ algebraic_Kernel6Ideal_Reference6Ideal_pre_finite_mid (hKernel6Ideal := hKernel6Ideal) (hReference6Ideal := hReference6Ideal) (hPre_finite_mid := hPre_finite_mid)
    ∧ preserves_Kernel7_Kernel7Ideal
    ∧ algebraic_Kernel7Ideal_Reference7Ideal_pre_finite_prep (hKernel7Ideal := hKernel7Ideal) (hReference7Ideal := hReference7Ideal) (hPre_finite_prep := hPre_finite_prep)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite_conv.lean ====
abbrev S2048x11264 : Shape := ⟨2, ![2048, 11264]⟩
abbrev S2048x5632 : Shape := ⟨2, ![2048, 5632]⟩
abbrev S3x11264 : Shape := ⟨2, ![3, 11264]⟩
abbrev S1x11264 : Shape := ⟨2, ![1, 11264]⟩
abbrev S_ : Shape := ⟨0, ![]⟩

class Facts : Prop where
  bcast_S_S2048x11264 : S_.BroadcastsInDim S2048x11264 (![] : Fin 0 → Fin S2048x11264.rank)
  reducesTo_S2048x11264_S_d0_1 : S2048x11264.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S3x11264 : S_.BroadcastsInDim S3x11264 (![] : Fin 0 → Fin S3x11264.rank)
  reducesTo_S3x11264_S_d0_1 : S3x11264.ReducesTo [0, 1] S_
  bcast_S_S1x11264 : S_.BroadcastsInDim S1x11264 (![] : Fin 0 → Fin S1x11264.rank)
  reducesTo_S1x11264_S_d0_1 : S1x11264.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x11264 .f32) (main_arg1 : FVec F S2048x5632 .f32) (main_arg2 : FVec F S3x11264 .f32) (main_arg3 : FVec F S1x11264 .f32) : IVec S_ 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_c : IVec S_ 1 := constantI S_ 1 1#1
  let main_v3 : IVec S_ 1 := (fun x v => Host.reduce IntOp.andi x v reducesTo_S2048x11264_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : FVec F S3x11264 .f32 := Host.absf main_arg2
  let main_cst_2 : FVec F S_ .f32 := constant S_ .f32 0x7F800000#32
  let main_v9 : FVec F S3x11264 .f32 := broadcastInDim S3x11264 ![] bcast_S_S3x11264 main_cst_2
  let main_v10 : IVec S3x11264 1 := cmpf .olt main_v8 main_v9
  let main_c_3 : IVec S_ 1 := constantI S_ 1 1#1
  let main_v11 : IVec S_ 1 := (fun x v => Host.reduce IntOp.andi x v reducesTo_S3x11264_S_d0_1 h_S_) main_v10 main_c_3
  let main_v12 : FVec F S1x11264 .f32 := Host.absf main_arg3
  let main_cst_4 : FVec F S_ .f32 := constant S_ .f32 0x7F800000#32
  let main_v13 : FVec F S1x11264 .f32 := broadcastInDim S1x11264 ![] bcast_S_S1x11264 main_cst_4
  let main_v14 : IVec S1x11264 1 := cmpf .olt main_v12 main_v13
  let main_c_5 : IVec S_ 1 := constantI S_ 1 1#1
  let main_v15 : IVec S_ 1 := (fun x v => Host.reduce IntOp.andi x v reducesTo_S1x11264_S_d0_1 h_S_) main_v14 main_c_5
  fn_part1 (F := F) main_v3 main_v7 main_v11 main_v15
-- ==== Pre_finite_loss.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v3 : IVec S_ 1) (main_v7 : IVec S_ 1) (main_v11 : IVec S_ 1) (main_v15 : IVec S_ 1) : IVec S_ 1 :=
  let main_v16 : FVec F S1x2048 .f32 := Host.absf main_arg4
  let main_cst_6 : FVec F S_ .f32 := constant S_ .f32 0x7F800000#32
  let main_v17 : FVec F S1x2048 .f32 := broadcastInDim S1x2048 ![] bcast_S_S1x2048 main_cst_6
  let main_v18 : IVec S1x2048 1 := cmpf .olt main_v16 main_v17
  let main_c_7 : IVec S_ 1 := constantI S_ 1 1#1
  let main_v19 : IVec S_ 1 := (fun x v => Host.reduce IntOp.andi x v reducesTo_S1x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x2048 .f32) (main_arg1 : FVec F S2048x2048 .f32) (main_arg2 : FVec F S2048x2048 .f32) (main_arg3 : FVec F S1x2048 .f32) (main_arg4 : FVec F S1x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : FVec F S2048x2048 .f32 := Host.absf main_arg2
  let main_cst_2 : FVec F S_ .f32 := constant S_ .f32 0x7F800000#32
  let main_v9 : FVec F S2048x2048 .f32 := broadcastInDim S2048x2048 ![] bcast_S_S2048x2048 main_cst_2
  let main_v10 : IVec S2048x2048 1 := cmpf .olt main_v8 main_v9
  let main_c_3 : IVec S_ 1 := constantI S_ 1 1#1
  let main_v11 : IVec S_ 1 := (fun x v => Host.reduce IntOp.andi x v reducesTo_S2048x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg4 main_v3 main_v7 main_v11 main_v15
-- ==== Pre_finite_mid.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1x2048 .f32) (main_arg5 : FVec F S1x2048 .f32) (main_arg6 : FVec F S1x2048 .f32) (main_arg7 : FVec F S1x2048 .f32) (main_v3 : IVec S_ 1) (main_v7 : IVec S_ 1) (main_v11 : IVec S_ 1) (main_v15 : IVec S_ 1) : IVec S_ 1 :=
  let main_v16 : FVec F S1x2048 .f32 := Host.absf main_arg4
  let main_cst_6 : FVec F S_ .f32 := constant S_ .f32 0x7F800000#32
  let main_v17 : FVec F S1x2048 .f32 := broadcastInDim S1x2048 ![] bcast_S_S1x2048 main_cst_6
  let main_v18 : IVec S1x2048 1 := cmpf .olt main_v16 main_v17
  let main_c_7 : IVec S_ 1 := constantI S_ 1 1#1
  let main_v19 : IVec S_ 1 := (fun x v => Host.reduce IntOp.andi x v reducesTo_S1x2048_S_d0_1 h_S_) main_v18 main_c_7
  let main_v20 : FVec F S1x2048 .f32 := Host.absf main_arg5
  let main_cst_8 : FVec F S_ .f32 := constant S_ .f32 0x7F800000#32
  let main_v21 : FVec F S1x2048 .f32 := broadcastInDim S1x2048 ![] bcast_S_S1x2048 main_cst_8
  let main_v22 : IVec S1x2048 1 := cmpf .olt main_v20 main_v21
  let main_c_9 : IVec S_ 1 := constantI S_ 1 1#1
  let main_v23 : IVec S_ 1 := (fun x v => Host.reduce IntOp.andi x v reducesTo_S1x2048_S_d0_1 h_S_) main_v22 main_c_9
  let main_v24 : FVec F S1x2048 .f32 := Host.absf main_arg6
  let main_cst_10 : FVec F S_ .f32 := constant S_ .f32 0x7F800000#32
  let main_v25 : FVec F S1x2048 .f32 := broadcastInDim S1x2048 ![] bcast_S_S1x2048 main_cst_10
  let main_v26 : IVec S1x2048 1 := cmpf .olt main_v24 main_v25
  let main_c_11 : IVec S_ 1 := constantI S_ 1 1#1
  let main_v27 : IVec S_ 1 := (fun x v => Host.reduce IntOp.andi x v reducesTo_S1x2048_S_d0_1 h_S_) main_v26 main_c_11
  let main_v28 : FVec F S1x2048 .f32 := Host.absf main_arg7
  let main_cst_12 : FVec F S_ .f32 := constant S_ .f32 0x7F800000#32
  let main_v29 : FVec F S1x2048 .f32 := broadcastInDim S1x2048 ![] bcast_S_S1x2048 main_cst_12
  let main_v30 : IVec S1x2048 1 := cmpf .olt main_v28 main_v29
  let main_c_13 : IVec S_ 1 := constantI S_ 1 1#1
  let main_v31 : IVec S_ 1 := (fun x v => Host.reduce IntOp.andi x v reducesTo_S1x2048_S_d0_1 h_S_) main_v30 main_c_13
  fn_part2 (F := F) main_v3 main_v7 main_v11 main_v15 main_v19 main_v23 main_v27 main_v31

def fn {F : FTy → Type} [FloatOps F] (main_arg0 : FVec F S2048x2048 .f32) (main_arg1 : FVec F S2048x2048 .f32) (main_arg2 : FVec F S2048x2048 .f32) (main_arg3 : FVec F S2048x2048 .f32) (main_arg4 : FVec F S1x2048 .f32) (main_arg5 : FVec F S1x2048 .f32) (main_arg6 : FVec F S1x2048 .f32) (main_arg7 : FVec F S1x2048 .f32) (main_arg8 : FVec F S1x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : FVec F S2048x2048 .f32 := Host.absf main_arg2
  let main_cst_2 : FVec F S_ .f32 := constant S_ .f32 0x7F800000#32
  let main_v9 : FVec F S2048x2048 .f32 := broadcastInDim S2048x2048 ![] bcast_S_S2048x2048 main_cst_2
  let main_v10 : IVec S2048x2048 1 := cmpf .olt main_v8 main_v9
  let main_c_3 : IVec S_ 1 := constantI S_ 1 1#1
  let main_v11 : IVec S_ 1 := (fun x v => Host.reduce IntOp.andi x v reducesTo_S2048x2048_S_d0_1 h_S_) main_v10 main_c_3
  let main_v12 : FVec F S2048x2048 .f32 := Host.absf main_arg3
  let main_cst_4 : FVec F S_ .f32 := constant S_ .f32 0x7F800000#32
  let main_v13 : FVec F S2048x2048 .f32 := broadcastInDim S2048x2048 ![] bcast_S_S2048x2048 main_cst_4
  let main_v14 : IVec S2048x2048 1 := cmpf .olt main_v12 main_v13
  let main_c_5 : IVec S_ 1 := constantI S_ 1 1#1
  let main_v15 : IVec S_ 1 := (fun x v => Host.reduce IntOp.andi x v reducesTo_S2048x2048_S_d0_1 h_S_) main_v14 main_c_5
  fn_part1 (F := F) main_arg4 main_arg5 main_arg6 main_arg7 main_v3 main_v7 main_v11 main_v15
-- ==== Pre_finite_mixnorm.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x2048 .f32) (main_arg1 : FVec F S2048x1024 .f32) (main_arg2 : FVec F S2048x1024 .f32) (main_arg3 : FVec F S1x1024 .f32) (main_arg4 : FVec F S1x1024 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_v3 main_v7 main_v11 main_v15
-- ==== Pre_finite_premix.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x2048 .f32) (main_arg1 : FVec F S2048x2048 .f32) (main_arg2 : FVec F S2048x2048 .f32) (main_arg3 : FVec F S1x2048 .f32) (main_arg4 : FVec F S1x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : FVec F S1x2048 .f32 := Host.absf main_arg3
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S1x2048 .f32 := Host.absf main_arg4
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_v3 main_v7 main_v11 main_v15
-- ==== Pre_finite_prep.lean ====
abbrev S1x64 : Shape := ⟨2, ![1, 64]⟩
abbrev S64x64 : Shape := ⟨2, ![64, 64]⟩
abbrev S64x64x16 : Shape := ⟨3, ![64, 64, 16]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x64x16 : S_.BroadcastsInDim S64x64x16 (![] : Fin 0 → Fin S64x64x16.rank)
  reducesTo_S64x64x16_S_d0_1_2 : S64x64x16.ReducesTo [0, 1, 2] S_

variable [Facts]

def fn_part2 {F : FTy → Type} [FloatOps F] (main_arg1 : FVec F S64x64 .f32) (main_arg2 : FVec F S64x64 .f32) (main_arg8 : FVec F S64x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64x64 .f32 := Host.absf main_arg8
  let main_cst_14 : FVec F S_ .f32 := constant S_ .f32 0x7F800000#32
  let main_v33 : FVec F S64x64 .f32 := broadcastInDim S64x64 ![] bcast_S_S64x64 main_cst_14
  let main_v34 : IVec S64x64 1 := cmpf .olt main_v32 main_v33
  let main_c_15 : IVec S_ 1 := constantI S_ 1 1#1
  let main_v35 : IVec S_ 1 := (fun x v => Host.reduce IntOp.andi x v reducesTo_S64x64_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  let main_v44 : FVec F S64x64 .f32 := mulf main_arg1 main_arg1
  let main_v45 : FVec F S64x64 .f32 := mulf main_arg2 main_arg2
  let main_v46 : FVec F S64x64 .f32 := addf main_v44 main_v45
  let main_cst_16 : FVec F S_ .f32 := constant S_ .f32 0x00000000#32
  let main_v47 : FVec F S64x64 .f32 := broadcastInDim S64x64 ![] bcast_S_S64x64 main_cst_16
  let main_v48 : IVec S64x64 1 := cmpf .ogt main_v46 main_v47
  let main_c_17 : IVec S_ 1 := constantI S_ 1 1#1
  let main_v49 : IVec S_ 1 := (fun x v => Host.reduce IntOp.andi x v reducesTo_S64x64_S_d0_1 h_S_) main_v48 main_c_17
  let main_v50 : IVec S_ 1 := andi main_v43 main_v49
  main_v50

def fn_part1 {F : FTy → Type} [FloatOps F] (main_arg1 : FVec F S64x64 .f32) (main_arg2 : FVec F S64x64 .f32) (main_arg4 : FVec F S64x64x16 .f32) (main_arg5 : FVec F S64x64x16 .f32) (main_arg6 : FVec F S64x64x16 .f32) (main_arg7 : FVec F S64x64 .f32) (main_arg8 : FVec F S64x64 .f32) (main_v3 : IVec S_ 1) (main_v7 : IVec S_ 1) (main_v11 : IVec S_ 1) (main_v15 : IVec S_ 1) : IVec S_ 1 :=
  let main_v16 : FVec F S64x64x16 .f32 := Host.absf main_arg4
  let main_cst_6 : FVec F S_ .f32 := constant S_ .f32 0x7F800000#32
  let main_v17 : FVec F S64x64x16 .f32 := broadcastInDim S64x64x16 ![] bcast_S_S64x64x16 main_cst_6
  let main_v18 : IVec S64x64x16 1 := cmpf .olt main_v16 main_v17
  let main_c_7 : IVec S_ 1 := constantI S_ 1 1#1
  let main_v19 : IVec S_ 1 := (fun x v => Host.reduce IntOp.andi x v reducesTo_S64x64x16_S_d0_1_2 h_S_) main_v18 main_c_7
  let main_v20 : FVec F S64x64x16 .f32 := Host.absf main_arg5
  let main_cst_8 : FVec F S_ .f32 := constant S_ .f32 0x7F800000#32
  let main_v21 : FVec F S64x64x16 .f32 := broadcastInDim S64x64x16 ![] bcast_S_S64x64x16 main_cst_8
  let main_v22 : IVec S64x64x16 1 := cmpf .olt main_v20 main_v21
  let main_c_9 : IVec S_ 1 := constantI S_ 1 1#1
  let main_v23 : IVec S_ 1 := (fun x v => Host.reduce IntOp.andi x v reducesTo_S64x64x16_S_d0_1_2 h_S_) main_v22 main_c_9
  let main_v24 : FVec F S64x64x16 .f32 := Host.absf main_arg6
  let main_cst_10 : FVec F S_ .f32 := constant S_ .f32 0x7F800000#32
  let main_v25 : FVec F S64x64x16 .f32 := broadcastInDim S64x64x16 ![] bcast_S_S64x64x16 main_cst_10
  let main_v26 : IVec S64x64x16 1 := cmpf .olt main_v24 main_v25
  let main_c_11 : IVec S_ 1 := constantI S_ 1 1#1
  let main_v27 : IVec S_ 1 := (fun x v => Host.reduce IntOp.andi x v reducesTo_S64x64x16_S_d0_1_2 h_S_) main_v26 main_c_11
  let main_v28 : FVec F S64x64 .f32 := Host.absf main_arg7
  let main_cst_12 : FVec F S_ .f32 := constant S_ .f32 0x7F800000#32
  let main_v29 : FVec F S64x64 .f32 := broadcastInDim S64x64 ![] bcast_S_S64x64 main_cst_12
  let main_v30 : IVec S64x64 1 := cmpf .olt main_v28 main_v29
  let main_c_13 : IVec S_ 1 := constantI S_ 1 1#1
  let main_v31 : IVec S_ 1 := (fun x v => Host.reduce IntOp.andi x v reducesTo_S64x64_S_d0_1 h_S_) main_v30 main_c_13
  fn_part2 (F := F) main_arg1 main_arg2 main_arg8 main_v3 main_v7 main_v11 main_v15 main_v19 main_v23 main_v27 main_v31

def fn {F : FTy → Type} [FloatOps F] (main_arg0 : FVec F S1x64 .f32) (main_arg1 : FVec F S64x64 .f32) (main_arg2 : FVec F S64x64 .f32) (main_arg3 : FVec F S64x64x16 .f32) (main_arg4 : FVec F S64x64x16 .f32) (main_arg5 : FVec F S64x64x16 .f32) (main_arg6 : FVec F S64x64x16 .f32) (main_arg7 : FVec F S64x64 .f32) (main_arg8 : FVec F S64x64 .f32) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : FVec F S64x64 .f32 := Host.absf main_arg2
  let main_cst_2 : FVec F S_ .f32 := constant S_ .f32 0x7F800000#32
  let main_v9 : FVec F S64x64 .f32 := broadcastInDim S64x64 ![] bcast_S_S64x64 main_cst_2
  let main_v10 : IVec S64x64 1 := cmpf .olt main_v8 main_v9
  let main_c_3 : IVec S_ 1 := constantI S_ 1 1#1
  let main_v11 : IVec S_ 1 := (fun x v => Host.reduce IntOp.andi x v reducesTo_S64x64_S_d0_1 h_S_) main_v10 main_c_3
  let main_v12 : FVec F S64x64x16 .f32 := Host.absf main_arg3
  let main_cst_4 : FVec F S_ .f32 := constant S_ .f32 0x7F800000#32
  let main_v13 : FVec F S64x64x16 .f32 := broadcastInDim S64x64x16 ![] bcast_S_S64x64x16 main_cst_4
  let main_v14 : IVec S64x64x16 1 := cmpf .olt main_v12 main_v13
  let main_c_5 : IVec S_ 1 := constantI S_ 1 1#1
  let main_v15 : IVec S_ 1 := (fun x v => Host.reduce IntOp.andi x v reducesTo_S64x64x16_S_d0_1_2 h_S_) main_v14 main_c_5
  fn_part1 (F := F) main_arg1 main_arg2 main_arg4 main_arg5 main_arg6 main_arg7 main_arg8 main_v3 main_v7 main_v11 main_v15
-- ==== Pre_finite_sgu.lean ====
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg5 : FVec F S8x128x128 .f32) (main_arg6 : FVec F S8x128 .f32) (main_v3 : IVec S_ 1) (main_v7 : IVec S_ 1) (main_v11 : IVec S_ 1) (main_v15 : IVec S_ 1) : IVec S_ 1 :=
  let main_v16 : FVec F S8x128x128 .f32 := Host.absf main_arg5
  let main_cst_6 : FVec F S_ .f32 := constant S_ .f32 0x7F800000#32
  let main_v17 : FVec F S8x128x128 .f32 := broadcastInDim S8x128x128 ![] bcast_S_S8x128x128 main_cst_6
  let main_v18 : IVec S8x128x128 1 := cmpf .olt main_v16 main_v17
  let main_c_7 : IVec S_ 1 := constantI S_ 1 1#1
  let main_v19 : IVec S_ 1 := (fun x v => Host.reduce IntOp.andi x v reducesTo_S8x128x128_S_d0_1_2 h_S_) main_v18 main_c_7
  let main_v20 : FVec F S8x128 .f32 := Host.absf main_arg6
  let main_cst_8 : FVec F S_ .f32 := constant S_ .f32 0x7F800000#32
  let main_v21 : FVec F S8x128 .f32 := broadcastInDim S8x128 ![] bcast_S_S8x128 main_cst_8
  let main_v22 : IVec S8x128 1 := cmpf .olt main_v20 main_v21
  let main_c_9 : IVec S_ 1 := constantI S_ 1 1#1
  let main_v23 : IVec S_ 1 := (fun x v => Host.reduce IntOp.andi x v reducesTo_S8x128_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x3072 .f32) (main_arg1 : FVec F S2048x1024 .f32) (main_arg2 : FVec F S2048x1024 .f32) (main_arg3 : FVec F S1x1024 .f32) (main_arg4 : FVec F S1x1024 .f32) (main_arg5 : FVec F S8x128x128 .f32) (main_arg6 : FVec F S8x128 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S1x1024 .f32 := Host.absf main_arg3
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg4
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg5 main_arg6 main_v3 main_v7 main_v11 main_v15
-- ==== Kernel.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel2.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x2048, .f32⟩
  | .hbm, ⟨67, _⟩ => ⟨S2048x2048, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .bf16⟩
  | .hbm, ⟨80, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel3.lean ====
abbrev S2048x2048 : Shape := ⟨2, ![2048, 2048]⟩
abbrev S2048x1024 : Shape := ⟨2, ![2048, 1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x1024, .f32⟩
  | .hbm, ⟨80, _⟩ => ⟨S2048x1024, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S_, .f32⟩
  | .hbm, ⟨86, _⟩ => ⟨S2048, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel4.lean ====
abbrev S2048x11264 : Shape := ⟨2, ![2048, 11264]⟩
abbrev S2048x5632 : Shape := ⟨2, ![2048, 5632]⟩
abbrev S3x11264 : Shape := ⟨2, ![3, 11264]⟩
abbrev S1x11264 : Shape := ⟨2, ![1, 11264]⟩
abbrev S2x2048x5632 : Shape := ⟨3, ![2, 2048, 5632]⟩
abbrev S1x5632 : Shape := ⟨2, ![1, 5632]⟩
abbrev S2048x256 : Shape := ⟨2, ![2048, 256]⟩
abbrev S3x256 : Shape := ⟨2, ![3, 256]⟩
abbrev S1x256 : Shape := ⟨2, ![1, 256]⟩
abbrev S2x2048x256 : Shape := ⟨3, ![2, 2048, 256]⟩
abbrev S8x256 : Shape := ⟨2, ![8, 256]⟩
abbrev S72x256 : Shape := ⟨2, ![72, 256]⟩
abbrev S64x256 : Shape := ⟨2, ![64, 256]⟩
abbrev S1x64x256 : Shape := ⟨3, ![1, 64, 256]⟩
abbrev S256 : Shape := ⟨1, ![256]⟩

abbrev nBuf : Space → Nat
  | .hbm => 13
  | .vmem => 32
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S3x11264, .f32⟩
  | .hbm, ⟨3, _⟩ => ⟨S1x11264, .f32⟩
  | .hbm, ⟨4, _⟩ => ⟨S2x2048x5632, .bf16⟩
  | .hbm, ⟨5, _⟩ => ⟨S1x5632, .f32⟩
  | .hbm, ⟨6, _⟩ => ⟨S1x5632, .f32⟩
  | .hbm, ⟨7, _⟩ => ⟨S1x5632, .f32⟩
  | .hbm, ⟨8, _⟩ => ⟨S1x5632, .f32⟩
  | .hbm, ⟨9, _⟩ => ⟨S1x5632, .f32⟩
  | .hbm, ⟨10, _⟩ => ⟨S1x5632, .f32⟩
  | .hbm, ⟨11, _⟩ => ⟨S1x5632, .f32⟩
  | .hbm, ⟨12, _⟩ => ⟨S1x5632, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2x2048x256, .bf16⟩
  | .local _ .vmem, ⟨15, _⟩ => ⟨S2x2048x256, .bf16⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c31_i32 : BitVec 32 := 31#32
  let v1 : BitVec 32 := Scalar.addi c0_i32 c31_i32
  let c1_i32 : BitVec 32 := 1#32
  ⟨c0_i32, v1, c1_i32⟩
def k0_mult1 (k0_t1 : Fin k0_t1_loop.trips) : BitVec 32 :=
  let c31_i32_74 : BitVec 32 := 31#32
  let c0_i32 : BitVec 32 := 0#32
  let c1_i32 : BitVec 32 := 1#32
  let arg17 : BitVec 32 := Scf.iv c0_i32 c1_i32 k0_t1
  let v263 : BitVec 32 := Scalar.subi c31_i32_74 arg17
  let c64_i32 : BitVec 32 := 64#32
  let v264 : BitVec 32 := Scalar.muli v263 c64_i32
  v264
def k0_mult2 (k0_t1 : Fin k0_t1_loop.trips) : BitVec 32 :=
  let c31_i32_74 : BitVec 32 := 31#32
  let c0_i32 : BitVec 32 := 0#32
  let c1_i32 : BitVec 32 := 1#32
  let arg17 : BitVec 32 := Scf.iv c0_i32 c1_i32 k0_t1
  let v263 : BitVec 32 := Scalar.subi c31_i32_74 arg17
  let c64_i32 : BitVec 32 := 64#32
  let v264 : BitVec 32 := Scalar.muli v263 c64_i32
  let v265 : BitVec 32 := v264
  let c8_i32 : BitVec 32 := 8#32
  let v266 : BitVec 32 := Scalar.subi v265 c8_i32
  v266
def k0_off1 (k0_t1 : Fin k0_t1_loop.trips) : Fin 2 → Nat :=
  let c31_i32_74 : BitVec 32 := 31#32
  let c0_i32 : BitVec 32 := 0#32
  let c1_i32 : BitVec 32 := 1#32
  let arg17 : BitVec 32 := Scf.iv c0_i32 c1_i32 k0_t1
  let v263 : BitVec 32 := Scalar.subi c31_i32_74 arg17
  let c64_i32 : BitVec 32 := 64#32
  let v264 : BitVec 32 := Scalar.muli v263 c64_i32
  let v265 : BitVec 32 := v264
  let c8_i32 : BitVec 32 := 8#32
  let v266 : BitVec 32 := Scalar.subi v265 c8_i32
  let v267 : BitVec 32 := v266
  let v268 : Index := Scalar.indexCast v267
  let c0_75 : Index := 0#32
  ![v268.toNat, 0]
def k0_mult3 (k0_t1 : Fin k0_t1_loop.trips) : BitVec 32 :=
  let c31_i32_74 : BitVec 32 := 31#32
  let c0_i32 : BitVec 32 := 0#32
  let c1_i32 : BitVec 32 := 1#32
  let arg17 : BitVec 32 := Scf.iv c0_i32 c1_i32 k0_t1
  let v263 : BitVec 32 := Scalar.subi c31_i32_74 arg17
  let c64_i32 : BitVec 32 := 64#32
  let v264 : BitVec 32 := Scalar.muli v263 c64_i32
  let v265 : BitVec 32 := v264
  let c8_i32_86 : BitVec 32 := 8#32
  let v289 : BitVec 32 := Scalar.subi v265 c8_i32_86
  v289
def k0_off2 (k0_t1 : Fin k0_t1_loop.trips) : Fin 2 → Nat :=
  let c31_i32_74 : BitVec 32 := 31#32
  let c0_i32 : BitVec 32 := 0#32
  let c1_i32 : BitVec 32 := 1#32
  let arg17 : BitVec 32 := Scf.iv c0_i32 c1_i32 k0_t1
  let v263 : BitVec 32 := Scalar.subi c31_i32_74 arg17
  let c64_i32 : BitVec 32 := 64#32
  let v264 : BitVec 32 := Scalar.muli v263 c64_i32
  let v265 : BitVec 32 := v264
  let v319 : Index := Scalar.indexCast v265
  let c0_101 : Index := 0#32
  ![v319.toNat, 0]
def k0_off3 (k0_t1 : Fin k0_t1_loop.trips) : Fin 3 → Nat :=
  let c0_112 : Index := 0#32
  let c31_i32_74 : BitVec 32 := 31#32
  let c0_i32 : BitVec 32 := 0#32
  let c1_i32 : BitVec 32 := 1#32
  let arg17 : BitVec 32 := Scf.iv c0_i32 c1_i32 k0_t1
  let v263 : BitVec 32 := Scalar.subi c31_i32_74 arg17
  let c64_i32 : BitVec 32 := 64#32
  let v264 : BitVec 32 := Scalar.muli v263 c64_i32
  let v265 : BitVec 32 := v264
  let v348 : Index := Scalar.indexCast v265
  let c0_113 : Index := 0#32
  ![0, v348.toNat, 0]
def k0_off4 (k0_t1 : Fin k0_t1_loop.trips) : Fin 3 → Nat :=
  let c1_122 : Index := 1#32
  let c31_i32_74 : BitVec 32 := 31#32
  let c0_i32 : BitVec 32 := 0#32
  let c1_i32 : BitVec 32 := 1#32
  let arg17 : BitVec 32 := Scf.iv c0_i32 c1_i32 k0_t1
  let v263 : BitVec 32 := Scalar.subi c31_i32_74 arg17
  let c64_i32 : BitVec 32 := 64#32
  let v264 : BitVec 32 := Scalar.muli v263 c64_i32
  let v265 : BitVec 32 := v264
  let v436 : Index := Scalar.indexCast v265
  let c0_123 : Index := 0#32
  ![1, v436.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S2048x11264 : Shape := ⟨2, ![2048, 11264]⟩
abbrev S2048x5632 : Shape := ⟨2, ![2048, 5632]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S2050x11264 : Shape := ⟨2, ![2050, 11264]⟩
abbrev S11264 : Shape := ⟨1, ![11264]⟩
abbrev S1x5632 : Shape := ⟨2, ![1, 5632]⟩
abbrev S2048x2x5632 : Shape := ⟨3, ![2048, 2, 5632]⟩
abbrev S2x2048x5632 : Shape := ⟨3, ![2, 2048, 5632]⟩

abbrev nBuf : Space → Nat
  | .hbm => 119
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S3x11264, .f32⟩
  | .hbm, ⟨3, _⟩ => ⟨S1x11264, .f32⟩
  | .hbm, ⟨4, _⟩ => ⟨S_, .f32⟩
  | .hbm, ⟨5, _⟩ => ⟨S2x11264, .f32⟩
  | .hbm, ⟨6, _⟩ => ⟨S2050x11264, .f32⟩
  | .hbm, ⟨7, _⟩ => ⟨S_, .f32⟩
  | .hbm, ⟨8, _⟩ => ⟨S2x11264, .f32⟩
  | .hbm, ⟨9, _⟩ => ⟨S1x11264, .f32⟩
  | .hbm, ⟨10, _⟩ => ⟨S11264, .f32⟩
  | .hbm, ⟨11, _⟩ => ⟨S2048x11264, .f32⟩
  | .hbm, ⟨12, _⟩ => ⟨S1x11264, .f32⟩
  | .hbm, ⟨13, _⟩ => ⟨S2048x11264, .f32⟩
  | .hbm, ⟨14, _⟩ => ⟨S2048x11264, .f32⟩
  | .hbm, ⟨15, _⟩ => ⟨S_, .f32⟩
  | .hbm, ⟨16, _⟩ => ⟨S2048x11264, .f32⟩
  | .hbm, ⟨17, _⟩ => ⟨S2048x11264, .f32⟩
  | .hbm, ⟨18, _⟩ => ⟨S1x11264, .f32⟩
  | .hbm, ⟨19, _⟩ => ⟨S11264, .f32⟩
  | .hbm, ⟨20, _⟩ => ⟨S2048x11264, .f32⟩
  | .hbm, ⟨21, _⟩ => ⟨S1x11264, .f32⟩
  | .hbm, ⟨22, _⟩ => ⟨S2048x11264, .f32⟩
  | .hbm, ⟨23, _⟩ => ⟨S2048x11264, .f32⟩
  | .hbm, ⟨24, _⟩ => ⟨S2048x11264, .f32⟩
  | .hbm, ⟨25, _⟩ => ⟨S1x11264, .f32⟩
  | .hbm, ⟨26, _⟩ => ⟨S11264, .f32⟩
  | .hbm, ⟨27, _⟩ => ⟨S2048x11264, .f32⟩
  | .hbm, ⟨28, _⟩ => ⟨S1x11264, .f32⟩
  | .hbm, ⟨29, _⟩ => ⟨S2048x11264, .f32⟩
  | .hbm, ⟨30, _⟩ => ⟨S2048x11264, .f32⟩
  | .hbm, ⟨31, _⟩ => ⟨S2048x11264, .f32⟩
  | .hbm, ⟨32, _⟩ => ⟨S2048x11264, .f32⟩
  | .hbm, ⟨33, _⟩ => ⟨S2048x11264, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S_, .f32⟩
  | .hbm, ⟨39, _⟩ => ⟨S2048x5632, .f32⟩
  | .hbm, ⟨40, _⟩ => ⟨S2048x5632, .f32⟩
  | .hbm, ⟨41, _⟩ => ⟨S_, .f32⟩
  | .hbm, ⟨42, _⟩ => ⟨S2048x5632, .f32⟩
  | .hbm, ⟨43, _⟩ => ⟨S2048x5632, .f32⟩
  | .hbm, ⟨44, _⟩ => ⟨S_, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x11264, .f32⟩
  | .hbm, ⟨57, _⟩ => ⟨S_, .f32⟩
  | .hbm, ⟨58, _⟩ => ⟨S11264, .f32⟩
  | .hbm, ⟨59, _⟩ => ⟨S1x11264, .f32⟩
  | .hbm, ⟨60, _⟩ => ⟨S2048x11264, .f32⟩
  | .hbm, ⟨61, _⟩ => ⟨S2048x11264, .f32⟩
  | .hbm, ⟨62, _⟩ => ⟨S2048x11264, .f32⟩
  | .hbm, ⟨63, _⟩ => ⟨S_, .f32⟩
  | .hbm, ⟨64, _⟩ => ⟨S11264, .f32⟩
  | .hbm, ⟨65, _⟩ => ⟨S1x11264, .f32⟩
  | .hbm, ⟨66, _⟩ => ⟨S_, .f32⟩
  | .hbm, ⟨67, _⟩ => ⟨S11264, .f32⟩
  | .hbm, ⟨68, _⟩ => ⟨S_, .f32⟩
  | .hbm, ⟨69, _⟩ => ⟨S2050x11264, .f32⟩
  | .hbm, ⟨70, _⟩ => ⟨S1x11264, .f32⟩
  | .hbm, ⟨71, _⟩ => ⟨S_, .f32⟩
  | .hbm, ⟨72, _⟩ => ⟨S3x11264, .f32⟩
  | .hbm, ⟨73, _⟩ => ⟨S2048x11264, .f32⟩
  | .hbm, ⟨74, _⟩ => ⟨S2048x11264, .f32⟩
  | .hbm, ⟨75, _⟩ => ⟨S2048x11264, .f32⟩
  | .hbm, ⟨76, _⟩ => ⟨S_, .f32⟩
  | .hbm, ⟨77, _⟩ => ⟨S11264, .f32⟩
  | .hbm, ⟨78, _⟩ => ⟨S1x11264, .f32⟩
  | .hbm, ⟨79, _⟩ => ⟨S_, .f32⟩
  | .hbm, ⟨80, _⟩ => ⟨S11264, .f32⟩
  | .hbm, ⟨81, _⟩ => ⟨S_, .f32⟩
  | .hbm, ⟨82, _⟩ => ⟨S2050x11264, .f32⟩
  | .hbm, ⟨83, _⟩ => ⟨S2050x11264, .f32⟩
  | .hbm, ⟨84, _⟩ => ⟨S1x11264, .f32⟩
  | .hbm, ⟨85, _⟩ => ⟨S_, .f32⟩
  | .hbm, ⟨86, _⟩ => ⟨S3x11264, .f32⟩
  | .hbm, ⟨87, _⟩ => ⟨S3x11264, .f32⟩
  | .hbm, ⟨88, _⟩ => ⟨S2048x11264, .f32⟩
  | .hbm, ⟨89, _⟩ => ⟨S2048x11264, .f32⟩
  | .hbm, ⟨90, _⟩ => ⟨S2048x11264, .f32⟩
  | .hbm, ⟨91, _⟩ => ⟨S_, .f32⟩
  | .hbm, ⟨92, _⟩ => ⟨S11264, .f32⟩
  | .hbm, ⟨93, _⟩ => ⟨S1x11264, .f32⟩
  | .hbm, ⟨94, _⟩ => ⟨S_, .f32⟩
  | .hbm, ⟨95, _⟩ => ⟨S11264, .f32⟩
  | .hbm, ⟨96, _⟩ => ⟨S_, .f32⟩
  | .hbm, ⟨97, _⟩ => ⟨S2050x11264, .f32⟩
  | .hbm, ⟨98, _⟩ => ⟨S2050x11264, .f32⟩
  | .hbm, ⟨99, _⟩ => ⟨S1x11264, .f32⟩
  | .hbm, ⟨100, _⟩ => ⟨S_, .f32⟩
  | .hbm, ⟨101, _⟩ => ⟨S3x11264, .f32⟩
  | .hbm, ⟨102, _⟩ => ⟨S3x11264, .f32⟩
  | .hbm, ⟨103, _⟩ => ⟨S2x11264, .f32⟩
  | .hbm, ⟨104, _⟩ => ⟨S2048x11264, .f32⟩
  | .hbm, ⟨105, _⟩ => ⟨S1x11264, .f32⟩
  | .hbm, ⟨106, _⟩ => ⟨S1x11264, .f32⟩
  | .hbm, ⟨107, _⟩ => ⟨S1x11264, .f32⟩
  | .hbm, ⟨108, _⟩ => ⟨S1x5632, .f32⟩
  | .hbm, ⟨109, _⟩ => ⟨S1x5632, .f32⟩
  | .hbm, ⟨110, _⟩ => ⟨S1x5632, .f32⟩
  | .hbm, ⟨111, _⟩ => ⟨S1x5632, .f32⟩
  | .hbm, ⟨112, _⟩ => ⟨S1x5632, .f32⟩
  | .hbm, ⟨113, _⟩ => ⟨S1x5632, .f32⟩
  | .hbm, ⟨114, _⟩ => ⟨S1x5632, .f32⟩
  | .hbm, ⟨115, _⟩ => ⟨S1x5632, .f32⟩
  | .hbm, ⟨116, _⟩ => ⟨S2048x2x5632, .f32⟩
  | .hbm, ⟨117, _⟩ => ⟨S2x2048x5632, .f32⟩
  | .hbm, ⟨118, _⟩ => ⟨S2x2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v29_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v29_1 : Ref sig .tc := ⟨.hbm, 47, rfl⟩
abbrev main_v29_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== Kernel5.lean ====
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S128x1024 : Shape := ⟨2, ![128, 1024]⟩
abbrev S128x3072 : Shape := ⟨2, ![128, 3072]⟩
abbrev S128 : Shape := ⟨1, ![128]⟩
abbrev S128x1 : Shape := ⟨2, ![128, 1]⟩
abbrev S1x128x1 : Shape := ⟨3, ![1, 128, 1]⟩
abbrev S1024 : Shape := ⟨1, ![1024]⟩

abbrev nBuf : Space → Nat
  | .hbm => 28
  | .vmem => 19
  | .smem => 0
  | _ => 0

abbrev bufTy : (tb : Table) → Fin (tcTables nBuf tb) → BufTy
  | .hbm, ⟨0, _⟩ => ⟨S2048x3072, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S1x128x128, .f32⟩
  | .hbm, ⟨19, _⟩ => ⟨S8x128x128, .f32⟩
  | .hbm, ⟨20, _⟩ => ⟨S8x128x128, .f32⟩
  | .hbm, ⟨21, _⟩ => ⟨S8x128x128, .bf16⟩
  | .hbm, ⟨22, _⟩ => ⟨S8x128x1, .f32⟩
  | .hbm, ⟨23, _⟩ => ⟨S2048x3072, .bf16⟩
  | .hbm, ⟨24, _⟩ => ⟨S1x1024, .f32⟩
  | .hbm, ⟨25, _⟩ => ⟨S1x1024, .f32⟩
  | .hbm, ⟨26, _⟩ => ⟨S8x128x128, .f32⟩
  | .hbm, ⟨27, _⟩ => ⟨S8x128x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x1, .f32⟩
  | .local _ .vmem, ⟨12, _⟩ => ⟨S128x3072, .bf16⟩
  | .local _ .vmem, ⟨13, _⟩ => ⟨S128x3072, .bf16⟩
  | .local _ .vmem, ⟨14, _⟩ => ⟨S1x1024, .f32⟩
  | .local _ .vmem, ⟨15, _⟩ => ⟨S1x1024, .f32⟩
  | .local _ .vmem, ⟨16, _⟩ => ⟨S8x128x128, .f32⟩
  | .local _ .vmem, ⟨17, _⟩ => ⟨S8x128x1, .f32⟩
  | .local _ .vmem, ⟨18, _⟩ => ⟨S128x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v7_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel5Ideal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== Reference5Ideal.lean ====
abbrev S2048x3072 : Shape := ⟨2, ![2048, 3072]⟩
abbrev S2048x1024 : Shape := ⟨2, ![2048, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S2048 : Shape := ⟨1, ![2048]⟩
abbrev S2048x1 : Shape := ⟨2, ![2048, 1]⟩
abbrev S16x128x8x128 : Shape := ⟨4, ![16, 128, 8, 128]⟩
abbrev S128x8 : Shape := ⟨2, ![128, 8]⟩
abbrev S128x8x1 : Shape := ⟨3, ![128, 8, 1]⟩
abbrev S128x8x128 : Shape := ⟨3, ![128, 8, 128]⟩
abbrev S8x16x128x128 : Shape := ⟨4, ![8, 16, 128, 128]⟩
abbrev S1x128x8x128 : Shape := ⟨4, ![1, 128, 8, 128]⟩
abbrev S1024 : Shape := ⟨1, ![1024]⟩
abbrev S8x128x1 : Shape := ⟨3, ![8, 128, 1]⟩

abbrev nBuf : Space → Nat
  | .hbm => 214
  | .vmem => 0
  | .smem => 0
  | _ => 0

abbrev hbmTy0_0 (i : Nat) : BufTy := match i % 128 with
  | 0 => ⟨S2048x3072, .f32⟩
  | 1 => ⟨S2048x1024, .f32⟩
  | 2 => ⟨S2048x1024, .f32⟩
  | 3 => ⟨S1x1024, .f32⟩
  | 4 => ⟨S1x1024, .f32⟩
  | 5 => ⟨S8x128x128, .f32⟩
  | 6 => ⟨S8x128, .f32⟩
  | 7 => ⟨S_, .i1⟩
  | 8 => ⟨S128x128, .i1⟩
  | 9 => ⟨S128x128, .i32⟩
  | 10 => ⟨S_, .i32⟩
  | 11 => ⟨S128x128, .i32⟩
  | 12 => ⟨S128x128, .i32⟩
  | 13 => ⟨S128x128, .i32⟩
  | 14 => ⟨S128x128, .i1⟩
  | 15 => ⟨S_, .i1⟩
  | 16 => ⟨S128x128, .i1⟩
  | 17 => ⟨S128x128, .i1⟩
  | 18 => ⟨S1x128x128, .i1⟩
  | 19 => ⟨S_, .f32⟩
  | 20 => ⟨S_, .f32⟩
  | 21 => ⟨S8x128x128, .i1⟩
  | 22 => ⟨S8x128x128, .f32⟩
  | 23 => ⟨S8x128x128, .f32⟩
  | 24 => ⟨S2048x1024, .f32⟩
  | 25 => ⟨S2048x1024, .f32⟩
  | 26 => ⟨S2048x1024, .f32⟩
  | 27 => ⟨S_, .f32⟩
  | 28 => ⟨S_, .f32⟩
  | 29 => ⟨S_, .f32⟩
  | 30 => ⟨S2048x1024, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S2048x1024, .f32⟩
  | 43 => ⟨S_, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S2048x1024, .f32⟩
  | 50 => ⟨S_, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S2048x1024, .f32⟩
  | 57 => ⟨S_, .f32⟩
  | 58 => ⟨S_, .f32⟩
  | 59 => ⟨S_, .f32⟩
  | 60 => ⟨S2048x1024, .f32⟩
  | 61 => ⟨S2048x1024, .f32⟩
  | 62 => ⟨S2048x1024, .f32⟩
  | 63 => ⟨S_, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S_, .f32⟩
  | 70 => ⟨S2048x1024, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S_, .f32⟩
  | 84 => ⟨S2048x1024, .f32⟩
  | 85 => ⟨S2048x1024, .f32⟩
  | 86 => ⟨S2048x1024, .f32⟩
  | 87 => ⟨S_, .f32⟩
  | 88 => ⟨S2048, .f32⟩
  | 89 => ⟨S2048x1, .f32⟩
  | 90 => ⟨S_, .f32⟩
  | 91 => ⟨S2048x1, .f32⟩
  | 92 => ⟨S2048x1, .f32⟩
  | 93 => ⟨S2048x1024, .f32⟩
  | 94 => ⟨S2048x1024, .f32⟩
  | 95 => ⟨S2048x1024, .f32⟩
  | 96 => ⟨S_, .f32⟩
  | 97 => ⟨S2048, .f32⟩
  | 98 => ⟨S2048x1, .f32⟩
  | 99 => ⟨S_, .f32⟩
  | 100 => ⟨S2048x1, .f32⟩
  | 101 => ⟨S2048x1, .f32⟩
  | 102 => ⟨S_, .f32⟩
  | 103 => ⟨S2048x1, .f32⟩
  | 104 => ⟨S2048x1, .f32⟩
  | 105 => ⟨S2048x1, .f32⟩
  | 106 => ⟨S2048x1, .f32⟩
  | 107 => ⟨S_, .f32⟩
  | 108 => ⟨S2048x1, .f32⟩
  | 109 => ⟨S2048x1, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S16x128x8x128, .f32⟩
  | 117 => ⟨S128x8, .f32⟩
  | 118 => ⟨S128x8x1, .f32⟩
  | 119 => ⟨S128x8x128, .f32⟩
  | 120 => ⟨S8x16x128x128, .f32⟩
  | 121 => ⟨S16x128x8x128, .f32⟩
  | 122 => ⟨S1x128x8x128, .f32⟩
  | 123 => ⟨S16x128x8x128, .f32⟩
  | 124 => ⟨S16x128x8x128, .f32⟩
  | 125 => ⟨S2048x1024, .f32⟩
  | 126 => ⟨S2048x1024, .f32⟩
  | 127 => ⟨S2048x1024, .f32⟩
  | _ => ⟨S2048x3072, .f32⟩

abbrev hbmTy0_1 (i : Nat) : BufTy := match i % 128 with
  | 0 => ⟨S2048x1024, .f32⟩
  | 1 => ⟨S16x128x8x128, .f32⟩
  | 2 => ⟨S_, .f32⟩
  | 3 => ⟨S128x8x128, .f32⟩
  | 4 => ⟨S1x128x8x128, .f32⟩
  | 5 => ⟨S_, .f32⟩
  | 6 => ⟨S128x8x128, .f32⟩
  | 7 => ⟨S8x16x128x128, .f32⟩
  | 8 => ⟨S8x128x128, .f32⟩
  | 9 => ⟨S8x16x128x128, .f32⟩
  | 10 => ⟨S16x128x8x128, .f32⟩
  | 11 => ⟨S_, .f32⟩
  | 12 => ⟨S128x8, .f32⟩
  | 13 => ⟨S128x8x1, .f32⟩
  | 14 => ⟨S_, .f32⟩
  | 15 => ⟨S128x8, .f32⟩
  | 16 => ⟨S8x128, .f32⟩
  | 17 => ⟨S2048x1024, .f32⟩
  | 18 => ⟨S_, .f32⟩
  | 19 => ⟨S1024, .f32⟩
  | 20 => ⟨S1x1024, .f32⟩
  | 21 => ⟨S2048x1024, .f32⟩
  | 22 => ⟨S_, .f32⟩
  | 23 => ⟨S1024, .f32⟩
  | 24 => ⟨S1x1024, .f32⟩
  | 25 => ⟨S2048x1024, .f32⟩
  | 26 => ⟨S2048x1024, .f32⟩
  | 27 => ⟨S2048x1024, .f32⟩
  | 28 => ⟨S_, .f32⟩
  | 29 => ⟨S2048, .f32⟩
  | 30 => ⟨S2048x1, .f32⟩
  | 31 => ⟨S2048x1024, .f32⟩
  | 32 => ⟨S2048x1024, .f32⟩
  | 33 => ⟨S2048x1, .f32⟩
  | 34 => ⟨S_, .f32⟩
  | 35 => ⟨S2048x1, .f32⟩
  | 36 => ⟨S2048x1, .f32⟩
  | 37 => ⟨S_, .f32⟩
  | 38 => ⟨S2048, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S_, .f32⟩
  | 46 => ⟨S2048, .f32⟩
  | 47 => ⟨S2048x1, .f32⟩
  | 48 => ⟨S_, .f32⟩
  | 49 => ⟨S2048x1, .f32⟩
  | 50 => ⟨S2048x1, .f32⟩
  | 51 => ⟨S_, .f32⟩
  | 52 => ⟨S2048, .f32⟩
  | 53 => ⟨S2048x1024, .f32⟩
  | 54 => ⟨S2048x1024, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S2048x1024, .f32⟩
  | 70 => ⟨S2048x1024, .f32⟩
  | 71 => ⟨S_, .f32⟩
  | 72 => ⟨S2048x1024, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S2048x1024, .f32⟩
  | 79 => ⟨S2048x1024, .f32⟩
  | 80 => ⟨S2048x1024, .f32⟩
  | 81 => ⟨S2048x1024, .f32⟩
  | 82 => ⟨S2048x1024, .f32⟩
  | 83 => ⟨S2048x3072, .f32⟩
  | 84 => ⟨S2048x3072, .bf16⟩
  | 85 => ⟨S8x128x1, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_8 : Ref sig .tc := ⟨.hbm, 57, rfl⟩
abbrev main_cst_9 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_10 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_12 : Ref sig .tc := ⟨.hbm, 73, rfl⟩
abbrev main_v41 : Ref sig .tc := ⟨.hbm, 74, rfl⟩
abbrev main_v42 : Ref sig .tc := ⟨.hbm, 75, rfl⟩
abbrev main_cst_13 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_14 : Ref sig .tc := ⟨.hbm, 80, rfl⟩
abbrev main_v46 : Ref sig .tc := ⟨.hbm, 81, rfl⟩
abbrev main_v47 : Ref sig .tc := ⟨.hbm, 82, rfl⟩
abbrev main_cst_15 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_16 : Ref sig .tc := ⟨.hbm, 87, rfl⟩
abbrev main_v51 : Ref sig .tc := ⟨.hbm, 88, rfl⟩
abbrev main_v52 : Ref sig .tc := ⟨.hbm, 89, rfl⟩
abbrev main_cst_17 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_18 : Ref sig .tc := ⟨.hbm, 96, rfl⟩
abbrev main_v58 : Ref sig .tc := ⟨.hbm, 97, rfl⟩
abbrev main_v59 : Ref sig .tc := ⟨.hbm, 98, rfl⟩
abbrev main_cst_19 : Ref sig .tc := ⟨.hbm, 99, rfl⟩
abbrev main_v60 : Ref sig .tc := ⟨.hbm, 100, rfl⟩
abbrev main_v61 : Ref sig .tc := ⟨.hbm, 101, rfl⟩
abbrev main_cst_20 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_21 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_22 : Ref sig .tc := ⟨.hbm, 130, rfl⟩
abbrev main_v88 : Ref sig .tc := ⟨.hbm, 131, rfl⟩
abbrev main_v89 : Ref sig .tc := ⟨.hbm, 132, rfl⟩
abbrev main_cst_23 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_24 : Ref sig .tc := ⟨.hbm, 139, rfl⟩
abbrev main_v95 : Ref sig .tc := ⟨.hbm, 140, rfl⟩
abbrev main_v96 : Ref sig .tc := ⟨.hbm, 141, rfl⟩
abbrev main_cst_25 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_26 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_27 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_28 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_29 : Ref sig .tc := ⟨.hbm, 162, rfl⟩
abbrev main_v113 : Ref sig .tc := ⟨.hbm, 163, rfl⟩
abbrev main_v114 : Ref sig .tc := ⟨.hbm, 164, rfl⟩
abbrev main_cst_30 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_31 : Ref sig .tc := ⟨.hbm, 173, rfl⟩
abbrev main_v122 : Ref sig .tc := ⟨.hbm, 174, rfl⟩
abbrev main_v123 : Ref sig .tc := ⟨.hbm, 175, rfl⟩
abbrev main_cst_32 : Ref sig .tc := ⟨.hbm, 176, rfl⟩
abbrev main_v124 : Ref sig .tc := ⟨.hbm, 177, rfl⟩
abbrev main_v125 : Ref sig .tc := ⟨.hbm, 178, rfl⟩
abbrev main_cst_33 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_34 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_35 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_36 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_37 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩

abbrev nD : Nat := 1
abbrev τ : Topo := Topo.v7x

variable {F : FTy → Type} [FloatOps F]
-- ==== Kernel6.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 18
  | .vmem => 34
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x2048 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== Reference6Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 122
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S_, .f32⟩
  | .hbm, ⟨96, _⟩ => ⟨S2048, .f32⟩
  | .hbm, ⟨97, _⟩ => ⟨S1x2048, .f32⟩
  | .hbm, ⟨98, _⟩ => ⟨S2048x2048, .f32⟩
  | .hbm, ⟨99, _⟩ => ⟨S_, .f32⟩
  | .hbm, ⟨100, _⟩ => ⟨S2048, .f32⟩
  | .hbm, ⟨101, _⟩ => ⟨S1x2048, .f32⟩
  | .hbm, ⟨102, _⟩ => ⟨S2048x2048, .f32⟩
  | .hbm, ⟨103, _⟩ => ⟨S2048x2048, .f32⟩
  | .hbm, ⟨104, _⟩ => ⟨S2048x2048, .f32⟩
  | .hbm, ⟨105, _⟩ => ⟨S_, .f32⟩
  | .hbm, ⟨106, _⟩ => ⟨S2048, .f32⟩
  | .hbm, ⟨107, _⟩ => ⟨S2048x1, .f32⟩
  | .hbm, ⟨108, _⟩ => ⟨S2048x2048, .f32⟩
  | .hbm, ⟨109, _⟩ => ⟨S2048x2048, .f32⟩
  | .hbm, ⟨110, _⟩ => ⟨S2048x1, .f32⟩
  | .hbm, ⟨111, _⟩ => ⟨S_, .f32⟩
  | .hbm, ⟨112, _⟩ => ⟨S2048x1, .f32⟩
  | .hbm, ⟨113, _⟩ => ⟨S2048x1, .f32⟩
  | .hbm, ⟨114, _⟩ => ⟨S_, .f32⟩
  | .hbm, ⟨115, _⟩ => ⟨S2048, .f32⟩
  | .hbm, ⟨116, _⟩ => ⟨S2048x2048, .f32⟩
  | .hbm, ⟨117, _⟩ => ⟨S2048x2048, .f32⟩
  | .hbm, ⟨118, _⟩ => ⟨S2048x2048, .f32⟩
  | .hbm, ⟨119, _⟩ => ⟨S2048x2048, .f32⟩
  | .hbm, ⟨120, _⟩ => ⟨S2048x2048, .f32⟩
  | .hbm, ⟨121, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel7.lean ====
abbrev S1x64 : Shape := ⟨2, ![1, 64]⟩
abbrev S64x64 : Shape := ⟨2, ![64, 64]⟩
abbrev S64x64x16 : Shape := ⟨3, ![64, 64, 16]⟩
abbrev S1x64x64 : Shape := ⟨3, ![1, 64, 64]⟩
abbrev S1x4096 : Shape := ⟨2, ![1, 4096]⟩
abbrev S4096x16 : Shape := ⟨2, ![4096, 16]⟩
abbrev S16x4096 : Shape := ⟨2, ![16, 4096]⟩
abbrev S4096 : Shape := ⟨1, ![4096]⟩
abbrev S64x1 : Shape := ⟨2, ![64, 1]⟩
abbrev S64 : Shape := ⟨1, ![64]⟩

abbrev nBuf : Space → Nat
  | .hbm => 31
  | .vmem => 17
  | .smem => 0
  | _ => 0

abbrev bufTy : (tb : Table) → Fin (tcTables nBuf tb) → BufTy
  | .hbm, ⟨0, _⟩ => ⟨S1x64, .f32⟩
  | .hbm, ⟨1, _⟩ => ⟨S64x64, .f32⟩
  | .hbm, ⟨2, _⟩ => ⟨S64x64, .f32⟩
  | .hbm, ⟨3, _⟩ => ⟨S64x64x16, .f32⟩
  | .hbm, ⟨4, _⟩ => ⟨S64x64x16, .f32⟩
  | .hbm, ⟨5, _⟩ => ⟨S64x64x16, .f32⟩
  | .hbm, ⟨6, _⟩ => ⟨S64x64x16, .f32⟩
  | .hbm, ⟨7, _⟩ => ⟨S64x64, .f32⟩
  | .hbm, ⟨8, _⟩ => ⟨S64x64, .f32⟩
  | .hbm, ⟨9, _⟩ => ⟨S1x64x64, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S4096x16, .f32⟩
  | .hbm, ⟨14, _⟩ => ⟨S16x4096, .f32⟩
  | .hbm, ⟨15, _⟩ => ⟨S4096x16, .f32⟩
  | .hbm, ⟨16, _⟩ => ⟨S16x4096, .f32⟩
  | .hbm, ⟨17, _⟩ => ⟨S4096x16, .f32⟩
  | .hbm, ⟨18, _⟩ => ⟨S16x4096, .f32⟩
  | .hbm, ⟨19, _⟩ => ⟨S4096x16, .f32⟩
  | .hbm, ⟨20, _⟩ => ⟨S16x4096, .f32⟩
  | .hbm, ⟨21, _⟩ => ⟨S1x4096, .f32⟩
  | .hbm, ⟨22, _⟩ => ⟨S1x4096, .f32⟩
  | .hbm, ⟨23, _⟩ => ⟨S16x4096, .f32⟩
  | .hbm, ⟨24, _⟩ => ⟨S16x4096, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S64x64, .f32⟩
  | .hbm, ⟨29, _⟩ => ⟨S64x1, .f32⟩
  | .hbm, ⟨30, _⟩ => ⟨S64x1, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S16x4096, .f32⟩
  | .local _ .vmem, ⟨4, _⟩ => ⟨S16x4096, .f32⟩
  | .local _ .vmem, ⟨5, _⟩ => ⟨S16x4096, .f32⟩
  | .local _ .vmem, ⟨6, _⟩ => ⟨S16x4096, .f32⟩
  | .local _ .vmem, ⟨7, _⟩ => ⟨S1x4096, .f32⟩
  | .local _ .vmem, ⟨8, _⟩ => ⟨S1x4096, .f32⟩
  | .local _ .vmem, ⟨9, _⟩ => ⟨S16x4096, .f32⟩
  | .local _ .vmem, ⟨10, _⟩ => ⟨S16x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S64x64, .f32⟩
  | .local _ .vmem, ⟨15, _⟩ => ⟨S64x1, .f32⟩
  | .local _ .vmem, ⟨16, _⟩ => ⟨S64x1, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc1_sem0_0 : DmaSem sig := 14
abbrev cc1_sem1_0 : DmaSem sig := 15
abbrev cc1_sem2_0 : DmaSem sig := 16

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev grid1 : Pipeline.Grid := .none

abbrev stage1_0 : Fin 1 → Memref sig .tc .vmem S64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== Reference7Ideal.lean ====
abbrev S1x64 : Shape := ⟨2, ![1, 64]⟩
abbrev S64x64 : Shape := ⟨2, ![64, 64]⟩
abbrev S64x64x16 : Shape := ⟨3, ![64, 64, 16]⟩
abbrev S64 : Shape := ⟨1, ![64]⟩
abbrev S64x1 : Shape := ⟨2, ![64, 1]⟩
abbrev S_ : Shape := ⟨0, ![]⟩
abbrev S64x64x1 : Shape := ⟨3, ![64, 64, 1]⟩
abbrev S4096x16 : Shape := ⟨2, ![4096, 16]⟩
abbrev S16x4096 : Shape := ⟨2, ![16, 4096]⟩
abbrev S1x4096 : Shape := ⟨2, ![1, 4096]⟩

abbrev nBuf : Space → Nat
  | .hbm => 169
  | .vmem => 0
  | .smem => 0
  | _ => 0

abbrev hbmTy0_0 (i : Nat) : BufTy := match i % 128 with
  | 0 => ⟨S1x64, .f32⟩
  | 1 => ⟨S64x64, .f32⟩
  | 2 => ⟨S64x64, .f32⟩
  | 3 => ⟨S64x64x16, .f32⟩
  | 4 => ⟨S64x64x16, .f32⟩
  | 5 => ⟨S64x64x16, .f32⟩
  | 6 => ⟨S64x64x16, .f32⟩
  | 7 => ⟨S64x64, .f32⟩
  | 8 => ⟨S64x64, .f32⟩
  | 9 => ⟨S64, .f32⟩
  | 10 => ⟨S64, .f32⟩
  | 11 => ⟨S64x1, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S_, .f32⟩
  | 37 => ⟨S64x64, .f32⟩
  | 38 => ⟨S64x64, .f32⟩
  | 39 => ⟨S64x64x1, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S_, .f32⟩
  | 46 => ⟨S64x64, .f32⟩
  | 47 => ⟨S64x64, .f32⟩
  | 48 => ⟨S64x64x1, .f32⟩
  | 49 => ⟨S64x64x16, .f32⟩
  | 50 => ⟨S64x64x16, .f32⟩
  | 51 => ⟨S64x64x16, .f32⟩
  | 52 => ⟨S64x64x16, .f32⟩
  | 53 => ⟨S64x64x16, .f32⟩
  | 54 => ⟨S64x64x16, .f32⟩
  | 55 => ⟨S64x64x16, .f32⟩
  | 56 => ⟨S64x64x16, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S64x64x16, .f32⟩
  | 64 => ⟨S_, .f32⟩
  | 65 => ⟨S64x64, .f32⟩
  | 66 => ⟨S64x64x1, .f32⟩
  | 67 => ⟨S64x64x16, .f32⟩
  | 68 => ⟨S64x64x16, .f32⟩
  | 69 => ⟨S64x64x16, .f32⟩
  | 70 => ⟨S_, .f32⟩
  | 71 => ⟨S64x64, .f32⟩
  | 72 => ⟨S64x64x1, .f32⟩
  | 73 => ⟨S64x64x16, .f32⟩
  | 74 => ⟨S64x64x16, .f32⟩
  | 75 => ⟨S64x64x16, .f32⟩
  | 76 => ⟨S64x64x16, .f32⟩
  | 77 => ⟨S64x64x16, .f32⟩
  | 78 => ⟨S64x64x16, .f32⟩
  | 79 => ⟨S_, .f32⟩
  | 80 => ⟨S64x64, .f32⟩
  | 81 => ⟨S64x64x1, .f32⟩
  | 82 => ⟨S64x64x1, .f32⟩
  | 83 => ⟨S64x64x16, .f32⟩
  | 84 => ⟨S64x64x16, .f32⟩
  | 85 => ⟨S64x64x16, .f32⟩
  | 86 => ⟨S64x64x16, .f32⟩
  | 87 => ⟨S_, .f32⟩
  | 88 => ⟨S64x64, .f32⟩
  | 89 => ⟨S64x64x1, .f32⟩
  | 90 => ⟨S64x64x1, .f32⟩
  | 91 => ⟨S_, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S1x64, .f32⟩

abbrev hbmTy0_1 (i : Nat) : BufTy := match i % 128 with
  | 0 => ⟨S64x64, .f32⟩
  | 1 => ⟨S64x64, .f32⟩
  | 2 => ⟨S64x64, .f32⟩
  | 3 => ⟨S_, .f32⟩
  | 4 => ⟨S64, .f32⟩
  | 5 => ⟨S64x1, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64, .f32⟩
  | 17 => ⟨S64x1, .f32⟩
  | 18 => ⟨S64x1, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S_, .f32⟩
  | 25 => ⟨S64, .f32⟩
  | 26 => ⟨S64x1, .f32⟩
  | 27 => ⟨S64x1, .f32⟩
  | 28 => ⟨S64x64, .f32⟩
  | 29 => ⟨S64x64, .f32⟩
  | 30 => ⟨S64x64, .f32⟩
  | 31 => ⟨S_, .f32⟩
  | 32 => ⟨S64, .f32⟩
  | 33 => ⟨S64, .f32⟩
  | 34 => ⟨S4096x16, .f32⟩
  | 35 => ⟨S16x4096, .f32⟩
  | 36 => ⟨S4096x16, .f32⟩
  | 37 => ⟨S16x4096, .f32⟩
  | 38 => ⟨S1x4096, .f32⟩
  | 39 => ⟨S1x4096, .f32⟩
  | 40 => ⟨S64x1, .f32⟩
  | _ => ⟨S1x64, .f32⟩

abbrev hbmTy (i : Nat) : BufTy := match i / 128 with
  | 0 => hbmTy0_0 i
  | 1 => hbmTy0_1 i
  | _ => ⟨S1x64, .f32⟩

abbrev bufTy : (tb : Table) → Fin (tcTables nBuf tb) → BufTy
  | .hbm, ⟨i, _⟩ => hbmTy i
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_3 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_4 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_5 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_6 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_7 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_8 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_9 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_cst_10 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_cst_11 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩

abbrev nD : Nat := 1
abbrev τ : Topo := Topo.v7x

variable {F : FTy → Type} [FloatOps F]
-- ==== Kernel8.lean ====
abbrev S8x2048 : Shape := ⟨2, ![8, 2048]⟩
abbrev S8x3072 : Shape := ⟨2, ![8, 3072]⟩
abbrev S2048x3072 : Shape := ⟨2, ![2048, 3072]⟩
abbrev S2048x8 : Shape := ⟨2, ![2048, 8]⟩
abbrev S256x8 : Shape := ⟨2, ![256, 8]⟩
abbrev S8x1024 : Shape := ⟨2, ![8, 1024]⟩
abbrev S256x1024 : Shape := ⟨2, ![256, 1024]⟩
abbrev S256x1 : Shape := ⟨2, ![256, 1]⟩
abbrev S1x1024 : Shape := ⟨2, ![1, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x8, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S2048x3072, .f32⟩
  | .local _ .vmem, ⟨0, _⟩ => ⟨S256x8, .f32⟩
  | .local _ .vmem, ⟨1, _⟩ => ⟨S256x8, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S8x2048 : Shape := ⟨2, ![8, 2048]⟩
abbrev S8x3072 : Shape := ⟨2, ![8, 3072]⟩
abbrev S2048x3072 : Shape := ⟨2, ![2048, 3072]⟩
abbrev S_ : Shape := ⟨0, ![]⟩
abbrev S3072x2048 : Shape := ⟨2, ![3072, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x3072, .f32⟩
  | .hbm, ⟨15, _⟩ => ⟨S3072x2048, .f32⟩
  | .hbm, ⟨16, _⟩ => ⟨S2048x3072, .f32⟩
  | .hbm, ⟨17, _⟩ => ⟨S_, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S_, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S_, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S_, .f32⟩
  | .hbm, ⟨44, _⟩ => ⟨S2048x3072, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S2048x3072, .f32⟩
  | .hbm, ⟨49, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel9.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel10.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel11.lean ====
abbrev S2048x1024 : Shape := ⟨2, ![2048, 1024]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x2048, .bf16⟩
  | .local _ .vmem, ⟨7, _⟩ => ⟨S256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x2048, .f32⟩
  | .hbm, ⟨35, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel12.lean ====
abbrev S2048x11264 : Shape := ⟨2, ![2048, 11264]⟩
abbrev S3x11264 : Shape := ⟨2, ![3, 11264]⟩
abbrev S1x11264 : Shape := ⟨2, ![1, 11264]⟩
abbrev S2048x5632 : Shape := ⟨2, ![2048, 5632]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 14
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S1x11264, .f32⟩
  | .hbm, ⟨3, _⟩ => ⟨S2048x5632, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S2048x11264 : Shape := ⟨2, ![2048, 11264]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S2050x11264 : Shape := ⟨2, ![2050, 11264]⟩
abbrev S11264 : Shape := ⟨1, ![11264]⟩
abbrev S2048x5632 : Shape := ⟨2, ![2048, 5632]⟩

abbrev nBuf : Space → Nat
  | .hbm => 44
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S1x11264, .f32⟩
  | .hbm, ⟨3, _⟩ => ⟨S_, .f32⟩
  | .hbm, ⟨4, _⟩ => ⟨S2x11264, .f32⟩
  | .hbm, ⟨5, _⟩ => ⟨S2050x11264, .f32⟩
  | .hbm, ⟨6, _⟩ => ⟨S1x11264, .f32⟩
  | .hbm, ⟨7, _⟩ => ⟨S11264, .f32⟩
  | .hbm, ⟨8, _⟩ => ⟨S2048x11264, .f32⟩
  | .hbm, ⟨9, _⟩ => ⟨S1x11264, .f32⟩
  | .hbm, ⟨10, _⟩ => ⟨S2048x11264, .f32⟩
  | .hbm, ⟨11, _⟩ => ⟨S2048x11264, .f32⟩
  | .hbm, ⟨12, _⟩ => ⟨S_, .f32⟩
  | .hbm, ⟨13, _⟩ => ⟨S2048x11264, .f32⟩
  | .hbm, ⟨14, _⟩ => ⟨S2048x11264, .f32⟩
  | .hbm, ⟨15, _⟩ => ⟨S1x11264, .f32⟩
  | .hbm, ⟨16, _⟩ => ⟨S11264, .f32⟩
  | .hbm, ⟨17, _⟩ => ⟨S2048x11264, .f32⟩
  | .hbm, ⟨18, _⟩ => ⟨S1x11264, .f32⟩
  | .hbm, ⟨19, _⟩ => ⟨S2048x11264, .f32⟩
  | .hbm, ⟨20, _⟩ => ⟨S2048x11264, .f32⟩
  | .hbm, ⟨21, _⟩ => ⟨S2048x11264, .f32⟩
  | .hbm, ⟨22, _⟩ => ⟨S1x11264, .f32⟩
  | .hbm, ⟨23, _⟩ => ⟨S11264, .f32⟩
  | .hbm, ⟨24, _⟩ => ⟨S2048x11264, .f32⟩
  | .hbm, ⟨25, _⟩ => ⟨S1x11264, .f32⟩
  | .hbm, ⟨26, _⟩ => ⟨S2048x11264, .f32⟩
  | .hbm, ⟨27, _⟩ => ⟨S2048x11264, .f32⟩
  | .hbm, ⟨28, _⟩ => ⟨S2048x11264, .f32⟩
  | .hbm, ⟨29, _⟩ => ⟨S2048x11264, .f32⟩
  | .hbm, ⟨30, _⟩ => ⟨S2048x11264, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S_, .f32⟩
  | .hbm, ⟨36, _⟩ => ⟨S2048x5632, .f32⟩
  | .hbm, ⟨37, _⟩ => ⟨S2048x5632, .f32⟩
  | .hbm, ⟨38, _⟩ => ⟨S_, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S2048x5632, .f32⟩
  | .hbm, ⟨43, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel13.lean ====
abbrev S2048x3072 : Shape := ⟨2, ![2048, 3072]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩
abbrev S1x128x1 : Shape := ⟨3, ![1, 128, 1]⟩

abbrev nBuf : Space → Nat
  | .hbm => 22
  | .vmem => 10
  | .smem => 0
  | _ => 0

abbrev bufTy : (tb : Table) → Fin (tcTables nBuf tb) → BufTy
  | .hbm, ⟨0, _⟩ => ⟨S2048x3072, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S_, .f32⟩
  | .hbm, ⟨6, _⟩ => ⟨S128x128, .f32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S1x128x128, .f32⟩
  | .hbm, ⟨17, _⟩ => ⟨S8x128x128, .f32⟩
  | .hbm, ⟨18, _⟩ => ⟨S8x128x128, .f32⟩
  | .hbm, ⟨19, _⟩ => ⟨S8x128x128, .bf16⟩
  | .hbm, ⟨20, _⟩ => ⟨S8x128x1, .f32⟩
  | .hbm, ⟨21, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S8x128x1, .f32⟩
  | .local _ .vmem, ⟨8, _⟩ => ⟨S128x1024, .f32⟩
  | .local _ .vmem, ⟨9, _⟩ => ⟨S128x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
variable {F : FTy → Type} [FloatOps F] [Named F]
def κ : String → Option EReal := fun
  | "gelu_cubic" => some ((8943 / 200000 : ℝ) : EReal)
  | _ => none
-- ==== Reference13Ideal.lean ====
abbrev S2048x3072 : Shape := ⟨2, ![2048, 3072]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S2048x1024 : Shape := ⟨2, ![2048, 1024]⟩
abbrev S2048 : Shape := ⟨1, ![2048]⟩
abbrev S2048x1 : Shape := ⟨2, ![2048, 1]⟩
abbrev S16x128x8x128 : Shape := ⟨4, ![16, 128, 8, 128]⟩
abbrev S128x8 : Shape := ⟨2, ![128, 8]⟩
abbrev S128x8x1 : Shape := ⟨3, ![128, 8, 1]⟩
abbrev S128x8x128 : Shape := ⟨3, ![128, 8, 128]⟩
abbrev S8x16x128x128 : Shape := ⟨4, ![8, 16, 128, 128]⟩
abbrev S1x128x8x128 : Shape := ⟨4, ![1, 128, 8, 128]⟩

abbrev nBuf : Space → Nat
  | .hbm => 99
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S16x128x8x128, .f32⟩
  | .hbm, ⟨89, _⟩ => ⟨S128x8, .f32⟩
  | .hbm, ⟨90, _⟩ => ⟨S128x8x1, .f32⟩
  | .hbm, ⟨91, _⟩ => ⟨S128x8x128, .f32⟩
  | .hbm, ⟨92, _⟩ => ⟨S8x16x128x128, .f32⟩
  | .hbm, ⟨93, _⟩ => ⟨S16x128x8x128, .f32⟩
  | .hbm, ⟨94, _⟩ => ⟨S1x128x8x128, .f32⟩
  | .hbm, ⟨95, _⟩ => ⟨S16x128x8x128, .f32⟩
  | .hbm, ⟨96, _⟩ => ⟨S16x128x8x128, .f32⟩
  | .hbm, ⟨97, _⟩ => ⟨S2048x1024, .f32⟩
  | .hbm, ⟨98, _⟩ => ⟨S2048x1024, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_cst_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_cst_9 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_10 : Ref sig .tc := ⟨.hbm, 63, rfl⟩
abbrev main_v35 : Ref sig .tc := ⟨.hbm, 64, rfl⟩
abbrev main_v36 : Ref sig .tc := ⟨.hbm, 65, rfl⟩
abbrev main_cst_11 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_12 : Ref sig .tc := ⟨.hbm, 72, rfl⟩
abbrev main_v42 : Ref sig .tc := ⟨.hbm, 73, rfl⟩
abbrev main_v43 : Ref sig .tc := ⟨.hbm, 74, rfl⟩
abbrev main_cst_13 : Ref sig .tc := ⟨.hbm, 75, rfl⟩
abbrev main_v44 : Ref sig .tc := ⟨.hbm, 76, rfl⟩
abbrev main_v45 : Ref sig .tc := ⟨.hbm, 77, rfl⟩
abbrev main_cst_14 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== Kernel14.lean ====
abbrev S8x2048 : Shape := ⟨2, ![8, 2048]⟩
abbrev S2048x3072 : Shape := ⟨2, ![2048, 3072]⟩
abbrev S1x3072 : Shape := ⟨2, ![1, 3072]⟩
abbrev S8x3072 : Shape := ⟨2, ![8, 3072]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x3072, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8x2048 : Shape := ⟨2, ![8, 2048]⟩
abbrev S2048x3072 : Shape := ⟨2, ![2048, 3072]⟩
abbrev S1x3072 : Shape := ⟨2, ![1, 3072]⟩
abbrev S_ : Shape := ⟨0, ![]⟩
abbrev S8x3072 : Shape := ⟨2, ![8, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S1x3072, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x3072, .f32⟩
  | .hbm, ⟨13, _⟩ => ⟨S8x3072, .f32⟩
  | .hbm, ⟨14, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel15.lean ====
abbrev S2048x2048 : Shape := ⟨2, ![2048, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .f32⟩
  | .hbm, ⟨2, _⟩ => ⟨S2048x4x2816, .f32⟩
  | .hbm, ⟨3, _⟩ => ⟨S4x2048x2816, .f32⟩
  | .hbm, ⟨4, _⟩ => ⟨S4x2048x2816, .bf16⟩
  | .hbm, ⟨5, _⟩ => ⟨S2048x11264, .f32⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .f32⟩
  | .local _ .vmem, ⟨5, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S2048x11264 : Shape := ⟨2, ![2048, 11264]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .f32⟩
  | .hbm, ⟨2, _⟩ => ⟨S2048x2048, .f32⟩
  | .hbm, ⟨3, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S2048x2048 : Shape := ⟨2, ![2048, 2048]⟩
abbrev S2048x11264 : Shape := ⟨2, ![2048, 11264]⟩
abbrev S2048x2x5632 : Shape := ⟨3, ![2048, 2, 5632]⟩
abbrev S2x2048x5632 : Shape := ⟨3, ![2, 2048, 5632]⟩
abbrev S2x4x1024x2816 : Shape := ⟨4, ![2, 4, 1024, 2816]⟩
abbrev S2048x1024 : Shape := ⟨2, ![2048, 1024]⟩
abbrev S1x2048x1408 : Shape := ⟨3, ![1, 2048, 1408]⟩
abbrev S1x1x1024x1408 : Shape := ⟨4, ![1, 1, 1024, 1408]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2x5632, .bf16⟩
  | .hbm, ⟨3, _⟩ => ⟨S2x2048x5632, .bf16⟩
  | .hbm, ⟨4, _⟩ => ⟨S2x4x1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x1024x1408, .bf16⟩
  | .local _ .vmem, ⟨5, _⟩ => ⟨S1x1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg0 c2_i32
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg0 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg1 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2x1024x4x2816 : Shape := ⟨4, ![2, 1024, 4, 2816]⟩
abbrev S2x4x1024x2816 : Shape := ⟨4, ![2, 4, 1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2x1024x4x2816, .f32⟩
  | .hbm, ⟨10, _⟩ => ⟨S2x4x1024x2816, .f32⟩
  | .hbm, ⟨11, _⟩ => ⟨S2x4x1024x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel17.lean ====
abbrev S2048x5632 : Shape := ⟨2, ![2048, 5632]⟩
abbrev S2048x2048 : Shape := ⟨2, ![2048, 2048]⟩
abbrev S2x4x1408x1024 : Shape := ⟨4, ![2, 4, 1408, 1024]⟩
abbrev S2048x1408 : Shape := ⟨2, ![2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2x4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1408x1024, .bf16⟩
  | .local _ .vmem, ⟨5, _⟩ => ⟨S1x1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg0 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x1408x2x1024 : Shape := ⟨4, ![4, 1408, 2, 1024]⟩
abbrev S2x4x1408x1024 : Shape := ⟨4, ![2, 4, 1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S4x1408x2x1024, .f32⟩
  | .hbm, ⟨10, _⟩ => ⟨S2x4x1408x1024, .f32⟩
  | .hbm, ⟨11, _⟩ => ⟨S2x4x1408x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel18.lean ====
abbrev S2048x2816 : Shape := ⟨2, ![2048, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1408x2048 : Shape := ⟨2, ![1408, 2048]⟩
abbrev S1408x2x1024 : Shape := ⟨3, ![1408, 2, 1024]⟩
abbrev S2x1408x1024 : Shape := ⟨3, ![2, 1408, 1024]⟩
abbrev S176x1024 : Shape := ⟨2, ![176, 1024]⟩
abbrev S1x176x1024 : Shape := ⟨3, ![1, 176, 1024]⟩

abbrev nBuf : Space → Nat
  | .hbm => 10
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2x1024, .f32⟩
  | .hbm, ⟨5, _⟩ => ⟨S2x1408x1024, .f32⟩
  | .hbm, ⟨6, _⟩ => ⟨S1408x2048, .f32⟩
  | .hbm, ⟨7, _⟩ => ⟨S1408x2048, .f32⟩
  | .hbm, ⟨8, _⟩ => ⟨S1408x2048, .f32⟩
  | .hbm, ⟨9, _⟩ => ⟨S1408x2048, .f32⟩
  | .local _ .vmem, ⟨0, _⟩ => ⟨S176x1024, .f32⟩
  | .local _ .vmem, ⟨1, _⟩ => ⟨S176x1024, .f32⟩
  | .local _ .vmem, ⟨2, _⟩ => ⟨S1x176x1024, .f32⟩
  | .local _ .vmem, ⟨3, _⟩ => ⟨S1x176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8x4096x128 : Shape := ⟨3, ![8, 4096, 128]⟩
abbrev S4096x128 : Shape := ⟨2, ![4096, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x4096x128, .f32⟩
  | .hbm, ⟨1, _⟩ => ⟨S4096x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference21Ideal.lean ====
abbrev S8x4096x128 : Shape := ⟨3, ![8, 4096, 128]⟩
abbrev S_ : Shape := ⟨0, ![]⟩
abbrev S4096x128 : Shape := ⟨2, ![4096, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S_, .f32⟩
  | .hbm, ⟨2, _⟩ => ⟨S4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S2048x11264 : Shape := ⟨2, ![2048, 11264]⟩
abbrev S2048x2x5632 : Shape := ⟨3, ![2048, 2, 5632]⟩
abbrev S2x2048x5632 : Shape := ⟨3, ![2, 2048, 5632]⟩
abbrev S2048x4x2816 : Shape := ⟨3, ![2048, 4, 2816]⟩
abbrev S4x2048x2816 : Shape := ⟨3, ![4, 2048, 2816]⟩
abbrev S2048x2048 : Shape := ⟨2, ![2048, 2048]⟩
abbrev S1x512x2816 : Shape := ⟨3, ![1, 512, 2816]⟩
abbrev S1x2048x2816 : Shape := ⟨3, ![1, 2048, 2816]⟩
abbrev S512x2048 : Shape := ⟨2, ![512, 2048]⟩
abbrev S512x2816 : Shape := ⟨2, ![512, 2816]⟩
abbrev S2048x2816 : Shape := ⟨2, ![2048, 2816]⟩

abbrev nBuf : Space → Nat
  | .hbm => 8
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .f32⟩
  | .hbm, ⟨2, _⟩ => ⟨S2048x2x5632, .bf16⟩
  | .hbm, ⟨3, _⟩ => ⟨S2x2048x5632, .bf16⟩
  | .hbm, ⟨4, _⟩ => ⟨S2048x4x2816, .f32⟩
  | .hbm, ⟨5, _⟩ => ⟨S4x2048x2816, .f32⟩
  | .hbm, ⟨6, _⟩ => ⟨S4x2048x2816, .bf16⟩
  | .hbm, ⟨7, _⟩ => ⟨S2048x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .f32⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S72x1 : Shape := ⟨2, ![72, 1]⟩
abbrev S1x64 : Shape := ⟨2, ![1, 64]⟩
abbrev S64x64 : Shape := ⟨2, ![64, 64]⟩
abbrev S64x64x16 : Shape := ⟨3, ![64, 64, 16]⟩
abbrev S1x64x64 : Shape := ⟨3, ![1, 64, 64]⟩
abbrev S1x4096 : Shape := ⟨2, ![1, 4096]⟩
abbrev S4096x16 : Shape := ⟨2, ![4096, 16]⟩
abbrev S16x4096 : Shape := ⟨2, ![16, 4096]⟩
abbrev S72x4096 : Shape := ⟨2, ![72, 4096]⟩

abbrev nBuf : Space → Nat
  | .hbm => 18
  | .vmem => 10
  | .smem => 0
  | _ => 0

abbrev bufTy : (tb : Table) → Fin (tcTables nBuf tb) → BufTy
  | .hbm, ⟨0, _⟩ => ⟨S72x1, .f32⟩
  | .hbm, ⟨1, _⟩ => ⟨S1x64, .f32⟩
  | .hbm, ⟨2, _⟩ => ⟨S64x64, .f32⟩
  | .hbm, ⟨3, _⟩ => ⟨S64x64, .f32⟩
  | .hbm, ⟨4, _⟩ => ⟨S64x64x16, .f32⟩
  | .hbm, ⟨5, _⟩ => ⟨S64x64x16, .f32⟩
  | .hbm, ⟨6, _⟩ => ⟨S1x64x64, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S4096x16, .f32⟩
  | .hbm, ⟨11, _⟩ => ⟨S16x4096, .f32⟩
  | .hbm, ⟨12, _⟩ => ⟨S4096x16, .f32⟩
  | .hbm, ⟨13, _⟩ => ⟨S16x4096, .f32⟩
  | .hbm, ⟨14, _⟩ => ⟨S72x4096, .f32⟩
  | .hbm, ⟨15, _⟩ => ⟨S72x4096, .f32⟩
  | .hbm, ⟨16, _⟩ => ⟨S16x4096, .f32⟩
  | .hbm, ⟨17, _⟩ => ⟨S16x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S16x4096, .f32⟩
  | .local _ .vmem, ⟨4, _⟩ => ⟨S16x4096, .f32⟩
  | .local _ .vmem, ⟨5, _⟩ => ⟨S72x1, .f32⟩
  | .local _ .vmem, ⟨6, _⟩ => ⟨S72x4096, .f32⟩
  | .local _ .vmem, ⟨7, _⟩ => ⟨S72x4096, .f32⟩
  | .local _ .vmem, ⟨8, _⟩ => ⟨S16x4096, .f32⟩
  | .local _ .vmem, ⟨9, _⟩ => ⟨S16x4096, .f32⟩
  | _, _ => ⟨S72x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S72x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference23Ideal.lean ====
abbrev S72x1 : Shape := ⟨2, ![72, 1]⟩
abbrev S1x64 : Shape := ⟨2, ![1, 64]⟩
abbrev S64x64 : Shape := ⟨2, ![64, 64]⟩
abbrev S64x64x16 : Shape := ⟨3, ![64, 64, 16]⟩
abbrev S64 : Shape := ⟨1, ![64]⟩
abbrev S64x1 : Shape := ⟨2, ![64, 1]⟩
abbrev S_ : Shape := ⟨0, ![]⟩
abbrev S64x64x1 : Shape := ⟨3, ![64, 64, 1]⟩
abbrev S72x1x1 : Shape := ⟨3, ![72, 1, 1]⟩
abbrev S1x64x64 : Shape := ⟨3, ![1, 64, 64]⟩
abbrev S72x64x64 : Shape := ⟨3, ![72, 64, 64]⟩
abbrev S72x4096 : Shape := ⟨2, ![72, 4096]⟩
abbrev S4096x16 : Shape := ⟨2, ![4096, 16]⟩
abbrev S16x4096 : Shape := ⟨2, ![16, 4096]⟩

abbrev nBuf : Space → Nat
  | .hbm => 74
  | .vmem => 0
  | .smem => 0
  | _ => 0

abbrev bufTy : (tb : Table) → Fin (tcTables nBuf tb) → BufTy
  | .hbm, ⟨0, _⟩ => ⟨S72x1, .f32⟩
  | .hbm, ⟨1, _⟩ => ⟨S1x64, .f32⟩
  | .hbm, ⟨2, _⟩ => ⟨S64x64, .f32⟩
  | .hbm, ⟨3, _⟩ => ⟨S64x64, .f32⟩
  | .hbm, ⟨4, _⟩ => ⟨S64x64x16, .f32⟩
  | .hbm, ⟨5, _⟩ => ⟨S64x64x16, .f32⟩
  | .hbm, ⟨6, _⟩ => ⟨S64, .f32⟩
  | .hbm, ⟨7, _⟩ => ⟨S64, .f32⟩
  | .hbm, ⟨8, _⟩ => ⟨S64x1, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64x1, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S72x1x1, .f32⟩
  | .hbm, ⟨50, _⟩ => ⟨S64x64, .f32⟩
  | .hbm, ⟨51, _⟩ => ⟨S64x64, .f32⟩
  | .hbm, ⟨52, _⟩ => ⟨S1x64x64, .f32⟩
  | .hbm, ⟨53, _⟩ => ⟨S72x64x64, .f32⟩
  | .hbm, ⟨54, _⟩ => ⟨S72x64x64, .f32⟩
  | .hbm, ⟨55, _⟩ => ⟨S72x64x64, .f32⟩
  | .hbm, ⟨56, _⟩ => ⟨S72x64x64, .f32⟩
  | .hbm, ⟨57, _⟩ => ⟨S72x1x1, .f32⟩
  | .hbm, ⟨58, _⟩ => ⟨S64x64, .f32⟩
  | .hbm, ⟨59, _⟩ => ⟨S64x64, .f32⟩
  | .hbm, ⟨60, _⟩ => ⟨S1x64x64, .f32⟩
  | .hbm, ⟨61, _⟩ => ⟨S72x64x64, .f32⟩
  | .hbm, ⟨62, _⟩ => ⟨S72x64x64, .f32⟩
  | .hbm, ⟨63, _⟩ => ⟨S72x64x64, .f32⟩
  | .hbm, ⟨64, _⟩ => ⟨S72x64x64, .f32⟩
  | .hbm, ⟨65, _⟩ => ⟨S72x64x64, .f32⟩
  | .hbm, ⟨66, _⟩ => ⟨S72x4096, .f32⟩
  | .hbm, ⟨67, _⟩ => ⟨S72x64x64, .f32⟩
  | .hbm, ⟨68, _⟩ => ⟨S72x64x64, .f32⟩
  | .hbm, ⟨69, _⟩ => ⟨S72x4096, .f32⟩
  | .hbm, ⟨70, _⟩ => ⟨S4096x16, .f32⟩
  | .hbm, ⟨71, _⟩ => ⟨S16x4096, .f32⟩
  | .hbm, ⟨72, _⟩ => ⟨S4096x16, .f32⟩
  | .hbm, ⟨73, _⟩ => ⟨S16x4096, .f32⟩
  | _, _ => ⟨S72x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩

abbrev nD : Nat := 1
abbrev τ : Topo := Topo.v7x

variable {F : FTy → Type} [FloatOps F]
-- ==== Proof.Reals.lean ====
module

public import Idealize.ShloMosaic.Lib.Pointwise
public import Idealize.ShloMosaic.Lib.ReduceAll
public import Mathlib.Data.EReal.Inv
public import Mathlib.Data.EReal.Operations

/-! Extended reals that are real numbers: what a finiteness precondition says, and the operations of the programs on reals. -/

@[expose] public section

noncomputable section

namespace Cert.Reals

open Idealize.ShloMosaic

/-- The word of f32 infinity denotes `⊤`. -/
theorem ofBits_inf : Ideal.ofBits .f32 0x7F800000#32 = ⊤ := by
  simp [Ideal.ofBits, Ideal.ieee]

/-- An extended real that is a real number. -/
def IsReal (x : EReal) : Prop := x = ((x.toReal : ℝ) : EReal)

/-- Every element of a family (an array is one) is a real. -/
def AllReal {α : Type*} (a : α → EReal) : Prop := ∀ i, IsReal (a i)

theorem IsReal.coe (x : ℝ) : IsReal (x : EReal) := by simp [IsReal]

theorem IsReal.one : IsReal 1 := IsReal.coe 1

theorem IsReal.zero : IsReal 0 := IsReal.coe 0

theorem IsReal.add {x y : EReal} (hx : IsReal x) (hy : IsReal y) : IsReal (x + y) := by
  rw [hx, hy, ← EReal.coe_add]; exact IsReal.coe _

theorem IsReal.sub {x y : EReal} (hx : IsReal x) (hy : IsReal y) : IsReal (x - y) := by
  rw [hx, hy, ← EReal.coe_sub]; exact IsReal.coe _

theorem IsReal.mul {x y : EReal} (hx : IsReal x) (hy : IsReal y) : IsReal (x * y) := by
  rw [hx, hy, ← EReal.coe_mul]; exact IsReal.coe _

theorem IsReal.sum {ι : Type*} (s : Finset ι) {f : ι → EReal} (h : AllReal f) : IsReal (∑ i ∈ s, f i) :=
  Finset.sum_induction f IsReal (fun _ _ => IsReal.add) IsReal.zero fun i _ => h i

/-- An extended real whose absolute value is below `⊤` is a real. -/
theorem real_of_abs_lt {x : EReal} (h : max x (-x) < ⊤) : IsReal x := by
  refine (EReal.coe_toReal ?_ ?_).symm
  · rintro rfl; simp at h
  · rintro rfl; simp at h

/-- The precondition `jnp.all(jnp.abs(a) < jnp.inf)` says every element of `a` is a real. -/
theorem real_of_all {s : Shape} (a : FVec Ideal s .f32) {dims : Fin 0 → Fin s.rank} (hb : (⟨0, ![]⟩ : Shape).BroadcastsInDim s dims)
    {axes : List (Fin s.rank)} (hr : s.ReducesTo axes ⟨0, ![]⟩) (hu : 0 < (⟨0, ![]⟩ : Shape).numel) (j : (⟨0, ![]⟩ : Shape).Idx)
    (h : Host.reduce IntOp.andi (cmpf .olt (Host.absf a) (broadcastInDim s dims hb (constant (F := Ideal) ⟨0, ![]⟩ .f32 0x7F800000#32)))
      (constantI ⟨0, ![]⟩ 1 1#1) hr hu j = 1#1) : AllReal a := by
  intro i
  haveI : Subsingleton (⟨0, ![]⟩ : Shape).Idx := ⟨fun x y => funext fun k => k.elim0⟩
  have hi := Host.reduce_andi_all _ _ hr hu j h i
  refine real_of_abs_lt ?_
  have e : cmpf (F := Ideal) .olt (Host.absf a) (broadcastInDim s dims hb (constant (F := Ideal) ⟨0, ![]⟩ .f32 0x7F800000#32)) i
      = BitVec.ofBool (decide (max (a i) (-(a i)) < Ideal.ofBits .f32 0x7F800000#32)) := rfl
  rw [e, ofBits_inf] at hi
  by_contra hn
  simp [hn] at hi

/-- What the word of a normal f32 denotes, from its sign, exponent and fraction fields. -/
theorem ofBits_normal (b : BitVec 32) (sg : Bool) (e f : ℕ) (hs : (b.extractLsb' 31 1 == 1#1) = sg) (he : (b.extractLsb' 23 8).toNat = e)
    (hf : (b.extractLsb' 0 23).toNat = f) (h1 : e ≠ 255) (h0 : e ≠ 0) :
    Ideal.ofBits .f32 b = (((if sg then -1 else 1) * ((8388608 + f : ℕ) : ℝ) * (2 : ℝ) ^ ((e : ℤ) - 150) : ℝ) : EReal) := by
  have key : Ideal.ofBits .f32 b = Ideal.ieee 8 23 b := rfl
  rw [key]
  unfold Ideal.ieee
  simp only [Nat.reduceAdd, hs, he, hf]
  rw [if_neg (by simpa using h1), if_neg h0]
  congr 1
  push_cast
  congr 2
  ring

theorem ofBits_2048 : Ideal.ofBits .f32 0x45000000#32 = ((2048 : ℝ) : EReal) := by
  rw [ofBits_normal _ false 138 0 (by decide) (by decide) (by decide) (by decide) (by decide)]
  congr 1
  norm_num [zpow_neg]

theorem ofBits_1024 : Ideal.ofBits .f32 0x44800000#32 = ((1024 : ℝ) : EReal) := by
  rw [ofBits_normal _ false 137 0 (by decide) (by decide) (by decide) (by decide) (by decide)]
  congr 1
  norm_num [zpow_neg]

theorem ofBits_neg_half : Ideal.ofBits .f32 0xBF000000#32 = ((-(1 / 2) : ℝ) : EReal) := by
  rw [ofBits_normal _ true 126 0 (by decide) (by decide) (by decide) (by decide) (by decide)]
  congr 1
  norm_num [zpow_neg]

theorem ofBits_half : Ideal.ofBits .f32 0x3F000000#32 = ((1 / 2 : ℝ) : EReal) := by
  rw [ofBits_normal _ false 126 0 (by decide) (by decide) (by decide) (by decide) (by decide)]
  congr 1
  norm_num [zpow_neg]

theorem ofBits_two : Ideal.ofBits .f32 0x40000000#32 = ((2 : ℝ) : EReal) := by
  rw [ofBits_normal _ false 128 0 (by decide) (by decide) (by decide) (by decide) (by decide)]
  congr 1
  norm_num [zpow_neg]

/-- The number the f32 word of `1e-6` denotes. -/
def eps : ℝ := 8796093 / 8796093022208

theorem ofBits_eps : Ideal.ofBits .f32 0x358637BD#32 = ((eps : ℝ) : EReal) := by
  rw [ofBits_normal _ false 107 407485 (by decide) (by decide) (by decide) (by decide) (by decide)]
  congr 1
  unfold eps; norm_num [zpow_neg]

theorem eps_pos : 0 < eps := by unfold eps; norm_num

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Division of reals by a real that is not zero. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_real {x : ℝ} (h : 0 < x) : Ideal.rsqrt (x : EReal) = (((Real.sqrt x)⁻¹ : ℝ) : EReal) := by
  rw [Ideal.rsqrt_coe, if_neg h.le.not_gt, if_neg h.ne']

end Cert.Reals

end
-- ==== Proof.RmsGrad.lean ====
module

public import proofs.«01_k».proof.Proof.Reals

/-! The gradient of the root-mean-square norm of one row: the form a kernel writes by hand, the form automatic differentiation writes, and that
they are equal where the row and its cotangent are real. -/

@[expose] public section

noncomputable section

namespace Cert.RmsGrad

open Idealize.ShloMosaic Cert.Reals

variable {ι : Type} [Fintype ι]

/-- The mean of the squares of a row of `w` elements, plus `e`. -/
def meanSq (w e : EReal) (x : ι → EReal) : EReal := Ideal.div (∑ i, x i * x i) w + e

/-- The kernels' form of the gradient at `k`: `u` is the cotangent of the normalised row, which is `x` times its reciprocal root. -/
def byHand (w e : EReal) (u x : ι → EReal) (k : ι) : EReal :=
  Ideal.rsqrt (meanSq w e x) * (u k - x k * Ideal.rsqrt (meanSq w e x)
    * Ideal.div (∑ i, u i * (x i * Ideal.rsqrt (meanSq w e x))) w)

/-- The cotangent of each square of the row, as automatic differentiation writes it. -/
def ofSquare (w e : EReal) (u x : ι → EReal) : EReal :=
  Ideal.div ((∑ i, x i * u i) * (Ideal.ofBits .f32 0xBF000000#32 * Ideal.div (Ideal.rsqrt (meanSq w e x)) (meanSq w e x))) w

/-- On reals the mean of squares plus a positive number is a positive real. -/
theorem meanSq_real {w e : ℝ} (hw : 0 < w) (he : 0 < e) (x : ι → ℝ) :
    meanSq (w : EReal) (e : EReal) (fun i => (x i : EReal)) = (((∑ i, x i * x i) / w + e : ℝ) : EReal) ∧ 0 < (∑ i, x i * x i) / w + e := by
  constructor
  · unfold meanSq
    simp only [← EReal.coe_mul, coe_sum]
    rw [div_real _ hw.ne', ← EReal.coe_add]
  · have := Finset.sum_nonneg fun (i : ι) (_ : i ∈ Finset.univ) => mul_self_nonneg (x i)
    positivity

/-- On reals the kernels' form is what automatic differentiation adds up: the direct part, and the square's cotangent times the row, twice. -/
theorem byHand_eq {w e : ℝ} (hw : 0 < w) (he : 0 < e) (u x : ι → ℝ) (k : ι) (acc : EReal) :
    acc + byHand (w : EReal) (e : EReal) (fun i => (u i : EReal)) (fun i => (x i : EReal)) k
      = acc + (u k : EReal) * Ideal.rsqrt (meanSq (w : EReal) (e : EReal) fun i => (x i : EReal))
        + (x k : EReal) * ofSquare (w : EReal) (e : EReal) (fun i => (u i : EReal)) (fun i => (x i : EReal))
        + ofSquare (w : EReal) (e : EReal) (fun i => (u i : EReal)) (fun i => (x i : EReal)) * (x k : EReal) := by
  obtain ⟨h, hv⟩ := meanSq_real hw he x
  generalize (∑ i, x i * x i) / w + e = v at h hv
  unfold byHand ofSquare
  simp only [h, rsqrt_real hv, ofBits_neg_half, ← EReal.coe_mul, coe_sum, div_real _ hw.ne', div_real _ hv.ne', ← EReal.coe_sub]
  rw [add_assoc, add_assoc, ← EReal.coe_add, ← EReal.coe_add]
  congr 2
  have hs : (Real.sqrt v)⁻¹ / v = (Real.sqrt v)⁻¹ ^ 3 := by
    have h2 : v = Real.sqrt v ^ 2 := (Real.sq_sqrt hv.le).symm
    have h3 : Real.sqrt v ≠ 0 := (Real.sqrt_pos.mpr hv).ne'
    rw [div_eq_iff hv.ne']
    nth_rw 3 [h2]
    field_simp
  have hA : ∑ i, u i * (x i * (Real.sqrt v)⁻¹) = (∑ i, x i * u i) * (Real.sqrt v)⁻¹ := by
    rw [Finset.sum_mul]; exact Finset.sum_congr rfl fun i _ => by ring
  rw [hA, hs]
  ring

/-- The same, of extended reals that are real. -/
theorem byHand_auto {w e : ℝ} (hw : 0 < w) (he : 0 < e) {u x : ι → EReal} (hu : AllReal u) (hx : AllReal x) (k : ι) (acc : EReal) :
    acc + byHand (w : EReal) (e : EReal) u x k = acc + u k * Ideal.rsqrt (meanSq (w : EReal) (e : EReal) x)
      + x k * ofSquare (w : EReal) (e : EReal) u x + ofSquare (w : EReal) (e : EReal) u x * x k := by
  have h := byHand_eq hw he (fun i => (u i).toReal) (fun i => (x i).toReal) k acc
  rwa [← hu k, ← hx k, ← funext hu, ← funext hx] at h

end Cert.RmsGrad

end
-- ==== Proof.PremixMath.lean ====
module

public import proofs.«01_k».proof.Proof.RmsGrad

/-! The gradients of the norm and modulation before the mixing layers, as functions of the arrays, and the two forms of `dx` compared. -/

@[expose] public section

noncomputable section

namespace Cert.Premix

open Idealize.ShloMosaic Cert.Reals Cert.RmsGrad

/-- The words of the row length and of the norm's `1e-6`. -/
abbrev len : EReal := Ideal.ofBits .f32 0x45000000#32
abbrev eps : EReal := Ideal.ofBits .f32 0x358637BD#32

abbrev Mat : Type := FVec Ideal (⟨2, ![2048, 2048]⟩ : Shape) .f32
abbrev Row : Type := FVec Ideal (⟨2, ![1, 2048]⟩ : Shape) .f32

/-- Row `i` of a matrix. -/
abbrev rowOf (x : Mat) (i : Fin 2048) (k : Fin 2048) : EReal := x (ix2 i k)

/-- The cotangent of the normalised row `i`. -/
abbrev cot (dh : Mat) (g sc : Row) (i : Fin 2048) (k : Fin 2048) : EReal := dh (ix2 i k) * (1 + sc (ix2 0 k)) * g (ix2 0 k)

/-- The gradient of the shift. -/
def dsh (dh : Mat) : Row := fun j => ∑ i : Fin 2048, dh (ix2 i (j 1))

/-- The gradient of the scale. -/
def dsc (dh x : Mat) (g : Row) : Row := fun j => ∑ i : Fin 2048,
  dh (ix2 i (j 1)) * (x (ix2 i (j 1)) * Ideal.rsqrt (meanSq len eps (rowOf x i)) * g (ix2 0 (j 1)))

/-- The gradient of the norm's weight. -/
def dg (dh x : Mat) (sc : Row) : Row := fun j => ∑ i : Fin 2048,
  dh (ix2 i (j 1)) * (1 + sc (ix2 0 (j 1))) * (x (ix2 i (j 1)) * Ideal.rsqrt (meanSq len eps (rowOf x i)))

/-- The gradient of the input, in the kernel's form. -/
def dx (dh x dx1 : Mat) (g sc : Row) : Mat := fun j => dx1 j + byHand len eps (cot dh g sc (j 0)) (rowOf x (j 0)) (j 1)

/-- The gradient of the input, as automatic differentiation adds it up. -/
def dxAuto (dh x dx1 : Mat) (g sc : Row) : Mat := fun j =>
  dx1 j + cot dh g sc (j 0) (j 1) * Ideal.rsqrt (meanSq len eps (rowOf x (j 0)))
    + rowOf x (j 0) (j 1) * ofSquare len eps (cot dh g sc (j 0)) (rowOf x (j 0))
    + ofSquare len eps (cot dh g sc (j 0)) (rowOf x (j 0)) * rowOf x (j 0) (j 1)

/-- They are the same array where everything but the residual's cotangent is real. -/
theorem dx_eq (dh x dx1 : Mat) (g sc : Row) (hd : AllReal dh) (hx : AllReal x) (hg : AllReal g) (hs : AllReal sc) :
    dx dh x dx1 g sc = dxAuto dh x dx1 g sc := by
  funext j
  have he : eps = ((Reals.eps : ℝ) : EReal) := ofBits_eps
  simp only [dx, dxAuto, he, len, ofBits_2048]
  exact byHand_auto (by norm_num) eps_pos (fun k => ((hd _).mul (IsReal.one.add (hs _))).mul (hg _)) (fun k => hx _) _ _

end Cert.Premix

end
-- ==== Proof.PremixKernel.lean ====
module

public import proofs.«01_k».proof.Proof.Gen.KernelIdeal.Value
public import proofs.«01_k».proof.Proof.PremixMath
public import Idealize.ShloMosaic.Lib.Pipeline.ValueKit

/-! What the kernel of the norm and modulation before the mixing layers leaves in each of its outputs, element by element. -/

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.RmsGrad Cert.Premix

variable (m : (ℓ : Loc nD τ sig) → Buf (Elt Ideal) ℓ) (c : Dev nD)

/-- The arguments, as the arrays they are. -/
abbrev dhA : Mat := m (c.tc.loc main_arg0)
abbrev xA : Mat := m (c.tc.loc main_arg1)
abbrev dx1A : Mat := m (c.tc.loc main_arg2)
abbrev gA : Row := m (c.tc.loc main_arg3)
abbrev scA : Row := m (c.tc.loc main_arg4)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] ∧ win0_7.index t = ![0, 0]
    ∧ win0_8.index t = ![0, 0] ∧ t.val < 8 := (by decide +kernel : ∀ t : Fin grid0.N, _)

/-! The body's stores, at an index. -/

theorem fill6 (j) : k0_pay4 (F := Ideal) j = 0 := by pointwise [k0_pay4]
theorem fill7 (j) : k0_pay5 (F := Ideal) j = 0 := by pointwise [k0_pay5]
theorem fill8 (j) : k0_pay6 (F := Ideal) j = 0 := by pointwise [k0_pay6]

/-- `dsh`: the column sums of the cotangent. -/
theorem pay9 (x0 acc j) : k0_pay9 (F := Ideal) x0 acc j = acc j + ∑ k : Fin 256, x0 (ix2 k (j 1)) := by
  pointwise [k0_pay9]

/-- `dsc`: the column sums of the cotangent times the scaled norm. -/
theorem pay10 (x0 x1 g acc j) : k0_pay10 (F := Ideal) x0 x1 g acc j = acc j + ∑ k : Fin 256,
    x0 (ix2 k (j 1)) * (x1 (ix2 k (j 1)) * Ideal.rsqrt (meanSq len eps fun i : Fin 2048 => x1 (ix2 k i)) * g (ix2 0 (j 1))) := by
  pointwise [k0_pay10, k0_pay8, k0_pay7, meanSq]

/-- `dg`: the column sums of the cotangent of the scaled norm times the norm. -/
theorem pay2 (x0 x1 sc acc j) : k0_pay2 (F := Ideal) x0 (k0_pay8 x1) sc (Scalar.ofBits .f32 0x3F800000#32) acc j = acc j + ∑ k : Fin 256,
    x0 (ix2 k (j 1)) * (1 + sc (ix2 0 (j 1))) * (x1 (ix2 k (j 1)) * Ideal.rsqrt (meanSq len eps fun i : Fin 2048 => x1 (ix2 k i))) := by
  pointwise [k0_pay2, k0_pay1, k0_pay8, k0_pay7, meanSq]

/-- `dx`: the residual's cotangent plus the norm's gradient. -/
theorem pay3 (x0 x1 sc dx1 g j) :
    k0_pay3 (F := Ideal) x0 (k0_pay7 x1) (k0_pay8 x1) sc (Scalar.ofBits .f32 0x3F800000#32) dx1 g j
      = dx1 j + byHand len eps (fun i : Fin 2048 => x0 (ix2 (j 0) i) * (1 + sc (ix2 0 i)) * g (ix2 0 i)) (fun i : Fin 2048 => x1 (ix2 (j 0) i)) (j 1) := by
  pointwise [k0_pay3, k0_pay1, k0_pay8, k0_pay7, meanSq, byHand]

/-! The arrays after the last grid point. -/

theorem final7 : (dats m 0 c).arrAt 7 (cfgs 0).N = dsh (dhA m c) := by
  unfold dsh
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) _
    (fun t h j => by rw [outsAt0_A m c t h]; frame_out; rw [pay9, fill7])
    (fun t h j => by rw [outsAt0_B m c t h]; frame_out; rw [pay9])
    (le_of_eq N_0) t0_7 rfl j, zero_add]
  refine Fin.sum_mul_add_congr fun s k hl => ?_
  blk_ext [iblk, V, idx s]

theorem final6 : (dats m 0 c).arrAt 6 (cfgs 0).N = dsc (dhA m c) (xA m c) (gA m c) := by
  unfold dsc rowOf
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => by rw [outsAt0_A m c t h]; frame_out; rw [pay10, fill6])
    (fun t h j => by rw [outsAt0_B m c t h]; frame_out; rw [pay10])
    (le_of_eq N_0) t0_7 rfl j, zero_add]
  refine Fin.sum_mul_add_congr fun s k hl => ?_
  blk_point [iblk, V, idx s, meanSq, rowOf]

theorem final8 : (dats m 0 c).arrAt 8 (cfgs 0).N = dg (dhA m c) (xA m c) (scA m c) := by
  unfold dg rowOf
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) _
    (fun t h j => by rw [outsAt0_A m c t h]; frame_out; rw [pay2, fill8])
    (fun t h j => by rw [outsAt0_B m c t h]; frame_out; rw [pay2])
    (le_of_eq N_0) t0_7 rfl j, zero_add]
  refine Fin.sum_mul_add_congr fun s k hl => ?_
  blk_point [iblk, V, idx s, meanSq, rowOf]

theorem final5 : (dats m 0 c).arrAt 5 (cfgs 0).N = dx (dhA m c) (xA m c) (dx1A m c) (gA m c) (scA m c) := by
  unfold dx rowOf cot
  refine (dats m 0 c).arrAt_eq_of_covers 5 _ (by decide +kernel) fun t hf y => ?_
  blk_simp
  rw [after0_5]
  by_cases h : t.val % 8 = 0
  · rw [outsAt0_A m c t h]; frame_out; rw [pay3]; blk_point [iblk, V, idx t, meanSq, byHand]
  · rw [outsAt0_B m c t h]; frame_out; rw [pay3]; blk_point [iblk, V, idx t, meanSq, byHand]

end Cert.KernelIdeal.Hand

end
-- ==== Proof.PremixRef.lean ====
module

public import proofs.«01_k».proof.Proof.Gen.ReferenceIdeal.Run
public import proofs.«01_k».proof.Proof.PremixMath

/-! What the reference of the norm and modulation before the mixing layers computes, element by element. -/

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.RmsGrad Cert.Premix

variable (m : (ℓ : Loc nD τ sig) → Buf (Elt Ideal) ℓ) (ρ : Dev nD → PrngReg)

theorem dx_ref (c : Dev nD) : Value.res_main_v49 m c = dxAuto (m (c.tc.loc main_arg0)) (m (c.tc.loc main_arg1)) (m (c.tc.loc main_arg2))
    (m (c.tc.loc main_arg3)) (m (c.tc.loc main_arg4)) := by
  funext i
  pointwise [Value.res_main_v49, dxAuto, ofSquare, meanSq, rowOf, cot, Finset.univ_unique, Finset.sum_singleton]

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)) ∧ r.2.sem = fun _ => 0 :=
  (θ_run defs _ _).mono (fun r h => ⟨fun c => (h c).2.2.2.2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v49) = dxAuto (m (c.tc.loc main_arg0)) (m (c.tc.loc main_arg1)) (m (c.tc.loc main_arg2)) (m (c.tc.loc main_arg3))
      (m (c.tc.loc main_arg4))
    ∧ r.2.mem (c.tc.loc main_v27) = dsc (m (c.tc.loc main_arg0)) (m (c.tc.loc main_arg1)) (m (c.tc.loc main_arg3))
    ∧ r.2.mem (c.tc.loc main_v24) = dsh (m (c.tc.loc main_arg0))
    ∧ r.2.mem (c.tc.loc main_v32) = dg (m (c.tc.loc main_arg0)) (m (c.tc.loc main_arg1)) (m (c.tc.loc main_arg4))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) := by
  refine (θ_run defs _ _).mono (fun r h c => ?_) (Value.run m ρ)
  obtain ⟨h0, h1, h2, h3, h4⟩ := h c
  refine ⟨h0.trans (dx_ref m c), h1.trans ?_, h2.trans ?_, h3.trans ?_, h4⟩
  · funext j
    pointwise [dsc, meanSq]
    exact Finset.sum_congr rfl fun i _ => mul_comm _ _
  · funext j
    pointwise [dsh]
  · funext j
    pointwise [dg, meanSq]
    exact Finset.sum_congr rfl fun i _ => mul_comm _ _

end Cert.ReferenceIdeal.Hand

end
-- ==== Proof.Premix.lean ====
module

public import proofs.«01_k».proof.Defs
public import proofs.«01_k».proof.Proof.PremixKernel
public import proofs.«01_k».proof.Proof.PremixRef
public import Idealize.ShloMosaic.Lib.Affine

/-! The gradient of the norm and modulation before the mixing layers: the kernel's run, and that it is the reference's. -/

@[expose] public section

set_option maxRecDepth 16384

noncomputable section

open Idealize.ShloMosaic Idealize.ShloMosaic.TcCoe Idealize.SL.Sem

namespace Cert.Premix

open Cert.Reals

instance preFacts : Cert.Pre_finite_premix.Facts where
  bcast_S_S2048x2048 := by decide
  reducesTo_S2048x2048_S_d0_1 := by decide
  h_S_ := by decide
  bcast_S_S1x2048 := by decide
  reducesTo_S1x2048_S_d0_1 := by decide

/-- The precondition says the arrays it names are real. -/
theorem real_of_pre (dh x dx1 : Mat) (g sc : Row) (h : Cert.Pre_finite_premix.fn (F := Ideal) dh x dx1 g sc = fun _ => 1#1) :
    AllReal dh ∧ AllReal x ∧ AllReal g ∧ AllReal sc := by
  have h0 := congrFun h (fun k => k.elim0)
  simp only [Cert.Pre_finite_premix.fn, Cert.Pre_finite_premix.fn_part1] at h0
  obtain ⟨h1, hs⟩ := IntOp.andi_eq_one.mp h0
  obtain ⟨h2, hg⟩ := IntOp.andi_eq_one.mp h1
  obtain ⟨hd, hx⟩ := IntOp.andi_eq_one.mp h2
  exact ⟨real_of_all _ _ _ _ _ hd, real_of_all _ _ _ _ _ hx, real_of_all _ _ _ _ _ hg, real_of_all _ _ _ _ _ hs⟩

theorem alg : Cert.algebraic_KernelIdeal_ReferenceIdeal_pre_finite_premix
    (hKernelIdeal := Cert.KernelIdeal.Gen.facts) (hReferenceIdeal := Cert.ReferenceIdeal.Gen.facts) (hPre_finite_premix := preFacts) := by
  pair_intro
  · run_from Cert.KernelIdeal.Value.run_blocks m g
  · run_from Cert.ReferenceIdeal.Hand.run m' g'
    · obtain ⟨hd, hx, hg, hs⟩ := real_of_pre _ _ _ _ _ (hpre c)
      rw [← dx_eq _ _ _ _ _ hd hx hg hs]
      exact (Cert.KernelIdeal.Hand.final5 m c).symm
    · exact (Cert.KernelIdeal.Hand.final6 m c).symm
    · exact (Cert.KernelIdeal.Hand.final7 m c).symm
    · exact (Cert.KernelIdeal.Hand.final8 m c).symm

end Cert.Premix

end
-- ==== Proof.LossMath.lean ====
module

public import proofs.«01_k».proof.Proof.PremixMath
public import Idealize.ShloMosaic.Lib.Pipeline.ValueKit

/-! The loss and the gradients of the gated norm after the channel mixer, as functions of the arrays: the kernel's forms, those of automatic
differentiation, and that they are equal where the arrays are real. -/

@[expose] public section

noncomputable section

namespace Cert.Loss

open Idealize.ShloMosaic Cert.Reals Cert.RmsGrad
open Cert.Premix (len Mat Row rowOf)

abbrev Half : Type := FVec Ideal (⟨2, ![2048, 2048]⟩ : Shape) .bf16
abbrev One : Type := FVec Ideal (⟨2, ![1, 1]⟩ : Shape) .f32

/-- The words of `1/2048` and of `0.5/2048`. -/
abbrev gain : EReal := Ideal.ofBits .f32 0x3A000000#32
abbrev halfGain : EReal := Ideal.ofBits .f32 0x39800000#32

/-- A matrix of `n` rows: the whole array, or a block of it. -/
abbrev Tall (n : ℕ) : Type := FVec Ideal (⟨2, ![n, 2048]⟩ : Shape) .f32

variable {n : ℕ}

/-- The normalised array, and with its weight. -/
def unit (f : Tall n) (i : Fin n) (k : Fin 2048) : EReal := f (ix2 i k) * Ideal.rsqrt (meanSq len Premix.eps fun l : Fin 2048 => f (ix2 i l))
def scaled (f : Tall n) (g : Row) (i : Fin n) (k : Fin 2048) : EReal := unit f i k * g (ix2 0 k)

/-- The difference whose square is the loss. -/
def resid (f x1 t : Tall n) (gt g : Row) (i : Fin n) (k : Fin 2048) : EReal := x1 (ix2 i k) + gt (ix2 0 k) * scaled f g i k - t (ix2 i k)

/-- The kernel's gradient of the residual stream, and the one automatic differentiation writes. -/
def grad (f x1 t : Tall n) (gt g : Row) (i : Fin n) (k : Fin 2048) : EReal := resid f x1 t gt g i k * gain
def gradAuto (f x1 t : Mat) (gt g : Row) (i k : Fin 2048) : EReal :=
  Ideal.div (Ideal.ofBits .f32 0x3F000000#32) len * (Ideal.ofBits .f32 0x40000000#32 * resid f x1 t gt g i k)

/-! The other gradients, over the gradient `e` of the residual stream. -/

def dx2 (e : Fin 2048 → Fin 2048 → EReal) : Mat := fun j => e (j 0) (j 1)
def dgt (f : Mat) (g : Row) (e : Fin 2048 → Fin 2048 → EReal) : Row := fun j => ∑ i : Fin 2048, e i (j 1) * scaled f g i (j 1)
def dg (f : Mat) (gt : Row) (e : Fin 2048 → Fin 2048 → EReal) : Row := fun j => ∑ i : Fin 2048, e i (j 1) * gt (ix2 0 (j 1)) * unit f i (j 1)

/-- The cotangent of the normalised row `i`. -/
abbrev cot (e : Fin n → Fin 2048 → EReal) (gt g : Row) (i : Fin n) (k : Fin 2048) : EReal := e i k * gt (ix2 0 k) * g (ix2 0 k)

def df (f : Mat) (gt g : Row) (e : Fin 2048 → Fin 2048 → EReal) : Half := fun j =>
  byHand len Premix.eps (fun l : Fin 2048 => cot e gt g (j 0) l) (fun l : Fin 2048 => f (ix2 (j 0) l)) (j 1)
/-- The two gradients with their products the other way round. -/
abbrev cotAuto (e : Fin n → Fin 2048 → EReal) (gt g : Row) (i : Fin n) (k : Fin 2048) : EReal := gt (ix2 0 k) * e i k * g (ix2 0 k)
def dfAuto (f : Mat) (gt g : Row) (e : Fin 2048 → Fin 2048 → EReal) : Half := fun j =>
  cotAuto e gt g (j 0) (j 1) * Ideal.rsqrt (meanSq len Premix.eps (rowOf f (j 0)))
    + rowOf f (j 0) (j 1) * ofSquare len Premix.eps (cotAuto e gt g (j 0)) (rowOf f (j 0))
    + ofSquare len Premix.eps (cotAuto e gt g (j 0)) (rowOf f (j 0)) * rowOf f (j 0) (j 1)
def dgAuto (f : Mat) (gt : Row) (e : Fin 2048 → Fin 2048 → EReal) : Row := fun j => ∑ i : Fin 2048, unit f i (j 1) * (gt (ix2 0 (j 1)) * e i (j 1))

theorem dg_eq (f : Mat) (gt : Row) (e : Fin 2048 → Fin 2048 → EReal) : dgAuto f gt e = dg f gt e := by
  funext j
  exact Finset.sum_congr rfl fun i _ => by rw [mul_comm, mul_comm (gt _)]

/-- The loss: the kernel adds a block's squares up and scales them, block after block; the reference halves the sum of the rows' means. -/
def loss (f x1 t : Mat) (gt g : Row) : One := fun _ => ∑ s : Fin 8, (∑ j : Fin 2048, ∑ k : Fin 256,
  resid f x1 t gt g (⟨s.val * 256 + k.val, by omega⟩ : Fin 2048) j * resid f x1 t gt g (⟨s.val * 256 + k.val, by omega⟩ : Fin 2048) j) * halfGain
def lossAuto (f x1 t : Mat) (gt g : Row) : One := fun _ => Ideal.ofBits .f32 0x3F000000#32 * ∑ i : Fin 2048,
  Ideal.div (∑ j : Fin 2048, resid f x1 t gt g i j * resid f x1 t gt g i j) len

theorem ofBits_gain : gain = ((1 / 2048 : ℝ) : EReal) := by
  rw [gain, ofBits_normal _ false 116 0 (by decide) (by decide) (by decide) (by decide) (by decide)]
  congr 1
  norm_num [zpow_neg]

theorem ofBits_halfGain : halfGain = ((1 / 4096 : ℝ) : EReal) := by
  rw [halfGain, ofBits_normal _ false 115 0 (by decide) (by decide) (by decide) (by decide) (by decide)]
  congr 1
  norm_num [zpow_neg]

/-- Both forms of the residual stream's gradient are the same array, at infinite arguments too. -/
theorem grad_eq (f x1 t : Mat) (gt g : Row) : gradAuto f x1 t gt g = grad f x1 t gt g := by
  funext i k
  unfold gradAuto grad
  rw [ofBits_half, len, ofBits_2048, ofBits_two, ofBits_gain, div_real _ (by norm_num), ← mul_assoc, ← EReal.coe_mul, mul_comm]
  norm_num

variable {f x1 t : Mat} {gt g : Row} {e : Fin 2048 → Fin 2048 → EReal}

theorem scaled_real (hf : AllReal f) (hg : AllReal g) (i k : Fin 2048) : IsReal (scaled f g i k) := by
  have he : Premix.eps = ((Reals.eps : ℝ) : EReal) := ofBits_eps
  obtain ⟨h, hv⟩ := meanSq_real (w := 2048) (by norm_num) eps_pos fun k => (rowOf f i k).toReal
  rw [← funext fun k => hf (ix2 i k)] at h
  unfold scaled unit
  rw [he, len, ofBits_2048, h, rsqrt_real hv]
  exact ((hf _).mul (IsReal.coe _)).mul (hg _)

theorem resid_real (hf : AllReal f) (hx : AllReal x1) (ht : AllReal t) (hgt : AllReal gt) (hg : AllReal g) (i k : Fin 2048) :
    IsReal (resid f x1 t gt g i k) :=
  ((hx _).add ((hgt _).mul (scaled_real hf hg i k))).sub (ht _)

theorem grad_real (hf : AllReal f) (hx : AllReal x1) (ht : AllReal t) (hgt : AllReal gt) (hg : AllReal g) (i k : Fin 2048) :
    IsReal (grad f x1 t gt g i k) := by
  unfold grad
  rw [ofBits_gain]
  exact (resid_real hf hx ht hgt hg i k).mul (IsReal.coe _)

theorem df_eq (hf : AllReal f) (he : ∀ i k, IsReal (e i k)) (hgt : AllReal gt) (hg : AllReal g) : df f gt g e = dfAuto f gt g e := by
  funext j
  have h := byHand_auto (w := 2048) (by norm_num) eps_pos (u := cot e gt g (j 0)) (x := rowOf f (j 0))
    (fun k => ((he _ _).mul (hgt _)).mul (hg _)) (fun k => hf _) (j 1) 0
  rw [zero_add, zero_add] at h
  have hp : Premix.eps = ((Reals.eps : ℝ) : EReal) := ofBits_eps
  have hc : ∀ i k, cotAuto e gt g i k = cot e gt g i k := fun i k => by rw [cotAuto, mul_comm (gt _)]
  simp only [df, dfAuto, show cotAuto e gt g = cot e gt g from funext fun i => funext (hc i), hc (j 0) (j 1), hp, len, ofBits_2048]
  exact h

theorem loss_eq (hf : AllReal f) (hx : AllReal x1) (ht : AllReal t) (hgt : AllReal gt) (hg : AllReal g) :
    loss f x1 t gt g = lossAuto f x1 t gt g := by
  funext j
  have hr := resid_real hf hx ht hgt hg
  unfold loss lossAuto
  generalize resid f x1 t gt g = r at hr
  obtain ⟨q, rfl⟩ : ∃ q : Fin 2048 → Fin 2048 → ℝ, r = fun i j => (q i j : EReal) := ⟨_, funext fun i => funext (hr i)⟩
  rw [ofBits_half, len, ofBits_2048, ofBits_halfGain]
  simp only [← EReal.coe_mul, coe_sum, div_real _ (show (2048 : ℝ) ≠ 0 by norm_num)]
  congr 1
  rw [← Finset.sum_div, ← Fin.sum_mul_add_fin 8 256 (fun i : Fin 2048 => ∑ j : Fin 2048, q i j * q i j), ← Finset.sum_mul]
  rw [Finset.sum_congr rfl fun (s : Fin 8) _ => Finset.sum_comm]
  ring

end Cert.Loss

end
-- ==== Proof.LossKernel.lean ====
module

public import proofs.«01_k».proof.Proof.Gen.Kernel2Ideal.Value
public import proofs.«01_k».proof.Proof.LossMath
public import Idealize.ShloMosaic.Lib.Pipeline.ValueKit

/-! What the kernel of the loss and of the gated norm's gradient leaves in each of its outputs, element by element. -/

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen Cert.RmsGrad Cert.Loss
open Cert.Premix (len Mat Row rowOf)

variable (m : (ℓ : Loc nD τ sig) → Buf (Elt Ideal) ℓ) (c : Dev nD)

/-- The arguments, as the arrays they are. -/
abbrev fA : Mat := m (c.tc.loc main_arg0)
abbrev xA : Mat := m (c.tc.loc main_arg1)
abbrev tA : Mat := m (c.tc.loc main_arg2)
abbrev gtA : Row := m (c.tc.loc main_arg3)
abbrev gA : Row := m (c.tc.loc main_arg4)

/-- The gradient of the residual stream, which the other gradients are made of. -/
abbrev eA : Fin 2048 → Fin 2048 → EReal := grad (fA m c) (xA m c) (tA m c) (gtA m c) (gA m c)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![0, 0]
    ∧ win0_8.index t = ![0, 0] ∧ win0_9.index t = ![0, 0] ∧ t.val < 8 := (by decide +kernel : ∀ t : Fin grid0.N, _)

/-- Row `k` of block `t`. -/
abbrev rowAt (t : Fin cfg0.N) (k : Fin 256) : Fin 2048 := ⟨t.val * 256 + k.val, by have := (idx t).2.2.2.2.2.2.2.2.2.2; omega⟩

/-- Rows `256 t` to `256 t + 255` of a matrix. -/
def rowsOf (a : Mat) (t : Fin cfg0.N) : Tall 256 := fun y => a (ix2 (rowAt t (y 0)) (y 1))

theorem blk0 (t) : iblk m c 0 t = rowsOf (fA m c) t := by funext y; blk_ext [iblk, V, idx t, rowsOf]
theorem blk1 (t) : iblk m c 1 t = rowsOf (xA m c) t := by funext y; blk_ext [iblk, V, idx t, rowsOf]
theorem blk2 (t) : iblk m c 2 t = rowsOf (tA m c) t := by funext y; blk_ext [iblk, V, idx t, rowsOf]
theorem blk3 (t) : iblk m c 3 t = gtA m c := by funext y; blk_ext [iblk, V, idx t]
theorem blk4 (t) : iblk m c 4 t = gA m c := by funext y; blk_ext [iblk, V, idx t]

/-- Where the elements of a tile lie in the two outputs that are tiled. -/
theorem tile5 (a : Mat) (t : Fin cfg0.N) (y : ((cfg0.win 5).xblock (cfg0.grid.coords t)).Idx) :
    a ((win0_5.blk t).view.emb y) = a (ix2 (rowAt t (y 0)) (y 1)) := by
  blk_ext [idx t]
theorem tile6 (a : Half) (t : Fin cfg0.N) (y : ((cfg0.win 6).xblock (cfg0.grid.coords t)).Idx) :
    a ((win0_6.blk t).view.emb y) = a (ix2 (rowAt t (y 0)) (y 1)) := by
  blk_ext [idx t]

/-! The body's stores, at an index. -/

theorem fill7 (j) : k0_pay1 (F := Ideal) j = 0 := by pointwise [k0_pay1]
theorem fill8 (j) : k0_pay2 (F := Ideal) j = 0 := by pointwise [k0_pay2]
theorem fill9 (j) : k0_pay3 (F := Ideal) j = 0 := by pointwise [k0_pay3]

theorem pay9 (f x t gt g j) : k0_pay9 (F := Ideal) (k0_pay7 f g x gt t) j = grad f x t gt g (j 0) (j 1) := by
  pointwise [k0_pay9, k0_pay7, k0_pay6, k0_pay5, k0_pay4, cot, grad, resid, scaled, unit, meanSq]

theorem pay10 (f x t gt g acc j) : k0_pay10 (F := Ideal) (k0_pay6 f g) (k0_pay7 f g x gt t) acc j = acc j + ∑ k : Fin 256,
    grad f x t gt g k (j 1) * scaled f g k (j 1) := by
  pointwise [k0_pay10, k0_pay9, k0_pay7, k0_pay6, k0_pay5, k0_pay4, cot, grad, resid, scaled, unit, meanSq]

theorem pay12 (f x t gt g acc j) : k0_pay12 (F := Ideal) (k0_pay5 f) (k0_pay7 f g x gt t) gt acc j = acc j + ∑ k : Fin 256,
    grad f x t gt g k (j 1) * gt (ix2 0 (j 1)) * unit f k (j 1) := by
  pointwise [k0_pay12, k0_pay11, k0_pay9, k0_pay7, k0_pay6, k0_pay5, k0_pay4, cot, grad, resid, scaled, unit, meanSq]

theorem pay8 (f x t gt g acc j) : k0_pay8 (F := Ideal) f g x gt t acc j = acc j + (∑ l : Fin 2048, ∑ k : Fin 256,
    resid f x t gt g k l * resid f x t gt g k l) * halfGain := by
  pointwise [k0_pay8, k0_pay7, k0_pay6, k0_pay5, k0_pay4, cot, grad, resid, scaled, unit, meanSq]

theorem pay13 (f x t gt g j) : k0_pay13 (F := Ideal) (k0_pay4 f) (k0_pay5 f) (k0_pay7 f g x gt t) gt g j
      = byHand len Premix.eps (fun i : Fin 2048 => cot (grad f x t gt g) gt g (j 0) i) (fun i : Fin 2048 => f (ix2 (j 0) i)) (j 1) := by
  pointwise [k0_pay13, k0_pay11, k0_pay9, k0_pay7, k0_pay6, k0_pay5, k0_pay4, cot, grad, resid, scaled, unit, meanSq, byHand]

/-! The arrays after the last grid point. -/

theorem final5 : (dats m 0 c).arrAt 5 (cfgs 0).N = dx2 (eA m c) := by
  refine (dats m 0 c).arrAt_eq_of_covers 5 _ (by decide +kernel) fun t hf y => ?_
  blk_simp
  rw [after0_5]
  refine Eq.trans ?_ (tile5 _ t y).symm
  by_cases h : t.val % 8 = 0
  · rw [outsAt0_A m c t h]; frame_out; rw [pay9]; rw [blk0, blk1, blk2, blk3, blk4]; rfl
  · rw [outsAt0_B m c t h]; frame_out; rw [pay9]; rw [blk0, blk1, blk2, blk3, blk4]; rfl

theorem final6 : (dats m 0 c).arrAt 6 (cfgs 0).N = df (fA m c) (gtA m c) (gA m c) (eA m c) := by
  refine (dats m 0 c).arrAt_eq_of_covers 6 _ (by decide +kernel) fun t hf y => ?_
  blk_simp
  rw [after0_6]
  refine Eq.trans ?_ (tile6 _ t y).symm
  by_cases h : t.val % 8 = 0
  · rw [outsAt0_A m c t h]; frame_out; rw [pay13]; rw [blk0, blk1, blk2, blk3, blk4]; rfl
  · rw [outsAt0_B m c t h]; frame_out; rw [pay13]; rw [blk0, blk1, blk2, blk3, blk4]; rfl

theorem final7 : (dats m 0 c).arrAt 7 (cfgs 0).N = dgt (fA m c) (gA m c) (eA m c) := by
  unfold dgt
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) _
    (fun t h j => by rw [outsAt0_A m c t h]; frame_out; rw [pay10, fill7])
    (fun t h j => by rw [outsAt0_B m c t h]; frame_out; rw [pay10])
    (le_of_eq N_0) t0_7 rfl j, zero_add]
  refine Fin.sum_mul_add_congr fun s k hl => ?_
  rw [blk0, blk1, blk2, blk3, blk4]; rfl

theorem final8 : (dats m 0 c).arrAt 8 (cfgs 0).N = dg (fA m c) (gtA m c) (eA m c) := by
  unfold dg
  refine (dats m 0 c).arrAt_eq_of_after_last 8 t0_7 (by decide +kernel) _ fun j => ?_
  blk_simp
  rw [after0_8, Pipeline.eq_sum_fin_of_reset_step_apply_last (fun n h => (outsAt0 m c n h).2.2.2.1) 8 (fun _ => 0) _
    (fun t h j => by rw [outsAt0_A m c t h]; frame_out; rw [pay12, fill8])
    (fun t h j => by rw [outsAt0_B m c t h]; frame_out; rw [pay12])
    (le_of_eq N_0) t0_7 rfl j, zero_add]
  refine Fin.sum_mul_add_congr fun s k hl => ?_
  rw [blk0, blk1, blk2, blk3, blk4]; rfl

theorem final9 : (dats m 0 c).arrAt 9 (cfgs 0).N = loss (fA m c) (xA m c) (tA m c) (gtA m c) (gA m c) := by
  unfold loss
  refine (dats m 0 c).arrAt_eq_of_after_last 9 t0_7 (by decide +kernel) _ fun j => ?_
  blk_simp
  rw [after0_9, Pipeline.eq_sum_fin_of_reset_step_apply_last (fun n h => (outsAt0 m c n h).2.2.2.2) 8 (fun _ => 0) _
    (fun t h j => by rw [outsAt0_A m c t h]; frame_out; rw [pay8, fill9])
    (fun t h j => by rw [outsAt0_B m c t h]; frame_out; rw [pay8])
    (le_of_eq N_0) t0_7 rfl j, zero_add]
  refine Fin.sum_fin_congr fun s => ?_
  rw [blk0, blk1, blk2, blk3, blk4]; rfl

end Cert.Kernel2Ideal.Hand

end
-- ==== Proof.LossRef.lean ====
module

public import proofs.«01_k».proof.Proof.Gen.Reference2Ideal.Run
public import proofs.«01_k».proof.Proof.LossMath

/-! What the reference of the loss and of the gated norm's gradient computes, element by element. -/

@[expose] public section

set_option maxRecDepth 16384

noncomputable section

open Idealize.ShloMosaic Idealize.ShloMosaic.TcCoe Idealize.SL.Sem

namespace Cert.Reference2Ideal.Hand

open Cert.Reference2Ideal Cert.Reference2Ideal.Gen Cert.RmsGrad Cert.Loss
open Cert.Premix (len Mat Row rowOf)

variable (m : (ℓ : Loc nD τ sig) → Buf (Elt Ideal) ℓ) (ρ : Dev nD → PrngReg)

/-- The arguments, as the arrays they are. -/
abbrev fR (c : Dev nD) : Mat := m (c.tc.loc main_arg0)
abbrev xR (c : Dev nD) : Mat := m (c.tc.loc main_arg1)
abbrev tR (c : Dev nD) : Mat := m (c.tc.loc main_arg2)
abbrev gtR (c : Dev nD) : Row := m (c.tc.loc main_arg3)
abbrev gR (c : Dev nD) : Row := m (c.tc.loc main_arg4)
abbrev eR (c : Dev nD) : Fin 2048 → Fin 2048 → EReal := grad (fR m c) (xR m c) (tR m c) (gtR m c) (gR m c)

theorem df_ref (c : Dev nD) : Value.res_main_v57 m c = dfAuto (fR m c) (gtR m c) (gR m c) (eR m c) := by
  unfold eR
  rw [← grad_eq]
  funext i
  pointwise [Value.res_main_v57, dfAuto, fR, xR, tR, gtR, gR, gradAuto, resid, scaled, unit, ofSquare, meanSq, rowOf, cotAuto, Finset.univ_unique, Finset.sum_singleton]

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)) ∧ r.2.sem = fun _ => 0 :=
  (θ_run defs _ _).mono (fun r h => ⟨fun c => (h c).2.2.2.2.2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v32) =
      dx2 (grad (m (c.tc.loc main_arg0)) (m (c.tc.loc main_arg1)) (m (c.tc.loc main_arg2)) (m (c.tc.loc main_arg3)) (m (c.tc.loc main_arg4)))
    ∧ r.2.mem (c.tc.loc main_v57) =
      dfAuto (m (c.tc.loc main_arg0)) (m (c.tc.loc main_arg3)) (m (c.tc.loc main_arg4)) (grad (m (c.tc.loc main_arg0)) (m (c.tc.loc main_arg1)) (m (c.tc.loc main_arg2)) (m (c.tc.loc main_arg3)) (m (c.tc.loc main_arg4)))
    ∧ r.2.mem (c.tc.loc main_v37) =
      dgt (m (c.tc.loc main_arg0)) (m (c.tc.loc main_arg4)) (grad (m (c.tc.loc main_arg0)) (m (c.tc.loc main_arg1)) (m (c.tc.loc main_arg2)) (m (c.tc.loc main_arg3)) (m (c.tc.loc main_arg4)))
    ∧ r.2.mem (c.tc.loc main_v40) =
      dgAuto (m (c.tc.loc main_arg0)) (m (c.tc.loc main_arg3)) (grad (m (c.tc.loc main_arg0)) (m (c.tc.loc main_arg1)) (m (c.tc.loc main_arg2)) (m (c.tc.loc main_arg3)) (m (c.tc.loc main_arg4)))
    ∧ r.2.mem (c.tc.loc main_v58) =
      lossAuto (m (c.tc.loc main_arg0)) (m (c.tc.loc main_arg1)) (m (c.tc.loc main_arg2)) (m (c.tc.loc main_arg3)) (m (c.tc.loc main_arg4))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) := by
  refine (θ_run defs _ _).mono (fun r h c => ?_) (Value.run m ρ)
  obtain ⟨h0, h1, h2, h3, h4, h5⟩ := h c
  refine ⟨h0.trans ?_, h1.trans (df_ref m c), h2.trans ?_, h3.trans ?_, h4.trans ?_, h5⟩ <;> clear h h0 h1 h2 h3 h4 h5 <;> try rw [← grad_eq]
  · funext j
    pointwise [dx2, gradAuto, fR, xR, tR, gtR, gR, resid, scaled, unit, meanSq]
  · funext j
    pointwise [dgt, fR, xR, tR, gtR, gR, gradAuto, resid, scaled, unit, meanSq]
  · funext j
    pointwise [dgAuto, fR, xR, tR, gtR, gR, gradAuto, resid, scaled, unit, meanSq]
  · funext j
    pointwise [lossAuto, fR, xR, tR, gtR, gR, resid, scaled, unit, meanSq]

end Cert.Reference2Ideal.Hand

end
-- ==== Proof.Loss.lean ====
module

public import proofs.«01_k».proof.Defs
public import proofs.«01_k».proof.Proof.LossKernel
public import proofs.«01_k».proof.Proof.LossRef
public import Idealize.ShloMosaic.Lib.Affine

/-! The loss and the gradient of the gated norm after the channel mixer: the kernel's results are the reference's. -/

@[expose] public section

set_option maxRecDepth 16384

noncomputable section

open Idealize.ShloMosaic Idealize.ShloMosaic.TcCoe Idealize.SL.Sem

namespace Cert.Loss

open Cert.Reals
open Cert.Premix (Mat Row)

instance preFacts : Cert.Pre_finite_loss.Facts where
  bcast_S_S2048x2048 := by decide
  reducesTo_S2048x2048_S_d0_1 := by decide
  h_S_ := by decide
  bcast_S_S1x2048 := by decide
  reducesTo_S1x2048_S_d0_1 := by decide

/-- The precondition says the arrays are real. -/
theorem real_of_pre (f x1 t : Mat) (gt g : Row) (h : Cert.Pre_finite_loss.fn (F := Ideal) f x1 t gt g = fun _ => 1#1) :
    AllReal f ∧ AllReal x1 ∧ AllReal t ∧ AllReal gt ∧ AllReal g := by
  have h0 := congrFun h (fun k => k.elim0)
  simp only [Cert.Pre_finite_loss.fn, Cert.Pre_finite_loss.fn_part1] at h0
  obtain ⟨h1, hg⟩ := IntOp.andi_eq_one.mp h0
  obtain ⟨h2, hgt⟩ := IntOp.andi_eq_one.mp h1
  obtain ⟨h3, ht⟩ := IntOp.andi_eq_one.mp h2
  obtain ⟨hf, hx⟩ := IntOp.andi_eq_one.mp h3
  exact ⟨real_of_all _ _ _ _ _ hf, real_of_all _ _ _ _ _ hx, real_of_all _ _ _ _ _ ht, real_of_all _ _ _ _ _ hgt, real_of_all _ _ _ _ _ hg⟩

theorem alg : Cert.algebraic_Kernel2Ideal_Reference2Ideal_pre_finite_loss
    (hKernel2Ideal := Cert.Kernel2Ideal.Gen.facts) (hReference2Ideal := Cert.Reference2Ideal.Gen.facts) (hPre_finite_loss := preFacts) := by
  pair_intro
  · run_from Cert.Kernel2Ideal.Value.run_blocks m g
  · run_from Cert.Reference2Ideal.Hand.run m' g'
    · exact (Cert.Kernel2Ideal.Hand.final5 m c).symm
    · obtain ⟨hf, hx, ht, hgt, hg⟩ := real_of_pre _ _ _ _ _ (hpre c)
      rw [← df_eq hf (grad_real hf hx ht hgt hg) hgt hg]
      exact (Cert.Kernel2Ideal.Hand.final6 m c).symm
    · exact (Cert.Kernel2Ideal.Hand.final7 m c).symm
    · rw [dg_eq]
      exact (Cert.Kernel2Ideal.Hand.final8 m c).symm
    · obtain ⟨hf, hx, ht, hgt, hg⟩ := real_of_pre _ _ _ _ _ (hpre c)
      rw [← loss_eq hf hx ht hgt hg]
      exact (Cert.Kernel2Ideal.Hand.final9 m c).symm

end Cert.Loss

end
-- ==== Proof.MixMath.lean ====
module

public import proofs.«01_k».proof.Proof.PremixMath

/-! The gradients of the norms of the two mixers' outputs, as functions of the arrays: each is the norm of rows of 1024, its cotangent one half
of the columns of the concatenation's. -/

@[expose] public section

noncomputable section

namespace Cert.MixNorm

open Idealize.ShloMosaic Cert.Reals Cert.RmsGrad

/-- The word of the row length. -/
abbrev len : EReal := Ideal.ofBits .f32 0x44800000#32

abbrev Wide (n : ℕ) : Type := FVec Ideal (⟨2, ![n, 2048]⟩ : Shape) .f32
abbrev Tall (n : ℕ) : Type := FVec Ideal (⟨2, ![n, 1024]⟩ : Shape) .f32

variable {n : ℕ}

/-- The columns from `lo` of the cotangent. -/
def part (lo : ℕ) (h : lo + 1024 ≤ 2048) (d : Wide n) : Tall n := fun y => d (ix2 (y 0) ⟨lo + (y 1).val, Nat.lt_of_lt_of_le (Nat.add_lt_add_left (y 1).isLt lo) h⟩)

/-- The normalised array. -/
def unit (y : Tall n) (i : Fin n) (k : Fin 1024) : EReal := y (ix2 i k) * Ideal.rsqrt (meanSq len Premix.eps fun l : Fin 1024 => y (ix2 i l))

/-- The cotangent of the normalised array. -/
abbrev cot (d : Tall n) (g : Tall 1) (i : Fin n) (k : Fin 1024) : EReal := d (ix2 i k) * g (ix2 0 k)

/-- The gradient of the input, in the kernel's form. -/
def dy (d y : Tall n) (g : Tall 1) : Tall n := fun j => byHand len Premix.eps (fun l : Fin 1024 => cot d g (j 0) l) (fun l : Fin 1024 => y (ix2 (j 0) l)) (j 1)

/-- The gradient of the weight. -/
def dg (d y : Tall n) : Tall 1 := fun j => ∑ i : Fin n, d (ix2 i (j 1)) * unit y i (j 1)

/-! Both as automatic differentiation writes them. -/

def dyAuto (d y : Tall n) (g : Tall 1) : Tall n := fun j =>
  cot d g (j 0) (j 1) * Ideal.rsqrt (meanSq len Premix.eps fun l : Fin 1024 => y (ix2 (j 0) l))
    + y (ix2 (j 0) (j 1)) * ofSquare len Premix.eps (cot d g (j 0)) (fun l : Fin 1024 => y (ix2 (j 0) l))
    + ofSquare len Premix.eps (cot d g (j 0)) (fun l : Fin 1024 => y (ix2 (j 0) l)) * y (ix2 (j 0) (j 1))

def dgAuto (d y : Tall n) : Tall 1 := fun j => ∑ i : Fin n, unit y i (j 1) * d (ix2 i (j 1))

theorem dg_eq (d y : Tall n) : dgAuto d y = dg d y := by
  funext j
  exact Finset.sum_congr rfl fun i _ => mul_comm _ _

theorem dy_eq {d y : Tall n} {g : Tall 1} (hd : AllReal d) (hy : AllReal y) (hg : AllReal g) : dy d y g = dyAuto d y g := by
  funext j
  have h := byHand_auto (w := 1024) (by norm_num) eps_pos (u := cot d g (j 0)) (x := fun l : Fin 1024 => y (ix2 (j 0) l))
    (fun k => (hd _).mul (hg _)) (fun k => hy _) (j 1) 0
  rw [zero_add, zero_add] at h
  have hp : Premix.eps = ((Reals.eps : ℝ) : EReal) := ofBits_eps
  simp only [dy, dyAuto, hp, len, ofBits_1024]
  exact h

end Cert.MixNorm

end
-- ==== Proof.MixKernel.lean ====
module

public import proofs.«01_k».proof.Proof.Gen.Kernel3Ideal.Value
public import proofs.«01_k».proof.Proof.MixMath
public import Idealize.ShloMosaic.Lib.Pipeline.ValueKit

/-! What the kernel of the gradients of the two mixers' norms leaves in each of its outputs. -/

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen Cert.RmsGrad Cert.MixNorm

variable (m : (ℓ : Loc nD τ sig) → Buf (Elt Ideal) ℓ) (c : Dev nD)

/-- The arguments, as the arrays they are. -/
abbrev dA : Wide 2048 := m (c.tc.loc main_arg0)
abbrev yA : Tall 2048 := m (c.tc.loc main_arg1)
abbrev yB : Tall 2048 := m (c.tc.loc main_arg2)
abbrev gA : Tall 1 := m (c.tc.loc main_arg3)
abbrev gB : Tall 1 := m (c.tc.loc main_arg4)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![0, 0]
    ∧ win0_8.index t = ![0, 0] ∧ t.val < 8 := (by decide +kernel : ∀ t : Fin grid0.N, _)

/-- Row `k` of block `t`. -/
abbrev rowAt (t : Fin cfg0.N) (k : Fin 256) : Fin 2048 := ⟨t.val * 256 + k.val, by have := (idx t).2.2.2.2.2.2.2.2.2; omega⟩

/-- Rows `256 t` to `256 t + 255` of a matrix. -/
def rowsOf {w : ℕ} (a : FVec Ideal (⟨2, ![2048, w]⟩ : Shape) .f32) (t : Fin cfg0.N) : FVec Ideal (⟨2, ![256, w]⟩ : Shape) .f32 :=
  fun y => a (ix2 (rowAt t (y 0)) (y 1))

theorem blk0 (t) : iblk m c 0 t = rowsOf (dA m c) t := by funext y; blk_ext [iblk, V, idx t, rowsOf]
theorem blk1 (t) : iblk m c 1 t = rowsOf (yA m c) t := by funext y; blk_ext [iblk, V, idx t, rowsOf]
theorem blk2 (t) : iblk m c 2 t = rowsOf (yB m c) t := by funext y; blk_ext [iblk, V, idx t, rowsOf]
theorem blk3 (t) : iblk m c 3 t = gA m c := by funext y; blk_ext [iblk, V, idx t]
theorem blk4 (t) : iblk m c 4 t = gB m c := by funext y; blk_ext [iblk, V, idx t]

/-- The body's two loads of the cotangent's block are its halves. -/
theorem lowHalf (b : Wide 256) :
    (View.ld (Val := Elt Ideal) (e' := .f32) b (Rect.unit (s := S256x2048) ![0, 0] S256x1024.size inb_S256x2048_S256x1024_0_0) : Tall 256) = part 0 (by decide) b := by
  funext y; rw [View.ld_apply]; pointwise [part]
theorem highHalf (b : Wide 256) :
    (View.ld (Val := Elt Ideal) (e' := .f32) b (Rect.unit (s := S256x2048) ![0, 1024] S256x1024.size inb_S256x2048_S256x1024_0_1024) : Tall 256) = part 1024 (by decide) b := by
  funext y; rw [View.ld_apply]; pointwise [part]

/-- Where the elements of a tile lie in the two outputs that are tiled. -/
theorem tile5 (a : Tall 2048) (t : Fin cfg0.N) (y : ((cfg0.win 5).xblock (cfg0.grid.coords t)).Idx) :
    a ((win0_5.blk t).view.emb y) = a (ix2 (rowAt t (y 0)) (y 1)) := by
  blk_ext [idx t]
theorem tile6 (a : Tall 2048) (t : Fin cfg0.N) (y : ((cfg0.win 6).xblock (cfg0.grid.coords t)).Idx) :
    a ((win0_6.blk t).view.emb y) = a (ix2 (rowAt t (y 0)) (y 1)) := by
  blk_ext [idx t]

/-! The body's stores, at an index. -/

theorem fill7 (j) : k0_pay5 (F := Ideal) j = 0 := by pointwise [k0_pay5]
theorem fill8 (j) : k0_pay6 (F := Ideal) j = 0 := by pointwise [k0_pay6]

theorem pay9 (d y acc j) : k0_pay9 (F := Ideal) d y acc j = acc j + ∑ k : Fin 256, d (ix2 k (j 1)) * unit (n := 256) y k (j 1) := by
  pointwise [k0_pay9, k0_pay8, k0_pay7, unit, meanSq]
theorem pay3 (d y acc j) : k0_pay3 (F := Ideal) d y acc j = acc j + ∑ k : Fin 256, d (ix2 k (j 1)) * unit (n := 256) y k (j 1) := by
  pointwise [k0_pay3, k0_pay2, k0_pay1, unit, meanSq]
theorem pay10 (d y g j) : k0_pay10 (F := Ideal) d y g j = dy (n := 256) d y g j := by
  pointwise [k0_pay10, k0_pay8, k0_pay7, dy, cot, meanSq, byHand]
theorem pay4 (d y g j) : k0_pay4 (F := Ideal) d y g j = dy (n := 256) d y g j := by
  pointwise [k0_pay4, k0_pay2, k0_pay1, dy, cot, meanSq, byHand]

/-! The arrays after the last grid point. -/

theorem final5 : (dats m 0 c).arrAt 5 (cfgs 0).N = dy (part 0 (by decide) (dA m c)) (yA m c) (gA m c) := by
  refine (dats m 0 c).arrAt_eq_of_covers 5 _ (by decide +kernel) fun t hf y => ?_
  blk_simp
  rw [after0_5]
  refine Eq.trans ?_ (tile5 _ t y).symm
  by_cases h : t.val % 8 = 0
  · rw [outsAt0_A m c t h]; frame_out; rw [pay10, blk0, blk1, blk3]; erw [lowHalf]; rfl
  · rw [outsAt0_B m c t h]; frame_out; rw [pay10, blk0, blk1, blk3]; erw [lowHalf]; rfl

theorem final6 : (dats m 0 c).arrAt 6 (cfgs 0).N = dy (part 1024 (by decide) (dA m c)) (yB m c) (gB m c) := by
  refine (dats m 0 c).arrAt_eq_of_covers 6 _ (by decide +kernel) fun t hf y => ?_
  blk_simp
  rw [after0_6]
  refine Eq.trans ?_ (tile6 _ t y).symm
  by_cases h : t.val % 8 = 0
  · rw [outsAt0_A m c t h]; frame_out; rw [pay4, blk0, blk2, blk4]; erw [highHalf]; rfl
  · rw [outsAt0_B m c t h]; frame_out; rw [pay4, blk0, blk2, blk4]; erw [highHalf]; rfl

theorem final7 : (dats m 0 c).arrAt 7 (cfgs 0).N = dg (part 0 (by decide) (dA m c)) (yA m c) := by
  unfold dg
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) _
    (fun t h j => by rw [outsAt0_A m c t h]; frame_out; rw [pay9, fill7])
    (fun t h j => by rw [outsAt0_B m c t h]; frame_out; rw [pay9])
    (le_of_eq N_0) t0_7 rfl j, zero_add]
  refine Fin.sum_mul_add_congr fun s k hl => ?_
  rw [blk0, blk1]; erw [lowHalf]; rfl

theorem final8 : (dats m 0 c).arrAt 8 (cfgs 0).N = dg (part 1024 (by decide) (dA m c)) (yB m c) := by
  unfold dg
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) _
    (fun t h j => by rw [outsAt0_A m c t h]; frame_out; rw [pay3, fill8])
    (fun t h j => by rw [outsAt0_B m c t h]; frame_out; rw [pay3])
    (le_of_eq N_0) t0_7 rfl j, zero_add]
  refine Fin.sum_mul_add_congr fun s k hl => ?_
  rw [blk0, blk2]; erw [highHalf]; rfl

end Cert.Kernel3Ideal.Hand

end
-- ==== Proof.MixRef.lean ====
module

public import proofs.«01_k».proof.Proof.Gen.Reference3Ideal.Run
public import proofs.«01_k».proof.Proof.MixMath

/-! What the reference of the gradients of the two mixers' norms computes. -/

@[expose] public section

set_option maxRecDepth 16384

noncomputable section

open Idealize.ShloMosaic Idealize.ShloMosaic.TcCoe Idealize.SL.Sem

namespace Cert.Reference3Ideal.Hand

open Cert.Reference3Ideal Cert.Reference3Ideal.Gen Cert.RmsGrad Cert.MixNorm

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)) ∧ r.2.sem = fun _ => 0 :=
  (θ_run defs _ _).mono (fun r h => ⟨fun c => (h c).2.2.2.2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v70) = dyAuto (n := 2048) (part (n := 2048) 0 (by decide) (m (c.tc.loc main_arg0))) (m (c.tc.loc main_arg1)) (m (c.tc.loc main_arg3))
    ∧ r.2.mem (c.tc.loc main_v51) = dyAuto (n := 2048) (part (n := 2048) 1024 (by decide) (m (c.tc.loc main_arg0))) (m (c.tc.loc main_arg2)) (m (c.tc.loc main_arg4))
    ∧ r.2.mem (c.tc.loc main_v54) = dgAuto (n := 2048) (part (n := 2048) 0 (by decide) (m (c.tc.loc main_arg0))) (m (c.tc.loc main_arg1))
    ∧ r.2.mem (c.tc.loc main_v35) = dgAuto (n := 2048) (part (n := 2048) 1024 (by decide) (m (c.tc.loc main_arg0))) (m (c.tc.loc main_arg2))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) := by
  refine (θ_run defs _ _).mono (fun r h c => ?_) (Value.run m ρ)
  obtain ⟨h0, h1, h2, h3, h4⟩ := h c
  refine ⟨h0.trans ?_, h1.trans ?_, h2.trans ?_, h3.trans ?_, h4⟩ <;> clear h h0 h1 h2 h3 h4 <;> funext j
  · pointwise [dyAuto, part, ofSquare, meanSq, cot, Finset.univ_unique, Finset.sum_singleton]
  · pointwise [dyAuto, part, ofSquare, meanSq, cot, Finset.univ_unique, Finset.sum_singleton]
  · pointwise [dgAuto, part, unit, meanSq]
  · pointwise [dgAuto, part, unit, meanSq]

end Cert.Reference3Ideal.Hand

end
-- ==== Proof.Mix.lean ====
module

public import proofs.«01_k».proof.Defs
public import proofs.«01_k».proof.Proof.MixKernel
public import proofs.«01_k».proof.Proof.MixRef
public import Idealize.ShloMosaic.Lib.Affine

/-! The gradients of the two mixers' norms: the kernel's results are the reference's. -/

@[expose] public section

set_option maxRecDepth 16384

noncomputable section

open Idealize.ShloMosaic Idealize.ShloMosaic.TcCoe Idealize.SL.Sem

namespace Cert.MixNorm

open Cert.Reals

instance preFacts : Cert.Pre_finite_mixnorm.Facts where
  bcast_S_S2048x2048 := by decide
  reducesTo_S2048x2048_S_d0_1 := by decide
  h_S_ := by decide
  bcast_S_S2048x1024 := by decide
  reducesTo_S2048x1024_S_d0_1 := by decide
  bcast_S_S1x1024 := by decide
  reducesTo_S1x1024_S_d0_1 := by decide

/-- The precondition says the arrays are real. -/
theorem real_of_pre (d : Wide 2048) (y z : Tall 2048) (g h : Tall 1) (hp : Cert.Pre_finite_mixnorm.fn (F := Ideal) d y z g h = fun _ => 1#1) :
    AllReal d ∧ AllReal y ∧ AllReal z ∧ AllReal g ∧ AllReal h := by
  have h0 := congrFun hp (fun k => k.elim0)
  simp only [Cert.Pre_finite_mixnorm.fn, Cert.Pre_finite_mixnorm.fn_part1] at h0
  obtain ⟨h1, hg⟩ := IntOp.andi_eq_one.mp h0
  obtain ⟨h2, hgt⟩ := IntOp.andi_eq_one.mp h1
  obtain ⟨h3, ht⟩ := IntOp.andi_eq_one.mp h2
  obtain ⟨hf, hx⟩ := IntOp.andi_eq_one.mp h3
  exact ⟨real_of_all _ _ _ _ _ hf, real_of_all _ _ _ _ _ hx, real_of_all _ _ _ _ _ ht, real_of_all _ _ _ _ _ hgt, real_of_all _ _ _ _ _ hg⟩

theorem alg : Cert.algebraic_Kernel3Ideal_Reference3Ideal_pre_finite_mixnorm
    (hKernel3Ideal := Cert.Kernel3Ideal.Gen.facts) (hReference3Ideal := Cert.Reference3Ideal.Gen.facts) (hPre_finite_mixnorm := preFacts) := by
  pair_intro
  · run_from Cert.Kernel3Ideal.Value.run_blocks m g
  · run_from Cert.Reference3Ideal.Hand.run m' g'
    · obtain ⟨hd, hy, hz, hg, hh⟩ := real_of_pre _ _ _ _ _ (hpre c)
      exact (dy_eq (fun _ => hd _) hy hg).symm.trans (Cert.Kernel3Ideal.Hand.final5 m c).symm
    · obtain ⟨hd, hy, hz, hg, hh⟩ := real_of_pre _ _ _ _ _ (hpre c)
      exact (dy_eq (fun _ => hd _) hz hh).symm.trans (Cert.Kernel3Ideal.Hand.final6 m c).symm
    · rw [dg_eq]
      exact (Cert.Kernel3Ideal.Hand.final7 m c).symm
    · rw [dg_eq]
      exact (Cert.Kernel3Ideal.Hand.final8 m c).symm

end Cert.MixNorm

end
-- ==== Proof.ConvMath.lean ====
module

public import proofs.«01_k».proof.Proof.RmsGrad
public import Idealize.ShloMosaic.Lib.Pipeline.ValueKit

/-! A causal convolution of three taps on the two halves of the columns, the gate between them, and the gradient of
both: on one column at a time, as sequences of real numbers that are zero before the first row and after the last. -/

@[expose] public section

noncomputable section

open Idealize.ShloMosaic Cert.Reals

namespace Cert.Conv

/-- A matrix. -/
abbrev Blk (n w : ℕ) := FVec Ideal ⟨2, ![n, w]⟩ .f32

/-- Column `j` of a matrix, zero after its last row. -/
def col {n w : ℕ} (a : Blk n w) (j : Fin w) (t : ℕ) : EReal := if h : t < n then a (ix2 ⟨t, h⟩ j) else 0

/-- A sequence `k` rows later, zero in the first `k` rows. -/
def lag (x : ℕ → EReal) (k t : ℕ) : EReal := if k ≤ t then x (t - k) else 0

/-- The convolution: tap `2` is the present row's. -/
def conv (w : Fin 3 → EReal) (b : EReal) (x : ℕ → EReal) (t : ℕ) : EReal :=
  b + w 0 * lag x 2 t + w 1 * lag x 1 t + w 2 * x t

/-- The sigmoid, as the kernel writes it. -/
def sg (a : EReal) : EReal := Ideal.div 1 (1 + Ideal.exp (0 - a))

/-- The gradient of `silu a * b` in `a`, of cotangent `d`. -/
def gateA (a b d : EReal) : EReal := d * b * (sg a * (1 + a * (1 - sg a)))

/-- The gradient of `silu a * b` in `b`, of cotangent `d`. -/
def gateB (a d : EReal) : EReal := d * (a * sg a)

/-- The transposed convolution. -/
def back (w : Fin 3 → EReal) (u : ℕ → EReal) (t : ℕ) : EReal := w 2 * u t + w 1 * u (t + 1) + w 0 * u (t + 2)

/-! The same for whole matrices: `x`, `y` the two halves' inputs, `d` the cotangent, `k`, `l` the taps and `b`, `e` the
biases of the two halves. -/

variable {n w : ℕ}

/-- A half's convolution, by columns. -/
def halfConv (x : Blk n w) (k : Blk 3 w) (b : Blk 1 w) (j : Fin w) : ℕ → EReal := conv (fun i => k (ix2 i j)) (b (ix2 0 j)) (col x j)

/-- The cotangent of the half that is gated. -/
def cotA (x y d : Blk n w) (k l : Blk 3 w) (b e : Blk 1 w) (j : Fin w) (t : ℕ) : EReal := gateA (halfConv x k b j t) (halfConv y l e j t) (col d j t)

/-- The cotangent of the half that is taken as it is. -/
def cotB (x d : Blk n w) (k : Blk 3 w) (b : Blk 1 w) (j : Fin w) (t : ℕ) : EReal := gateB (halfConv x k b j t) (col d j t)

/-- The gradient of the two halves' inputs. -/
def inputs (x y d : Blk n w) (k l : Blk 3 w) (b e : Blk 1 w) : FVec Ideal ⟨3, ![2, n, w]⟩ .bf16 := fun i =>
  if (i 0).val = 0 then back (fun q => k (ix2 q (i 2))) (cotA x y d k l b e (i 2)) (i 1).val
  else back (fun q => l (ix2 q (i 2))) (cotB x d k b (i 2)) (i 1).val

/-- The gradient of the tap that reads `k` rows back. -/
def tap (u : Fin w → ℕ → EReal) (x : Blk n w) (k : ℕ) : Blk 1 w := fun i => ∑ t : Fin n, u (i 1) t.val * lag (col x (i 1)) k t.val

/-- The gradient of the tap of the present row. -/
def tapNow (u : Fin w → ℕ → EReal) (x : Blk n w) : Blk 1 w := fun i => ∑ t : Fin n, u (i 1) t.val * col x (i 1) t.val

/-- The gradient of a bias. -/
def bias (n : ℕ) (u : Fin w → ℕ → EReal) : Blk 1 w := fun i => ∑ t : Fin n, u (i 1) t.val

/-- The two halves of the columns. -/
def left (a : Blk n 11264) : Blk n 5632 := fun i => a (ix2 (i 0) ((i 1 : Fin 5632).castLE (show 5632 ≤ 11264 by decide)))
def right (a : Blk n 11264) : Blk n 5632 := fun i => a (ix2 (i 0) ((i 1 : Fin 5632).natAdd 5632))

/-- The gradients of the gate as differentiation gives them, the sigmoid written with a negation. -/
def sgAuto (a : EReal) : EReal := Ideal.div 1 (1 + Ideal.exp (-a))
def gateAuto (a b d : EReal) : EReal := d * b * sgAuto a + a * (d * b) * (sgAuto a * (1 - sgAuto a))

theorem sgAuto_eq (a : EReal) : sgAuto a = sg a := by
  unfold sgAuto sg
  rw [zero_sub]

/-- A real number is some real number. -/
theorem _root_.Cert.Reals.IsReal.exists {a : EReal} (h : IsReal a) : ∃ r : ℝ, a = r := ⟨_, h⟩

/-- The sigmoid of a real number is a real number. -/
theorem sg_real {a : EReal} (ha : IsReal a) : IsReal (sg a) := by
  obtain ⟨a, rfl⟩ := ha.exists
  unfold sg
  rw [zero_sub, show -(a : EReal) = ((-a : ℝ) : EReal) from rfl, show Ideal.exp ((-a : ℝ) : EReal) = ((Real.exp (-a) : ℝ) : EReal) from rfl]
  have h : (1 : EReal) + ((Real.exp (-a) : ℝ) : EReal) = ((1 + Real.exp (-a) : ℝ) : EReal) := by push_cast; rfl
  rw [h, show (1 : EReal) = ((1 : ℝ) : EReal) from rfl, div_real _ (by positivity)]
  exact .coe _

/-- On real numbers the two ways of writing the gradient agree. -/
theorem gateAuto_eq {a b d : EReal} (ha : IsReal a) (hb : IsReal b) (hd : IsReal d) : gateAuto a b d = gateA a b d := by
  have hs := sg_real ha
  unfold gateAuto gateA
  rw [sgAuto_eq]
  obtain ⟨s, hs⟩ := hs.exists
  rw [hs]
  obtain ⟨a, rfl⟩ := ha.exists
  obtain ⟨b, rfl⟩ := hb.exists
  obtain ⟨d, rfl⟩ := hd.exists
  have h1 : (1 : EReal) = ((1 : ℝ) : EReal) := rfl
  rw [h1]
  norm_cast
  ring

theorem gateA_zero (a b : EReal) : gateA a b 0 = 0 := by simp [gateA]
theorem gateB_zero (a : EReal) : gateB a 0 = 0 := by simp [gateB]

theorem col_real {a : Blk n w} (ha : ∀ i, IsReal (a i)) (j : Fin w) (t : ℕ) : IsReal (col a j t) := by
  unfold col; split
  · exact ha _
  · exact .zero

theorem lag_real {x : ℕ → EReal} (hx : ∀ t, IsReal (x t)) (k t : ℕ) : IsReal (lag x k t) := by
  unfold lag; split
  · exact hx _
  · exact .zero

theorem halfConv_real {x : Blk n w} {k : Blk 3 w} {b : Blk 1 w} (hx : ∀ i, IsReal (x i)) (hk : ∀ i, IsReal (k i)) (hb : ∀ i, IsReal (b i))
    (j : Fin w) (t : ℕ) : IsReal (halfConv x k b j t) :=
  (((hb _).add ((hk _).mul (lag_real (col_real hx j) _ _))).add ((hk _).mul (lag_real (col_real hx j) _ _))).add ((hk _).mul (col_real hx j _))

/-- One fold of eight rows in a chunk of sixty-four. -/
def fold (f : ℕ → EReal) (q r : ℕ) : EReal := ∑ s : Fin 8, f (64 * q + 8 * s.val + r)

/-- The folds of all the chunks, last chunk first, are the sum over the rows. -/
theorem sum_folds (f : ℕ → EReal) : ∑ r : Fin 8, ∑ p ∈ Finset.range 32, fold f (31 - p) r.val = ∑ t : Fin 2048, f t.val := by
  rw [← Fin.sum_mul_add_fin 32 64 fun t : Fin 2048 => f t.val, Finset.sum_comm]
  rw [← Finset.sum_range_reflect, Finset.sum_range]
  refine Finset.sum_congr rfl fun p _ => ?_
  rw [← Fin.sum_mul_add_fin 8 8 fun t : Fin 64 => f (p.val * 64 + t.val), Finset.sum_comm]
  refine Finset.sum_congr rfl fun r _ => Finset.sum_congr rfl fun s _ => congrArg f ?_
  simp only
  omega

end Cert.Conv

end
-- ==== Proof.ConvChunk.lean ====
module

public import proofs.«01_k».proof.Proof.Gen.Kernel4Ideal.Value
public import proofs.«01_k».proof.Proof.ConvMath
public import Idealize.ShloMosaic.Lib.Pipeline.ValueKit

/-! What the kernel of the convolution's gradient computes of one chunk of sixty-four rows. -/

@[expose] public section

set_option maxRecDepth 16384

noncomputable section

open Idealize.ShloMosaic Idealize.ShloMosaic.TcCoe

namespace Cert.Kernel4Ideal.Hand

open Cert.Kernel4Ideal Cert.Kernel4Ideal.Gen Cert.Conv

/-- A sequence for each column. -/
abbrev Cols := Fin 256 → ℕ → EReal

/-- The array holds the columns' rows from row `o`. -/
def Rows {n : ℕ} (v : Blk n 256) (f : Cols) (o : ℕ) : Prop := ∀ (i : Fin n) (j : Fin 256), v (ix2 i j) = f j (o + i.val)

variable {x y d a b l1 l2 u : Cols} {q o : ℕ} {w0 w1 w2 bb : Blk 1 256}

theorem Rows.get {n : ℕ} {v : Blk n 256} {f : Cols} (h : Rows v f o) (i : Fin n) (j : Fin 256) (t : ℕ) (e : o + i.val = t) :
    v (ix2 i j) = f j t := e ▸ h i j

theorem lag_at (x : ℕ → EReal) (o i k : ℕ) (hk : k ≤ 8) : lag x 8 (o + (8 - k + i)) = lag x k (o + i) := by
  unfold lag
  by_cases h : k ≤ o + i
  · rw [if_pos (by omega), if_pos h]; congr 1; omega
  · rw [if_neg (by omega), if_neg h]

theorem lag_zero (x : ℕ → EReal) : lag x 0 = x := by funext t; simp [lag]

/-- The rows of the chunk, of the rows one before, and of those two before. -/
theorem rows_pay1 {v : Blk 72 256} (h : Rows v (fun j => lag (x j) 8) o) : Rows (k0_pay1 v) x o := fun i j => by
  pointwise [k0_pay1]
  rw [h.get _ _ (o + (8 - 0 + i.val)) rfl, lag_at _ _ _ _ (by decide), lag_zero]
theorem rows_pay2 {v : Blk 72 256} (h : Rows v (fun j => lag (x j) 8) o) : Rows (k0_pay2 v) (fun j => lag (x j) 1) o := fun i j => by
  pointwise [k0_pay2]
  rw [h.get _ _ (o + (8 - 1 + i.val)) (by simp only; omega), lag_at _ _ _ _ (by decide)]
theorem rows_pay3 {v : Blk 72 256} (h : Rows v (fun j => lag (x j) 8) o) : Rows (k0_pay3 v) (fun j => lag (x j) 2) o := fun i j => by
  pointwise [k0_pay3]
  rw [h.get _ _ (o + (8 - 2 + i.val)) (by simp only; omega), lag_at _ _ _ _ (by decide)]

/-- The three taps of a column. -/
abbrev taps (w0 w1 w2 : Blk 1 256) (j : Fin 256) : Fin 3 → EReal := ![w0 (ix2 0 j), w1 (ix2 0 j), w2 (ix2 0 j)]

/-- The convolution. -/
theorem rows_pay4 {v : Blk 72 256} (h : Rows v (fun j => lag (x j) 8) o) :
    Rows (k0_pay4 v bb w0 w1 w2) (fun j => conv (taps w0 w1 w2 j) (bb (ix2 0 j)) (x j)) o := fun i j => by
  pointwise [k0_pay4, conv]
  rw [rows_pay1 h i j, rows_pay2 h i j, rows_pay3 h i j]

/-- The gradient of the gated half. -/
theorem rows_pay9 {vb v1 v2 va vd : Blk 64 256} (ha : Rows va a o) (hb : Rows vb x o) (h1 : Rows v1 (fun j => lag (x j) 1) o)
    (h2 : Rows v2 (fun j => lag (x j) 2) o) (hd : Rows vd d o) :
    Rows (k0_pay9 va vb v1 v2 bb w0 w1 w2 vd)
      (fun j t => gateA (a j t) (conv (taps w0 w1 w2 j) (bb (ix2 0 j)) (x j) t) (d j t)) o := fun i j => by
  pointwise [k0_pay9, k0_pay8, gateA, conv, sg]
  simp only [ha i j, hb i j, h1 i j, h2 i j, hd i j]

/-- The gradient of the linear half. -/
theorem rows_pay10 {va vd : Blk 64 256} (ha : Rows va a o) (hd : Rows vd d o) :
    Rows (k0_pay10 va vd) (fun j t => gateB (a j t) (d j t)) o := fun i j => by
  pointwise [k0_pay10, k0_pay8, gateB, sg]
  simp only [ha i j, hd i j]

/-- The transposed convolution of a chunk, the first rows of the next chunk known. -/
theorem rows_pay22 {v : Blk 64 256} {nx : Blk 8 256} (h : Rows v u o) (hn : Rows nx u (o + 64)) (i : Fin 64) (j : Fin 256) :
    k0_pay22 nx v w2 w1 w0 (ix3 0 i j) = back (taps w0 w1 w2 j) (u j) (o + i.val) := by
  have e : ∀ k (hk : k < 8), (if h : (i.val + k) < 64 then v (ix2 ⟨i.val + k, h⟩ j) else nx (ix2 ⟨i.val + k - 64, by omega⟩ j))
      = u j (o + i.val + k) := fun k hk => by
    split
    · exact h.get _ _ _ (by simp only; omega)
    · exact hn.get _ _ _ (by simp only; omega)
  have e1 : (i.val + 72 - 71) % 72 = i.val + 1 := by omega
  have e2 : (i.val + 72 - 70) % 72 = i.val + 2 := by omega
  pointwise [k0_pay22, back]
  simp only [e1, e2]
  rw [e 1 (by decide), e 2 (by decide), h i j]

/-- A fold of eight rows. -/
theorem rows_pay15 {v l : Blk 64 256} (h : Rows v u (64 * q)) (hl : Rows l x (64 * q)) (acc : Blk 8 256) (r : Fin 8) (j : Fin 256) :
    k0_pay15 acc l v (ix2 r j) = acc (ix2 r j) + fold (fun t => u j t * x j t) q r.val := by
  pointwise [k0_pay15, fold]
  simp only [Fin.sum_univ_eight, h _ _, hl _ _]
  simp [Nat.add_assoc]

/-- A fold of eight rows of the gradient itself. -/
theorem rows_pay21 {v : Blk 64 256} (h : Rows v u (64 * q)) (acc : Blk 8 256) (r : Fin 8) (j : Fin 256) :
    k0_pay21 acc v (ix2 r j) = acc (ix2 r j) + fold (u j) q r.val := by
  pointwise [k0_pay21, fold]
  simp only [Fin.sum_univ_eight, h _ _]
  simp [Nat.add_assoc]

/-- The first rows of a chunk, carried to the chunk before. -/
theorem rows_pay29 {v : Blk 64 256} (h : Rows v u o) : Rows (k0_pay29 v) u o := fun i j => by
  pointwise [k0_pay29]
  exact h.get _ _ _ (by simp)

/-- Nothing comes before the first chunk. -/
theorem rows_pay32 {v : Blk 64 256} (h : Rows v x 0) : Rows (k0_pay32 v) (fun j => lag (x j) 8) 0 := fun i j => by
  pointwise [k0_pay32, lag]
  split
  · exact (if_neg (by omega)).symm
  · exact (h.get _ _ _ (by simp)).trans (if_pos (by omega)).symm

/-- The sum over the eight rows. -/
theorem pay65 (acc : Blk 8 256) (j : Fin 256) : k0_pay65 acc (ix2 0 j) = ∑ r : Fin 8, acc (ix2 r j) := by
  pointwise [k0_pay65]

end Cert.Kernel4Ideal.Hand

end
-- ==== Proof.ConvTrip.lean ====
module

public import proofs.«01_k».proof.Proof.ConvChunk

/-! The loop over the chunks of the convolution's gradient, last chunk first: what it carries and what it has stored. -/

@[expose] public section

set_option maxRecDepth 16384

noncomputable section

open Idealize.ShloMosaic Idealize.ShloMosaic.TcCoe Idealize.SL.Sem Idealize.ShloMosaic.Tactic

namespace Cert.Kernel4Ideal.Hand

open Cert.Kernel4Ideal Cert.Kernel4Ideal.Gen Cert.Conv

section Sequences

variable (x0 x1 x2 : Blk 2048 256) (x3 x4 : Blk 3 256) (x5 x6 : Blk 1 256)

/-- The two halves' convolutions and the gradients of both, column by column. -/
def cA : Cols := fun j => conv (fun k => x3 (ix2 k j)) (x5 (ix2 0 j)) (col x0 j)
def cB : Cols := fun j => conv (fun k => x4 (ix2 k j)) (x6 (ix2 0 j)) (col x1 j)
def uA : Cols := fun j t => gateA (cA x0 x3 x5 j t) (cB x1 x4 x6 j t) (col x2 j t)
def uB : Cols := fun j t => gateB (cA x0 x3 x5 j t) (col x2 j t)

/-- The gradient of the two halves' inputs. -/
def du : FVec Ideal ⟨3, ![2, 2048, 256]⟩ .bf16 := fun y =>
  if (y 0).val = 0 then back (fun k => x3 (ix2 k (y 2))) (uA x0 x1 x2 x3 x4 x5 x6 (y 2)) (y 1).val
  else back (fun k => x4 (ix2 k (y 2))) (uB x0 x2 x3 x5 (y 2)) (y 1).val

variable {x0 x1 x2 x3 x4 x5 x6}

theorem chunk_A {o : ℕ} {va vb : Blk 72 256} {vd : Blk 64 256} {a0 a1 a2 ab b0 b1 b2 bb : Blk 1 256}
    (ha : Rows va (fun j => lag (col x0 j) 8) o) (hb : Rows vb (fun j => lag (col x1 j) 8) o) (hd : Rows vd (col x2) o)
    (ta : taps a0 a1 a2 = fun j k => x3 (ix2 k j)) (tb : taps b0 b1 b2 = fun j k => x4 (ix2 k j)) (ea : ab = x5) (eb : bb = x6) :
    Rows (k0_pay9 (k0_pay4 va ab a0 a1 a2) (k0_pay5 vb) (k0_pay6 vb) (k0_pay7 vb) bb b0 b1 b2 vd) (uA x0 x1 x2 x3 x4 x5 x6) o := by
  subst ea eb
  have := rows_pay9 (w0 := b0) (w1 := b1) (w2 := b2) (bb := bb) (rows_pay4 (bb := ab) (w0 := a0) (w1 := a1) (w2 := a2) ha) (rows_pay1 hb) (rows_pay2 hb) (rows_pay3 hb) hd
  rw [ta, tb] at this
  exact this

theorem chunk_B {o : ℕ} {va : Blk 72 256} {vd : Blk 64 256} {a0 a1 a2 ab : Blk 1 256}
    (ha : Rows va (fun j => lag (col x0 j) 8) o) (hd : Rows vd (col x2) o)
    (ta : taps a0 a1 a2 = fun j k => x3 (ix2 k j)) (ea : ab = x5) :
    Rows (k0_pay10 (k0_pay4 va ab a0 a1 a2) vd) (uB x0 x2 x3 x5) o := by
  subst ea
  have := rows_pay10 (rows_pay4 (bb := ab) (w0 := a0) (w1 := a1) (w2 := a2) ha) hd
  rw [ta] at this
  exact this

end Sequences

/-- An accumulator after the last `k` chunks. -/
def Acc (acc : Blk 8 256) (f : Cols) (k : ℕ) : Prop :=
  ∀ (r : Fin 8) (j : Fin 256), acc (ix2 r j) = ∑ p ∈ Finset.range k, fold (f j) (31 - p) r.val

theorem Acc.step {acc acc' : Blk 8 256} {f : Cols} {k q : ℕ} (h : Acc acc f k) (hq : q = 31 - k)
    (e : ∀ (r : Fin 8) (j : Fin 256), acc' (ix2 r j) = acc (ix2 r j) + fold (f j) q r.val) : Acc acc' f (k + 1) := fun r j => by
  rw [e, h, Finset.sum_range_succ, hq]

/-- What is carried. -/
abbrev Carry := FVec Ideal S8x256 .f32 × FVec Ideal S8x256 .f32 × FVec Ideal S8x256 .f32 × FVec Ideal S8x256 .f32 × FVec Ideal S8x256 .f32
  × FVec Ideal S8x256 .f32 × FVec Ideal S8x256 .f32 × FVec Ideal S8x256 .f32 × FVec Ideal S8x256 .f32 × FVec Ideal S8x256 .f32

/-- Before chunk `31 - k`: the first rows of the chunk after it, and the sums over the chunks after it. -/
structure Inv (x0 x1 x2 : Blk 2048 256) (x3 x4 : Blk 3 256) (x5 x6 : Blk 1 256) (k : ℕ) (s : Carry) : Prop where
  nextA : Rows s.1 (uA x0 x1 x2 x3 x4 x5 x6) (64 * (32 - k))
  nextB : Rows s.2.1 (uB x0 x2 x3 x5) (64 * (32 - k))
  w0a : Acc s.2.2.1 (fun j t => uA x0 x1 x2 x3 x4 x5 x6 j t * lag (col x0 j) 2 t) k
  w1a : Acc s.2.2.2.1 (fun j t => uA x0 x1 x2 x3 x4 x5 x6 j t * lag (col x0 j) 1 t) k
  w2a : Acc s.2.2.2.2.1 (fun j t => uA x0 x1 x2 x3 x4 x5 x6 j t * col x0 j t) k
  ba : Acc s.2.2.2.2.2.1 (uA x0 x1 x2 x3 x4 x5 x6) k
  w0b : Acc s.2.2.2.2.2.2.1 (fun j t => uB x0 x2 x3 x5 j t * lag (col x1 j) 2 t) k
  w1b : Acc s.2.2.2.2.2.2.2.1 (fun j t => uB x0 x2 x3 x5 j t * lag (col x1 j) 1 t) k
  w2b : Acc s.2.2.2.2.2.2.2.2.1 (fun j t => uB x0 x2 x3 x5 j t * col x1 j t) k
  bb : Acc s.2.2.2.2.2.2.2.2.2 (uB x0 x2 x3 x5) k

section Loads

variable {sg : RefSig} {κ : Kind} {sp : Space}

/-- A load of rows from row `o - 8` of a matrix. -/
theorem load_lag (v : View sg κ sp S2048x256 .f32) (X : v.ty.Contents (Elt Ideal)) {x : Blk 2048 256} (hX : v.read (Elt Ideal) X = x)
    (off : Fin 2 → ℕ) (inb) (o : ℕ) (ho : off = ![o - 8, 0]) (h8 : 8 ≤ o) (hm : o + 64 ≤ 2048) :
    Rows (n := 72) (v.readAt (Elt Ideal) (Rect.unit (s := S2048x256) off S72x256.size inb).toLoadRect X) (fun j => lag (col x j) 8) o := fun p j => by
  subst ho hX
  rw [View.readAt_eq_ld, View.ld_unit_apply_of _ _ _ _ _ (ix2 ⟨o - 8 + p.val, by omega⟩ j) (by intro a; fin_cases a <;> simp)]
  simp only [lag, col]
  rw [if_pos (by omega), dif_pos (by omega)]
  congr 2; apply Fin.ext; simp only; omega

/-- A load of rows from row `o`. -/
theorem load_rows (v : View sg κ sp S2048x256 .f32) (X : v.ty.Contents (Elt Ideal)) {x : Blk 2048 256} (hX : v.read (Elt Ideal) X = x)
    (off : Fin 2 → ℕ) (inb) (o : ℕ) (ho : off = ![o, 0]) (hm : o + 64 ≤ 2048) :
    Rows (n := 64) (v.readAt (Elt Ideal) (Rect.unit (s := S2048x256) off S64x256.size inb).toLoadRect X) (col x) o := fun p j => by
  subst ho hX
  rw [View.readAt_eq_ld, View.ld_unit_apply_of _ _ _ _ _ (ix2 ⟨o + p.val, by omega⟩ j) (by intro a; fin_cases a <;> simp)]
  simp only [col]
  rw [dif_pos (by omega)]

/-- The loads of the three taps. -/
theorem load_taps (v : View sg κ sp S3x256 .f32) (X : v.ty.Contents (Elt Ideal)) {x : Blk 3 256} (hX : v.read (Elt Ideal) X = x) (i0 i1 i2) :
    taps (v.readAt (Elt Ideal) (Rect.unit (s := S3x256) ![0, 0] S1x256.size i0).toLoadRect X)
      (v.readAt (Elt Ideal) (Rect.unit (s := S3x256) ![1, 0] S1x256.size i1).toLoadRect X)
      (v.readAt (Elt Ideal) (Rect.unit (s := S3x256) ![2, 0] S1x256.size i2).toLoadRect X) = fun j k => x (ix2 k j) := by
  subst hX
  funext j k
  fin_cases k
  · exact View.ld_unit_apply_of (v.read (Elt Ideal) X) ![0, 0] S1x256.size i0 (ix2 0 j) (ix2 0 j) (by intro a; fin_cases a <;> simp)
  · exact View.ld_unit_apply_of (v.read (Elt Ideal) X) ![1, 0] S1x256.size i1 (ix2 0 j) (ix2 1 j) (by intro a; fin_cases a <;> simp)
  · exact View.ld_unit_apply_of (v.read (Elt Ideal) X) ![2, 0] S1x256.size i2 (ix2 0 j) (ix2 2 j) (by intro a; fin_cases a <;> simp)

/-- The load of a row that is all there is. -/
theorem load_row (v : View sg κ sp S1x256 .f32) (X : v.ty.Contents (Elt Ideal)) {x : Blk 1 256} (hX : v.read (Elt Ideal) X = x) (i0) :
    (v.readAt (Elt Ideal) (Rect.unit (s := S1x256) ![0, 0] S1x256.size i0).toLoadRect X : Blk 1 256) = x := by
  subst hX
  funext y
  exact View.ld_unit_apply_of (v.read (Elt Ideal) X) ![0, 0] S1x256.size i0 y y (by intro a; fin_cases a <;> simp)

end Loads

theorem allAt_append {S : Shape} {e : EltTy} {L M : List (View.Piece (Elt Ideal) S e)} {y : S.Idx} {v : Elt Ideal e}
    (hL : View.AllAt L y v) (hM : View.AllAt M y v) : View.AllAt (L ++ M) y v := fun p hp =>
  (List.mem_append.mp hp).elim (hL p) (hM p)

section Start

variable {x0 x1 x2 : Blk 2048 256} {x3 x4 : Blk 3 256} {x5 x6 : Blk 1 256}

/-- A store of one chunk into one half. -/
theorem half_at {y : S2x2048x256.Idx} {off : Fin 3 → ℕ} {g o : ℕ} (ho : off = ![g, o, 0]) {v : FVec Ideal S1x64x256 .bf16}
    (h : ∀ (r : Fin 64) (j : Fin 256) (hg : g < 2) (hr : o + r.val < 2048), v (ix3 0 r j) = du x0 x1 x2 x3 x4 x5 x6 (ix3 ⟨g, hg⟩ ⟨o + r.val, hr⟩ j)) :
    View.TileAt (Val := Elt Ideal) (S := S2x2048x256) (e := .bf16) y off S1x64x256.size v (du x0 x1 x2 x3 x4 x5 x6 y) := fun z hz => by
  subst ho
  have a0 := hz 0
  have a1 := hz 1
  have a2 := hz 2
  have z0 : (z 0).val = 0 := Nat.lt_one_iff.mp (show (z 0).val < 1 from (z 0).isLt)
  simp [z0] at a0 a1 a2
  have ez : z = ix3 0 (z 1) (z 2) := by
    funext a; fin_cases a
    · exact Fin.ext z0
    · rfl
    · rfl
  rw [ez]
  refine (h (z 1) (z 2) (a0 ▸ (y 0).isLt) (a1 ▸ (y 1).isLt)).trans (congrArg (du x0 x1 x2 x3 x4 x5 x6) ?_)
  funext a; fin_cases a
  · exact Fin.ext a0.symm
  · exact Fin.ext a1.symm
  · exact Fin.ext a2.symm

theorem col_beyond (x : Blk 2048 256) (j : Fin 256) (t : ℕ) (h : 2048 ≤ t) : col x j t = 0 := dif_neg (by omega)

theorem inv_zero : Inv x0 x1 x2 x3 x4 x5 x6 0 (k0_pay30, k0_pay30, k0_pay30, k0_pay30, k0_pay30, k0_pay30, k0_pay30, k0_pay30, k0_pay30, k0_pay30) where
  nextA r j := by
    rw [show uA x0 x1 x2 x3 x4 x5 x6 j _ = 0 from by simp only [uA, gateA]; rw [col_beyond x2 j _ (by omega), zero_mul, zero_mul]]
    pointwise [k0_pay30]
  nextB r j := by
    rw [show uB x0 x2 x3 x5 j _ = 0 from by simp only [uB, gateB]; rw [col_beyond x2 j _ (by omega), zero_mul]]
    pointwise [k0_pay30]
  w0a r j := by pointwise [k0_pay30]; simp
  w1a r j := by pointwise [k0_pay30]; simp
  w2a r j := by pointwise [k0_pay30]; simp
  ba r j := by pointwise [k0_pay30]; simp
  w0b r j := by pointwise [k0_pay30]; simp
  w1b r j := by pointwise [k0_pay30]; simp
  w2b r j := by pointwise [k0_pay30]; simp
  bb r j := by pointwise [k0_pay30]; simp

end Start

section Loop

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2x2048x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole)
  {X1 : BufTy.Contents (Elt Ideal) arg1.view.ty} {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty}
  {x0 x1 x2 : Blk 2048 256} {x3 x4 : Blk 3 256} {x5 x6 : Blk 1 256}
  (h0 : arg1.view.read (Elt Ideal) X1 = x0) (h1 : arg2.view.read (Elt Ideal) X2 = x1) (h2 : arg3.view.read (Elt Ideal) X3 = x2) (h3 : arg4.view.read (Elt Ideal) X4 = x3) (h4 : arg5.view.read (Elt Ideal) X5 = x4) (h5 : arg6.view.read (Elt Ideal) X6 = x5) (h6 : arg7.view.read (Elt Ideal) X7 = x6)

include h0 h1 h2 h3 h4 h5 h6

theorem trip_inv (k : Fin k0_t1_loop.trips) (s : Carry) (hs : Inv x0 x1 x2 x3 x4 x5 x6 k.val s) :
    Inv x0 x1 x2 x3 x4 x5 x6 (k.val + 1) (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 k s) := by
  have hk : k.val < 31 := k.isLt
  have eo : 64 * (32 - (k.val + 1)) = 64 * (31 - k.val) := by omega
  have ha := load_lag arg1.view X1 h0 (k0_off1 k) (k0_off1_inb k) (64 * (31 - k.val)) ((k0_off1_eq k).trans (by congr 1; omega)) (by omega) (by omega)
  have hb := load_lag arg2.view X2 h1 (k0_off1 k) (k0_off1_inb k) (64 * (31 - k.val)) ((k0_off1_eq k).trans (by congr 1; omega)) (by omega) (by omega)
  have hd := load_rows arg3.view X3 h2 (k0_off2 k) (k0_off2_inb k) (64 * (31 - k.val)) ((k0_off2_eq k).trans (by congr 1; omega)) (by omega)
  have ta := load_taps arg4.view X4 h3 inb_S3x256_S1x256_0_0 inb_S3x256_S1x256_1_0 inb_S3x256_S1x256_2_0
  have tb := load_taps arg5.view X5 h4 inb_S3x256_S1x256_0_0 inb_S3x256_S1x256_1_0 inb_S3x256_S1x256_2_0
  have ea := load_row arg6.view X6 h5 inb_S1x256_S1x256_0_0
  have eb := load_row arg7.view X7 h6 inb_S1x256_S1x256_0_0
  have hA := chunk_A ha hb hd ta tb ea eb
  have hB := chunk_B ha hd ta ea
  unfold tripR_k0_t1 trip_k0_t1
  dsimp only
  sl_unfold_words
  exact {
    nextA := eo ▸ rows_pay29 hA
    nextB := eo ▸ rows_pay29 hB
    w0a := hs.w0a.step rfl (rows_pay15 hA (rows_pay3 ha) _)
    w1a := hs.w1a.step rfl (rows_pay15 hA (rows_pay2 ha) _)
    w2a := hs.w2a.step rfl (rows_pay15 hA (rows_pay1 ha) _)
    ba := hs.ba.step rfl (rows_pay21 hA _)
    w0b := hs.w0b.step rfl (rows_pay15 hB (rows_pay3 hb) _)
    w1b := hs.w1b.step rfl (rows_pay15 hB (rows_pay2 hb) _)
    w2b := hs.w2b.step rfl (rows_pay15 hB (rows_pay1 hb) _)
    bb := hs.bb.step rfl (rows_pay21 hB _) }

theorem trip_at (k : Fin k0_t1_loop.trips) (s : Carry) (hs : Inv x0 x1 x2 x3 x4 x5 x6 k.val s) (y : S2x2048x256.Idx) :
    View.AllAt (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7 k s) y (du x0 x1 x2 x3 x4 x5 x6 y) := by
  have hk : k.val < 31 := k.isLt
  have eo : 64 * (32 - k.val) = 64 * (31 - k.val) + 64 := by omega
  have ha := load_lag arg1.view X1 h0 (k0_off1 k) (k0_off1_inb k) (64 * (31 - k.val)) ((k0_off1_eq k).trans (by congr 1; omega)) (by omega) (by omega)
  have hb := load_lag arg2.view X2 h1 (k0_off1 k) (k0_off1_inb k) (64 * (31 - k.val)) ((k0_off1_eq k).trans (by congr 1; omega)) (by omega) (by omega)
  have hd := load_rows arg3.view X3 h2 (k0_off2 k) (k0_off2_inb k) (64 * (31 - k.val)) ((k0_off2_eq k).trans (by congr 1; omega)) (by omega)
  have ta := load_taps arg4.view X4 h3 inb_S3x256_S1x256_0_0 inb_S3x256_S1x256_1_0 inb_S3x256_S1x256_2_0
  have tb := load_taps arg5.view X5 h4 inb_S3x256_S1x256_0_0 inb_S3x256_S1x256_1_0 inb_S3x256_S1x256_2_0
  have ea := load_row arg6.view X6 h5 inb_S1x256_S1x256_0_0
  have eb := load_row arg7.view X7 h6 inb_S1x256_S1x256_0_0
  have hA := chunk_A ha hb hd ta tb ea eb
  have hB := chunk_B ha hd ta ea
  have o3 : k0_off3 k = ![0, 64 * (31 - k.val), 0] := (k0_off3_eq k).trans (by congr 2; omega)
  have o4 : k0_off4 k = ![1, 64 * (31 - k.val), 0] := (k0_off4_eq k).trans (by congr 2; omega)
  unfold tripL_k0_t1 trip_k0_t1
  dsimp only
  sl_unfold_words
  refine View.allAt_cons_unit (S := S2x2048x256) (Val := Elt Ideal) (e := .bf16) (k0_off4 k) S1x64x256.size (k0_off4_inb k) _ _ ?_
    (View.allAt_cons_unit (S := S2x2048x256) (Val := Elt Ideal) (e := .bf16) (k0_off3 k) S1x64x256.size (k0_off3_inb k) _ _ ?_ (View.allAt_nil _ _))
  · refine half_at o4 fun r j hg hr => (rows_pay22 hB (eo ▸ hs.nextB) r j).trans ?_
    rw [tb]; rfl
  · refine half_at o3 fun r j hg hr => (rows_pay22 hA (eo ▸ hs.nextA) r j).trans ?_
    rw [ta]; rfl

/-- What the loop has carried and stored after `k` trips. -/
theorem loop_inv (k : ℕ) (hk : k ≤ 31) :
    Inv x0 x1 x2 x3 x4 x5 x6 k (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7
      (k0_pay30, k0_pay30, k0_pay30, k0_pay30, k0_pay30, k0_pay30, k0_pay30, k0_pay30, k0_pay30, k0_pay30) k).1
    ∧ ∀ y, View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7
      (k0_pay30, k0_pay30, k0_pay30, k0_pay30, k0_pay30, k0_pay30, k0_pay30, k0_pay30, k0_pay30, k0_pay30) k).2 y (du x0 x1 x2 x3 x4 x5 x6 y) := by
  induction k with
  | zero => exact ⟨inv_zero, fun y => View.allAt_nil _ _⟩
  | succ k ih =>
    obtain ⟨hc, hp⟩ := ih (by omega)
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 X6 X7
      (k0_pay30, k0_pay30, k0_pay30, k0_pay30, k0_pay30, k0_pay30, k0_pay30, k0_pay30, k0_pay30, k0_pay30) ⟨k, hk⟩
    simp only at e
    rw [e]
    exact ⟨trip_inv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 h3 h4 h5 h6 ⟨k, hk⟩ _ hc, fun y =>
      allAt_append (trip_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h0 h1 h2 h3 h4 h5 h6 ⟨k, hk⟩ _ hc y) (hp y)⟩

end Loop

end Cert.Kernel4Ideal.Hand

end
-- ==== Proof.ConvOut.lean ====
module

public import proofs.«01_k».proof.Proof.ConvTrip

/-! What one step of the convolution's gradient leaves in its outputs: the chunks after the first are the loop's, the first one is done after it. -/

@[expose] public section

set_option maxRecDepth 16384

noncomputable section

open Idealize.ShloMosaic Idealize.ShloMosaic.TcCoe Idealize.SL.Sem Idealize.ShloMosaic.Tactic

namespace Cert.Kernel4Ideal.Hand

open Cert.Kernel4Ideal Cert.Kernel4Ideal.Gen Cert.Conv

/-- An accumulator after all the chunks, its rows added. -/
theorem Acc.total {acc : Blk 8 256} {f : Cols} (h : Acc acc f 32) (j : Fin 256) : k0_pay65 acc (ix2 0 j) = ∑ t : Fin 2048, f j t.val := by
  rw [pay65, ← sum_folds]
  exact Finset.sum_congr rfl fun r _ => h r j

/-- The sum of a column, and of its products with another column some rows later. -/
def total (u : Cols) (j : Fin 256) : EReal := ∑ t : Fin 2048, u j t.val
def inner (u x : Cols) (k : ℕ) (j : Fin 256) : EReal := ∑ t : Fin 2048, u j t.val * lag (x j) k t.val

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2x2048x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole)
  (x0 x1 x2 : Blk 2048 256) (x3 x4 : Blk 3 256) (x5 x6 : Blk 1 256)

/-- What a single store of a whole buffer leaves. -/
theorem read_whole {S : Shape} {e : EltTy} {v : View sig .tc .vmem S e} {X : v.ty.Contents (Elt Ideal)} {w : S.Idx → Elt Ideal e}
    {off : Fin S.rank → ℕ} {inb} (h : off = fun _ => 0) :
    v.read (Elt Ideal) (v.writes (Elt Ideal) X [⟨Rect.unit off S.size inb, w⟩]) = w := by
  rw [View.read_writes_eq_canon _ _ _ fun y => ⟨_, List.mem_singleton_self _, View.mem_set_unit_zero h inb y⟩, View.canon_unit_zero h]

theorem read_row {v : View sig .tc .vmem S1x256 .f32} {X : v.ty.Contents (Elt Ideal)} {w : Vec Ideal S1x256 .f32} {inb} (j : Fin 256) :
    v.read (Elt Ideal) (v.writes (Elt Ideal) X [⟨Rect.unit (s := S1x256) ![0, 0] S1x256.size inb, w⟩]) (ix2 0 j) = w (ix2 0 j) :=
  congrFun (read_whole (S := S1x256) (by funext a; fin_cases a <;> rfl)) _

set_option maxHeartbeats 4000000 in -- eight outputs, each a long term
/-- The sums over all the rows. -/
theorem totals (j : Fin 256) :
    (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 0 j) : EReal) = inner (uA x0 x1 x2 x3 x4 x5 x6) (col x0) 2 j
    ∧ (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 0 j) : EReal) = inner (uB x0 x2 x3 x5) (col x1) 2 j
    ∧ (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 0 j) : EReal) = inner (uA x0 x1 x2 x3 x4 x5 x6) (col x0) 1 j
    ∧ (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 0 j) : EReal) = inner (uB x0 x2 x3 x5) (col x1) 1 j
    ∧ (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 0 j) : EReal) = ∑ t : Fin 2048, uA x0 x1 x2 x3 x4 x5 x6 j t.val * col x0 j t.val
    ∧ (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 0 j) : EReal) = ∑ t : Fin 2048, uB x0 x2 x3 x5 j t.val * col x1 j t.val
    ∧ (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 0 j) : EReal) = total (uA x0 x1 x2 x3 x4 x5 x6) j
    ∧ (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 (ix2 0 j) : EReal) = total (uB x0 x2 x3 x5) j := by
  obtain ⟨hs, hp⟩ := loop_inv (x0 := x0) (x1 := x1) (x2 := x2) (x3 := x3) (x4 := x4) (x5 := x5) (x6 := x6) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    (harg1.read_unread (Val := Elt Ideal) x0) (harg2.read_unread (Val := Elt Ideal) x1) (harg3.read_unread (Val := Elt Ideal) x2) (harg4.read_unread (Val := Elt Ideal) x3) (harg5.read_unread (Val := Elt Ideal) x4) (harg6.read_unread (Val := Elt Ideal) x5) (harg7.read_unread (Val := Elt Ideal) x6) 31 le_rfl
  have ha := rows_pay32 (load_rows arg1.view _ (harg1.read_unread (Val := Elt Ideal) x0) ![0, 0] inb_S2048x256_S64x256_0_0 0 rfl (by decide))
  have hb := rows_pay32 (load_rows arg2.view _ (harg2.read_unread (Val := Elt Ideal) x1) ![0, 0] inb_S2048x256_S64x256_0_0 0 rfl (by decide))
  have hd := load_rows arg3.view _ (harg3.read_unread (Val := Elt Ideal) x2) ![0, 0] inb_S2048x256_S64x256_0_0 0 rfl (by decide)
  have ta := load_taps arg4.view _ (harg4.read_unread (Val := Elt Ideal) x3) inb_S3x256_S1x256_0_0 inb_S3x256_S1x256_1_0 inb_S3x256_S1x256_2_0
  have tb := load_taps arg5.view _ (harg5.read_unread (Val := Elt Ideal) x4) inb_S3x256_S1x256_0_0 inb_S3x256_S1x256_1_0 inb_S3x256_S1x256_2_0
  have ea := load_row arg6.view _ (harg6.read_unread (Val := Elt Ideal) x5) inb_S1x256_S1x256_0_0
  have eb := load_row arg7.view _ (harg7.read_unread (Val := Elt Ideal) x6) inb_S1x256_S1x256_0_0
  have hA := chunk_A ha hb hd ta tb ea eb
  have hB := chunk_B ha hd ta ea
  exact ⟨read_row j |>.trans <| (hs.w0a.step (q := 0) rfl (rows_pay15 (q := 0) hA (rows_pay3 ha) _)).total j,
    read_row j |>.trans <| (hs.w0b.step (q := 0) rfl (rows_pay15 (q := 0) hB (rows_pay3 hb) _)).total j,
    read_row j |>.trans <| (hs.w1a.step (q := 0) rfl (rows_pay15 (q := 0) hA (rows_pay2 ha) _)).total j,
    read_row j |>.trans <| (hs.w1b.step (q := 0) rfl (rows_pay15 (q := 0) hB (rows_pay2 hb) _)).total j,
    read_row j |>.trans <| (hs.w2a.step (q := 0) rfl (rows_pay15 (q := 0) hA (rows_pay1 ha) _)).total j,
    read_row j |>.trans <| (hs.w2b.step (q := 0) rfl (rows_pay15 (q := 0) hB (rows_pay1 hb) _)).total j,
    read_row j |>.trans <| (hs.ba.step (q := 0) rfl (rows_pay21 (q := 0) hA _)).total j,
    read_row j |>.trans <| (hs.bb.step (q := 0) rfl (rows_pay21 (q := 0) hB _)).total j⟩

/-- A block whose stores cover it and agree with one array reads back as that array. -/
theorem read_at {S : Shape} {e : EltTy} {v : View sig .tc .vmem S e} {X : v.ty.Contents (Elt Ideal)} {L : List (View.Piece (Elt Ideal) S e)}
    {G : S.Idx → Elt Ideal e} (hc : ∀ y, ∃ p ∈ L, y ∈ p.1.set) (h : ∀ y, View.AllAt L y (G y)) :
    v.read (Elt Ideal) (v.writes (Elt Ideal) X L) = G :=
  (View.read_writes_eq_canon _ _ _ hc).trans (funext fun y => View.canon_eq_of_allAt _ y _ (hc y) (h y))

/-- Every store into the block of input gradients writes the rows of `du` it stands at. -/
theorem pieces_at (y : S2x2048x256.Idx) : View.AllAt (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).1 y (du x0 x1 x2 x3 x4 x5 x6 y) := by
  obtain ⟨hs, hp⟩ := loop_inv (x0 := x0) (x1 := x1) (x2 := x2) (x3 := x3) (x4 := x4) (x5 := x5) (x6 := x6) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    (harg1.read_unread (Val := Elt Ideal) x0) (harg2.read_unread (Val := Elt Ideal) x1) (harg3.read_unread (Val := Elt Ideal) x2) (harg4.read_unread (Val := Elt Ideal) x3) (harg5.read_unread (Val := Elt Ideal) x4) (harg6.read_unread (Val := Elt Ideal) x5) (harg7.read_unread (Val := Elt Ideal) x6) 31 le_rfl
  have ha := rows_pay32 (load_rows arg1.view _ (harg1.read_unread (Val := Elt Ideal) x0) ![0, 0] inb_S2048x256_S64x256_0_0 0 rfl (by decide))
  have hb := rows_pay32 (load_rows arg2.view _ (harg2.read_unread (Val := Elt Ideal) x1) ![0, 0] inb_S2048x256_S64x256_0_0 0 rfl (by decide))
  have hd := load_rows arg3.view _ (harg3.read_unread (Val := Elt Ideal) x2) ![0, 0] inb_S2048x256_S64x256_0_0 0 rfl (by decide)
  have ta := load_taps arg4.view _ (harg4.read_unread (Val := Elt Ideal) x3) inb_S3x256_S1x256_0_0 inb_S3x256_S1x256_1_0 inb_S3x256_S1x256_2_0
  have tb := load_taps arg5.view _ (harg5.read_unread (Val := Elt Ideal) x4) inb_S3x256_S1x256_0_0 inb_S3x256_S1x256_1_0 inb_S3x256_S1x256_2_0
  have ea := load_row arg6.view _ (harg6.read_unread (Val := Elt Ideal) x5) inb_S1x256_S1x256_0_0
  have eb := load_row arg7.view _ (harg7.read_unread (Val := Elt Ideal) x6) inb_S1x256_S1x256_0_0
  have hA := chunk_A ha hb hd ta tb ea eb
  have hB := chunk_B ha hd ta ea
  unfold kernelRun0_A
  dsimp only
  sl_unfold_words
  refine View.allAt_cons_unit (S := S2x2048x256) (Val := Elt Ideal) (e := .bf16) ![1, 0, 0] S1x64x256.size inb_S2x2048x256_S1x64x256_1_0_0 _ _ ?_
    (View.allAt_cons_unit (S := S2x2048x256) (Val := Elt Ideal) (e := .bf16) ![0, 0, 0] S1x64x256.size inb_S2x2048x256_S1x64x256_0_0_0 _ _ ?_ ?_)
  · refine half_at (g := 1) (o := 0) rfl fun r j hg hr => (rows_pay22 hB hs.nextB r j).trans ?_
    rw [tb]; rfl
  · refine half_at (g := 0) (o := 0) rfl fun r j hg hr => (rows_pay22 hA hs.nextA r j).trans ?_
    rw [ta]; rfl
  · exact hp y

/-- The gradients of the two halves' inputs. -/
theorem halves : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = du x0 x1 x2 x3 x4 x5 x6 :=
  read_at (v := VO0_7) (X := VO0_7.junk) (cover0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6) (pieces_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6)

end Cert.Kernel4Ideal.Hand

end
-- ==== Proof.ConvKernel.lean ====
module

public import proofs.«01_k».proof.Proof.Gen.Kernel4Ideal.Value
public import proofs.«01_k».proof.Proof.ConvOut
public import Idealize.ShloMosaic.Lib.Pipeline.ValueKit

/-! What the kernel of the gradients of the gated convolution leaves in each of its outputs. -/

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Conv

variable (m : (ℓ : Loc nD τ sig) → Buf (Elt Ideal) ℓ) (c : Dev nD)

/-- The arguments, as the arrays they are. -/
abbrev xs : Blk 2048 11264 := m (c.tc.loc main_arg0)
abbrev ds : Blk 2048 5632 := m (c.tc.loc main_arg1)
abbrev ws : Blk 3 11264 := m (c.tc.loc main_arg2)
abbrev bs : Blk 1 11264 := m (c.tc.loc main_arg3)

theorem idx : ∀ t : Fin cfg0.N, win0_0.index t = ![0, t.val] ∧ win0_1.index t = ![0, t.val + 22] ∧ win0_2.index t = ![0, t.val]
    ∧ win0_3.index t = ![0, t.val] ∧ win0_4.index t = ![0, t.val + 22] ∧ win0_5.index t = ![0, t.val] ∧ win0_6.index t = ![0, t.val + 22]
    ∧ win0_7.index t = ![0, 0, t.val] ∧ win0_8.index t = ![0, t.val] ∧ win0_9.index t = ![0, t.val] ∧ win0_10.index t = ![0, t.val]
    ∧ win0_11.index t = ![0, t.val] ∧ win0_12.index t = ![0, t.val] ∧ win0_13.index t = ![0, t.val] ∧ win0_14.index t = ![0, t.val]
    ∧ win0_15.index t = ![0, t.val] ∧ t.val < 22 := (by decide +kernel : ∀ t : Fin grid0.N, _)

/-- Column `j` of block `t`. -/
abbrev colAt (t : Fin cfg0.N) (j : Fin 256) : Fin 5632 := ⟨t.val * 256 + j.val, by have := (idx t).2.2.2.2.2.2.2.2.2.2.2.2.2.2.2.2; omega⟩

/-- Columns `256 t` to `256 t + 255` of a half. -/
def colsOf {n : ℕ} (a : Blk n 5632) (t : Fin cfg0.N) : Blk n 256 := fun y => a (ix2 (y 0) (colAt t (y 1)))

/-- The right half starts at block 22. -/
theorem shift (t j : ℕ) : (t + 22) * 256 + j = 5632 + (t * 256 + j) := by omega

theorem blk0 (t) : iblk m c 0 t = colsOf (left (xs m c)) t := by funext y; blk_ext [iblk, V, idx t, colsOf, left]; rfl
theorem blk1 (t) : iblk m c 1 t = colsOf (right (xs m c)) t := by funext y; blk_ext [iblk, V, idx t, colsOf, right]; exact shift _ _
theorem blk2 (t) : iblk m c 2 t = colsOf (ds m c) t := by funext y; blk_ext [iblk, V, idx t, colsOf]
theorem blk3 (t) : iblk m c 3 t = colsOf (left (ws m c)) t := by funext y; blk_ext [iblk, V, idx t, colsOf, left]; rfl
theorem blk4 (t) : iblk m c 4 t = colsOf (right (ws m c)) t := by funext y; blk_ext [iblk, V, idx t, colsOf, right]; exact shift _ _
theorem blk5 (t) : iblk m c 5 t = colsOf (left (bs m c)) t := by funext y; blk_ext [iblk, V, idx t, colsOf, left]; rfl
theorem blk6 (t) : iblk m c 6 t = colsOf (right (bs m c)) t := by funext y; blk_ext [iblk, V, idx t, colsOf, right]; exact shift _ _

/-- Where the elements of a tile lie in the outputs. -/
theorem tile7 (a : FVec Ideal ⟨3, ![2, 2048, 5632]⟩ .bf16) (t : Fin cfg0.N) (y : ((cfg0.win 7).xblock (cfg0.grid.coords t)).Idx) :
    a ((win0_7.blk t).view.emb y) = a (ix3 (y 0) (y 1) (colAt t (y 2))) := by
  blk_ext [idx t]
theorem tile8 (a : Blk 1 5632) (t : Fin cfg0.N) (y : ((cfg0.win 8).xblock (cfg0.grid.coords t)).Idx) :
    a ((win0_8.blk t).view.emb y) = a (ix2 0 (colAt t (y 1))) := by
  blk_ext [idx t]
theorem tile9 (a : Blk 1 5632) (t : Fin cfg0.N) (y : ((cfg0.win 9).xblock (cfg0.grid.coords t)).Idx) :
    a ((win0_9.blk t).view.emb y) = a (ix2 0 (colAt t (y 1))) := by
  blk_ext [idx t]
theorem tile10 (a : Blk 1 5632) (t : Fin cfg0.N) (y : ((cfg0.win 10).xblock (cfg0.grid.coords t)).Idx) :
    a ((win0_10.blk t).view.emb y) = a (ix2 0 (colAt t (y 1))) := by
  blk_ext [idx t]
theorem tile11 (a : Blk 1 5632) (t : Fin cfg0.N) (y : ((cfg0.win 11).xblock (cfg0.grid.coords t)).Idx) :
    a ((win0_11.blk t).view.emb y) = a (ix2 0 (colAt t (y 1))) := by
  blk_ext [idx t]
theorem tile12 (a : Blk 1 5632) (t : Fin cfg0.N) (y : ((cfg0.win 12).xblock (cfg0.grid.coords t)).Idx) :
    a ((win0_12.blk t).view.emb y) = a (ix2 0 (colAt t (y 1))) := by
  blk_ext [idx t]
theorem tile13 (a : Blk 1 5632) (t : Fin cfg0.N) (y : ((cfg0.win 13).xblock (cfg0.grid.coords t)).Idx) :
    a ((win0_13.blk t).view.emb y) = a (ix2 0 (colAt t (y 1))) := by
  blk_ext [idx t]
theorem tile14 (a : Blk 1 5632) (t : Fin cfg0.N) (y : ((cfg0.win 14).xblock (cfg0.grid.coords t)).Idx) :
    a ((win0_14.blk t).view.emb y) = a (ix2 0 (colAt t (y 1))) := by
  blk_ext [idx t]
theorem tile15 (a : Blk 1 5632) (t : Fin cfg0.N) (y : ((cfg0.win 15).xblock (cfg0.grid.coords t)).Idx) :
    a ((win0_15.blk t).view.emb y) = a (ix2 0 (colAt t (y 1))) := by
  blk_ext [idx t]

/-- The cotangents of the two halves, of the arguments. -/
abbrev uLeft : Fin 5632 → ℕ → EReal :=
  cotA (left (xs m c)) (right (xs m c)) (ds m c) (left (ws m c)) (right (ws m c)) (left (bs m c)) (right (bs m c))
abbrev uRight : Fin 5632 → ℕ → EReal := cotB (left (xs m c)) (ds m c) (left (ws m c)) (left (bs m c))

/-- An index of a row. -/
theorem at_zero (y : S1x256.Idx) : y = ix2 0 (y 1) := by
  rw [← ix2_eta y]
  congr 1
  exact Subsingleton.elim _ _

/-! The arrays after the last grid point. -/

theorem out7 (t) : (outsAt0 m c t).1 = du (iblk m c 0 t) (iblk m c 1 t) (iblk m c 2 t) (iblk m c 3 t) (iblk m c 4 t) (iblk m c 5 t) (iblk m c 6 t) := by
  dsimp only [outsAt0]
  rw [halves]

theorem du_cols (x y d : Blk 2048 5632) (k l : Blk 3 5632) (b e : Blk 1 5632) (t) (g r : ℕ) (hg : g < 2) (hr : r < 2048) (j : Fin 256) :
    du (colsOf x t) (colsOf y t) (colsOf d t) (colsOf k t) (colsOf l t) (colsOf b t) (colsOf e t) (ix3 ⟨g, hg⟩ ⟨r, hr⟩ j)
      = inputs x y d k l b e (ix3 ⟨g, hg⟩ ⟨r, hr⟩ (colAt t j)) := rfl

theorem final7 : (dats m 0 c).arrAt 7 (cfgs 0).N
    = inputs (left (xs m c)) (right (xs m c)) (ds m c) (left (ws m c)) (right (ws m c)) (left (bs m c)) (right (bs m c)) := by
  refine (dats m 0 c).arrAt_eq_of_covers 7 _ (by decide +kernel) fun t hf y => ?_
  blk_simp
  rw [after0_7]
  refine Eq.trans ?_ (tile7 _ t y).symm
  rw [out7, blk0, blk1, blk2, blk3, blk4, blk5, blk6]
  exact du_cols _ _ _ _ _ _ _ t _ _ (y 0).isLt (y 1).isLt (y 2)

theorem final8 : (dats m 0 c).arrAt 8 (cfgs 0).N = tap (uLeft m c) (left (xs m c)) 2 := by
  refine (dats m 0 c).arrAt_eq_of_covers 8 _ (by decide +kernel) fun t hf y => ?_
  blk_simp
  rw [after0_8]
  refine Eq.trans ?_ (tile8 _ t y).symm
  unfold outsAt0
  rw [blk0, blk1, blk2, blk3, blk4, blk5, blk6, at_zero y]
  exact (totals c _ _ _ _ _ _ _ _ _ _ _ _ _ _ _ _ _ _ _ _ _ _ _ _ _ _ _ _ _ _ _ _ _ _ _ _ _ _ _ _ (y 1)).1

theorem final9 : (dats m 0 c).arrAt 9 (cfgs 0).N = tap (uRight m c) (right (xs m c)) 2 := by
  refine (dats m 0 c).arrAt_eq_of_covers 9 _ (by decide +kernel) fun t hf y => ?_
  blk_simp
  rw [after0_9]
  refine Eq.trans ?_ (tile9 _ t y).symm
  unfold outsAt0
  rw [blk0, blk1, blk2, blk3, blk4, blk5, blk6, at_zero y]
  exact (totals c _ _ _ _ _ _ _ _ _ _ _ _ _ _ _ _ _ _ _ _ _ _ _ _ _ _ _ _ _ _ _ _ _ _ _ _ _ _ _ _ (y 1)).2.1

theorem final10 : (dats m 0 c).arrAt 10 (cfgs 0).N = tap (uLeft m c) (left (xs m c)) 1 := by
  refine (dats m 0 c).arrAt_eq_of_covers 10 _ (by decide +kernel) fun t hf y => ?_
  blk_simp
  rw [after0_10]
  refine Eq.trans ?_ (tile10 _ t y).symm
  unfold outsAt0
  rw [blk0, blk1, blk2, blk3, blk4, blk5, blk6, at_zero y]
  exact (totals c _ _ _ _ _ _ _ _ _ _ _ _ _ _ _ _ _ _ _ _ _ _ _ _ _ _ _ _ _ _ _ _ _ _ _ _ _ _ _ _ (y 1)).2.2.1

theorem final11 : (dats m 0 c).arrAt 11 (cfgs 0).N = tap (uRight m c) (right (xs m c)) 1 := by
  refine (dats m 0 c).arrAt_eq_of_covers 11 _ (by decide +kernel) fun t hf y => ?_
  blk_simp
  rw [after0_11]
  refine Eq.trans ?_ (tile11 _ t y).symm
  unfold outsAt0
  rw [blk0, blk1, blk2, blk3, blk4, blk5, blk6, at_zero y]
  exact (totals c _ _ _ _ _ _ _ _ _ _ _ _ _ _ _ _ _ _ _ _ _ _ _ _ _ _ _ _ _ _ _ _ _ _ _ _ _ _ _ _ (y 1)).2.2.2.1

theorem final12 : (dats m 0 c).arrAt 12 (cfgs 0).N = tapNow (uLeft m c) (left (xs m c)) := by
  refine (dats m 0 c).arrAt_eq_of_covers 12 _ (by decide +kernel) fun t hf y => ?_
  blk_simp
  rw [after0_12]
  refine Eq.trans ?_ (tile12 _ t y).symm
  unfold outsAt0
  rw [blk0, blk1, blk2, blk3, blk4, blk5, blk6, at_zero y]
  exact (totals c _ _ _ _ _ _ _ _ _ _ _ _ _ _ _ _ _ _ _ _ _ _ _ _ _ _ _ _ _ _ _ _ _ _ _ _ _ _ _ _ (y 1)).2.2.2.2.1

theorem final13 : (dats m 0 c).arrAt 13 (cfgs 0).N = tapNow (uRight m c) (right (xs m c)) := by
  refine (dats m 0 c).arrAt_eq_of_covers 13 _ (by decide +kernel) fun t hf y => ?_
  blk_simp
  rw [after0_13]
  refine Eq.trans ?_ (tile13 _ t y).symm
  unfold outsAt0
  rw [blk0, blk1, blk2, blk3, blk4, blk5, blk6, at_zero y]
  exact (totals c _ _ _ _ _ _ _ _ _ _ _ _ _ _ _ _ _ _ _ _ _ _ _ _ _ _ _ _ _ _ _ _ _ _ _ _ _ _ _ _ (y 1)).2.2.2.2.2.1

theorem final14 : (dats m 0 c).arrAt 14 (cfgs 0).N = bias 2048 (uLeft m c) := by
  refine (dats m 0 c).arrAt_eq_of_covers 14 _ (by decide +kernel) fun t hf y => ?_
  blk_simp
  rw [after0_14]
  refine Eq.trans ?_ (tile14 _ t y).symm
  unfold outsAt0
  rw [blk0, blk1, blk2, blk3, blk4, blk5, blk6, at_zero y]
  exact (totals c _ _ _ _ _ _ _ _ _ _ _ _ _ _ _ _ _ _ _ _ _ _ _ _ _ _ _ _ _ _ _ _ _ _ _ _ _ _ _ _ (y 1)).2.2.2.2.2.2.1

theorem final15 : (dats m 0 c).arrAt 15 (cfgs 0).N = bias 2048 (uRight m c) := by
  refine (dats m 0 c).arrAt_eq_of_covers 15 _ (by decide +kernel) fun t hf y => ?_
  blk_simp
  rw [after0_15]
  refine Eq.trans ?_ (tile15 _ t y).symm
  unfold outsAt0
  rw [blk0, blk1, blk2, blk3, blk4, blk5, blk6, at_zero y]
  exact (totals c _ _ _ _ _ _ _ _ _ _ _ _ _ _ _ _ _ _ _ _ _ _ _ _ _ _ _ _ _ _ _ _ _ _ _ _ _ _ _ _ (y 1)).2.2.2.2.2.2.2

end Cert.Kernel4Ideal.Hand

end
-- ==== Proof.ConvRef.lean ====
module

public import proofs.«01_k».proof.Proof.Gen.Reference4Ideal.Run
public import proofs.«01_k».proof.Proof.ConvMath

/-! What the reference of the gradients of the gated convolution computes. -/

@[expose] public section

set_option maxRecDepth 16384

noncomputable section

open Idealize.ShloMosaic Idealize.ShloMosaic.TcCoe Idealize.SL.Sem

namespace Cert.Reference4Ideal.Hand

open Cert.Reference4Ideal Cert.Reference4Ideal.Gen Cert.Conv Cert.Reals

/-! The reference's arrays, by name: of the input `x`, the cotangent `d`, the taps `w` and the bias `b`. -/

/-- A row, spread over all the rows. -/
def spread (s : Blk 1 11264) : Blk 2048 11264 :=
  broadcastInDim S2048x11264 ![0, 1] bcast_S1x11264_S2048x11264_0_1 (broadcastInDim S1x11264 ![1] bcast_S11264_S1x11264_1 (shapeCast _ s shapeCasts_S1x11264_S11264))

/-- The input below two rows of zeros. -/
def padded (x : Blk 2048 11264) : Blk 2050 11264 :=
  concatenate S2050x11264 0 [⟨S2x11264, (broadcastInDim S2x11264 ![] bcast_S_S2x11264 (constant S_ .f32 0x00000000#32))⟩, ⟨S2048x11264, x⟩] concatenates_S2x11264_S2048x11264_S2050x11264_d0

def shift0 (x : Blk 2048 11264) : Blk 2048 11264 := extractStridedSlice S2048x11264 ![0, 0] (padded x) slices_S2050x11264_S2048x11264_0_0
def shift1 (x : Blk 2048 11264) : Blk 2048 11264 := extractStridedSlice S2048x11264 ![1, 0] (padded x) slices_S2050x11264_S2048x11264_1_0
def shift2 (x : Blk 2048 11264) : Blk 2048 11264 := extractStridedSlice S2048x11264 ![2, 0] (padded x) slices_S2050x11264_S2048x11264_2_0

def tap0 (w : Blk 3 11264) : Blk 2048 11264 := spread (extractStridedSlice S1x11264 ![0, 0] w slices_S3x11264_S1x11264_0_0)
def tap1 (w : Blk 3 11264) : Blk 2048 11264 := spread (extractStridedSlice S1x11264 ![1, 0] w slices_S3x11264_S1x11264_1_0)
def tap2 (w : Blk 3 11264) : Blk 2048 11264 := spread (extractStridedSlice S1x11264 ![2, 0] w slices_S3x11264_S1x11264_2_0)

/-- The convolution. -/
def up (x : Blk 2048 11264) (w : Blk 3 11264) (b : Blk 1 11264) : Blk 2048 11264 :=
  addf (addf (addf (addf (broadcastInDim S2048x11264 ![] bcast_S_S2048x11264 (constant S_ .f32 0x00000000#32)) (mulf (tap0 w) (shift0 x))) (mulf (tap1 w) (shift1 x))) (mulf (tap2 w) (shift2 x)))
    (broadcastInDim S2048x11264 ![0, 1] bcast_S1x11264_S2048x11264_0_1 b)

def upA (x : Blk 2048 11264) (w : Blk 3 11264) (b : Blk 1 11264) : Blk 2048 5632 := extractStridedSlice S2048x5632 ![0, 0] (up x w b) slices_S2048x11264_S2048x5632_0_0
def upB (x : Blk 2048 11264) (w : Blk 3 11264) (b : Blk 1 11264) : Blk 2048 5632 := extractStridedSlice S2048x5632 ![0, 5632] (up x w b) slices_S2048x11264_S2048x5632_0_5632

def one : Blk 2048 5632 := broadcastInDim S2048x5632 ![] bcast_S_S2048x5632 (constant S_ .f32 0x3F800000#32)
def sgm (a : Blk 2048 5632) : Blk 2048 5632 := Host.divf one (addf one (Host.exp (Host.negf a)))

/-- The gradient of the gate in its two inputs. -/
def gradA (a b d : Blk 2048 5632) : Blk 2048 5632 :=
  addf (mulf (mulf d b) (sgm a)) (mulf (mulf a (mulf d b)) (mulf (sgm a) (subf one (sgm a))))
def gradB (a d : Blk 2048 5632) : Blk 2048 5632 := mulf (mulf a (sgm a)) d

/-- The cotangent of the convolution, both halves. -/
def cot (x : Blk 2048 11264) (d : Blk 2048 5632) (w : Blk 3 11264) (b : Blk 1 11264) : Blk 2048 11264 :=
  concatenate S2048x11264 1 [⟨S2048x5632, gradA (upA x w b) (upB x w b) d⟩, ⟨S2048x5632, gradB (upA x w b) d⟩] concatenates_S2048x5632_S2048x5632_S2048x11264_d1

/-- The gradient of the input, of the convolution's cotangent `u`. -/
def inGrad (u : Blk 2048 11264) (w : Blk 3 11264) : FVec Ideal ⟨3, ![2, 2048, 5632]⟩ .bf16 :=
  truncf .bf16 (transpose S2x2048x5632 [1, 0, 2] (shapeCast _ (extractStridedSlice S2048x11264 ![2, 0] (addf (addf
    (pad S2050x11264 ![2, 0] ![0, 0] ![0, 0] (mulf (tap2 w) u) (constant S_ .f32 0x00000000#32) pads_S2048x11264_S2050x11264_200_000 h_S_)
    (pad S2050x11264 ![1, 0] ![1, 0] ![0, 0] (mulf (tap1 w) u) (constant S_ .f32 0x00000000#32) pads_S2048x11264_S2050x11264_110_000 h_S_))
    (pad S2050x11264 ![0, 0] ![2, 0] ![0, 0] (mulf (tap0 w) u) (constant S_ .f32 0x00000000#32) pads_S2048x11264_S2050x11264_020_000 h_S_)) slices_S2050x11264_S2048x11264_2_0) shapeCasts_S2048x11264_S2048x2x5632) transposes_S2048x2x5632_S2x2048x5632_1_0_2) bitsLt_bf16_f32

/-- A sum over the rows. -/
def rowSum (u : Blk 2048 11264) : FVec Ideal ⟨1, ![11264]⟩ .f32 := Host.reduceAdd u (constant S_ .f32 0x00000000#32) reducesTo_S2048x11264_S11264_d0 h_S_
def rowSum' (u : Blk 2048 11264) : Blk 1 11264 :=
  broadcastInDim S1x11264 ![1] bcast_S11264_S1x11264_1 (Host.reduceAdd (shapeCast _ (rowSum u) shapeCasts_S11264_S1x11264 : Blk 1 11264) (constant S_ .f32 0x00000000#32) reducesTo_S1x11264_S11264_d0 h_S_)

/-- The gradient of the taps. -/
def tapGrad (u x : Blk 2048 11264) : Blk 3 11264 :=
  addf (addf (pad S3x11264 ![2, 0] ![0, 0] ![0, 0] (rowSum' (mulf u (shift2 x))) (constant S_ .f32 0x00000000#32) pads_S1x11264_S3x11264_200_000 h_S_)
    (pad S3x11264 ![1, 0] ![1, 0] ![0, 0] (rowSum' (mulf u (shift1 x))) (constant S_ .f32 0x00000000#32) pads_S1x11264_S3x11264_110_000 h_S_))
    (pad S3x11264 ![0, 0] ![2, 0] ![0, 0] (rowSum' (mulf u (shift0 x))) (constant S_ .f32 0x00000000#32) pads_S1x11264_S3x11264_020_000 h_S_)
def tapGrad0 (u x : Blk 2048 11264) : Blk 1 11264 := extractStridedSlice S1x11264 ![0, 0] (tapGrad u x) slices_S3x11264_S1x11264_0_0
def tapGrad1 (u x : Blk 2048 11264) : Blk 1 11264 := extractStridedSlice S1x11264 ![1, 0] (tapGrad u x) slices_S3x11264_S1x11264_1_0
def tapGrad2 (u x : Blk 2048 11264) : Blk 1 11264 := extractStridedSlice S1x11264 ![2, 0] (tapGrad u x) slices_S3x11264_S1x11264_2_0
def biasGrad (u : Blk 2048 11264) : Blk 1 11264 := shapeCast _ (rowSum u) shapeCasts_S11264_S1x11264

def half0 (a : Blk 1 11264) : Blk 1 5632 := extractStridedSlice S1x5632 ![0, 0] a slices_S1x11264_S1x5632_0_0
def half1 (a : Blk 1 11264) : Blk 1 5632 := extractStridedSlice S1x5632 ![0, 5632] a slices_S1x11264_S1x5632_0_5632

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)) ∧ r.2.sem = fun _ => 0 :=
  (θ_run defs _ _).mono (fun r h => ⟨fun c => (h c).2.2.2.2.2.2.2.2.2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v83) = inGrad (cot (m (c.tc.loc main_arg0)) (m (c.tc.loc main_arg1)) (m (c.tc.loc main_arg2)) (m (c.tc.loc main_arg3))) (m (c.tc.loc main_arg2))
    ∧ r.2.mem (c.tc.loc main_v73) = half0 (tapGrad0 (cot (m (c.tc.loc main_arg0)) (m (c.tc.loc main_arg1)) (m (c.tc.loc main_arg2)) (m (c.tc.loc main_arg3))) (m (c.tc.loc main_arg0)))
    ∧ r.2.mem (c.tc.loc main_v74) = half1 (tapGrad0 (cot (m (c.tc.loc main_arg0)) (m (c.tc.loc main_arg1)) (m (c.tc.loc main_arg2)) (m (c.tc.loc main_arg3))) (m (c.tc.loc main_arg0)))
    ∧ r.2.mem (c.tc.loc main_v75) = half0 (tapGrad1 (cot (m (c.tc.loc main_arg0)) (m (c.tc.loc main_arg1)) (m (c.tc.loc main_arg2)) (m (c.tc.loc main_arg3))) (m (c.tc.loc main_arg0)))
    ∧ r.2.mem (c.tc.loc main_v76) = half1 (tapGrad1 (cot (m (c.tc.loc main_arg0)) (m (c.tc.loc main_arg1)) (m (c.tc.loc main_arg2)) (m (c.tc.loc main_arg3))) (m (c.tc.loc main_arg0)))
    ∧ r.2.mem (c.tc.loc main_v77) = half0 (tapGrad2 (cot (m (c.tc.loc main_arg0)) (m (c.tc.loc main_arg1)) (m (c.tc.loc main_arg2)) (m (c.tc.loc main_arg3))) (m (c.tc.loc main_arg0)))
    ∧ r.2.mem (c.tc.loc main_v78) = half1 (tapGrad2 (cot (m (c.tc.loc main_arg0)) (m (c.tc.loc main_arg1)) (m (c.tc.loc main_arg2)) (m (c.tc.loc main_arg3))) (m (c.tc.loc main_arg0)))
    ∧ r.2.mem (c.tc.loc main_v79) = half0 (biasGrad (cot (m (c.tc.loc main_arg0)) (m (c.tc.loc main_arg1)) (m (c.tc.loc main_arg2)) (m (c.tc.loc main_arg3))))
    ∧ r.2.mem (c.tc.loc main_v80) = half1 (biasGrad (cot (m (c.tc.loc main_arg0)) (m (c.tc.loc main_arg1)) (m (c.tc.loc main_arg2)) (m (c.tc.loc main_arg3))))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) := by
  refine (θ_run defs _ _).mono (fun r h c => ?_) (Value.run m ρ)
  obtain ⟨h0, h1, h2, h3, h4, h5, h6, h7, h8, h9⟩ := h c
  exact ⟨h0.trans rfl, h1.trans rfl, h2.trans rfl, h3.trans rfl, h4.trans rfl, h5.trans rfl, h6.trans rfl, h7.trans rfl, h8.trans rfl, h9⟩

/-! The arrays at an index. -/

theorem spread_at (s : Blk 1 11264) (t j) : spread s (ix2 t j) = s (ix2 0 j) := by pointwise [spread]

theorem padded_at (x : Blk 2048 11264) (t : Fin 2050) (j) : padded x (ix2 t j) = lag (col x j) 2 t.val := by
  have ht := t.isLt
  unfold lag col
  pointwise [padded]
  by_cases h : t.val < 2
  · rw [dif_pos h, if_neg (by omega)]
  · have h2 : 2 ≤ t.val := by omega
    have h3 : t.val - 2 < 2048 := by omega
    refine (dif_neg h).trans (Eq.trans ?_ (if_pos h2).symm)
    exact (dif_pos (c := t.val - 2 < 2048) (t := fun h => x (ix2 ⟨t.val - 2, h⟩ j)) (e := fun _ => 0) h3).symm

theorem shift0_at (x : Blk 2048 11264) (t j) : shift0 x (ix2 t j) = lag (col x j) 2 t.val := by
  rw [← padded_at x ⟨t.val, by omega⟩ j]; pointwise [shift0]
theorem shift1_at (x : Blk 2048 11264) (t j) : shift1 x (ix2 t j) = lag (col x j) 1 t.val := by
  refine Eq.trans (b := padded x (ix2 ⟨1 + t.val, by omega⟩ j)) (by pointwise [shift1]) ((padded_at _ _ _).trans ?_)
  unfold lag
  have e : 1 + t.val - 2 = t.val - 1 := by omega
  simp only [e]
  split_ifs <;> first | rfl | omega
theorem shift2_at (x : Blk 2048 11264) (t j) : shift2 x (ix2 t j) = col x j t.val := by
  refine Eq.trans (b := padded x (ix2 ⟨2 + t.val, by omega⟩ j)) (by pointwise [shift2]) ((padded_at _ _ _).trans ?_)
  unfold lag
  rw [if_pos (Nat.le_add_right 2 _), Nat.add_sub_cancel_left]

theorem tap0_at (w : Blk 3 11264) (t j) : tap0 w (ix2 t j) = w (ix2 0 j) := by unfold tap0; rw [spread_at]; pointwise []
theorem tap1_at (w : Blk 3 11264) (t j) : tap1 w (ix2 t j) = w (ix2 1 j) := by unfold tap1; rw [spread_at]; pointwise []
theorem tap2_at (w : Blk 3 11264) (t j) : tap2 w (ix2 t j) = w (ix2 2 j) := by unfold tap2; rw [spread_at]; pointwise []

theorem up_at (x w b t j) : up x w b (ix2 t j) = conv (fun q => w (ix2 q j)) (b (ix2 0 j)) (col x j) t.val := by
  have h : up x w b (ix2 t j) = tap0 w (ix2 t j) * shift0 x (ix2 t j) + tap1 w (ix2 t j) * shift1 x (ix2 t j)
      + tap2 w (ix2 t j) * shift2 x (ix2 t j) + b (ix2 0 j) := by pointwise [up]
  rw [h, tap0_at, tap1_at, tap2_at, shift0_at, shift1_at, shift2_at, add_comm _ (b _), ← add_assoc, ← add_assoc]
  rfl

/-- Column `j` of the first and of the second half. -/
abbrev colA (j : Fin 5632) : Fin 11264 := j.castLE (by decide)
abbrev colB (j : Fin 5632) : Fin 11264 := j.natAdd 5632

theorem upA_at (x w b t j) : upA x w b (ix2 t j) = halfConv (left x) (left w) (left b) j t.val :=
  (show upA x w b (ix2 t j) = up x w b (ix2 t (colA j)) by pointwise [upA]; rfl).trans (up_at x w b t _)
theorem upB_at (x w b t j) : upB x w b (ix2 t j) = halfConv (right x) (right w) (right b) j t.val :=
  (show upB x w b (ix2 t j) = up x w b (ix2 t (colB j)) by pointwise [upB]; rfl).trans (up_at x w b t _)

section
variable {x : Blk 2048 11264} {d : Blk 2048 5632} {w : Blk 3 11264} {b : Blk 1 11264}

theorem gradA_at (a e d : Blk 2048 5632) (t j) : gradA a e d (ix2 t j) = gateAuto (a (ix2 t j)) (e (ix2 t j)) (d (ix2 t j)) := by
  pointwise [gradA, sgm, one, gateAuto, sgAuto]
theorem gradB_at (a d : Blk 2048 5632) (t j) : gradB a d (ix2 t j) = gateB (a (ix2 t j)) (d (ix2 t j)) := by
  rw [gateB, ← sgAuto_eq, mul_comm]
  pointwise [gradB, sgm, one, sgAuto]

theorem cot_left (t j) : cot x d w b (ix2 t (colA j)) = gradA (upA x w b) (upB x w b) d (ix2 t j) := by
  pointwise [cot]
  exact dif_pos j.isLt
theorem cot_right (t j) : cot x d w b (ix2 t (colB j)) = gradB (upA x w b) d (ix2 t j) := by
  pointwise [cot]
  refine (dif_neg (Nat.not_lt.mpr (Nat.le_add_right 5632 _))).trans (congrArg _ (congrArg _ (Fin.ext ?_)))
  exact Nat.add_sub_cancel_left 5632 j.val

/-- Past the last row a column is zero. -/
theorem col_in {n w : ℕ} (a : Blk n w) (j : Fin w) (t : Fin n) : col a j t.val = a (ix2 t j) := dif_pos t.isLt
theorem col_out {n w : ℕ} (a : Blk n w) (j : Fin w) {t : ℕ} (h : ¬ t < n) : col a j t = 0 := dif_neg h

/-- The convolution's cotangent, half by half. -/
theorem cot_colA (hx : ∀ i, IsReal (x i)) (hd : ∀ i, IsReal (d i)) (hw : ∀ i, IsReal (w i)) (hb : ∀ i, IsReal (b i)) (j) :
    col (cot x d w b) (colA j) = cotA (left x) (right x) d (left w) (right w) (left b) (right b) j := by
  funext t
  by_cases h : t < 2048
  · refine (col_in _ _ ⟨t, h⟩).trans ?_
    rw [cot_left, gradA_at, upA_at, upB_at, ← col_in d j ⟨t, h⟩]
    exact gateAuto_eq (halfConv_real (fun _ => hx _) (fun _ => hw _) (fun _ => hb _) _ _) (halfConv_real (fun _ => hx _) (fun _ => hw _) (fun _ => hb _) _ _)
      (col_real hd _ _)
  · rw [col_out _ _ h, cotA, col_out _ _ h, gateA_zero]
theorem cot_colB (j) : col (cot x d w b) (colB j) = cotB (left x) d (left w) (left b) j := by
  funext t
  by_cases h : t < 2048
  · refine (col_in _ _ ⟨t, h⟩).trans ?_
    rw [cot_right, gradB_at, upA_at, ← col_in d j ⟨t, h⟩]
    rfl
  · rw [col_out _ _ h, cotB, col_out _ _ h, gateB_zero]

end

/-! The results at an index, of any cotangent `u` of the convolution. -/

theorem inGrad_at (u w g t) (j : Fin 5632) (J : Fin 11264) (hJ : J.val = g.val * 5632 + j.val) :
    inGrad u w (ix3 g t j) = back (fun q => w (ix2 q J)) (col u J) t.val := by
  have hg := g.isLt
  have hj := j.isLt
  have ht := t.isLt
  have hb : g.val * 5632 + j.val < 11264 := by clear hJ; omega
  obtain rfl : J = ⟨g.val * 5632 + j.val, hb⟩ := Fin.ext hJ
  unfold back col
  pointwise [inGrad]
  simp only [tap0_at, tap1_at, tap2_at]
  have e1 : 2 + t.val - 1 = t.val + 1 := by omega
  have e2 : 2 + t.val = t.val + 2 := by omega
  have hJ' : g.val * 5632 + j.val < 11264 := by omega
  simp only [e1, e2, hJ', ht, and_true, dite_true]
  congr 1
  · congr 1
    split_ifs <;> first | rfl | omega | exact (mul_zero _).symm
  · split_ifs <;> first | rfl | omega | exact (mul_zero _).symm

theorem tapGrad0_at (u x) (j : Fin 11264) : tapGrad0 u x (ix2 0 j) = ∑ t : Fin 2048, col u j t.val * lag (col x j) 2 t.val := by
  simp only [← shift0_at, col_in]
  pointwise [tapGrad0, tapGrad, rowSum', rowSum, Finset.univ_unique, Finset.sum_singleton]
theorem tapGrad1_at (u x) (j : Fin 11264) : tapGrad1 u x (ix2 0 j) = ∑ t : Fin 2048, col u j t.val * lag (col x j) 1 t.val := by
  simp only [← shift1_at, col_in]
  pointwise [tapGrad1, tapGrad, rowSum', rowSum, Finset.univ_unique, Finset.sum_singleton]
theorem tapGrad2_at (u x) (j : Fin 11264) : tapGrad2 u x (ix2 0 j) = ∑ t : Fin 2048, col u j t.val * col x j t.val := by
  simp only [← shift2_at x, col_in]
  pointwise [tapGrad2, tapGrad, rowSum', rowSum, Finset.univ_unique, Finset.sum_singleton]
theorem biasGrad_at (u) (j : Fin 11264) : biasGrad u (ix2 0 j) = ∑ t : Fin 2048, col u j t.val := by
  simp only [col_in]
  pointwise [biasGrad, rowSum]

/-- Arrays with the same entries are the same. -/
theorem row_ext {a b : Blk 1 5632} (h : ∀ j, a (ix2 0 j) = b (ix2 0 j)) : a = b := by
  funext i
  have e : i = ix2 0 (i 1) := by
    rw [← ix2_eta i]
    congr 1
    exact Subsingleton.elim _ _
  rw [e]
  exact h _
theorem box_ext {a b : FVec Ideal ⟨3, ![2, 2048, 5632]⟩ .bf16} (h : ∀ g t j, a (ix3 g t j) = b (ix3 g t j)) : a = b := by
  funext i
  rw [← ix3_eta i]
  exact h _ _ _

theorem half0_at (a) (j : Fin 5632) : half0 a (ix2 0 j) = a (ix2 0 (colA j)) := by pointwise [half0]; rfl
theorem half1_at (a) (j : Fin 5632) : half1 a (ix2 0 j) = a (ix2 0 (colB j)) := by pointwise [half1]; rfl

end Cert.Reference4Ideal.Hand

end
-- ==== Proof.Conv.lean ====
module

public import proofs.«01_k».proof.Defs
public import proofs.«01_k».proof.Proof.ConvKernel
public import proofs.«01_k».proof.Proof.ConvRef
public import Idealize.ShloMosaic.Lib.Affine

/-! The gradients of the gated convolution: the kernel's results are the reference's. -/

@[expose] public section

set_option maxRecDepth 16384

noncomputable section

open Idealize.ShloMosaic Idealize.ShloMosaic.TcCoe Idealize.SL.Sem

namespace Cert.Conv

open Cert.Reals Cert.Reference4Ideal.Hand

instance preFacts : Cert.Pre_finite_conv.Facts where
  bcast_S_S2048x11264 := by decide
  reducesTo_S2048x11264_S_d0_1 := by decide
  h_S_ := by decide
  bcast_S_S2048x5632 := by decide
  reducesTo_S2048x5632_S_d0_1 := by decide
  bcast_S_S3x11264 := by decide
  reducesTo_S3x11264_S_d0_1 := by decide
  bcast_S_S1x11264 := by decide
  reducesTo_S1x11264_S_d0_1 := by decide

variable {x : Blk 2048 11264} {d : Blk 2048 5632} {w : Blk 3 11264} {b : Blk 1 11264}

/-- The precondition says the arrays are real. -/
theorem real_of_pre (hp : Cert.Pre_finite_conv.fn (F := Ideal) x d w b = fun _ => 1#1) :
    AllReal x ∧ AllReal d ∧ AllReal w ∧ AllReal b := by
  have h0 := congrFun hp (fun k => k.elim0)
  simp only [Cert.Pre_finite_conv.fn, Cert.Pre_finite_conv.fn_part1] at h0
  obtain ⟨h1, hb⟩ := IntOp.andi_eq_one.mp h0
  obtain ⟨h2, hw⟩ := IntOp.andi_eq_one.mp h1
  obtain ⟨hx, hd⟩ := IntOp.andi_eq_one.mp h2
  exact ⟨real_of_all _ _ _ _ _ hx, real_of_all _ _ _ _ _ hd, real_of_all _ _ _ _ _ hw, real_of_all _ _ _ _ _ hb⟩

section
variable (hx : AllReal x) (hd : AllReal d) (hw : AllReal w) (hb : AllReal b)
include hx hd hw hb

/-- The reference's gradient of the input. -/
theorem ref_inputs : inGrad (cot x d w b) w = inputs (left x) (right x) d (left w) (right w) (left b) (right b) := by
  refine box_ext fun g t j => ?_
  by_cases h : g.val = 0
  · refine (inGrad_at _ _ g t j (colA j) ?_).trans ?_
    · rw [h, Nat.zero_mul, Nat.zero_add]; rfl
    · rw [cot_colA hx hd hw hb]
      exact (if_pos h).symm
  · have h1 : g.val = 1 := by omega
    refine (inGrad_at _ _ g t j (colB j) ?_).trans ?_
    · rw [h1, Nat.one_mul]; rfl
    · rw [cot_colB]
      exact (if_neg h).symm

/-- The reference's gradients of the taps and of the biases. -/
theorem ref_tap0A : half0 (tapGrad0 (cot x d w b) x) = tap (cotA (left x) (right x) d (left w) (right w) (left b) (right b)) (left x) 2 := by
  refine row_ext fun j => ?_; rw [half0_at, tapGrad0_at, cot_colA hx hd hw hb]; rfl
theorem ref_tap0B : half1 (tapGrad0 (cot x d w b) x) = tap (cotB (left x) d (left w) (left b)) (right x) 2 := by
  refine row_ext fun j => ?_; rw [half1_at, tapGrad0_at, cot_colB]; rfl
theorem ref_tap1A : half0 (tapGrad1 (cot x d w b) x) = tap (cotA (left x) (right x) d (left w) (right w) (left b) (right b)) (left x) 1 := by
  refine row_ext fun j => ?_; rw [half0_at, tapGrad1_at, cot_colA hx hd hw hb]; rfl
theorem ref_tap1B : half1 (tapGrad1 (cot x d w b) x) = tap (cotB (left x) d (left w) (left b)) (right x) 1 := by
  refine row_ext fun j => ?_; rw [half1_at, tapGrad1_at, cot_colB]; rfl
theorem ref_tap2A : half0 (tapGrad2 (cot x d w b) x) = tapNow (cotA (left x) (right x) d (left w) (right w) (left b) (right b)) (left x) := by
  refine row_ext fun j => ?_; rw [half0_at, tapGrad2_at, cot_colA hx hd hw hb]; rfl
theorem ref_tap2B : half1 (tapGrad2 (cot x d w b) x) = tapNow (cotB (left x) d (left w) (left b)) (right x) := by
  refine row_ext fun j => ?_; rw [half1_at, tapGrad2_at, cot_colB]; rfl
theorem ref_biasA : half0 (biasGrad (cot x d w b)) = bias 2048 (cotA (left x) (right x) d (left w) (right w) (left b) (right b)) := by
  refine row_ext fun j => ?_; rw [half0_at, biasGrad_at, cot_colA hx hd hw hb]; rfl
theorem ref_biasB : half1 (biasGrad (cot x d w b)) = bias 2048 (cotB (left x) d (left w) (left b)) := by
  refine row_ext fun j => ?_; rw [half1_at, biasGrad_at, cot_colB]; rfl

end

theorem alg : Cert.algebraic_Kernel4Ideal_Reference4Ideal_pre_finite_conv
    (hKernel4Ideal := Cert.Kernel4Ideal.Gen.facts) (hReference4Ideal := Cert.Reference4Ideal.Gen.facts) (hPre_finite_conv := preFacts) := by
  pair_intro
  · run_from Cert.Kernel4Ideal.Value.run_blocks m g
  · run_from Cert.Reference4Ideal.Hand.run m' g'
    · obtain ⟨hx, hd, hw, hb⟩ := real_of_pre (hpre c)
      exact (ref_inputs hx hd hw hb).trans (Cert.Kernel4Ideal.Hand.final7 m c).symm
    · obtain ⟨hx, hd, hw, hb⟩ := real_of_pre (hpre c)
      exact (ref_tap0A hx hd hw hb).trans (Cert.Kernel4Ideal.Hand.final8 m c).symm
    · obtain ⟨hx, hd, hw, hb⟩ := real_of_pre (hpre c)
      exact (ref_tap0B hx hd hw hb).trans (Cert.Kernel4Ideal.Hand.final9 m c).symm
    · obtain ⟨hx, hd, hw, hb⟩ := real_of_pre (hpre c)
      exact (ref_tap1A hx hd hw hb).trans (Cert.Kernel4Ideal.Hand.final10 m c).symm
    · obtain ⟨hx, hd, hw, hb⟩ := real_of_pre (hpre c)
      exact (ref_tap1B hx hd hw hb).trans (Cert.Kernel4Ideal.Hand.final11 m c).symm
    · obtain ⟨hx, hd, hw, hb⟩ := real_of_pre (hpre c)
      exact (ref_tap2A hx hd hw hb).trans (Cert.Kernel4Ideal.Hand.final12 m c).symm
    · obtain ⟨hx, hd, hw, hb⟩ := real_of_pre (hpre c)
      exact (ref_tap2B hx hd hw hb).trans (Cert.Kernel4Ideal.Hand.final13 m c).symm
    · obtain ⟨hx, hd, hw, hb⟩ := real_of_pre (hpre c)
      exact (ref_biasA hx hd hw hb).trans (Cert.Kernel4Ideal.Hand.final14 m c).symm
    · obtain ⟨hx, hd, hw, hb⟩ := real_of_pre (hpre c)
      exact (ref_biasB hx hd hw hb).trans (Cert.Kernel4Ideal.Hand.final15 m c).symm

end Cert.Conv

end
-- ==== Proof.SguMath.lean ====
module

public import proofs.«01_k».proof.Proof.ConvMath

/-! The gradient of the spatial gating unit, as functions of one chunk of 128 rows: the gate `u` and the gated value `v` go through the tanh form
of gelu, `v` is normalised by rows and mixed along the rows by one matrix per head, and the product is returned. -/

@[expose] public section

noncomputable section

open Idealize.ShloMosaic Cert.Reals

namespace Cert.Sgu

abbrev Blk (n w : ℕ) := FVec Ideal ⟨2, ![n, w]⟩ .f32
abbrev Row := Fin 1024 → EReal

/-- The constants as their words stand for them; the two cubic ones are exact. -/
abbrev hf : EReal := Ideal.ofBits .f32 0x3F000000#32
abbrev ct : EReal := Ideal.ofBits .f32 0x3F4C422A#32
abbrev len : EReal := Ideal.ofBits .f32 0x44800000#32
abbrev small : EReal := Ideal.ofBits .f32 0x358637BD#32
def cub : EReal := ((8943 / 200000 : ℝ) : EReal)
def cub3 : EReal := ((26829 / 200000 : ℝ) : EReal)

/-- Gelu and its derivative, as the kernel writes them. -/
def th (x : EReal) : EReal := Ideal.tanh (ct * (x + cub * (x * x * x)))
def gl (x : EReal) : EReal := hf * x * (1 + th x)
def gd (x : EReal) : EReal := hf * (1 + th x) + hf * x * (1 - th x * th x) * (ct * (1 + cub3 * x * x))

/-- The norm of a row, and its gradient as the kernel writes it. -/
def mean (x : Row) : EReal := Ideal.div (∑ k, x k) len
def ctr (x : Row) (k : Fin 1024) : EReal := x k - mean x
def rstd (x : Row) : EReal := Ideal.rsqrt (Ideal.div (∑ k, ctr x k * ctr x k) len + small)
def unit (x : Row) (k : Fin 1024) : EReal := ctr x k * rstd x
def back (u x : Row) (k : Fin 1024) : EReal := rstd x * (u k - mean u - unit x k * mean fun l => u l * unit x l)

/-- Column `d` of head `h`. -/
abbrev at' (h : Fin 8) (d : Fin 128) : Fin 1024 := ⟨h.val * 128 + d.val, by omega⟩

/-- One chunk: the gate's and the value's inputs, the cotangent, the norm's weight and bias, the heads' matrices and biases. -/
structure Chunk where
  u : Fin 128 → Row
  v : Fin 128 → Row
  y : Fin 128 → Row
  g : Row
  b : Row
  w : Fin 8 → Fin 128 → Fin 128 → EReal
  s : Fin 8 → Fin 128 → EReal

namespace Chunk

variable (D : Chunk)

def row (i : Fin 128) (k : Fin 1024) : EReal := unit (fun l => gl (D.v i l)) k
def val (i : Fin 128) (k : Fin 1024) : EReal := D.row i k * D.g k + D.b k
def mix (h : Fin 8) (i d : Fin 128) : EReal := ∑ j, D.w h i j * D.val j (at' h d) + D.s h i
def dm (h : Fin 8) (i d : Fin 128) : EReal := D.y i (at' h d) * gl (D.u i (at' h d))
def dv (h : Fin 8) (j d : Fin 128) : EReal := ∑ i, D.w h i j * D.dm h i d
/-- The cotangent of the normalised value, by columns. -/
def dvc (j : Fin 128) (k : Fin 1024) : EReal := D.dv ⟨k.val / 128, by omega⟩ j ⟨k.val % 128, by omega⟩
def dlg (k : Fin 1024) : EReal := ∑ i, D.dvc i k * D.row i k
def dlb (k : Fin 1024) : EReal := ∑ i, D.dvc i k
def dwm (h : Fin 8) (i j : Fin 128) : EReal := ∑ d, D.dm h i d * D.val j (at' h d)
def dbs (h : Fin 8) (i : Fin 128) : EReal := ∑ d, D.dm h i d
def du (h : Fin 8) (i d : Fin 128) : EReal := D.y i (at' h d) * D.mix h i d * gd (D.u i (at' h d))
def duc (i : Fin 128) (k : Fin 1024) : EReal := D.du ⟨k.val / 128, by omega⟩ i ⟨k.val % 128, by omega⟩
def dzv (i : Fin 128) (k : Fin 1024) : EReal := back (fun l => D.dvc i l * D.g l) (fun l => gl (D.v i l)) k * gd (D.v i k)

end Chunk

/-! The same as automatic differentiation writes it. -/

/-- The cotangent through gelu's tanh. -/
def thAuto (x c : EReal) : EReal := ct * (hf * (x * c) * ((1 + th x) * (1 - th x)))
def geluAuto (k x c : EReal) : EReal := c * (hf * (1 + th x)) + thAuto x c + k * thAuto x c * (Ideal.ofBits .f32 0x40400000#32 * (x * x))

/-- The cotangent of each square. -/
def sqAuto (u x : Row) : EReal :=
  Ideal.div ((∑ k, ctr x k * u k) * (Ideal.ofBits .f32 0xBF000000#32 * Ideal.div (rstd x) (Ideal.div (∑ k, ctr x k * ctr x k) len + small))) len
def midAuto (u x : Row) (k : Fin 1024) : EReal := u k * rstd x + ctr x k * sqAuto u x + sqAuto u x * ctr x k
def backAuto (u x : Row) (k : Fin 1024) : EReal := midAuto u x k + Ideal.div (∑ l, -midAuto u x l) len

/-- The gradients of the gate's and the value's inputs in these forms. -/
def Chunk.ducAuto (D : Chunk) (i : Fin 128) (k : Fin 1024) : EReal :=
  geluAuto cub (D.u i k) (D.y i k * D.mix ⟨k.val / 128, by omega⟩ i ⟨k.val % 128, by omega⟩)
def Chunk.dzvAuto (D : Chunk) (i : Fin 128) (k : Fin 1024) : EReal :=
  geluAuto cub (D.v i k) (backAuto (fun l => D.dvc i l * D.g l) (fun l => gl (D.v i l)) k)

theorem ofBits_three : Ideal.ofBits .f32 0x40400000#32 = ((3 : ℝ) : EReal) := by
  rw [ofBits_normal 0x40400000#32 false 128 4194304 (by decide) (by decide) (by decide) (by decide) (by decide)]
  norm_num

theorem ofBits_ct : ∃ c : ℝ, ct = (c : EReal) := by
  refine ⟨_, ofBits_normal 0x3F4C422A#32 false 126 4997674 (by decide) (by decide) (by decide) (by decide) (by decide)⟩

theorem tanh_real (x : ℝ) : Ideal.tanh (x : EReal) = ((Real.tanh x : ℝ) : EReal) := rfl

theorem th_real (x : ℝ) : ∃ t : ℝ, th (x : EReal) = (t : EReal) := by
  obtain ⟨c, hc⟩ := ofBits_ct
  unfold th cub
  rw [hc]
  exact ⟨Real.tanh (c * (x + 8943 / 200000 * (x * x * x))), by rw [← tanh_real]; norm_cast⟩

theorem gl_real {x : EReal} (hx : IsReal x) : IsReal (gl x) := by
  obtain ⟨a, rfl⟩ := hx.exists
  obtain ⟨t, ht⟩ := th_real a
  unfold gl
  rw [ht]
  rw [hf, ofBits_half]
  exact ((IsReal.coe _).mul (.coe a)).mul (IsReal.one.add (.coe t))

/-- The two forms of gelu are one. -/
theorem gl_auto (x : EReal) : x * (hf * (1 + th x)) = gl x := by
  unfold gl
  rw [← mul_assoc, mul_comm x hf]

/-- On reals the derivatives agree. -/
theorem gd_auto {x c : EReal} (hx : IsReal x) (hc : IsReal c) : geluAuto cub x c = c * gd x := by
  obtain ⟨a, rfl⟩ := hx.exists
  obtain ⟨b, rfl⟩ := hc.exists
  obtain ⟨t, ht⟩ := th_real a
  obtain ⟨e, he⟩ := ofBits_ct
  unfold geluAuto gd thAuto cub cub3
  rw [ht, he, ofBits_three, hf, ofBits_half]
  norm_cast
  ring

theorem back_auto {u x : Row} (hu : AllReal u) (hx : AllReal x) (k : Fin 1024) : backAuto u x k = back u x k := by
  choose u' hu' using fun l => (hu l).exists
  choose x' hx' using fun l => (hx l).exists
  obtain rfl : u = fun l => (u' l : EReal) := funext hu'
  obtain rfl : x = fun l => (x' l : EReal) := funext hx'
  set M : ℝ := (∑ l, x' l) / 1024 with hM
  have hc : ∀ l, ctr (fun l => (x' l : EReal)) l = ((x' l - M : ℝ) : EReal) := fun l => by
    unfold ctr mean
    rw [coe_sum, len, ofBits_1024, div_real _ (by norm_num), ← EReal.coe_sub]
  have hs : ∑ l, (x' l - M) = 0 := by
    rw [Finset.sum_sub_distrib, Finset.sum_const, Finset.card_univ, Fintype.card_fin, hM]
    simp only [nsmul_eq_mul]
    push_cast
    ring
  obtain ⟨a, ha⟩ : ∃ a : Fin 1024 → ℝ, ∀ l, x' l - M = a l := ⟨_, fun _ => rfl⟩
  have hc' : ∀ l, ctr (fun l => (x' l : EReal)) l = (a l : EReal) := fun l => by rw [hc, ← ha]
  have hs' : ∑ l, a l = 0 := by simpa only [ha] using hs
  have hv0 : 0 < (∑ l, a l * a l) / 1024 + eps := by
    have := Finset.sum_nonneg fun (i : Fin 1024) (_ : i ∈ Finset.univ) => mul_self_nonneg (a i)
    have := eps_pos
    positivity
  have hv : Ideal.div (∑ l, ctr (fun l => (x' l : EReal)) l * ctr (fun l => (x' l : EReal)) l) len + small
      = (((∑ l, a l * a l) / 1024 + eps : ℝ) : EReal) := by
    simp only [hc', ← EReal.coe_mul, coe_sum]
    rw [len, ofBits_1024, div_real _ (by norm_num), small, ofBits_eps, ← EReal.coe_add]
  generalize (∑ l, a l * a l) / 1024 + eps = v at hv hv0
  have h3 : Real.sqrt v ≠ 0 := (Real.sqrt_pos.mpr hv0).ne'
  have hr : rstd (fun l => (x' l : EReal)) = (((Real.sqrt v)⁻¹ : ℝ) : EReal) := by unfold rstd; rw [hv, rsqrt_real hv0]
  have hq : sqAuto (fun l => (u' l : EReal)) (fun l => (x' l : EReal)) = (((∑ l, a l * u' l) * (-(1 / 2) * ((Real.sqrt v)⁻¹ ^ 3)) / 1024 : ℝ) : EReal) := by
    have h4 : (Real.sqrt v)⁻¹ / v = (Real.sqrt v)⁻¹ ^ 3 := by
      have h2 : v = Real.sqrt v ^ 2 := (Real.sq_sqrt hv0.le).symm
      rw [div_eq_iff hv0.ne']
      nth_rw 3 [h2]
      field_simp
    unfold sqAuto
    rw [hv, hr, div_real _ hv0.ne', h4, ofBits_neg_half]
    simp only [hc', ← EReal.coe_mul, coe_sum]
    rw [len, ofBits_1024, div_real _ (by norm_num)]
  obtain ⟨r, hr'⟩ : ∃ r : ℝ, (Real.sqrt v)⁻¹ = r := ⟨_, rfl⟩
  rw [hr'] at hr hq
  generalize hQ : (∑ l, a l * u' l) * (-(1 / 2) * (r ^ 3)) / 1024 = q at hq
  have hm : ∀ l, midAuto (fun l => (u' l : EReal)) (fun l => (x' l : EReal)) l = ((u' l * r + 2 * q * a l : ℝ) : EReal) := fun l => by
    unfold midAuto
    rw [hq, hr, hc']
    rw [← EReal.coe_mul, ← EReal.coe_mul, ← EReal.coe_mul, ← EReal.coe_add, ← EReal.coe_add]
    congr 1
    ring
  unfold backAuto back mean
  simp only [hm, unit, hr, hc', ← EReal.coe_neg, ← EReal.coe_mul, coe_sum]
  rw [len, ofBits_1024, div_real _ (by norm_num), div_real _ (by norm_num), div_real _ (by norm_num)]
  norm_cast
  have h5 : ∑ l, -(u' l * r + 2 * q * a l) = -((∑ l, u' l) * r) := by
    rw [Finset.sum_neg_distrib, Finset.sum_add_distrib, ← Finset.sum_mul, ← Finset.mul_sum, hs', mul_zero, add_zero]
  have h6 : ∑ l, u' l * (a l * r) = (∑ l, a l * u' l) * r := by
    rw [Finset.sum_mul]
    exact Finset.sum_congr rfl fun l _ => by ring
  rw [h5, h6, ← hQ]
  ring

/-- The norm of a real row, and its gradient, are real. -/
theorem mean_real {x : Row} (hx : AllReal x) : IsReal (mean x) := by
  obtain ⟨a, ha⟩ := (IsReal.sum Finset.univ hx).exists
  unfold mean
  rw [ha, len, ofBits_1024, div_real _ (by norm_num)]
  exact .coe _
theorem rstd_real {x : Row} (hx : AllReal x) : IsReal (rstd x) := by
  choose a ha using fun l => ((hx l).sub (mean_real hx)).exists
  have hv0 : 0 < (∑ l, a l * a l) / 1024 + eps := by
    have := Finset.sum_nonneg fun (i : Fin 1024) (_ : i ∈ Finset.univ) => mul_self_nonneg (a i)
    have := eps_pos
    positivity
  unfold rstd
  simp only [ctr, ha, ← EReal.coe_mul, coe_sum]
  rw [len, ofBits_1024, div_real _ (by norm_num), small, ofBits_eps, ← EReal.coe_add, rsqrt_real hv0]
  exact .coe _
theorem unit_real {x : Row} (hx : AllReal x) (k : Fin 1024) : IsReal (unit x k) :=
  ((hx k).sub (mean_real hx)).mul (rstd_real hx)
theorem backAuto_real {u x : Row} (hu : AllReal u) (hx : AllReal x) (k : Fin 1024) : IsReal (backAuto u x k) := by
  rw [back_auto hu hx]
  exact (rstd_real hx).mul (((hu k).sub (mean_real hu)).sub ((unit_real hx k).mul (mean_real fun l => (hu l).mul (unit_real hx l))))

/-- Chunk `q` of the whole arrays; row `i` of it is row `128 q + i`, and the matrices are masked to their lower triangles. -/
def chunkOf (z : Blk 2048 3072) (y : Blk 2048 1024) (g b : Blk 1 1024) (w : FVec Ideal ⟨3, ![8, 128, 128]⟩ .f32) (s : FVec Ideal ⟨2, ![8, 128]⟩ .f32) (q : Fin 16) : Chunk :=
  ⟨fun i k => z (ix2 ⟨q.val * 128 + i.val, by omega⟩ ⟨1024 + k.val, by omega⟩), fun i k => z (ix2 ⟨q.val * 128 + i.val, by omega⟩ ⟨2048 + k.val, by omega⟩),
    fun i k => y (ix2 ⟨q.val * 128 + i.val, by omega⟩ k), fun k => g (ix2 0 k), fun k => b (ix2 0 k),
    fun h i j => if j.val ≤ i.val then w (ix3 h i j) else 0, fun h i => s (ix2 h i)⟩

/-- The gradient of the joined input: the passed-on cotangent, the gate's and the value's columns. -/
def gradZ (s : Blk 2048 1024) (D : Fin 16 → Chunk) : FVec Ideal ⟨2, ![2048, 3072]⟩ .bf16 := fun y =>
  if h : (y 1).val < 1024 then s (ix2 (y 0) ⟨(y 1).val, h⟩)
  else if h' : (y 1).val < 2048 then (D ⟨(y 0).val / 128, by have : (y 0).val < 2048 := (y 0).isLt; omega⟩).duc ⟨(y 0).val % 128, by omega⟩ ⟨(y 1).val - 1024, by omega⟩
  else (D ⟨(y 0).val / 128, by have : (y 0).val < 2048 := (y 0).isLt; omega⟩).dzv ⟨(y 0).val % 128, by omega⟩
    ⟨(y 1).val - 2048, by have : (y 1).val < 3072 := (y 1).isLt; omega⟩

/-- The same with gelu's and the norm's gradients as automatic differentiation writes them. -/
def gradZAuto (s : Blk 2048 1024) (D : Fin 16 → Chunk) : FVec Ideal ⟨2, ![2048, 3072]⟩ .bf16 := fun y =>
  if h : (y 1).val < 1024 then s (ix2 (y 0) ⟨(y 1).val, h⟩)
  else if h' : (y 1).val < 2048 then (D ⟨(y 0).val / 128, by have : (y 0).val < 2048 := (y 0).isLt; omega⟩).ducAuto ⟨(y 0).val % 128, by omega⟩ ⟨(y 1).val - 1024, by omega⟩
  else (D ⟨(y 0).val / 128, by have : (y 0).val < 2048 := (y 0).isLt; omega⟩).dzvAuto ⟨(y 0).val % 128, by omega⟩
    ⟨(y 1).val - 2048, by have : (y 1).val < 3072 := (y 1).isLt; omega⟩

namespace Chunk

/-- The chunk's arrays are real. -/
structure Real (D : Chunk) : Prop where
  u : ∀ i k, IsReal (D.u i k)
  v : ∀ i k, IsReal (D.v i k)
  y : ∀ i k, IsReal (D.y i k)
  g : ∀ k, IsReal (D.g k)
  b : ∀ k, IsReal (D.b k)
  w : ∀ h i j, IsReal (D.w h i j)
  s : ∀ h i, IsReal (D.s h i)

variable {D : Chunk} (hD : D.Real)
include hD

theorem val_real (i : Fin 128) (k : Fin 1024) : IsReal (D.val i k) :=
  ((unit_real (fun l => gl_real (hD.v i l)) k).mul (hD.g k)).add (hD.b k)
theorem mix_real (h : Fin 8) (i d : Fin 128) : IsReal (D.mix h i d) :=
  (IsReal.sum _ fun j => (hD.w h i j).mul (val_real hD j _)).add (hD.s h i)
theorem dvc_real (j : Fin 128) (k : Fin 1024) : IsReal (D.dvc j k) := by
  unfold dvc dv dm
  exact IsReal.sum _ fun i => (hD.w _ i j).mul ((hD.y i _).mul (gl_real (hD.u i _)))

/-- On real arrays the two ways to write the gradients of the gate's and the value's inputs agree. -/
theorem duc_auto (i : Fin 128) (k : Fin 1024) : D.ducAuto i k = D.duc i k := by
  have e : at' ⟨k.val / 128, by omega⟩ ⟨k.val % 128, by omega⟩ = k := Fin.ext (Nat.div_add_mod' _ _)
  unfold ducAuto duc du
  rw [e]
  exact gd_auto (hD.u i k) ((hD.y i k).mul (mix_real hD _ _ _))
theorem dzv_auto (i : Fin 128) (k : Fin 1024) : D.dzvAuto i k = D.dzv i k := by
  have hc : AllReal fun l => D.dvc i l * D.g l := fun l => (dvc_real hD i l).mul (hD.g l)
  have hx : AllReal fun l => gl (D.v i l) := fun l => gl_real (hD.v i l)
  unfold dzvAuto dzv
  rw [back_auto hc hx]
  refine gd_auto (hD.v i k) ?_
  rw [← back_auto hc hx]
  exact backAuto_real hc hx k

end Chunk

/-- On real arrays the two ways to write the joined input's gradient agree. -/
theorem gradZ_auto (s : Blk 2048 1024) {D : Fin 16 → Chunk} (hD : ∀ q, (D q).Real) : gradZAuto s D = gradZ s D := by
  funext y
  unfold gradZAuto gradZ
  by_cases h1 : (y 1).val < 1024
  · rw [dif_pos h1, dif_pos h1]
  · by_cases h2 : (y 1).val < 2048
    · rw [dif_neg h1, dif_neg h1, dif_pos h2, dif_pos h2, Chunk.duc_auto (hD _)]
    · rw [dif_neg h1, dif_neg h1, dif_neg h2, dif_neg h2, Chunk.dzv_auto (hD _)]

/-- The chunks of real arrays are real. -/
theorem chunkOf_real {z : Blk 2048 3072} {y : Blk 2048 1024} {g b : Blk 1 1024} {w : FVec Ideal ⟨3, ![8, 128, 128]⟩ .f32} {s : FVec Ideal ⟨2, ![8, 128]⟩ .f32}
    (hz : AllReal z) (hy : AllReal y) (hg : AllReal g) (hb : AllReal b) (hw : AllReal w) (hs : AllReal s) (q : Fin 16) : (chunkOf z y g b w s q).Real :=
  ⟨fun _ _ => hz _, fun _ _ => hz _, fun _ _ => hy _, fun _ => hg _, fun _ => hb _, fun h i j => by
    by_cases hj : j.val ≤ i.val
    · have e : (chunkOf z y g b w s q).w h i j = w (ix3 h i j) := if_pos hj
      rw [e]; exact hw _
    · have e : (chunkOf z y g b w s q).w h i j = 0 := if_neg hj
      rw [e]; exact .zero, fun _ _ => hs _⟩

/-- A sum over all rows is one over the chunks and the rows of each. -/
theorem sum_rows (f : Fin 16 → Fin 128 → EReal) : ∑ r : Fin 2048, f ⟨r.val / 128, by omega⟩ ⟨r.val % 128, by omega⟩ = ∑ q, ∑ i, f q i :=
  (Fintype.sum_equiv (finProdFinEquiv (m := 16) (n := 128)).symm _ (fun p => f p.1 p.2) fun _ => rfl).trans (Fintype.sum_prod_type _)

/-- The lower triangle, as the host's comparison of row and column numbers picks it. -/
theorem sge_at : ∀ i j : Fin 128, IntOp.cmpi .sge (IntOp.addi (BitVec.ofNat 32 i.val) 0#32) (BitVec.ofNat 32 j.val) = if j.val ≤ i.val then 1#1 else 0#1 := by
  decide +kernel
theorem mask_at (i j : Fin 128) (a : EReal) :
    Scalar.select (IntOp.cmpi .sge (IntOp.addi (BitVec.ofNat 32 i.val) 0#32) (BitVec.ofNat 32 j.val)) a 0 = if j.val ≤ i.val then a else 0 := by
  rw [sge_at]
  by_cases h : j.val ≤ i.val
  · rw [if_pos h, if_pos h]; rfl
  · rw [if_neg h, if_neg h]; rfl

end Cert.Sgu

end
-- ==== Proof.SguKernel.lean ====
module

public import proofs.«01_k».proof.Proof.Gen.Kernel5Ideal.Value
public import proofs.«01_k».proof.Proof.SguMath
public import Idealize.ShloMosaic.Lib.Pipeline.ValueKit

/-! What the kernel of the spatial gating unit's gradients leaves in each of its outputs. The body stores head by head; a store into one head
(`canon_head`) or one strip of columns (`canon_cols`) is read at an index, and each output is then the chunk's array. -/

@[expose] public section

set_option maxRecDepth 16384

noncomputable section

open Idealize.ShloMosaic Idealize.ShloMosaic.TcCoe Idealize.SL.Sem Idealize.ShloMosaic.Tactic
open Idealize.ShloMosaic.Pipeline (Dat)

namespace Cert.Kernel5Ideal.Hand

open Cert.Kernel5Ideal Cert.Kernel5Ideal.Gen Cert.Sgu
variable (m : (ℓ : Loc nD τ sig) → Buf (Elt Ideal) ℓ) (c : Dev nD)

/-- One store into head `h`. -/
theorem canon_head {n w h : ℕ} {e : EltTy} {inb : ∀ a, (![h, 0, 0] : Fin 3 → ℕ) a + (![1, n, w] : Fin 3 → ℕ) a ≤ (⟨3, ![8, n, w]⟩ : Shape).size a}
    (P : (⟨3, ![1, n, w]⟩ : Shape).Idx → Elt Ideal e) (L : List (View.Piece (Elt Ideal) (⟨3, ![8, n, w]⟩ : Shape) e)) (y : (⟨3, ![8, n, w]⟩ : Shape).Idx) :
    View.canon (⟨Rect.unit (s := ⟨3, ![8, n, w]⟩) ![h, 0, 0] ![1, n, w] inb, P⟩ :: L) y
      = if (y 0).val = h then P (ix3 0 (y 1) (y 2)) else View.canon L y := by
  split
  next hy =>
    have : y = (Rect.unit (s := ⟨3, ![8, n, w]⟩) ![h, 0, 0] ![1, n, w] inb).emb (ix3 0 (y 1) (y 2)) := by
      funext a
      apply Fin.ext
      rw [Rect.emb_apply]
      fin_cases a
      · exact hy
      · exact ((Nat.zero_add _).trans (Nat.one_mul _)).symm
      · exact ((Nat.zero_add _).trans (Nat.one_mul _)).symm
    conv_lhs => rw [this]
    exact View.canon_cons_emb _ _ _ _
  next hy =>
    refine View.canon_cons_of_not_mem _ _ fun hm => hy ?_
    have := (Rect.mem_set_unit (s := ⟨3, ![8, n, w]⟩) (inb := inb)).mp hm (0 : Fin 3)
    have h1 : h ≤ (y 0).val := this.1
    have h2 : (y 0).val < h + 1 := this.2
    omega

/-- The chunk of one step's blocks. -/
def chunk (x0 x1 x2 : Blk 128 1024) (x4 x5 : Blk 1 1024) (x6 : FVec Ideal ⟨3, ![8, 128, 128]⟩ .bf16) (x7 : FVec Ideal ⟨3, ![8, 128, 1]⟩ .f32) : Chunk :=
  ⟨fun i k => x0 (ix2 i k), fun i k => x1 (ix2 i k), fun i k => x2 (ix2 i k), fun k => x4 (ix2 0 k), fun k => x5 (ix2 0 k),
    fun h i j => x6 (ix3 h i j), fun h i => x7 (ix3 h i 0)⟩

theorem named_cub : Named.named (F := Ideal) κ "gelu_cubic" (φ := .f32) 0x3D372713#32 = cub := IdealRules.named_const.ideal_named_scalar _ _ _ _ rfl
theorem named_cub3 : Named.named (F := Ideal) κ "gelu_cubic_3" (φ := .f32) 0x3E095D4F#32 = cub3 := IdealRules.named_const.ideal_named_scalar _ _ _ _ rfl

section
variable (x0 x1 x2 : Blk 128 1024) (x4 x5 : Blk 1 1024) (x6 : FVec Ideal ⟨3, ![8, 128, 128]⟩ .bf16) (x7 : FVec Ideal ⟨3, ![8, 128, 1]⟩ .f32)

/-- The gate. -/
theorem gate_eq : k0_pay5 (F := Ideal) x0 = fun y => gl (x0 y) := by
  funext y
  pointwise [k0_pay5, named_cub, gl, th]

/-- The centred value. -/
theorem ctr_eq : k0_pay6 (F := Ideal) x1 = fun y => ctr (fun l => gl (x1 (ix2 (y 0) l))) (y 1) := by
  funext y
  pointwise [k0_pay6, named_cub, gl, th, ctr, mean]

/-- Its sum of squares. -/
theorem sq_eq : k0_pay7 (F := Ideal) x1 = fun y => ∑ k, ctr (fun l => gl (x1 (ix2 (y 0) l))) k * ctr (fun l => gl (x1 (ix2 (y 0) l))) k := by
  funext y
  pointwise [k0_pay7, ctr_eq]

/-- The value at unit variance. -/
theorem unit_eq : k0_pay9 (F := Ideal) (k0_pay6 x1) (k0_pay7 x1) (FloatOps.ofBits .f32 0x44800000#32)
    = fun y => unit (fun l => gl (x1 (ix2 (y 0) l))) (y 1) := by
  funext y
  pointwise [k0_pay9, k0_pay8, ctr_eq, sq_eq, unit, rstd]

/-- The value normalised. -/
theorem val_eq : k0_pay10 (F := Ideal) (k0_pay6 x1) (k0_pay7 x1) (FloatOps.ofBits .f32 0x44800000#32) x4 x5
    = fun y => (chunk x0 x1 x2 x4 x5 x6 x7).val (y 0) (y 1) := by
  funext y
  simp only [k0_pay10, unit_eq]
  pointwise [chunk, Chunk.val, Chunk.row]
end

/-- One store into the columns `o … o + w`. -/
theorem canon_cols {n w W o : ℕ} {e : EltTy} {inb : ∀ a, (![0, o] : Fin 2 → ℕ) a + (![n, w] : Fin 2 → ℕ) a ≤ (⟨2, ![n, W]⟩ : Shape).size a}
    (P : (⟨2, ![n, w]⟩ : Shape).Idx → Elt Ideal e) (L : List (View.Piece (Elt Ideal) (⟨2, ![n, W]⟩ : Shape) e)) (i : Fin n) (k : Fin W) :
    View.canon (⟨Rect.unit (s := ⟨2, ![n, W]⟩) ![0, o] ![n, w] inb, P⟩ :: L) (ix2 i k)
      = if hk : o ≤ k.val ∧ k.val < o + w then P (ix2 i ⟨k.val - o, by omega⟩) else View.canon L (ix2 i k) := by
  split
  next hy =>
    have : (ix2 i k : (⟨2, ![n, W]⟩ : Shape).Idx) = (Rect.unit (s := ⟨2, ![n, W]⟩) ![0, o] ![n, w] inb).emb (ix2 i ⟨k.val - o, by omega⟩) := by
      funext a
      apply Fin.ext
      rw [Rect.emb_apply]
      fin_cases a
      · exact ((Nat.zero_add _).trans (Nat.one_mul _)).symm
      · show k.val = o + 1 * (k.val - o)
        omega
    conv_lhs => rw [this]
    exact View.canon_cons_emb _ _ _ _
  next hy =>
    refine View.canon_cons_of_not_mem _ _ fun hm => hy ?_
    exact (Rect.mem_set_unit (s := ⟨2, ![n, W]⟩) (inb := inb)).mp hm (1 : Fin 2)

/-- Reading one head back. -/
theorem read_head {sig : RefSig} {κ : Kind} {sp : Space} {n w h : ℕ} {e : EltTy} {inb : ∀ a, (![h, 0, 0] : Fin 3 → ℕ) a + (![1, n, w] : Fin 3 → ℕ) a ≤ (⟨3, ![8, n, w]⟩ : Shape).size a}
    (v : View sig κ sp (⟨3, ![8, n, w]⟩ : Shape) e) (L : List (View.Piece (Elt Ideal) (⟨3, ![8, n, w]⟩ : Shape) e)) (h8 : h < 8) :
    v.readCov L (Rect.unit (s := ⟨3, ![8, n, w]⟩) ![h, 0, 0] ![1, n, w] inb).toLoadRect = fun y => View.canon L (ix3 ⟨h, h8⟩ (y 1) (y 2)) := by
  rw [View.readCov_eq_canon']
  funext y
  congr 1
  funext a
  apply Fin.ext
  fin_cases a
  · show h + 1 * (y 0).val = h
    have : (y 0).val < 1 := (y 0).isLt
    omega
  · exact (Nat.zero_add _).trans (Nat.one_mul _)
  · exact (Nat.zero_add _).trans (Nat.one_mul _)

/-- Reading everything back. -/
theorem read_all {sig : RefSig} {κ : Kind} {sp : Space} {n w : ℕ} {e : EltTy} {inb : ∀ a, (![0, 0] : Fin 2 → ℕ) a + (![n, w] : Fin 2 → ℕ) a ≤ (⟨2, ![n, w]⟩ : Shape).size a}
    (v : View sig κ sp (⟨2, ![n, w]⟩ : Shape) e) (L : List (View.Piece (Elt Ideal) (⟨2, ![n, w]⟩ : Shape) e)) :
    v.readCov L (Rect.unit (s := ⟨2, ![n, w]⟩) ![0, 0] ![n, w] inb).toLoadRect = View.canon L := by
  rw [View.readCov_eq_canon']
  funext y
  congr 1
  funext a
  apply Fin.ext
  fin_cases a
  · exact (Nat.zero_add _).trans (Nat.one_mul _)
  · exact (Nat.zero_add _).trans (Nat.one_mul _)

theorem at_split (k : Fin 1024) : k = at' ⟨k.val / 128, by omega⟩ ⟨k.val % 128, by omega⟩ := by
  apply Fin.ext
  show k.val = k.val / 128 * 128 + k.val % 128
  omega

/-- An array given head by head. -/
theorem cols_ext {G : FVec Ideal ⟨2, ![128, 1024]⟩ .f32} {f : Fin 128 → Fin 1024 → EReal} (h : ∀ a b d, (G (ix2 a (at' b d)) : EReal) = f a (at' b d)) :
    G = fun y => f (y 0) (y 1) := by
  funext y
  idx_vars y
  rw [at_split y1]
  exact h _ _ _

/-- The store into the head read. -/
theorem canon_hit {n w h : ℕ} {h8 : h < 8} {e : EltTy} {inb : ∀ a, (![h, 0, 0] : Fin 3 → ℕ) a + (![1, n, w] : Fin 3 → ℕ) a ≤ (⟨3, ![8, n, w]⟩ : Shape).size a}
    (P : (⟨3, ![1, n, w]⟩ : Shape).Idx → Elt Ideal e) (L : List (View.Piece (Elt Ideal) (⟨3, ![8, n, w]⟩ : Shape) e)) (i : Fin n) (j : Fin w) :
    View.canon (⟨Rect.unit (s := ⟨3, ![8, n, w]⟩) ![h, 0, 0] ![1, n, w] inb, P⟩ :: L) (ix3 ⟨h, h8⟩ i j) = P (ix3 0 i j) :=
  (canon_head P L _).trans (if_pos rfl)

/-- A store into another head. -/
theorem canon_miss {n w h a : ℕ} {h8 : a < 8} {e : EltTy} {inb : ∀ a, (![h, 0, 0] : Fin 3 → ℕ) a + (![1, n, w] : Fin 3 → ℕ) a ≤ (⟨3, ![8, n, w]⟩ : Shape).size a}
    (P : (⟨3, ![1, n, w]⟩ : Shape).Idx → Elt Ideal e) (L : List (View.Piece (Elt Ideal) (⟨3, ![8, n, w]⟩ : Shape) e)) (i : Fin n) (j : Fin w) (hn : a ≠ h) :
    View.canon (⟨Rect.unit (s := ⟨3, ![8, n, w]⟩) ![h, 0, 0] ![1, n, w] inb, P⟩ :: L) (ix3 ⟨a, h8⟩ i j) = View.canon L (ix3 ⟨a, h8⟩ i j) :=
  (canon_head P L _).trans (if_neg hn)

/-- Reading a head back past a store into another. -/
theorem read_miss {sig : RefSig} {κ : Kind} {sp : Space} {n w h a : ℕ} {e : EltTy} {inb : ∀ a, (![h, 0, 0] : Fin 3 → ℕ) a + (![1, n, w] : Fin 3 → ℕ) a ≤ (⟨3, ![8, n, w]⟩ : Shape).size a}
    {inb' : ∀ b, (![a, 0, 0] : Fin 3 → ℕ) b + (![1, n, w] : Fin 3 → ℕ) b ≤ (⟨3, ![8, n, w]⟩ : Shape).size b}
    (v : View sig κ sp (⟨3, ![8, n, w]⟩ : Shape) e) (P : (⟨3, ![1, n, w]⟩ : Shape).Idx → Elt Ideal e) (L : List (View.Piece (Elt Ideal) (⟨3, ![8, n, w]⟩ : Shape) e)) (h8 : h < 8) (hn : h ≠ a) :
    v.readCov (⟨Rect.unit (s := ⟨3, ![8, n, w]⟩) ![a, 0, 0] ![1, n, w] inb', P⟩ :: L) (Rect.unit (s := ⟨3, ![8, n, w]⟩) ![h, 0, 0] ![1, n, w] inb).toLoadRect
      = v.readCov L (Rect.unit (s := ⟨3, ![8, n, w]⟩) ![h, 0, 0] ![1, n, w] inb).toLoadRect := by
  rw [read_head _ _ h8, read_head _ _ h8]
  funext y
  exact canon_miss _ _ _ _ hn

/-- Reading a head back from a store of everything. -/
theorem read_zero {sig : RefSig} {κ : Kind} {sp : Space} {n w h : ℕ} {e : EltTy} {inb : ∀ a, (![h, 0, 0] : Fin 3 → ℕ) a + (![1, n, w] : Fin 3 → ℕ) a ≤ (⟨3, ![8, n, w]⟩ : Shape).size a}
    {inb' : ∀ b, (![0, 0, 0] : Fin 3 → ℕ) b + (![8, n, w] : Fin 3 → ℕ) b ≤ (⟨3, ![8, n, w]⟩ : Shape).size b}
    (v : View sig κ sp (⟨3, ![8, n, w]⟩ : Shape) e) (P : (⟨3, ![8, n, w]⟩ : Shape).Idx → Elt Ideal e) (h8 : h < 8) :
    v.readCov [⟨Rect.unit (s := ⟨3, ![8, n, w]⟩) ![0, 0, 0] ![8, n, w] inb', P⟩] (Rect.unit (s := ⟨3, ![8, n, w]⟩) ![h, 0, 0] ![1, n, w] inb).toLoadRect
      = fun y => P (ix3 ⟨h, h8⟩ (y 1) (y 2)) := by
  rw [read_head _ _ h8, View.canon_unit_zero (S := ⟨3, ![8, n, w]⟩) (by funext a; fin_cases a <;> rfl)]

/-- The store into the strip read. -/
theorem col_hit {n W o q w : ℕ} {e : EltTy} {inb : ∀ a, (![0, o] : Fin 2 → ℕ) a + (![n, w] : Fin 2 → ℕ) a ≤ (⟨2, ![n, W]⟩ : Shape).size a}
    (P : (⟨2, ![n, w]⟩ : Shape).Idx → Elt Ideal e) (L : List (View.Piece (Elt Ideal) (⟨2, ![n, W]⟩ : Shape) e)) (i : Fin n) (d : Fin w) (hq) (ho : o = q) :
    View.canon (⟨Rect.unit (s := ⟨2, ![n, W]⟩) ![0, o] ![n, w] inb, P⟩ :: L) (ix2 i ⟨q + d.val, hq⟩) = P (ix2 i d) := by
  rw [canon_cols, dif_pos ⟨by subst ho; exact Nat.le_add_right _ _, by subst ho; exact Nat.add_lt_add_left d.isLt _⟩]
  congr 2
  apply Fin.ext
  show q + d.val - o = d.val
  omega

/-- A store into another strip. -/
theorem col_miss {n W o q w w' : ℕ} {e : EltTy} {inb : ∀ a, (![0, o] : Fin 2 → ℕ) a + (![n, w] : Fin 2 → ℕ) a ≤ (⟨2, ![n, W]⟩ : Shape).size a}
    (P : (⟨2, ![n, w]⟩ : Shape).Idx → Elt Ideal e) (L : List (View.Piece (Elt Ideal) (⟨2, ![n, W]⟩ : Shape) e)) (i : Fin n) (d : Fin w') (hq) (ho : q + w' ≤ o ∨ o + w ≤ q) :
    View.canon (⟨Rect.unit (s := ⟨2, ![n, W]⟩) ![0, o] ![n, w] inb, P⟩ :: L) (ix2 i ⟨q + d.val, hq⟩) = View.canon L (ix2 i ⟨q + d.val, hq⟩) := by
  rw [canon_cols, dif_neg fun h => ?_]
  have := d.isLt
  have : o ≤ q + d.val := h.1
  have : q + d.val < o + w := h.2
  omega

theorem at_zero (d : Fin 128) : at' 0 d = ⟨d.val, by omega⟩ := Fin.ext (by show 0 * 128 + d.val = d.val; omega)

theorem dvc_at (D : Chunk) (i : Fin 128) (b : Fin 8) (d : Fin 128) : D.dvc i (at' b d) = D.dv b i d := by
  have h1 : (b.val * 128 + d.val) / 128 = b.val := by omega
  have h2 : (b.val * 128 + d.val) % 128 = d.val := by omega
  unfold Chunk.dvc
  congr 1 <;> apply Fin.ext <;> assumption

/-- The chunk of step `t`. -/
abbrev chunkAt (t : Fin cfg0.N) : Chunk :=
  chunk (iblk m c 0 t) (iblk m c 1 t) (iblk m c 2 t) (iblk m c 4 t) (iblk m c 5 t) (iblk m c 6 t) (iblk m c 7 t)

/-- The four totals, at the first step and after it. -/
theorem step12A (t : Fin cfg0.N) (h : t.val % 16 = 0) (a : Fin 8) (b : Fin 128) :
    (outsAt0 m c t.val t.isLt).2.2.2.2 (ix3 a b 0) = 0 + (chunkAt m c t).dbs a b := by
  rw [outsAt0_A m c t h]
  frame_out
  unfold chunkAt
  generalize iblk m c 0 t = x0, iblk m c 1 t = x1, iblk m c 2 t = x2, iblk m c 3 t = x3, iblk m c 4 t = x4, iblk m c 5 t = x5, iblk m c 6 t = x6, iblk m c 7 t = x7
  fin_cases a
  all_goals
    simp (disch := decide) only [↓canon_hit, ↓canon_miss, ↓read_miss, ↓read_zero, gate_eq]
    unfold_payloads
    pointwise [chunk, Chunk.dbs, Chunk.dm]
    try rfl

theorem step11A (t : Fin cfg0.N) (h : t.val % 16 = 0) (a : Fin 8) (b d : Fin 128) :
    (outsAt0 m c t.val t.isLt).2.2.2.1 (ix3 a b d) = 0 + (chunkAt m c t).dwm a b d := by
  rw [outsAt0_A m c t h]
  frame_out
  unfold chunkAt
  generalize iblk m c 0 t = x0, iblk m c 1 t = x1, iblk m c 2 t = x2, iblk m c 3 t = x3, iblk m c 4 t = x4, iblk m c 5 t = x5, iblk m c 6 t = x6, iblk m c 7 t = x7
  have e := val_eq x0 x1 x2 x4 x5 x6 x7
  dsimp only [k0_pay10, k0_pay9, k0_pay8] at e
  fin_cases a
  all_goals
    simp (disch := decide) only [↓canon_hit, ↓canon_miss, ↓read_miss, ↓read_zero, gate_eq, e]
    unfold_payloads
    pointwise [Chunk.dwm, Chunk.dm]
    try rfl

theorem step9A (t : Fin cfg0.N) (h : t.val % 16 = 0) (k : Fin 1024) :
    (outsAt0 m c t.val t.isLt).2.1 (ix2 0 k) = 0 + (chunkAt m c t).dlg k := by
  rw [outsAt0_A m c t h]
  frame_out
  unfold chunkAt
  generalize iblk m c 0 t = x0, iblk m c 1 t = x1, iblk m c 2 t = x2, iblk m c 3 t = x3, iblk m c 4 t = x4, iblk m c 5 t = x5, iblk m c 6 t = x6, iblk m c 7 t = x7
  have e := unit_eq x1
  dsimp only [k0_pay9, k0_pay8] at e
  simp only [read_all, gate_eq, e]
  generalize hG : View.canon (Val := Elt Ideal) (⟨_, _⟩ :: ⟨_, _⟩ :: _) = G
  have hd : G = fun y => (chunk x0 x1 x2 x4 x5 x6 x7).dvc (y 0) (y 1) := by
    refine cols_ext fun a b d => ?_
    rw [← hG, dvc_at]
    fin_cases b
    all_goals
      simp (disch := decide) only [at', ↓col_hit, ↓col_miss]
      unfold_payloads
      pointwise [chunk, Chunk.dv, Chunk.dm]
      try simp only [at_zero]
      try rfl
  rw [hd]
  unfold_payloads
  pointwise [Chunk.dlg, Chunk.dlb, Chunk.row]
  try rfl

theorem step10A (t : Fin cfg0.N) (h : t.val % 16 = 0) (k : Fin 1024) :
    (outsAt0 m c t.val t.isLt).2.2.1 (ix2 0 k) = 0 + (chunkAt m c t).dlb k := by
  rw [outsAt0_A m c t h]
  frame_out
  unfold chunkAt
  generalize iblk m c 0 t = x0, iblk m c 1 t = x1, iblk m c 2 t = x2, iblk m c 3 t = x3, iblk m c 4 t = x4, iblk m c 5 t = x5, iblk m c 6 t = x6, iblk m c 7 t = x7
  have e := unit_eq x1
  dsimp only [k0_pay9, k0_pay8] at e
  simp only [read_all, gate_eq, e]
  generalize hG : View.canon (Val := Elt Ideal) (⟨_, _⟩ :: ⟨_, _⟩ :: _) = G
  have hd : G = fun y => (chunk x0 x1 x2 x4 x5 x6 x7).dvc (y 0) (y 1) := by
    refine cols_ext fun a b d => ?_
    rw [← hG, dvc_at]
    fin_cases b
    all_goals
      simp (disch := decide) only [at', ↓col_hit, ↓col_miss]
      unfold_payloads
      pointwise [chunk, Chunk.dv, Chunk.dm]
      try simp only [at_zero]
      try rfl
  rw [hd]
  unfold_payloads
  pointwise [Chunk.dlg, Chunk.dlb, Chunk.row]
  try rfl

theorem step12B (t : Fin cfg0.N) (h : ¬ t.val % 16 = 0) (a : Fin 8) (b : Fin 128) :
    (outsAt0 m c t.val t.isLt).2.2.2.2 (ix3 a b 0) = (outsAt0 m c (t.val - 1) (by omega)).2.2.2.2 (ix3 a b 0) + (chunkAt m c t).dbs a b := by
  rw [outsAt0_B m c t h]
  frame_out
  unfold chunkAt
  generalize iblk m c 0 t = x0, iblk m c 1 t = x1, iblk m c 2 t = x2, iblk m c 3 t = x3, iblk m c 4 t = x4, iblk m c 5 t = x5, iblk m c 6 t = x6, iblk m c 7 t = x7
  fin_cases a
  all_goals
    simp (disch := decide) only [↓canon_hit, ↓canon_miss, gate_eq]
    unfold_payloads
    pointwise [chunk, Chunk.dbs, Chunk.dm]
    try rfl

theorem step11B (t : Fin cfg0.N) (h : ¬ t.val % 16 = 0) (a : Fin 8) (b d : Fin 128) :
    (outsAt0 m c t.val t.isLt).2.2.2.1 (ix3 a b d) = (outsAt0 m c (t.val - 1) (by omega)).2.2.2.1 (ix3 a b d) + (chunkAt m c t).dwm a b d := by
  rw [outsAt0_B m c t h]
  frame_out
  unfold chunkAt
  generalize iblk m c 0 t = x0, iblk m c 1 t = x1, iblk m c 2 t = x2, iblk m c 3 t = x3, iblk m c 4 t = x4, iblk m c 5 t = x5, iblk m c 6 t = x6, iblk m c 7 t = x7
  have e := val_eq x0 x1 x2 x4 x5 x6 x7
  dsimp only [k0_pay10, k0_pay9, k0_pay8] at e
  fin_cases a
  all_goals
    simp (disch := decide) only [↓canon_hit, ↓canon_miss, gate_eq, e]
    unfold_payloads
    pointwise [Chunk.dwm, Chunk.dm]
    try rfl

theorem step9B (t : Fin cfg0.N) (h : ¬ t.val % 16 = 0) (k : Fin 1024) :
    (outsAt0 m c t.val t.isLt).2.1 (ix2 0 k) = (outsAt0 m c (t.val - 1) (by omega)).2.1 (ix2 0 k) + (chunkAt m c t).dlg k := by
  rw [outsAt0_B m c t h]
  frame_out
  unfold chunkAt
  generalize iblk m c 0 t = x0, iblk m c 1 t = x1, iblk m c 2 t = x2, iblk m c 3 t = x3, iblk m c 4 t = x4, iblk m c 5 t = x5, iblk m c 6 t = x6, iblk m c 7 t = x7
  have e := unit_eq x1
  dsimp only [k0_pay9, k0_pay8] at e
  simp only [read_all, gate_eq, e]
  generalize hG : View.canon (Val := Elt Ideal) (⟨_, _⟩ :: ⟨_, _⟩ :: _) = G
  have hd : G = fun y => (chunk x0 x1 x2 x4 x5 x6 x7).dvc (y 0) (y 1) := by
    refine cols_ext fun a b d => ?_
    rw [← hG, dvc_at]
    fin_cases b
    all_goals
      simp (disch := decide) only [at', ↓col_hit, ↓col_miss]
      unfold_payloads
      pointwise [chunk, Chunk.dv, Chunk.dm]
      try simp only [at_zero]
      try rfl
  rw [hd]
  unfold_payloads
  pointwise [Chunk.dlg, Chunk.dlb, Chunk.row]
  try rfl

theorem step10B (t : Fin cfg0.N) (h : ¬ t.val % 16 = 0) (k : Fin 1024) :
    (outsAt0 m c t.val t.isLt).2.2.1 (ix2 0 k) = (outsAt0 m c (t.val - 1) (by omega)).2.2.1 (ix2 0 k) + (chunkAt m c t).dlb k := by
  rw [outsAt0_B m c t h]
  frame_out
  unfold chunkAt
  generalize iblk m c 0 t = x0, iblk m c 1 t = x1, iblk m c 2 t = x2, iblk m c 3 t = x3, iblk m c 4 t = x4, iblk m c 5 t = x5, iblk m c 6 t = x6, iblk m c 7 t = x7
  have e := unit_eq x1
  dsimp only [k0_pay9, k0_pay8] at e
  simp only [read_all, gate_eq, e]
  generalize hG : View.canon (Val := Elt Ideal) (⟨_, _⟩ :: ⟨_, _⟩ :: _) = G
  have hd : G = fun y => (chunk x0 x1 x2 x4 x5 x6 x7).dvc (y 0) (y 1) := by
    refine cols_ext fun a b d => ?_
    rw [← hG, dvc_at]
    fin_cases b
    all_goals
      simp (disch := decide) only [at', ↓col_hit, ↓col_miss]
      unfold_payloads
      pointwise [chunk, Chunk.dv, Chunk.dm]
      try simp only [at_zero]
      try rfl
  rw [hd]
  unfold_payloads
  pointwise [Chunk.dlg, Chunk.dlb, Chunk.row]
  try rfl

/-- A tile's columns: the passed-on cotangent, the gate's and the value's. -/
def wide (D : Chunk) (s : Blk 128 1024) (i : Fin 128) (k : Fin 3072) : EReal :=
  if h : k.val < 1024 then s (ix2 i ⟨k.val, h⟩) else if h' : k.val < 2048 then D.duc i ⟨k.val - 1024, by omega⟩ else D.dzv i ⟨k.val - 2048, by omega⟩

/-- A tile given by its three parts. -/
theorem wide_ext {G : FVec Ideal ⟨2, ![128, 3072]⟩ .bf16} {D : Chunk} {s : Blk 128 1024}
    (h0 : ∀ i (k : Fin 1024), (G (ix2 i ⟨0 + k.val, by omega⟩) : EReal) = s (ix2 i k))
    (h1 : ∀ i (b : Fin 8) (d : Fin 128), (G (ix2 i ⟨1024 + b.val * 128 + d.val, by omega⟩) : EReal) = D.du b i d)
    (h2 : ∀ i (k : Fin 1024), (G (ix2 i ⟨2048 + k.val, by omega⟩) : EReal) = D.dzv i k) : G = fun y => wide D s (y 0) (y 1) := by
  funext y
  idx_vars y
  show G (ix2 y0 y1) = wide D s y0 y1
  unfold wide
  split
  next h =>
    rw [← h0 y0 ⟨y1.val, h⟩]
    congr 2
    exact Fin.ext (Nat.zero_add _).symm
  next h =>
    split
    next h' =>
      have := h1 y0 ⟨(y1.val - 1024) / 128, by omega⟩ ⟨(y1.val - 1024) % 128, by omega⟩
      unfold Chunk.duc
      rw [← this]
      congr 2
      apply Fin.ext
      show y1.val = 1024 + (y1.val - 1024) / 128 * 128 + (y1.val - 1024) % 128
      omega
    next h' =>
      rw [← h2 y0 ⟨y1.val - 2048, by omega⟩]
      congr 2
      apply Fin.ext
      show y1.val = 2048 + (y1.val - 2048)
      omega

/-- The tile a step stores. -/
theorem step8 (t : Fin cfg0.N) : (outsAt0 m c t.val t.isLt).1 = fun y => wide (chunkAt m c t) (iblk m c 3 t) (y 0) (y 1) := by
  by_cases h : t.val % 16 = 0
  all_goals
    first
    | rw [outsAt0_A m c t h]
    | rw [outsAt0_B m c t h]
    frame_out
    unfold chunkAt
    generalize iblk m c 0 t = x0, iblk m c 1 t = x1, iblk m c 2 t = x2, iblk m c 3 t = x3, iblk m c 4 t = x4, iblk m c 5 t = x5, iblk m c 6 t = x6, iblk m c 7 t = x7
    have e := unit_eq x1
    dsimp only [k0_pay9, k0_pay8] at e
    have e' := val_eq x0 x1 x2 x4 x5 x6 x7
    dsimp only [k0_pay10, k0_pay9, k0_pay8] at e'
    simp only [read_all, gate_eq, e']
    simp only [e]
    generalize hG : (View.canon (Val := Elt Ideal) (⟨_, _⟩ :: ⟨_, _⟩ :: _) : S128x1024.Idx → Elt Ideal .f32) = G
    have hd : G = fun y => (chunk x0 x1 x2 x4 x5 x6 x7).dvc (y 0) (y 1) := by
      refine cols_ext fun a b d => ?_
      rw [← hG, dvc_at]
      fin_cases b
      all_goals
        simp (disch := decide) only [at', ↓col_hit, ↓col_miss]
        unfold_payloads
        pointwise [chunk, Chunk.dv, Chunk.dm]
        try simp only [at_zero]
        try rfl
    clear hG
    subst hd
    refine wide_ext (fun i k => ?_) (fun i b d => ?_) (fun i k => ?_)
    · simp (disch := decide) only [↓col_hit, ↓col_miss]
      unfold_payloads
      pointwise []
    · fin_cases b
      all_goals
        simp (disch := decide) only [↓col_hit, ↓col_miss]
        unfold_payloads
        pointwise [Chunk.du, Chunk.mix, named_cub, named_cub3, gd, th]
        try simp only [at_zero]
        try rfl
    · simp (disch := decide) only [↓col_hit, ↓col_miss]
      unfold_payloads
      pointwise [Chunk.dzv, named_cub, named_cub3, gd, th, back, ctr, mean, rstd]
      try rfl
theorem idx : ∀ t : Fin cfg0.N, win0_0.index t = ![t.val, 1] ∧ win0_1.index t = ![t.val, 2] ∧ win0_2.index t = ![t.val, 0]
    ∧ win0_3.index t = ![t.val, 0] ∧ win0_4.index t = ![0, 0] ∧ win0_5.index t = ![0, 0] ∧ win0_6.index t = ![0, 0, 0] ∧ win0_7.index t = ![0, 0, 0]
    ∧ win0_8.index t = ![t.val, 0] ∧ win0_9.index t = ![0, 0] ∧ win0_10.index t = ![0, 0] ∧ win0_11.index t = ![0, 0, 0] ∧ win0_12.index t = ![0, 0, 0]
    ∧ t.val < 16 := (by decide +kernel : ∀ t : Fin grid0.N, _)

abbrev zA : Blk 2048 3072 := m (c.tc.loc main_arg0)
abbrev yA : Blk 2048 1024 := m (c.tc.loc main_arg1)
abbrev sA : Blk 2048 1024 := m (c.tc.loc main_arg2)
abbrev gA : Blk 1 1024 := m (c.tc.loc main_arg3)
abbrev bA : Blk 1 1024 := m (c.tc.loc main_arg4)
abbrev wA : FVec Ideal ⟨3, ![8, 128, 128]⟩ .f32 := m (c.tc.loc main_arg5)
abbrev eA : FVec Ideal ⟨2, ![8, 128]⟩ .f32 := m (c.tc.loc main_arg6)

abbrev rowAt (t : Fin cfg0.N) (k : Fin 128) : Fin 2048 := ⟨t.val * 128 + k.val, by have := (idx t).2.2.2.2.2.2.2.2.2.2.2.2.2; omega⟩
/-- The host's two lines: the masked matrices and the column of biases. -/
theorem hostW : V (F := Ideal) m c main_v5 = fun y => if (y 2).val ≤ (y 1).val then wA m c y else 0 := by
  unfold_abbrev_sides
  simp only [List.flatten_cons, List.flatten_nil, List.append_nil, List.cons_append, List.nil_append]
  after_results
  funext y
  idx_vars y
  pointwise []
  show wA m c (ix3 y0 y1 y2) * select (cmpi .sge (addi (iotaInDim S128x128 32 0) (broadcastInDim S128x128 ![] bcast_S_S128x128 (constantI S_ 32 0#32)))
    (iotaInDim S128x128 32 1)) (broadcastInDim S128x128 ![] bcast_S_S128x128 (constant S_ .f32 0x3F800000#32))
    (broadcastInDim S128x128 ![] bcast_S_S128x128 (constant (F := Ideal) S_ .f32 0x00000000#32)) (ix2 y1 y2) = _
  pointwise []
  exact mask_at _ _ _

theorem hostB : V (F := Ideal) m c main_v6 = fun y => eA m c (ix2 (y 0) (y 1)) := by
  unfold_abbrev_sides
  simp only [List.flatten_cons, List.flatten_nil, List.append_nil, List.cons_append, List.nil_append]
  after_results
  funext y
  idx_vars y
  pointwise []

/-- The chunk of rows `128 q` to `128 q + 127`. -/
abbrev chunks (q : Fin 16) : Chunk := chunkOf (zA m c) (yA m c) (gA m c) (bA m c) (wA m c) (eA m c) q

theorem blk3 (t) : iblk m c 3 t = fun y => sA m c (ix2 (rowAt t (y 0)) (y 1)) := by funext y; blk_ext [iblk, V, idx t]

/-- A step's blocks are a chunk of the whole arrays. -/
theorem chunk_eq (t : Fin cfg0.N) : chunkAt m c t = chunks m c ⟨t.val, (idx t).2.2.2.2.2.2.2.2.2.2.2.2.2⟩ := by
  have h0 : iblk m c 0 t = fun y => zA m c (ix2 (rowAt t (y 0)) ⟨1024 + (y 1).val, by have : (y 1).val < 1024 := (y 1).isLt; omega⟩) := by
    funext y; blk_ext [iblk, V, idx t]
  have h1 : iblk m c 1 t = fun y => zA m c (ix2 (rowAt t (y 0)) ⟨2048 + (y 1).val, by have : (y 1).val < 1024 := (y 1).isLt; omega⟩) := by
    funext y; blk_ext [iblk, V, idx t]
  have h2 : iblk m c 2 t = fun y => yA m c (ix2 (rowAt t (y 0)) (y 1)) := by funext y; blk_ext [iblk, V, idx t]
  have h4 : iblk m c 4 t = gA m c := by funext y; blk_ext [iblk, V, idx t]
  have h5 : iblk m c 5 t = bA m c := by funext y; blk_ext [iblk, V, idx t]
  have h6 : iblk m c 6 t = V (F := Ideal) m c main_v5 := by unfold iblk; funext y; blk_ext [idx t]
  have h7 : iblk m c 7 t = V (F := Ideal) m c main_v6 := by unfold iblk; funext y; blk_ext [idx t]
  unfold chunkAt
  rw [h0, h1, h2, h4, h5, h6, h7, hostW, hostB]
  rfl

theorem tile8 (a : FVec Ideal ⟨2, ![2048, 3072]⟩ .bf16) (t : Fin cfg0.N) (y : ((cfg0.win 8).xblock (cfg0.grid.coords t)).Idx) :
    a ((win0_8.blk t).view.emb y) = a (ix2 (rowAt t (y 0)) (y 1)) := by
  blk_ext [idx t]

/-- The gradient of the joined input. -/
theorem final8 : (dats m 0 c).arrAt 8 (cfgs 0).N = gradZ (sA m c) (chunks m c) := by
  refine (dats m 0 c).arrAt_eq_of_covers 8 _ (by decide +kernel) fun t hf y => ?_
  blk_simp
  rw [after0_8]
  refine Eq.trans ?_ (tile8 _ t y).symm
  rw [step8, blk3, chunk_eq m c t]
  idx_vars y
  show wide (chunks m c ⟨t.val, _⟩) _ y0 y1 = gradZ (sA m c) (chunks m c) (ix2 (rowAt t y0) y1)
  have e1 : (t.val * 128 + y0.val) / 128 = t.val := by omega
  have e2 : (t.val * 128 + y0.val) % 128 = y0.val := by omega
  show wide _ _ y0 y1 = if h : y1.val < 1024 then _ else if h' : y1.val < 2048 then (chunks m c ⟨(t.val * 128 + y0.val) / 128, _⟩).duc ⟨(t.val * 128 + y0.val) % 128, _⟩ _
    else (chunks m c ⟨(t.val * 128 + y0.val) / 128, _⟩).dzv ⟨(t.val * 128 + y0.val) % 128, _⟩ _
  simp only [e1, e2]
  rfl

/-- The gradients of the norm's weight and bias, of the matrices and of their biases. -/
theorem final9 : (dats m 0 c).arrAt 9 (cfgs 0).N = fun y => ∑ q : Fin 16, (chunks m c q).dlg (y 1) := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0) (fun t j => (chunkAt m c t).dlg (j 1))
    (fun t h j => by idx_vars j; obtain rfl : j0 = 0 := Subsingleton.elim _ _; exact step9A m c t h j1)
    (fun t h j => by idx_vars j; obtain rfl : j0 = 0 := Subsingleton.elim _ _; exact step9B m c t h j1) (le_of_eq N_0) t0_15 rfl j, zero_add]
  refine Finset.sum_congr (M := EReal) rfl fun q _ => ?_
  rw [chunk_eq]
  rfl

theorem final10 : (dats m 0 c).arrAt 10 (cfgs 0).N = fun y => ∑ q : Fin 16, (chunks m c q).dlb (y 1) := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0) (fun t j => (chunkAt m c t).dlb (j 1))
    (fun t h j => by idx_vars j; obtain rfl : j0 = 0 := Subsingleton.elim _ _; exact step10A m c t h j1)
    (fun t h j => by idx_vars j; obtain rfl : j0 = 0 := Subsingleton.elim _ _; exact step10B m c t h j1) (le_of_eq N_0) t0_15 rfl j, zero_add]
  refine Finset.sum_congr (M := EReal) rfl fun q _ => ?_
  rw [chunk_eq]
  rfl

theorem final11 : (dats m 0 c).arrAt 11 (cfgs 0).N = fun y => ∑ q : Fin 16, (chunks m c q).dwm (y 0) (y 1) (y 2) := by
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => 0) (fun t j => (chunkAt m c t).dwm (j 0) (j 1) (j 2))
    (fun t h j => by idx_vars j; exact step11A m c t h j0 j1 j2)
    (fun t h j => by idx_vars j; exact step11B m c t h j0 j1 j2) (le_of_eq N_0) t0_15 rfl j, zero_add]
  refine Finset.sum_congr (M := EReal) rfl fun q _ => ?_
  rw [chunk_eq]
  rfl

theorem final12 : (dats m 0 c).arrAt 12 (cfgs 0).N = fun y => ∑ q : Fin 16, (chunks m c q).dbs (y 0) (y 1) := by
  refine (dats m 0 c).arrAt_eq_of_after_last 12 t0_15 (by decide +kernel) _ fun j => ?_
  blk_simp
  rw [after0_12, Pipeline.eq_sum_fin_of_reset_step_apply_last (fun n h => (outsAt0 m c n h).2.2.2.2) 16 (fun _ => 0) (fun t j => (chunkAt m c t).dbs (j 0) (j 1))
    (fun t h j => by idx_vars j; obtain rfl : j2 = 0 := Subsingleton.elim _ _; exact step12A m c t h j0 j1)
    (fun t h j => by idx_vars j; obtain rfl : j2 = 0 := Subsingleton.elim _ _; exact step12B m c t h j0 j1) (le_of_eq N_0) t0_15 rfl j, zero_add]
  refine Finset.sum_congr (M := EReal) rfl fun q _ => ?_
  rw [chunk_eq]
  rfl

end Cert.Kernel5Ideal.Hand

end
-- ==== Proof.SguRef.lean ====
module

public import proofs.«01_k».proof.Proof.Gen.Reference5Ideal.Run
public import proofs.«01_k».proof.Proof.SguMath

/-! What the reference of the spatial gating unit's gradients computes, array by array. -/

@[expose] public section

set_option maxRecDepth 16384

noncomputable section

open Idealize.ShloMosaic Idealize.ShloMosaic.TcCoe Idealize.SL.Sem Idealize.ShloMosaic.StableHlo

namespace Cert.Reference5Ideal.Hand

open Cert.Reference5Ideal Cert.Reference5Ideal.Gen Cert.Reference5Ideal.Value Cert.Sgu Cert.Reals

variable (V0 : Valuation τ sig (Elt Ideal))

/-- The arguments, as the arrays they are. -/
abbrev z : Blk 2048 3072 := V0 (Proc.devRef .tc main_arg0)
abbrev y : Blk 2048 1024 := V0 (Proc.devRef .tc main_arg1)
abbrev g : Blk 1 1024 := V0 (Proc.devRef .tc main_arg3)
abbrev b : Blk 1 1024 := V0 (Proc.devRef .tc main_arg4)
abbrev w : FVec Ideal ⟨3, ![8, 128, 128]⟩ .f32 := V0 (Proc.devRef .tc main_arg5)
abbrev e : FVec Ideal ⟨2, ![8, 128]⟩ .f32 := V0 (Proc.devRef .tc main_arg6)
abbrev D (q : Fin 16) : Chunk := chunkOf (z V0) (y V0) (g V0) (b V0) (w V0) (e V0) q

/-- The gate's and the value's rows. -/
def ur (r : Fin 2048) : Row := fun k => z V0 (ix2 r ⟨1024 + k.val, by omega⟩)
def vr (r : Fin 2048) : Row := fun k => z V0 (ix2 r ⟨2048 + k.val, by omega⟩)
/-- The value's gelu. -/
def vg (r : Fin 2048) : Row := fun k => gl (vr V0 r k)

theorem mask_or (i j : Fin 128) (x : EReal) :
    Scalar.select (Scalar.select (IntOp.cmpi .sge (IntOp.addi (BitVec.ofNat 32 i.val) 0#32) (BitVec.ofNat 32 j.val)) (1#1) (0#1)) x 0 = if j.val ≤ i.val then x else 0 := by
  rw [sge_at]
  by_cases h : j.val ≤ i.val
  · rw [if_pos h, if_pos h]; rfl
  · rw [if_neg h, if_neg h]; rfl

theorem v3 (h i j) : res_main_v3 (F := Ideal) V0 (ix3 h i j) = if j.val ≤ i.val then w V0 (ix3 h i j) else 0 := by
  have h0 : (id (constant (F := Ideal) S_ .f32 0#32) ix0 : EReal) = 0 := Ideal.ofBits_zero .f32
  refine Eq.trans ?_ (mask_or i j _)
  pointwise [res_main_v3]
  rw [h0]
theorem v5 (r k) : res_main_v5 (F := Ideal) V0 (ix2 r k) = ur V0 r k := by
  pointwise [res_main_v5, ur]
theorem v6 (r k) : res_main_v6 (F := Ideal) V0 (ix2 r k) = vr V0 r k := by
  pointwise [res_main_v6, vr]
theorem quot : Ideal.div (Ideal.ofBits .f32 0x472EAB00#32) (Ideal.ofBits .f32 0x49742400#32) = cub := by
  rw [ofBits_normal 0x472EAB00#32 false 142 3058432 (by decide) (by decide) (by decide) (by decide) (by decide),
    ofBits_normal 0x49742400#32 false 146 7611392 (by decide) (by decide) (by decide) (by decide) (by decide), div_real _ (by norm_num)]
  norm_num [cub]
theorem v7 : res_main_v7 (F := Ideal) V0 = fun _ => cub := by
  funext j
  pointwise [res_main_v7, quot]
theorem v29 : res_main_v29 (F := Ideal) V0 = fun _ => cub := by
  funext j
  pointwise [res_main_v29, quot]
theorem v18 (r k) : res_main_v18 (F := Ideal) V0 (ix2 r k) = th (ur V0 r k) := by
  pointwise [res_main_v18, v5, v7, th]
theorem v27 (r k) : res_main_v27 (F := Ideal) V0 (ix2 r k) = hf * (1 + th (ur V0 r k)) := by
  pointwise [res_main_v27, v18]
theorem v28 (r k) : res_main_v28 (F := Ideal) V0 (ix2 r k) = gl (ur V0 r k) := by
  refine Eq.trans ?_ (gl_auto _)
  pointwise [res_main_v28, v5, v27]
theorem v40 (r k) : res_main_v40 (F := Ideal) V0 (ix2 r k) = th (vr V0 r k) := by
  pointwise [res_main_v40, v6, v29, th]
theorem v49 (r k) : res_main_v49 (F := Ideal) V0 (ix2 r k) = hf * (1 + th (vr V0 r k)) := by
  pointwise [res_main_v49, v40]
theorem v50 (r k) : res_main_v50 (F := Ideal) V0 (ix2 r k) = vg V0 r k := by
  refine Eq.trans ?_ (gl_auto _)
  pointwise [res_main_v50, v6, v49]
theorem v56 (r k) : res_main_v56 (F := Ideal) V0 (ix2 r k) = ctr (vg V0 r) k := by
  pointwise [res_main_v56, v50, ctr, mean]
theorem v63 (r) (o : Fin 1) : res_main_v63 (F := Ideal) V0 (ix2 r o) = Ideal.div (∑ k, ctr (vg V0 r) k * ctr (vg V0 r) k) len + small := by
  pointwise [res_main_v63, v56]
theorem v64 (r) (o : Fin 1) : res_main_v64 (F := Ideal) V0 (ix2 r o) = rstd (vg V0 r) := by
  pointwise [res_main_v64, v63, rstd]
theorem v69 (r k) : res_main_v69 (F := Ideal) V0 (ix2 r k) = unit (vg V0 r) k := by
  pointwise [res_main_v69, v56, v64, unit]
/-- A row's chunk and its row there; a column's head and its column there. -/
abbrev rq (r : Fin 2048) : Fin 16 := ⟨r.val / 128, by omega⟩
abbrev ri (r : Fin 2048) : Fin 128 := ⟨r.val % 128, by omega⟩
abbrev kh (k : Fin 1024) : Fin 8 := ⟨k.val / 128, by omega⟩
abbrev kd (k : Fin 1024) : Fin 128 := ⟨k.val % 128, by omega⟩

theorem v74 (q j h d) : res_main_v74 (F := Ideal) V0 (ix4 q j h d) = (D V0 q).val j (at' h d) := by
  pointwise [res_main_v74, v69]
  rfl
theorem v83 (r k) : res_main_v83 (F := Ideal) V0 (ix2 r k) = (D V0 (rq r)).mix (kh k) (ri r) (kd k) := by
  pointwise [res_main_v83, v74, v3]
  exact congrArg (fun x : EReal => x + _) (Finset.sum_congr (M := EReal) rfl fun _ _ => mul_comm (G := EReal) _ _)
theorem v86 (r k) : res_main_v86 (F := Ideal) V0 (ix2 r k) = y V0 (ix2 r k) * (D V0 (rq r)).mix (kh k) (ri r) (kd k) := by
  pointwise [res_main_v86, v83]
theorem v87 (q i h d) : res_main_v87 (F := Ideal) V0 (ix4 q i h d) = (D V0 q).dm h i d := by
  pointwise [res_main_v87, v28]
  exact mul_comm (G := EReal) _ _
theorem v91 (h q d i) : res_main_v91 (F := Ideal) V0 (ix4 h q d i) = (D V0 q).dm h i d := by
  pointwise [res_main_v91, v87]
theorem v99 (r k) : res_main_v99 (F := Ideal) V0 (ix2 r k) = (D V0 (rq r)).dvc (ri r) k := by
  pointwise [res_main_v99, v91, v3]
  exact Finset.sum_congr (M := EReal) rfl fun _ _ => mul_comm _ _

/-- The cotangent of the norm's row, and of its input. -/
def cr (r : Fin 2048) : Row := fun k => (D V0 (rq r)).dvc (ri r) k * (D V0 (rq r)).g k
theorem v106 (r k) : res_main_v106 (F := Ideal) V0 (ix2 r k) = cr V0 r k := by
  pointwise [res_main_v106, v99, cr]
  rfl
theorem v116 (r k) : res_main_v116 (F := Ideal) V0 (ix2 r k) = sqAuto (cr V0 r) (vg V0 r) := by
  pointwise [res_main_v116, v106, v56, v63, v64, Finset.univ_unique, Finset.sum_singleton, sqAuto]
theorem v120 (r k) : res_main_v120 (F := Ideal) V0 (ix2 r k) = midAuto (cr V0 r) (vg V0 r) k := by
  pointwise [res_main_v120, v106, v56, v64, v116, midAuto]
theorem v128 (r k) : res_main_v128 (F := Ideal) V0 (ix2 r k) = backAuto (cr V0 r) (vg V0 r) k := by
  pointwise [res_main_v128, v120, Finset.univ_unique, Finset.sum_singleton, backAuto]
theorem v135 (r k) : res_main_v135 (F := Ideal) V0 (ix2 r k) = thAuto (vr V0 r k) (backAuto (cr V0 r) (vg V0 r) k) := by
  pointwise [res_main_v135, v6, v40, v128, thAuto]
theorem v147 (r k) : res_main_v147 (F := Ideal) V0 (ix2 r k) = thAuto (ur V0 r k) (y V0 (ix2 r k) * (D V0 (rq r)).mix (kh k) (ri r) (kd k)) := by
  pointwise [res_main_v147, v5, v18, v86, thAuto]

/-- A row of the whole arrays is that row of its chunk. -/
theorem row_eq (r : Fin 2048) : (⟨r.val / 128 * 128 + r.val % 128, by omega⟩ : Fin 2048) = r := Fin.ext (Nat.div_add_mod' _ _)
theorem u_eq (r : Fin 2048) (k) : ur V0 r k = (D V0 (rq r)).u (ri r) k := by
  rw [ur, ← congrArg (fun r => z V0 (ix2 r _)) (row_eq r)]; rfl
theorem v_eq (r : Fin 2048) (k) : vr V0 r k = (D V0 (rq r)).v (ri r) k := by
  rw [vr, ← congrArg (fun r => z V0 (ix2 r _)) (row_eq r)]; rfl
theorem y_eq (r : Fin 2048) (k) : y V0 (ix2 r k) = (D V0 (rq r)).y (ri r) k := by
  rw [← congrArg (fun r => y V0 (ix2 r _)) (row_eq r)]; rfl
theorem g_eq (r : Fin 2048) : vg V0 r = fun k => gl ((D V0 (rq r)).v (ri r) k) := by
  funext k; rw [vg, v_eq]

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)) ∧ r.2.sem = fun _ => 0 :=
  (θ_run defs _ _).mono (fun r h => ⟨fun c => (h c).2.2.2.2.2, sem_eq_zero_of_no_sems (by decide) r.2⟩) (Value.run m ρ)

/-- The chunks of the arguments. -/
abbrev chunks (c : Dev nD) (q : Fin 16) : Chunk :=
  chunkOf (m (c.tc.loc main_arg0)) (m (c.tc.loc main_arg1)) (m (c.tc.loc main_arg3)) (m (c.tc.loc main_arg4)) (m (c.tc.loc main_arg5)) (m (c.tc.loc main_arg6)) q

/-- The reference's results, as functions of its arguments. -/
theorem run : θ_run defs (onTc (τ := τ) (main (F := Ideal))) ⟨m, fun _ => 0, ρ⟩ fun r => ∀ c : Dev nD,
    r.2.mem (c.tc.loc main_v154) = gradZAuto (m (c.tc.loc main_arg2)) (chunkOf (m (c.tc.loc main_arg0)) (m (c.tc.loc main_arg1)) (m (c.tc.loc main_arg3)) (m (c.tc.loc main_arg4)) (m (c.tc.loc main_arg5)) (m (c.tc.loc main_arg6)))
    ∧ r.2.mem (c.tc.loc main_v104) = (fun j => ∑ q, (chunkOf (m (c.tc.loc main_arg0)) (m (c.tc.loc main_arg1)) (m (c.tc.loc main_arg3)) (m (c.tc.loc main_arg4)) (m (c.tc.loc main_arg5)) (m (c.tc.loc main_arg6)) q).dlg (j 1) : Blk 1 1024)
    ∧ r.2.mem (c.tc.loc main_v101) = (fun j => ∑ q, (chunkOf (m (c.tc.loc main_arg0)) (m (c.tc.loc main_arg1)) (m (c.tc.loc main_arg3)) (m (c.tc.loc main_arg4)) (m (c.tc.loc main_arg5)) (m (c.tc.loc main_arg6)) q).dlb (j 1) : Blk 1 1024)
    ∧ r.2.mem (c.tc.loc main_v92) = (fun j => ∑ q, (chunkOf (m (c.tc.loc main_arg0)) (m (c.tc.loc main_arg1)) (m (c.tc.loc main_arg3)) (m (c.tc.loc main_arg4)) (m (c.tc.loc main_arg5)) (m (c.tc.loc main_arg6)) q).dwm (j 0) (j 1) (j 2) : FVec Ideal ⟨3, ![8, 128, 128]⟩ .f32)
    ∧ r.2.mem (c.tc.loc main_v155) = (fun j => ∑ q, (chunkOf (m (c.tc.loc main_arg0)) (m (c.tc.loc main_arg1)) (m (c.tc.loc main_arg3)) (m (c.tc.loc main_arg4)) (m (c.tc.loc main_arg5)) (m (c.tc.loc main_arg6)) q).dbs (j 0) (j 1) : FVec Ideal ⟨3, ![8, 128, 1]⟩ .f32)
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6) := by
  refine (θ_run defs _ _).mono (fun r h c => ?_) (Value.run m ρ)
  obtain ⟨h0, h1, h2, h3, h4, h5⟩ := h c
  refine ⟨h0.trans ?_, h1.trans ?_, h2.trans ?_, h3.trans ?_, h4.trans ?_, h5⟩ <;> clear h h0 h1 h2 h3 h4 h5 <;> funext j
  · change _ = gradZAuto (launchContents m c (Proc.devRef .tc main_arg2)) (D (launchContents m c)) j
    generalize launchContents m c = V0
    idx_vars j
    pointwise [v86, v27, v147, v7, v5, v128, v49, v135, v29, v6, gradZAuto, Chunk.ducAuto, Chunk.dzvAuto, geluAuto, cr, u_eq, v_eq, y_eq, g_eq]
    have e : j1.val - 1024 - 1024 = j1.val - 2048 := by omega
    by_cases h1 : j1.val < 1024
    · simp only [dif_pos h1]
    · by_cases h2 : j1.val < 2048
      · have h3 : j1.val - 1024 < 1024 := by omega
        simp only [dif_neg h1, dif_pos h2, dif_pos h3]
        rw [y_eq]
      · have h3 : ¬ j1.val - 1024 < 1024 := by omega
        simp only [dif_neg h1, dif_neg h2, dif_neg h3, e]
        rfl
  · refine Eq.trans ?_ (sum_rows fun q i => (chunks m c q).dvc i (j 1) * (chunks m c q).row i (j 1))
    pointwise [v69, v99, g_eq]
    exact Finset.sum_congr (M := EReal) rfl fun _ _ => mul_comm (G := EReal) _ _
  · refine Eq.trans ?_ (sum_rows fun q i => (chunks m c q).dvc i (j 1))
    pointwise [v99]
  · pointwise [v91, v74]
    rfl
  · pointwise [v87, Finset.univ_unique, Finset.sum_singleton]
    exact Finset.sum_comm

end Cert.Reference5Ideal.Hand

end
-- ==== Proof.Sgu.lean ====
module

public import proofs.«01_k».proof.Defs
public import proofs.«01_k».proof.Proof.SguKernel
public import proofs.«01_k».proof.Proof.SguRef
public import Idealize.ShloMosaic.Lib.Affine

/-! The gradients of the spatial gating unit: the kernel's results are the reference's. -/

@[expose] public section

set_option maxRecDepth 16384

noncomputable section

open Idealize.ShloMosaic Idealize.ShloMosaic.TcCoe Idealize.SL.Sem

namespace Cert.Sgu

open Cert.Reals

instance preFacts : Cert.Pre_finite_sgu.Facts where
  bcast_S_S2048x3072 := by decide
  reducesTo_S2048x3072_S_d0_1 := by decide
  h_S_ := by decide
  bcast_S_S2048x1024 := by decide
  reducesTo_S2048x1024_S_d0_1 := by decide
  bcast_S_S1x1024 := by decide
  reducesTo_S1x1024_S_d0_1 := by decide
  bcast_S_S8x128x128 := by decide
  reducesTo_S8x128x128_S_d0_1_2 := by decide
  bcast_S_S8x128 := by decide
  reducesTo_S8x128_S_d0_1 := by decide

/-- The two constants of gelu stand for the decimals they are written as. -/
theorem named : Cert.preserves_Kernel5_Kernel5Ideal :=
  ⟨IdealRules.named_const.statement Cert.Kernel5Ideal.κ "gelu_cubic" .f32 0x3D372713#32 ((8943 / 200000 : ℝ) : EReal) rfl,
    IdealRules.named_const.statement Cert.Kernel5Ideal.κ "gelu_cubic_3" .f32 0x3E095D4F#32 ((26829 / 200000 : ℝ) : EReal) rfl⟩

variable {z : Blk 2048 3072} {y s : Blk 2048 1024} {g b : Blk 1 1024} {w : FVec Ideal ⟨3, ![8, 128, 128]⟩ .f32} {e : FVec Ideal ⟨2, ![8, 128]⟩ .f32}

/-- The precondition says the arrays it names are real; their chunks are then too. -/
theorem real_of_pre (hp : Cert.Pre_finite_sgu.fn (F := Ideal) z y s g b w e = fun _ => 1#1) (q : Fin 16) : (chunkOf z y g b w e q).Real := by
  have h0 := congrFun hp (fun k => k.elim0)
  simp only [Cert.Pre_finite_sgu.fn, Cert.Pre_finite_sgu.fn_part1] at h0
  obtain ⟨h1, he⟩ := IntOp.andi_eq_one.mp h0
  obtain ⟨h2, hw⟩ := IntOp.andi_eq_one.mp h1
  obtain ⟨h3, hb⟩ := IntOp.andi_eq_one.mp h2
  obtain ⟨h4, hg⟩ := IntOp.andi_eq_one.mp h3
  obtain ⟨hz, hy⟩ := IntOp.andi_eq_one.mp h4
  exact chunkOf_real (real_of_all _ _ _ _ _ hz) (real_of_all _ _ _ _ _ hy) (real_of_all _ _ _ _ _ hg) (real_of_all _ _ _ _ _ hb)
    (real_of_all _ _ _ _ _ hw) (real_of_all _ _ _ _ _ he) q

theorem alg : Cert.algebraic_Kernel5Ideal_Reference5Ideal_pre_finite_sgu
    (hKernel5Ideal := Cert.Kernel5Ideal.Gen.facts) (hReference5Ideal := Cert.Reference5Ideal.Gen.facts) (hPre_finite_sgu := preFacts) := by
  pair_intro
  · run_from Cert.Kernel5Ideal.Value.run_blocks m g
  · run_from Cert.Reference5Ideal.Hand.run m' g'
    · exact (gradZ_auto _ (real_of_pre (hpre c))).trans (Cert.Kernel5Ideal.Hand.final8 m c).symm
    · exact (Cert.Kernel5Ideal.Hand.final9 m c).symm
    · exact (Cert.Kernel5Ideal.Hand.final10 m c).symm
    · exact (Cert.Kernel5Ideal.Hand.final11 m c).symm
    · exact (Cert.Kernel5Ideal.Hand.final12 m c).symm

end Cert.Sgu

end
-- ==== Proof.MidMath.lean ====
module

public import proofs.«01_k».proof.Proof.PremixMath

/-! The gradients of the residual branch after the mixers and of the modulated norm before the feed-forward block, as functions of the arrays. -/

@[expose] public section

noncomputable section

namespace Cert.Mid

open Idealize.ShloMosaic Cert.RmsGrad Cert.Premix
open Cert.Reals hiding eps

/-- The residual stream after the branch: the branch's output, normed, weighted and gated, is added. -/
def stream (x o : Mat) (gt gp : Row) : Mat := fun j =>
  x j + gt (ix2 0 (j 1)) * (o j * Ideal.rsqrt (meanSq len eps (rowOf o (j 0))) * gp (ix2 0 (j 1)))

/-- The gradients of the gate and of the branch's weight, of the stream's cotangent `d`. -/
def dgt (d o : Mat) (gp : Row) : Row := fun j => ∑ i : Fin 2048,
  d (ix2 i (j 1)) * (o (ix2 i (j 1)) * Ideal.rsqrt (meanSq len eps (rowOf o i)) * gp (ix2 0 (j 1)))
def dgp (d o : Mat) (gt : Row) : Row := fun j => ∑ i : Fin 2048,
  d (ix2 i (j 1)) * gt (ix2 0 (j 1)) * (o (ix2 i (j 1)) * Ideal.rsqrt (meanSq len eps (rowOf o i)))

/-- The cotangent of the branch's normalised row `i`, and the same with the first product turned round. -/
abbrev cotO (d : Mat) (gt gp : Row) (i : Fin 2048) (k : Fin 2048) : EReal := d (ix2 i k) * gt (ix2 0 k) * gp (ix2 0 k)

abbrev cotO' (d : Mat) (gt gp : Row) (i : Fin 2048) (k : Fin 2048) : EReal := gt (ix2 0 k) * d (ix2 i k) * gp (ix2 0 k)

/-- The gradient of the branch's output, in the kernel's form and as automatic differentiation adds it up. -/
def dO (d o : Mat) (gt gp : Row) : FVec Ideal (⟨2, ![2048, 2048]⟩ : Shape) .bf16 := fun j => byHand len eps (cotO d gt gp (j 0)) (rowOf o (j 0)) (j 1)
def dOAuto (d o : Mat) (gt gp : Row) : FVec Ideal (⟨2, ![2048, 2048]⟩ : Shape) .bf16 := fun j =>
  cotO' d gt gp (j 0) (j 1) * Ideal.rsqrt (meanSq len eps (rowOf o (j 0)))
    + rowOf o (j 0) (j 1) * ofSquare len eps (cotO' d gt gp (j 0)) (rowOf o (j 0))
    + ofSquare len eps (cotO' d gt gp (j 0)) (rowOf o (j 0)) * rowOf o (j 0) (j 1)

theorem dO_eq {d o : Mat} {gt gp : Row} (hd : AllReal d) (ho : AllReal o) (hg : AllReal gt) (hp : AllReal gp) : dO d o gt gp = dOAuto d o gt gp := by
  funext j
  have hc : cotO' d gt gp (j 0) = cotO d gt gp (j 0) := funext fun k => congrArg (· * gp (ix2 0 k)) (mul_comm (G := EReal) _ _)
  have he : eps = ((Reals.eps : ℝ) : EReal) := ofBits_eps
  have h := byHand_auto (w := 2048) (by norm_num) eps_pos (u := cotO d gt gp (j 0)) (x := rowOf o (j 0)) (fun k => ((hd _).mul (hg _)).mul (hp _)) (fun k => ho _) (j 1) 0
  simp only [zero_add] at h
  unfold dO dOAuto
  rw [hc, he, len, ofBits_2048]
  exact h

/-- The mean of squares' reciprocal root is real on real rows. -/
theorem root_real {x : Fin 2048 → EReal} (hx : AllReal x) : IsReal (Ideal.rsqrt (meanSq len eps x)) := by
  have he : eps = ((Reals.eps : ℝ) : EReal) := ofBits_eps
  obtain ⟨h, hv⟩ := meanSq_real (w := 2048) (by norm_num) eps_pos fun i => (x i).toReal
  rw [← funext hx] at h
  rw [he, len, ofBits_2048, h, rsqrt_real hv]
  exact .coe _

/-- The stream is real where its terms are. -/
theorem stream_real {x o : Mat} {gt gp : Row} (hx : AllReal x) (ho : AllReal o) (hg : AllReal gt) (hp : AllReal gp) : AllReal (stream x o gt gp) :=
  fun _ => (hx _).add ((hg _).mul (((ho _).mul (root_real fun _ => ho _)).mul (hp _)))

/-- The stream's cotangent is real where its terms are. -/
theorem dx_real {dh x dx1 : Mat} {g sc : Row} (hd : AllReal dh) (hx : AllReal x) (h1 : AllReal dx1) (hg : AllReal g) (hs : AllReal sc) :
    AllReal (dx dh x dx1 g sc) := fun j => by
  have hc : ∀ i k, IsReal (cot dh g sc i k) := fun i k => ((hd _).mul (IsReal.one.add (hs _))).mul (hg _)
  have hr := root_real (x := rowOf x (j 0)) fun _ => hx _
  unfold dx byHand
  refine (h1 _).add (hr.mul ((hc _ _).sub (((hx _).mul hr).mul ?_)))
  have ha := IsReal.sum (Finset.univ : Finset (Fin 2048)) (f := fun i => cot dh g sc (j 0) i * (rowOf x (j 0) i * Ideal.rsqrt (meanSq len eps (rowOf x (j 0)))))
    fun i => (hc _ _).mul ((hx _).mul hr)
  rw [ha, len, ofBits_2048, div_real _ (by norm_num)]
  exact .coe _

end Cert.Mid

end
-- ==== Proof.MidKernel.lean ====
module

public import proofs.«01_k».proof.Proof.Gen.Kernel6Ideal.Frame
public import proofs.«01_k».proof.Proof.MidMath
public import Idealize.ShloMosaic.Lib.Pipeline.ValueKit

/-! What the two kernels of the residual branch after the mixers leave in each of their outputs, element by element, from what the launch finds. -/

@[expose] public section

set_option maxRecDepth 16384

noncomputable section

open Idealize.ShloMosaic Idealize.ShloMosaic.TcCoe Idealize.SL.Sem
open Idealize.ShloMosaic.Pipeline (Dat)

namespace Cert.Kernel6Ideal.Hand

open Cert.Kernel6Ideal Cert.Kernel6Ideal.Gen Cert.RmsGrad Cert.Premix Cert.Mid

variable (V : (c : Dev nD) → (b : Ref sig .tc) → Buf (Elt Ideal) ((c.tc : Thread nD τ).loc b)) (c : Dev nD)

/-- What the regions find in their arrays. -/
abbrev dhA : Mat := V c main_arg0
abbrev dx2A : Mat := V c main_arg1
abbrev xA : Mat := V c main_arg2
abbrev oA : Mat := V c main_arg3
abbrev gtA : Row := V c main_arg4
abbrev gpA : Row := V c main_arg5
abbrev g2A : Row := V c main_arg6
abbrev scA : Row := V c main_arg7
abbrev x1A : Mat := V c main_v0_0

theorem idx0 : ∀ t : Fin cfg0.N, win0_0.index t = ![t.val, 0] ∧ win0_1.index t = ![t.val, 0] ∧ win0_2.index t = ![0, 0]
    ∧ win0_3.index t = ![0, 0] ∧ win0_7.index t = ![t.val, 0] ∧ t.val < 8 := (by decide +kernel : ∀ t : Fin grid0.N, _)

theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![0, 0] ∧ win1_7.index t = ![0, 0]
    ∧ win1_8.index t = ![t.val, 0] ∧ win1_9.index t = ![t.val, 0] ∧ win1_10.index t = ![0, 0] ∧ win1_11.index t = ![0, 0] ∧ win1_12.index t = ![0, 0]
    ∧ win1_13.index t = ![0, 0] ∧ win1_14.index t = ![0, 0] ∧ t.val < 8 := (by decide +kernel : ∀ t : Fin grid1.N, _)

/-! The stores of the bodies, at an index. -/

/-- The stream after the branch. -/
theorem pay0 (o x gt gp j) : k0_pay2 (F := Ideal) o x gt gp j = x j + gt (ix2 0 (j 1))
    * (o j * Ideal.rsqrt (meanSq len eps fun i : Fin 2048 => o (ix2 (j 0) i)) * gp (ix2 0 (j 1))) := by
  pointwise [k0_pay2, meanSq]

theorem fill10 (j) : k1_pay5 (F := Ideal) j = 0 := by pointwise [k1_pay5]
theorem fill11 (j) : k1_pay6 (F := Ideal) j = 0 := by pointwise [k1_pay6]
theorem fill12 (j) : k1_pay7 (F := Ideal) j = 0 := by pointwise [k1_pay7]
theorem fill13 (j) : k1_pay8 (F := Ideal) j = 0 := by pointwise [k1_pay8]
theorem fill14 (j) : k1_pay9 (F := Ideal) j = 0 := by pointwise [k1_pay9]

theorem pay11 (dh acc j) : k1_pay13 (F := Ideal) dh acc j = acc j + ∑ k : Fin 256, dh (ix2 k (j 1)) := by
  pointwise [k1_pay13]

theorem pay10 (dh x g acc j) : k1_pay14 (F := Ideal) dh x g acc j = acc j + ∑ k : Fin 256,
    dh (ix2 k (j 1)) * (x (ix2 k (j 1)) * Ideal.rsqrt (meanSq len eps fun i : Fin 2048 => x (ix2 k i)) * g (ix2 0 (j 1))) := by
  pointwise [k1_pay14, k1_pay12, k1_pay11, k1_pay10, meanSq]

theorem pay12 (dh x sc acc j) : k1_pay16 (F := Ideal) dh (k1_pay12 x) sc acc j = acc j + ∑ k : Fin 256,
    dh (ix2 k (j 1)) * (1 + sc (ix2 0 (j 1))) * (x (ix2 k (j 1)) * Ideal.rsqrt (meanSq len eps fun i : Fin 2048 => x (ix2 k i))) := by
  pointwise [k1_pay16, k1_pay15, k1_pay12, k1_pay11, k1_pay10, meanSq]

/-- The stream's cotangent: the residual's plus the norm's gradient. -/
theorem pay8 (dh x sc dx2 g j) : k1_pay17 (F := Ideal) dh (k1_pay11 x) (k1_pay12 x) sc dx2 g j
      = dx2 j + byHand len eps (fun i : Fin 2048 => dh (ix2 (j 0) i) * (1 + sc (ix2 0 i)) * g (ix2 0 i)) (fun i : Fin 2048 => x (ix2 (j 0) i)) (j 1) := by
  pointwise [k1_pay17, k1_pay15, k1_pay12, k1_pay11, k1_pay10, meanSq, byHand]

theorem pay13 (d : FVec Ideal S256x2048 .f32) (o gp acc j) : k1_pay1 (F := Ideal) d (k1_pay19 o) gp acc j = acc j + ∑ k : Fin 256,
    d (ix2 k (j 1)) * (o (ix2 k (j 1)) * Ideal.rsqrt (meanSq len eps fun i : Fin 2048 => o (ix2 k i)) * gp (ix2 0 (j 1))) := by
  pointwise [k1_pay1, k1_pay19, k1_pay18, meanSq]

theorem pay14 (d : FVec Ideal S256x2048 .f32) (o gt acc j) : k1_pay3 (F := Ideal) d (k1_pay19 o) gt acc j = acc j + ∑ k : Fin 256,
    d (ix2 k (j 1)) * gt (ix2 0 (j 1)) * (o (ix2 k (j 1)) * Ideal.rsqrt (meanSq len eps fun i : Fin 2048 => o (ix2 k i))) := by
  pointwise [k1_pay3, k1_pay2, k1_pay19, k1_pay18, meanSq]

theorem pay9 (d : FVec Ideal S256x2048 .f32) (o gt gp j) : k1_pay4 (F := Ideal) d (k1_pay18 o) (k1_pay19 o) gt gp j
      = byHand len eps (fun i : Fin 2048 => d (ix2 (j 0) i) * gt (ix2 0 i) * gp (ix2 0 i)) (fun i : Fin 2048 => o (ix2 (j 0) i)) (j 1) := by
  pointwise [k1_pay4, k1_pay2, k1_pay19, k1_pay18, meanSq, byHand]

/-! The arrays after the last grid point. -/

/-- The first kernel leaves the stream. -/
theorem stream_arr : (dat0 V c).arrAt 7 cfg0.N = stream (xA V c) (oA V c) (gtA V c) (gpA V c) := by
  unfold stream rowOf
  refine (dat0 V c).arrAt_eq_of_covers 7 _ (by decide +kernel) fun t hf y => ?_
  blk_simp
  rw [after0_7]; frame_out; rw [pay0]; blk_point [iblk0, idx0 t, meanSq]

abbrev d1 : Mat := dx (dhA V c) (x1A V c) (dx2A V c) (g2A V c) (scA V c)

theorem final8 : (dat1 V c).arrAt 8 cfg1.N = d1 V c := by
  unfold d1 dx rowOf cot
  refine (dat1 V c).arrAt_eq_of_covers 8 _ (by decide +kernel) fun t hf y => ?_
  blk_simp
  rw [after1_8]
  by_cases h : t.val % 8 = 0
  · rw [outsAt1_A V c t h]; frame_out; rw [pay8]; blk_point [iblk1, idx1 t, meanSq, byHand]
  · rw [outsAt1_B V c t h]; frame_out; rw [pay8]; blk_point [iblk1, idx1 t, meanSq, byHand]

/-- The last grid point of the backward kernel. -/
def last : Fin cfg1.N := ⟨7, by decide⟩

theorem final10 : (dat1 V c).arrAt 10 cfg1.N = dsc (dhA V c) (x1A V c) (g2A V c) := by
  unfold dsc rowOf
  refine (dat1 V c).arrAt_eq_of_after_last 10 last (by decide +kernel) _ fun j => ?_
  blk_simp
  rw [after1_10, Pipeline.eq_sum_fin_of_reset_step_apply_last (fun n h => (outsAt1 V c n h).2.2.1) 8 (fun _ => 0) _
    (fun t h j => by rw [outsAt1_A V c t h]; frame_out; rw [pay10, fill10])
    (fun t h j => by rw [outsAt1_B V c t h]; frame_out; rw [pay10])
    (le_of_eq N_1) last rfl j, zero_add]
  refine Fin.sum_mul_add_congr fun s k hl => ?_
  blk_point [iblk1, idx1 s, meanSq, rowOf]

theorem final11 : (dat1 V c).arrAt 11 cfg1.N = dsh (dhA V c) := by
  unfold dsh
  refine (dat1 V c).arrAt_eq_of_after_last 11 last (by decide +kernel) _ fun j => ?_
  blk_simp
  rw [after1_11, Pipeline.eq_sum_fin_of_reset_step_apply_last (fun n h => (outsAt1 V c n h).2.2.2.1) 8 (fun _ => 0) _
    (fun t h j => by rw [outsAt1_A V c t h]; frame_out; rw [pay11, fill11])
    (fun t h j => by rw [outsAt1_B V c t h]; frame_out; rw [pay11])
    (le_of_eq N_1) last rfl j, zero_add]
  refine Fin.sum_mul_add_congr fun s k hl => ?_
  blk_ext [iblk1, idx1 s]

theorem final12 : (dat1 V c).arrAt 12 cfg1.N = dg (dhA V c) (x1A V c) (scA V c) := by
  unfold dg rowOf
  refine (dat1 V c).arrAt_eq_of_after_last 12 last (by decide +kernel) _ fun j => ?_
  blk_simp
  rw [after1_12, Pipeline.eq_sum_fin_of_reset_step_apply_last (fun n h => (outsAt1 V c n h).2.2.2.2.1) 8 (fun _ => 0) _
    (fun t h j => by rw [outsAt1_A V c t h]; frame_out; rw [pay12, fill12])
    (fun t h j => by rw [outsAt1_B V c t h]; frame_out; rw [pay12])
    (le_of_eq N_1) last rfl j, zero_add]
  refine Fin.sum_mul_add_congr fun s k hl => ?_
  blk_point [iblk1, idx1 s, meanSq, rowOf]

theorem final13 : (dat1 V c).arrAt 13 cfg1.N = dgt (d1 V c) (oA V c) (gpA V c) := by
  unfold dgt d1 dx rowOf cot
  refine (dat1 V c).arrAt_eq_of_after_last 13 last (by decide +kernel) _ fun j => ?_
  blk_simp
  rw [after1_13, Pipeline.eq_sum_fin_of_reset_step_apply_last (fun n h => (outsAt1 V c n h).2.2.2.2.2.1) 8 (fun _ => 0) _
    (fun t h j => by rw [outsAt1_A V c t h]; frame_out; rw [pay13, fill13])
    (fun t h j => by rw [outsAt1_B V c t h]; frame_out; rw [pay13])
    (le_of_eq N_1) last rfl j, zero_add]
  refine Fin.sum_mul_add_congr fun s k hl => ?_
  simp only [pay8]
  blk_point [iblk1, idx1 s, meanSq, byHand]
  rfl

theorem final14 : (dat1 V c).arrAt 14 cfg1.N = dgp (d1 V c) (oA V c) (gtA V c) := by
  unfold dgp d1 dx rowOf cot
  refine (dat1 V c).arrAt_eq_of_after_last 14 last (by decide +kernel) _ fun j => ?_
  blk_simp
  rw [after1_14, Pipeline.eq_sum_fin_of_reset_step_apply_last (fun n h => (outsAt1 V c n h).2.2.2.2.2.2) 8 (fun _ => 0) _
    (fun t h j => by rw [outsAt1_A V c t h]; frame_out; rw [pay14, fill14])
    (fun t h j => by rw [outsAt1_B V c t h]; frame_out; rw [pay14])
    (le_of_eq N_1) last rfl j, zero_add]
  refine Fin.sum_mul_add_congr fun s k hl => ?_
  simp only [pay8]
  blk_point [iblk1, idx1 s, meanSq, byHand]
  rfl

/-- A row of the branch's gradient depends on the stream's cotangent through that row alone. -/
theorem row9 (t : Fin cfg1.N) (i : Fin 256) (k : Fin 2048) :
    k1_pay17 (F := Ideal) (iblk1 V c 0 t) (k1_pay11 (iblk1 V c 1 t)) (k1_pay12 (iblk1 V c 1 t)) (iblk1 V c 5 t) (iblk1 V c 2 t) (iblk1 V c 4 t) (ix2 i k)
      = d1 V c (ix2 ⟨256 * t.val + i.val, by have := lt_of_lt_of_eq t.isLt (show cfg1.N = 8 from N_1); omega⟩ k) := by
  unfold d1 dx rowOf cot
  rw [pay8]
  blk_point [iblk1, idx1 t, meanSq, byHand]
  rfl

/-- What the kernel stores of the branch's gradient at point `t`, from the rows of the stream's cotangent it has just made. -/
theorem blk9 (d : Mat) (t : Fin cfg1.N) (D : FVec Ideal S256x2048 .f32) (y : S256x2048.Idx)
    (hD : ∀ (i : Fin 256) (k : Fin 2048), D (ix2 i k) = d (ix2 ⟨256 * t.val + i.val, by
      have := lt_of_lt_of_eq t.isLt (show cfg1.N = 8 from N_1); omega⟩ k)) :
    k1_pay4 (F := Ideal) D (k1_pay18 (iblk1 V c 3 t)) (k1_pay19 (iblk1 V c 3 t)) (iblk1 V c 6 t) (iblk1 V c 7 t) y
      = dO d (oA V c) (gtA V c) (gpA V c) (ix2 ⟨256 * t.val + (y 0).val, by
          have := lt_of_lt_of_eq t.isLt (show cfg1.N = 8 from N_1); have : (y 0).val < 256 := (y 0).isLt; omega⟩ (y 1)) := by
  unfold dO rowOf cotO
  rw [pay9]
  have h : ∀ k : Fin 2048, D (ix2 (y 0) k) = _ := fun k => hD (y 0) k
  simp only [h]
  blk_point [iblk1, idx1 t, meanSq, byHand]
  all_goals rfl

theorem final9 : (dat1 V c).arrAt 9 cfg1.N = dO (d1 V c) (oA V c) (gtA V c) (gpA V c) := by
  refine (dat1 V c).arrAt_eq_of_covers 9 _ (by decide +kernel) fun t hf y => ?_
  blk_simp
  rw [after1_9]
  by_cases h : t.val % 8 = 0
  · rw [outsAt1_A V c t h]; frame_out; refine (blk9 V c (d1 V c) t _ y (row9 V c t)).trans (congrArg _ ?_); blk_ext [idx1 t]
  · rw [outsAt1_B V c t h]; frame_out; refine (blk9 V c (d1 V c) t _ y (row9 V c t)).trans (congrArg _ ?_); blk_ext [idx1 t]

end Cert.Kernel6Ideal.Hand

end
-- ==== Proof.MidRun.lean ====
module

public import proofs.«01_k».proof.Proof.MidKernel

/-! The run of the two kernels of the residual branch after the mixers: every array after the launch, and the results as functions of the arguments. -/

@[expose] public section

set_option maxRecDepth 16384

noncomputable section

namespace Cert.Kernel6Ideal.Hand

open Cert.Kernel6Ideal Cert.Kernel6Ideal.Gen Cert.Premix Cert.Mid
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every unscoped array ends at the last boundary's contents. -/
theorem run_all : θ_run defs (onTc (τ := τ) (main (F := Ideal))) ⟨m, fun _ => 0, ρ⟩ (fun r => ∀ c : Dev nD, ∀ b ∈ Pipeline.ucRefs τ sig,
    r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- What the backward kernel finds where the forward one has written. -/
theorem x1_found (c : Dev nD) : x1A (V1 m ρ) c = stream (m (c.tc.loc main_arg2)) (m (c.tc.loc main_arg3)) (m (c.tc.loc main_arg4)) (m (c.tc.loc main_arg5)) :=
  (W1_arr m ρ c 7).trans (stream_arr (V0 m ρ) c)

/-- What either kernel finds in an argument. -/
theorem arg_found (c : Dev nD) (a : Ref sig .tc) (h : a ∈ argRefs) : V1 m ρ c a = m (c.tc.loc a) := W1_args m ρ c a h

/-- The kernel's results, as functions of its arguments. -/
theorem run : θ_run defs (onTc (τ := τ) (main (F := Ideal))) ⟨m, fun _ => 0, ρ⟩ fun r => ∀ c : Dev nD,
    r.2.mem (c.tc.loc main_v1_0) = dx (m (c.tc.loc main_arg0)) (stream (m (c.tc.loc main_arg2)) (m (c.tc.loc main_arg3)) (m (c.tc.loc main_arg4)) (m (c.tc.loc main_arg5))) (m (c.tc.loc main_arg1)) (m (c.tc.loc main_arg6)) (m (c.tc.loc main_arg7))
    ∧ r.2.mem (c.tc.loc main_v1_1) = dO (dx (m (c.tc.loc main_arg0)) (stream (m (c.tc.loc main_arg2)) (m (c.tc.loc main_arg3)) (m (c.tc.loc main_arg4)) (m (c.tc.loc main_arg5))) (m (c.tc.loc main_arg1)) (m (c.tc.loc main_arg6)) (m (c.tc.loc main_arg7))) (m (c.tc.loc main_arg3)) (m (c.tc.loc main_arg4)) (m (c.tc.loc main_arg5))
    ∧ r.2.mem (c.tc.loc main_v1_2) = dsc (m (c.tc.loc main_arg0)) (stream (m (c.tc.loc main_arg2)) (m (c.tc.loc main_arg3)) (m (c.tc.loc main_arg4)) (m (c.tc.loc main_arg5))) (m (c.tc.loc main_arg6))
    ∧ r.2.mem (c.tc.loc main_v1_3) = dsh (m (c.tc.loc main_arg0))
    ∧ r.2.mem (c.tc.loc main_v1_4) = dg (m (c.tc.loc main_arg0)) (stream (m (c.tc.loc main_arg2)) (m (c.tc.loc main_arg3)) (m (c.tc.loc main_arg4)) (m (c.tc.loc main_arg5))) (m (c.tc.loc main_arg7))
    ∧ r.2.mem (c.tc.loc main_v1_5) = dgt (dx (m (c.tc.loc main_arg0)) (stream (m (c.tc.loc main_arg2)) (m (c.tc.loc main_arg3)) (m (c.tc.loc main_arg4)) (m (c.tc.loc main_arg5))) (m (c.tc.loc main_arg1)) (m (c.tc.loc main_arg6)) (m (c.tc.loc main_arg7))) (m (c.tc.loc main_arg3)) (m (c.tc.loc main_arg5))
    ∧ r.2.mem (c.tc.loc main_v1_6) = dgp (dx (m (c.tc.loc main_arg0)) (stream (m (c.tc.loc main_arg2)) (m (c.tc.loc main_arg3)) (m (c.tc.loc main_arg4)) (m (c.tc.loc main_arg5))) (m (c.tc.loc main_arg1)) (m (c.tc.loc main_arg6)) (m (c.tc.loc main_arg7))) (m (c.tc.loc main_arg3)) (m (c.tc.loc main_arg4))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8) := by
  refine (θ_run defs _ _).mono (fun r h c => ?_) (run_all m ρ)
  have hx := x1_found m ρ c
  have ha := fun (a : Ref sig .tc) (i : a ∈ argRefs) => arg_found m ρ c a i
  have a0 : dhA (V1 m ρ) c = m (c.tc.loc main_arg0) := ha main_arg0 (by decide)
  have a1 : dx2A (V1 m ρ) c = m (c.tc.loc main_arg1) := ha main_arg1 (by decide)
  have a2 : xA (V1 m ρ) c = m (c.tc.loc main_arg2) := ha main_arg2 (by decide)
  have a3 : oA (V1 m ρ) c = m (c.tc.loc main_arg3) := ha main_arg3 (by decide)
  have a4 : gtA (V1 m ρ) c = m (c.tc.loc main_arg4) := ha main_arg4 (by decide)
  have a5 : gpA (V1 m ρ) c = m (c.tc.loc main_arg5) := ha main_arg5 (by decide)
  have a6 : g2A (V1 m ρ) c = m (c.tc.loc main_arg6) := ha main_arg6 (by decide)
  have a7 : scA (V1 m ρ) c = m (c.tc.loc main_arg7) := ha main_arg7 (by decide)
  have hd : d1 (V1 m ρ) c = dx (m (c.tc.loc main_arg0)) (stream (m (c.tc.loc main_arg2)) (m (c.tc.loc main_arg3)) (m (c.tc.loc main_arg4)) (m (c.tc.loc main_arg5))) (m (c.tc.loc main_arg1)) (m (c.tc.loc main_arg6)) (m (c.tc.loc main_arg7)) := by rw [d1, hx, a0, a1, a6, a7]
  refine ⟨(h c _ (mem_uc main_v1_0 (by decide))).trans ((W2_arr m ρ c 8).trans ((final8 (V1 m ρ) c).trans ?_)),
    (h c _ (mem_uc main_v1_1 (by decide))).trans ((W2_arr m ρ c 9).trans ((final9 (V1 m ρ) c).trans ?_)),
    (h c _ (mem_uc main_v1_2 (by decide))).trans ((W2_arr m ρ c 10).trans ((final10 (V1 m ρ) c).trans ?_)),
    (h c _ (mem_uc main_v1_3 (by decide))).trans ((W2_arr m ρ c 11).trans ((final11 (V1 m ρ) c).trans ?_)),
    (h c _ (mem_uc main_v1_4 (by decide))).trans ((W2_arr m ρ c 12).trans ((final12 (V1 m ρ) c).trans ?_)),
    (h c _ (mem_uc main_v1_5 (by decide))).trans ((W2_arr m ρ c 13).trans ((final13 (V1 m ρ) c).trans ?_)),
    (h c _ (mem_uc main_v1_6 (by decide))).trans ((W2_arr m ρ c 14).trans ((final14 (V1 m ρ) c).trans ?_)),
    (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c),
    (h c _ (mem_uc main_arg7 (by decide))).trans (W2_main_arg7 m ρ c),
    (h c _ (mem_uc main_arg8 (by decide))).trans (W2_main_arg8 m ρ c)⟩
  · exact hd
  · rw [hd, a3, a4, a5]
  · rw [hx, a0, a6]
  · rw [a0]
  · rw [hx, a0, a7]
  · rw [hd, a3, a5]
  · rw [hd, a3, a4]

end Cert.Kernel6Ideal.Hand

end
-- ==== Proof.MidRef.lean ====
module

public import proofs.«01_k».proof.Proof.Gen.Reference6Ideal.Run
public import proofs.«01_k».proof.Proof.MidMath

/-! What the reference of the residual branch after the mixers computes, element by element. -/

@[expose] public section

set_option maxRecDepth 16384

noncomputable section

open Idealize.ShloMosaic Idealize.ShloMosaic.TcCoe Idealize.SL.Sem

namespace Cert.Reference6Ideal.Hand

open Cert.Reference6Ideal Cert.Reference6Ideal.Gen Cert.RmsGrad Cert.Premix Cert.Mid

variable (m : (ℓ : Loc nD τ sig) → Buf (Elt Ideal) ℓ) (ρ : Dev nD → PrngReg) (c : Dev nD)

/-- The stream the reference recomputes, from its arguments. -/
abbrev x1R : Mat := stream (m (c.tc.loc main_arg2)) (m (c.tc.loc main_arg3)) (m (c.tc.loc main_arg4)) (m (c.tc.loc main_arg5))
/-- The stream's cotangent, as automatic differentiation adds it up. -/
abbrev d1R : Mat := dxAuto (m (c.tc.loc main_arg0)) (x1R m c) (m (c.tc.loc main_arg1)) (m (c.tc.loc main_arg6)) (m (c.tc.loc main_arg7))

theorem dx_ref : Value.res_main_v66 m c = d1R m c := by
  funext i
  pointwise [Value.res_main_v66, d1R, x1R, stream, dxAuto, ofSquare, meanSq, rowOf, cot, Finset.univ_unique, Finset.sum_singleton]

theorem do_ref : Value.res_main_v92 m c = dOAuto (d1R m c) (m (c.tc.loc main_arg3)) (m (c.tc.loc main_arg4)) (m (c.tc.loc main_arg5)) := by
  funext i
  pointwise [Value.res_main_v92, d1R, x1R, stream, dxAuto, ofSquare, meanSq, rowOf, cot, dOAuto, cotO', Finset.univ_unique, Finset.sum_singleton]

theorem dgt_ref : Value.res_main_v72 m c = dgt (d1R m c) (m (c.tc.loc main_arg3)) (m (c.tc.loc main_arg5)) := by
  funext i
  pointwise [Value.res_main_v72, d1R, x1R, stream, dxAuto, ofSquare, meanSq, rowOf, cot, dgt, Finset.univ_unique, Finset.sum_singleton]

theorem dgp_ref : Value.res_main_v75 m c = dgp (d1R m c) (m (c.tc.loc main_arg3)) (m (c.tc.loc main_arg4)) := by
  funext i
  pointwise [Value.res_main_v75, d1R, x1R, stream, dxAuto, ofSquare, meanSq, rowOf, cot, dgp, Finset.univ_unique, Finset.sum_singleton]
  exact Finset.sum_congr (M := EReal) rfl fun _ _ => (mul_comm (G := EReal) _ _).trans (congrArg (fun z : EReal => z * _) (mul_comm (G := EReal) _ _))

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8)) ∧ r.2.sem = fun _ => 0 :=
  (θ_run defs _ _).mono (fun r h => ⟨fun c => (h c).2.2.2.2.2.2.2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v66) = (dxAuto (m (c.tc.loc main_arg0)) (stream (m (c.tc.loc main_arg2)) (m (c.tc.loc main_arg3)) (m (c.tc.loc main_arg4)) (m (c.tc.loc main_arg5))) (m (c.tc.loc main_arg1)) (m (c.tc.loc main_arg6)) (m (c.tc.loc main_arg7)))
    ∧ r.2.mem (c.tc.loc main_v92) = dOAuto (dxAuto (m (c.tc.loc main_arg0)) (stream (m (c.tc.loc main_arg2)) (m (c.tc.loc main_arg3)) (m (c.tc.loc main_arg4)) (m (c.tc.loc main_arg5))) (m (c.tc.loc main_arg1)) (m (c.tc.loc main_arg6)) (m (c.tc.loc main_arg7))) (m (c.tc.loc main_arg3)) (m (c.tc.loc main_arg4)) (m (c.tc.loc main_arg5))
    ∧ r.2.mem (c.tc.loc main_v44) = dsc (m (c.tc.loc main_arg0)) (stream (m (c.tc.loc main_arg2)) (m (c.tc.loc main_arg3)) (m (c.tc.loc main_arg4)) (m (c.tc.loc main_arg5))) (m (c.tc.loc main_arg6))
    ∧ r.2.mem (c.tc.loc main_v41) = dsh (m (c.tc.loc main_arg0))
    ∧ r.2.mem (c.tc.loc main_v49) = dg (m (c.tc.loc main_arg0)) (stream (m (c.tc.loc main_arg2)) (m (c.tc.loc main_arg3)) (m (c.tc.loc main_arg4)) (m (c.tc.loc main_arg5))) (m (c.tc.loc main_arg7))
    ∧ r.2.mem (c.tc.loc main_v72) = dgt (dxAuto (m (c.tc.loc main_arg0)) (stream (m (c.tc.loc main_arg2)) (m (c.tc.loc main_arg3)) (m (c.tc.loc main_arg4)) (m (c.tc.loc main_arg5))) (m (c.tc.loc main_arg1)) (m (c.tc.loc main_arg6)) (m (c.tc.loc main_arg7))) (m (c.tc.loc main_arg3)) (m (c.tc.loc main_arg5))
    ∧ r.2.mem (c.tc.loc main_v75) = dgp (dxAuto (m (c.tc.loc main_arg0)) (stream (m (c.tc.loc main_arg2)) (m (c.tc.loc main_arg3)) (m (c.tc.loc main_arg4)) (m (c.tc.loc main_arg5))) (m (c.tc.loc main_arg1)) (m (c.tc.loc main_arg6)) (m (c.tc.loc main_arg7))) (m (c.tc.loc main_arg3)) (m (c.tc.loc main_arg4))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8) := by
  refine (θ_run defs _ _).mono (fun r h c => ?_) (Value.run m ρ)
  obtain ⟨h0, h1, h2, h3, h4, h5, h6, h7⟩ := h c
  refine ⟨h0.trans (dx_ref m c), h1.trans (do_ref m c), h2.trans ?_, h3.trans ?_, h4.trans ?_, h5.trans (dgt_ref m c), h6.trans (dgp_ref m c), h7⟩
  · funext i
    pointwise [dsc, stream, meanSq, rowOf]
    exact Finset.sum_congr (M := EReal) rfl fun i _ => mul_comm (G := EReal) _ _
  · funext i
    pointwise [dsh]
  · funext i
    pointwise [dg, stream, meanSq, rowOf]
    exact Finset.sum_congr (M := EReal) rfl fun i _ => mul_comm (G := EReal) _ _

end Cert.Reference6Ideal.Hand

end
-- ==== Proof.Mid.lean ====
module

public import proofs.«01_k».proof.Defs
public import proofs.«01_k».proof.Proof.MidRun
public import proofs.«01_k».proof.Proof.MidRef
public import Idealize.ShloMosaic.Lib.Affine

/-! The gradients of the residual branch after the mixers: that the kernel's results are the reference's. -/

@[expose] public section

set_option maxRecDepth 16384

noncomputable section

open Idealize.ShloMosaic Idealize.ShloMosaic.TcCoe Idealize.SL.Sem

namespace Cert.Mid

open Cert.Reals Cert.Premix

instance preFacts : Cert.Pre_finite_mid.Facts where
  bcast_S_S2048x2048 := by decide
  reducesTo_S2048x2048_S_d0_1 := by decide
  h_S_ := by decide
  bcast_S_S1x2048 := by decide
  reducesTo_S1x2048_S_d0_1 := by decide

/-- The precondition says the arrays it names are real. -/
theorem real_of_pre (dh dx2 x o : Mat) (gt gp g2 sc sh : Row) (h : Cert.Pre_finite_mid.fn (F := Ideal) dh dx2 x o gt gp g2 sc sh = fun _ => 1#1) :
    AllReal dh ∧ AllReal dx2 ∧ AllReal x ∧ AllReal o ∧ AllReal gt ∧ AllReal gp ∧ AllReal g2 ∧ AllReal sc := by
  have h0 := congrFun h (fun k => k.elim0)
  simp only [Cert.Pre_finite_mid.fn, Cert.Pre_finite_mid.fn_part1, Cert.Pre_finite_mid.fn_part2] at h0
  obtain ⟨h1, r0⟩ := IntOp.andi_eq_one.mp h0
  obtain ⟨h2, r1⟩ := IntOp.andi_eq_one.mp h1
  obtain ⟨h3, r2⟩ := IntOp.andi_eq_one.mp h2
  obtain ⟨h4, r3⟩ := IntOp.andi_eq_one.mp h3
  obtain ⟨h5, r4⟩ := IntOp.andi_eq_one.mp h4
  obtain ⟨h6, r5⟩ := IntOp.andi_eq_one.mp h5
  obtain ⟨h7, r6⟩ := IntOp.andi_eq_one.mp h6
  exact ⟨real_of_all _ _ _ _ _ h7, real_of_all _ _ _ _ _ r6, real_of_all _ _ _ _ _ r5, real_of_all _ _ _ _ _ r4, real_of_all _ _ _ _ _ r3, real_of_all _ _ _ _ _ r2, real_of_all _ _ _ _ _ r1, real_of_all _ _ _ _ _ r0⟩

theorem alg : Cert.algebraic_Kernel6Ideal_Reference6Ideal_pre_finite_mid
    (hKernel6Ideal := Cert.Kernel6Ideal.Gen.facts) (hReference6Ideal := Cert.Reference6Ideal.Gen.facts) (hPre_finite_mid := preFacts) := by
  pair_intro
  · run_from Cert.Kernel6Ideal.Hand.run m g
  · run_from Cert.Reference6Ideal.Hand.run m' g'
    all_goals obtain ⟨hdh, hdx2, hx, ho, hgt, hgp, hg2, hsc⟩ := real_of_pre _ _ _ _ _ _ _ _ _ (hpre c)
    all_goals first | rfl | rw [← dx_eq _ _ _ _ _ hdh (stream_real hx ho hgt hgp) hg2 hsc]
    rw [← dO_eq (dx_real hdh (stream_real hx ho hgt hgp) hdx2 hg2 hsc) ho hgt hgp]

end Cert.Mid

end
-- ==== Proof.PrepMath.lean ====
module

public import proofs.«01_k».proof.Proof.Reals
public import Idealize.ShloMosaic.Lib.ValueIdx

/-! The gradient of the state-space layer's discretisation, for one state of one group: the kernel's complex products and what automatic differentiation adds up. -/

@[expose] public section

noncomputable section

namespace Cert.Prep

open Idealize.ShloMosaic Cert.Reals

/-! One state: `a + ib` its rate, `d` its step, `G`, `H` the sums its input row contributes, `l`, `l'` the cotangent of its eigenvalue. -/

def lamRe (a b d : EReal) : EReal := Ideal.exp (a * d) * Ideal.cos (b * d)
def lamIm (a b d : EReal) : EReal := Ideal.exp (a * d) * Ideal.sin (b * d)
def sq (a b : EReal) : EReal := a * a + b * b
def numRe (a b d : EReal) : EReal := (lamRe a b d - 1) * a + lamIm a b d * b
def numIm (a b d : EReal) : EReal := lamIm a b d * a - (lamRe a b d - 1) * b
def fRe (a b d : EReal) : EReal := Ideal.div (numRe a b d) (sq a b)
def fIm (a b d : EReal) : EReal := Ideal.div (numIm a b d) (sq a b)

/-! The kernel's lines. -/

def gRe (a b G H l : EReal) : EReal := l + (Ideal.div a (sq a b) * G + Ideal.div (-b) (sq a b) * H)
def gIm (a b G H l' : EReal) : EReal := l' + (Ideal.div a (sq a b) * H - Ideal.div (-b) (sq a b) * G)
def qRe (a b d : EReal) : EReal := -(fRe a b d * Ideal.div a (sq a b) - fIm a b d * Ideal.div (-b) (sq a b))
def qIm (a b d : EReal) : EReal := -(fRe a b d * Ideal.div (-b) (sq a b) + fIm a b d * Ideal.div a (sq a b))
def dRe (a b d G H l l' : EReal) : EReal := qRe a b d * G + qIm a b d * H + d * (lamRe a b d * gRe a b G H l + lamIm a b d * gIm a b G H l')
def dIm (a b d G H l l' : EReal) : EReal := qRe a b d * H - qIm a b d * G + d * (lamRe a b d * gIm a b G H l' - lamIm a b d * gRe a b G H l)
def dStep (a b d G H l l' : EReal) : EReal :=
  (a * lamRe a b d - b * lamIm a b d) * gRe a b G H l + (a * lamIm a b d + b * lamRe a b d) * gIm a b G H l'

/-! The reference's lines. -/

def cSq (a b d G H : EReal) : EReal :=
  -(H * Ideal.div 1 (sq a b * sq a b) * numIm a b d) + -(G * Ideal.div 1 (sq a b * sq a b) * numRe a b d)
def cRe (a b G H l : EReal) : EReal := l + -Ideal.div H (sq a b) * b + Ideal.div G (sq a b) * a
def cIm (a b G H l' : EReal) : EReal := l' + Ideal.div H (sq a b) * a + Ideal.div G (sq a b) * b
def cCos (a b d G H l' : EReal) : EReal := Ideal.exp (a * d) * cIm a b G H l' * Ideal.cos (b * d)
def cSin (a b d G H l : EReal) : EReal := -(Ideal.exp (a * d) * cRe a b G H l) * Ideal.sin (b * d)
def cExp (a b d G H l l' : EReal) : EReal := (cIm a b G H l' * Ideal.sin (b * d) + cRe a b G H l * Ideal.cos (b * d)) * Ideal.exp (a * d)
def rRe (a b d G H l l' : EReal) : EReal :=
  lamIm a b d * Ideal.div H (sq a b) + (lamRe a b d - 1) * Ideal.div G (sq a b) + a * cSq a b d G H + cSq a b d G H * a + cExp a b d G H l l' * d
def rIm (a b d G H l l' : EReal) : EReal :=
  (lamRe a b d - 1) * -Ideal.div H (sq a b) + lamIm a b d * Ideal.div G (sq a b) + b * cSq a b d G H + cSq a b d G H * b
    + cCos a b d G H l' * d + cSin a b d G H l * d
def rStep (a b d G H l l' : EReal) : EReal := b * cCos a b d G H l' + b * cSin a b d G H l + a * cExp a b d G H l l'

/-! The arrays: what the packing of the 64 groups of 64 states into 4096 columns reads, and the results on that packing. -/

abbrev Steps : Type := FVec Ideal (⟨2, ![1, 64]⟩ : Shape) .f32
abbrev Rates : Type := FVec Ideal (⟨2, ![64, 64]⟩ : Shape) .f32
abbrev Coefs : Type := FVec Ideal (⟨3, ![64, 64, 16]⟩ : Shape) .f32
abbrev Line : Type := FVec Ideal (⟨2, ![1, 4096]⟩ : Shape) .f32
abbrev Sheet : Type := FVec Ideal (⟨2, ![16, 4096]⟩ : Shape) .f32

/-- A column's group and its state. -/
abbrev grp (j : Fin 4096) : Fin 64 := ⟨j.val / 64, by omega⟩
abbrev sta (j : Fin 4096) : Fin 64 := ⟨j.val % 64, by omega⟩
/-- A state's entry, a group's step. -/
abbrev rate (x : Rates) (j : Fin 4096) : EReal := x (ix2 (grp j) (sta j))
abbrev step (x : Steps) (j : Fin 4096) : EReal := Ideal.exp (x (ix2 0 (grp j)))
abbrev coef (x : Coefs) (j : Fin 4096) (k : Fin 16) : EReal := x (ix3 (grp j) (sta j) k)

/-- What a state's input row contributes. -/
def gs (br bi dr di : Fin 16 → EReal) : EReal := ∑ k : Fin 16, (br k * dr k + bi k * di k)
def hs (br bi dr di : Fin 16 → EReal) : EReal := ∑ k : Fin 16, (br k * di k - bi k * dr k)
def bRe (a b d dr di : EReal) : EReal := fRe a b d * dr + fIm a b d * di
def bIm (a b d dr di : EReal) : EReal := fRe a b d * di - fIm a b d * dr

section
variable (t : Steps) (A B : Rates) (br bi dr di : Coefs) (l l' : Rates)

/-- The gradient of the input matrix. -/
def resBRe : Sheet := fun i => bRe (rate A (i 1)) (rate B (i 1)) (step t (i 1)) (coef dr (i 1) (i 0)) (coef di (i 1) (i 0))
def resBIm : Sheet := fun i => bIm (rate A (i 1)) (rate B (i 1)) (step t (i 1)) (coef dr (i 1) (i 0)) (coef di (i 1) (i 0))
/-- A gradient of a state's own numbers, from its line `f`. -/
def ofLine (f : EReal → EReal → EReal → EReal → EReal → EReal → EReal → EReal) (g n : Fin 64) : EReal :=
  f (A (ix2 g n)) (B (ix2 g n)) (Ideal.exp (t (ix2 0 g)))
    (gs (fun k => br (ix3 g n k)) (fun k => bi (ix3 g n k)) (fun k => dr (ix3 g n k)) (fun k => di (ix3 g n k)))
    (hs (fun k => br (ix3 g n k)) (fun k => bi (ix3 g n k)) (fun k => dr (ix3 g n k)) (fun k => di (ix3 g n k))) (l (ix2 g n)) (l' (ix2 g n))
/-- The gradient of the rates. -/
def resA (f : EReal → EReal → EReal → EReal → EReal → EReal → EReal → EReal) : Line := fun i => ofLine t A B br bi dr di l l' f (grp (i 1)) (sta (i 1))
/-- The gradient of the step's logarithm, for a group. -/
def resT (f : EReal → EReal → EReal → EReal → EReal → EReal → EReal → EReal) : FVec Ideal (⟨2, ![64, 1]⟩ : Shape) .f32 :=
  fun i => (∑ n : Fin 64, ofLine t A B br bi dr di l l' f (i 0) n) * Ideal.exp (t (ix2 0 (i 0)))
end

/-- The sums of an input row, as automatic differentiation forms them. -/
theorem gs_eq (br bi dr di : Fin 16 → EReal) : gs br bi dr di = (∑ k, di k * bi k) + ∑ k, dr k * br k := by
  rw [gs, Finset.sum_add_distrib, add_comm]; simp only [mul_comm]
theorem hs_eq (br bi dr di : Fin 16 → EReal) : hs br bi dr di = (∑ k, di k * br k) + ∑ k, -dr k * bi k := by
  rw [hs, ← Finset.sum_add_distrib]
  exact Finset.sum_congr rfl fun k _ => by rw [sub_eq_add_neg, mul_comm, EReal.neg_mul, mul_comm (bi k)]

theorem sub_of_neg (x z w : EReal) : x + z * -w = x - z * w := by rw [mul_neg, sub_eq_add_neg]

/-- The step's gradient as automatic differentiation sums it: the cosine's, the sine's and the exponential's share apart. -/
def resTAuto (t : Steps) (A B : Rates) (br bi dr di : Coefs) (l l' : Rates) : FVec Ideal (⟨2, ![64, 1]⟩ : Shape) .f32 :=
  fun i => ((∑ n : Fin 64, ofLine t A B br bi dr di l l' (fun a b d G H _ l' => b * cCos a b d G H l') (i 0) n)
    + (∑ n : Fin 64, ofLine t A B br bi dr di l l' (fun a b d G H l _ => b * cSin a b d G H l) (i 0) n)
    + ∑ n : Fin 64, ofLine t A B br bi dr di l l' (fun a b d G H l l' => a * cExp a b d G H l l') (i 0) n) * Ideal.exp (t (ix2 0 (i 0)))

theorem resT_auto (t : Steps) (A B : Rates) (br bi dr di : Coefs) (l l' : Rates) :
    resT t A B br bi dr di l l' rStep = resTAuto t A B br bi dr di l l' := by
  unfold resT resTAuto
  simp only [← Finset.sum_add_distrib]; rfl

/-- A column's group and state. -/
theorem grp_mk (g n : Fin 64) (h) : grp ⟨g.val * 64 + n.val, h⟩ = g := Fin.ext (by simp only []; omega)
theorem sta_mk (g n : Fin 64) (h) : sta ⟨g.val * 64 + n.val, h⟩ = n := Fin.ext (by simp only []; omega)

theorem exp_coe (x : ℝ) : Ideal.exp (x : EReal) = (Real.exp x : EReal) := rfl
theorem cos_coe (x : ℝ) : Ideal.cos (x : EReal) = (Real.cos x : EReal) := rfl
theorem sin_coe (x : ℝ) : Ideal.sin (x : EReal) = (Real.sin x : EReal) := rfl
theorem one_coe : (1 : EReal) = ((1 : ℝ) : EReal) := rfl

/-- On real numbers, with a rate that is not zero, the two say the same. -/
theorem lines_eq {a b d G H l l' : EReal} (ha : IsReal a) (hb : IsReal b) (hd : IsReal d) (hG : IsReal G) (hH : IsReal H) (hl : IsReal l)
    (hl' : IsReal l') (h0 : sq a b ≠ 0) : dRe a b d G H l l' = rRe a b d G H l l' ∧ dIm a b d G H l l' = rIm a b d G H l l'
      ∧ dStep a b d G H l l' = rStep a b d G H l l' := by
  have h : a.toReal * a.toReal + b.toReal * b.toReal ≠ 0 := fun e => h0 (by
    rw [ha, hb, sq, ← EReal.coe_mul, ← EReal.coe_mul, ← EReal.coe_add, e]; rfl)
  rw [ha, hb, hd, hG, hH, hl, hl']
  generalize a.toReal = a at h; generalize b.toReal = b at h; generalize d.toReal = d; generalize G.toReal = G
  generalize H.toReal = H; generalize l.toReal = l; generalize l'.toReal = l'
  have h2 := mul_ne_zero h h
  refine ⟨?_, ?_, ?_⟩ <;>
    simp only [dRe, dIm, dStep, rRe, rIm, rStep, gRe, gIm, qRe, qIm, cSq, cRe, cIm, cCos, cSin, cExp, fRe, fIm, numRe, numIm, lamRe, lamIm, sq, exp_coe, cos_coe,
      sin_coe, one_coe, ← EReal.coe_mul, ← EReal.coe_add, ← EReal.coe_sub, ← EReal.coe_neg, div_real _ h, div_real _ h2] <;>
    refine congrArg _ ?_ <;> field_simp <;> ring

end Cert.Prep

end
-- ==== Proof.PrepKernel.lean ====
module

public import proofs.«01_k».proof.Proof.Gen.Kernel7Ideal.Frame
public import proofs.«01_k».proof.Proof.PrepMath
public import Idealize.ShloMosaic.Lib.Pipeline.ValueKit

/-! What the two kernels of the discretisation's gradient leave in each of their outputs, element by element, from what the launch finds. -/

@[expose] public section

set_option maxRecDepth 16384

noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen Cert.Prep

variable (V : (c : Dev nD) → (b : Ref sig .tc) → Buf (Elt Ideal) ((c.tc : Thread nD τ).loc b)) (c : Dev nD)

/-- What the first kernel finds in its arrays. -/
abbrev tA : Line := V c main_v1
abbrev aA : Line := V c main_v2
abbrev bA : Line := V c main_v3
abbrev brA : Sheet := V c main_v5
abbrev biA : Sheet := V c main_v7
abbrev drA : Sheet := V c main_v9
abbrev diA : Sheet := V c main_v11
abbrev lA : Line := V c main_v12
abbrev lA' : Line := V c main_v13
/-- What the second finds: the step's gradient by group and state, and the step's logarithm. -/
abbrev sA : Rates := V c main_v15
abbrev uA : FVec Ideal (⟨2, ![64, 1]⟩ : Shape) .f32 := V c main_v16

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

theorem idx1 : ∀ t : Fin cfg1.N, win1_0.index t = ![0, 0] ∧ win1_1.index t = ![0, 0] ∧ win1_2.index t = ![0, 0] := (by decide +kernel : ∀ t : Fin grid1.N, _)

/-! The body's stores, at an index. -/

/-- A gradient of a state's own numbers, from its line `f`, on columns. -/
def ofCols (f : EReal → EReal → EReal → EReal → EReal → EReal → EReal → EReal) (t a b : Line) (br bi dr di : Sheet) (l l' : Line) (j : Fin 4096) : EReal :=
  f (a (ix2 0 j)) (b (ix2 0 j)) (Ideal.exp (t (ix2 0 j))) (gs (fun k => br (ix2 k j)) (fun k => bi (ix2 k j)) (fun k => dr (ix2 k j)) (fun k => di (ix2 k j)))
    (hs (fun k => br (ix2 k j)) (fun k => bi (ix2 k j)) (fun k => dr (ix2 k j)) (fun k => di (ix2 k j))) (l (ix2 0 j)) (l' (ix2 0 j))

theorem row_idx (i : S1x4096.Idx) : i = ix2 0 (i 1) := by
  funext d; fin_cases d
  · exact Subsingleton.elim (α := Fin 1) _ _
  · rfl

section
variable (t a b l l' : FVec Ideal S1x4096 .f32) (br bi dr di : FVec Ideal S16x4096 .f32)

theorem out9 (i) : out0_9 (F := Ideal) t a b br bi dr di l l' i = bRe (a (ix2 0 (i 1))) (b (ix2 0 (i 1))) (Ideal.exp (t (ix2 0 (i 1)))) (dr i) (di i) := by
  frame_out; pointwise [k0_pay18, k0_pay4, k0_pay5, k0_pay6, k0_pay7, k0_pay8, k0_pay9, k0_pay10, k0_pay11, k0_pay12, k0_pay13, k0_pay14, k0_pay15, k0_pay16, k0_pay17, fRe, fIm, numRe, numIm, lamRe, lamIm, Prep.sq, zero_sub, bRe]
theorem out10 (i) : out0_10 (F := Ideal) t a b br bi dr di l l' i = bIm (a (ix2 0 (i 1))) (b (ix2 0 (i 1))) (Ideal.exp (t (ix2 0 (i 1)))) (dr i) (di i) := by
  frame_out; pointwise [k0_pay19, k0_pay36, k0_pay37, k0_pay40, k0_pay41, k0_pay4, k0_pay5, k0_pay6, k0_pay7, k0_pay8, k0_pay9, k0_pay10, k0_pay11, k0_pay12, k0_pay13, k0_pay14, k0_pay15, k0_pay16, k0_pay17, fRe, fIm, numRe, numIm, lamRe, lamIm, Prep.sq, zero_sub, bIm]
theorem col11 (j) : out0_11 (F := Ideal) t a b br bi dr di l l' (ix2 0 j) = ofCols dRe t a b br bi dr di l l' j := by
  frame_out; pointwise [k0_pay1, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay4, k0_pay5, k0_pay6, k0_pay7, k0_pay8, k0_pay9, k0_pay10, k0_pay11, k0_pay12, k0_pay13, k0_pay14, k0_pay15, k0_pay16, k0_pay17, ofCols, dRe, fRe, fIm, numRe, numIm, lamRe, lamIm, Prep.sq, zero_sub, gRe, gIm, qRe, qIm, gs, hs]
theorem col12 (j) : out0_12 (F := Ideal) t a b br bi dr di l l' (ix2 0 j) = ofCols dIm t a b br bi dr di l l' j := by
  frame_out; pointwise [k0_pay2, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay4, k0_pay5, k0_pay6, k0_pay7, k0_pay8, k0_pay9, k0_pay10, k0_pay11, k0_pay12, k0_pay13, k0_pay14, k0_pay15, k0_pay16, k0_pay17, ofCols, dIm, fRe, fIm, numRe, numIm, lamRe, lamIm, Prep.sq, zero_sub, gRe, gIm, qRe, qIm, gs, hs]
theorem col13 (j) : out0_13 (F := Ideal) t a b br bi dr di l l' (ix2 0 j) = ofCols dStep t a b br bi dr di l l' j := by
  frame_out; pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay4, k0_pay5, k0_pay6, k0_pay7, k0_pay8, k0_pay9, k0_pay10, k0_pay11, k0_pay12, k0_pay13, k0_pay14, k0_pay15, k0_pay16, k0_pay17, ofCols, dStep, fRe, fIm, numRe, numIm, lamRe, lamIm, Prep.sq, zero_sub, gRe, gIm, qRe, qIm, gs, hs]
theorem out11 (i : S1x4096.Idx) : out0_11 (F := Ideal) t a b br bi dr di l l' i = ofCols dRe t a b br bi dr di l l' (i 1) :=
  (congrArg _ (row_idx i)).trans (col11 t a b l l' br bi dr di (i 1))
theorem out12 (i : S1x4096.Idx) : out0_12 (F := Ideal) t a b br bi dr di l l' i = ofCols dIm t a b br bi dr di l l' (i 1) :=
  (congrArg _ (row_idx i)).trans (col12 t a b l l' br bi dr di (i 1))
theorem out13 (i : S1x4096.Idx) : out0_13 (F := Ideal) t a b br bi dr di l l' i = ofCols dStep t a b br bi dr di l l' (i 1) :=
  (congrArg _ (row_idx i)).trans (col13 t a b l l' br bi dr di (i 1))
end

theorem out2 (s : FVec Ideal S64x64 .f32) (t : FVec Ideal S64x1 .f32) (i) : k1_pay1 (F := Ideal) s t i = (∑ n : Fin 64, s (ix2 (i 0) n)) * Ideal.exp (t i) := by
  pointwise [k1_pay1]

/-! The arrays after the kernels. -/

/-- The gradient of the input matrix. -/
theorem final9 : (dat0 V c).arrAt 9 cfg0.N = fun i => bRe (aA V c (ix2 0 (i 1))) (bA V c (ix2 0 (i 1))) (Ideal.exp (tA V c (ix2 0 (i 1)))) (drA V c i) (diA V c i) := by
  refine (dat0 V c).arrAt_eq_of_covers 9 _ (by decide +kernel) fun t hf y => ?_
  blk_simp
  rw [after0_9, out9]; blk_point [iblk0, idx0 t]

theorem final10 : (dat0 V c).arrAt 10 cfg0.N = fun i => bIm (aA V c (ix2 0 (i 1))) (bA V c (ix2 0 (i 1))) (Ideal.exp (tA V c (ix2 0 (i 1)))) (drA V c i) (diA V c i) := by
  refine (dat0 V c).arrAt_eq_of_covers 10 _ (by decide +kernel) fun t hf y => ?_
  blk_simp
  rw [after0_10, out10]; blk_point [iblk0, idx0 t]

/-- The gradients of the rates. -/
theorem final11 : (dat0 V c).arrAt 11 cfg0.N = fun i => ofCols dRe (tA V c) (aA V c) (bA V c) (brA V c) (biA V c) (drA V c) (diA V c) (lA V c) (lA' V c) (i 1) := by
  refine (dat0 V c).arrAt_eq_of_covers 11 _ (by decide +kernel) fun t hf y => ?_
  blk_simp
  rw [after0_11, out11]; blk_point [iblk0, idx0 t, ofCols]

theorem final12 : (dat0 V c).arrAt 12 cfg0.N = fun i => ofCols dIm (tA V c) (aA V c) (bA V c) (brA V c) (biA V c) (drA V c) (diA V c) (lA V c) (lA' V c) (i 1) := by
  refine (dat0 V c).arrAt_eq_of_covers 12 _ (by decide +kernel) fun t hf y => ?_
  blk_simp
  rw [after0_12, out12]; blk_point [iblk0, idx0 t, ofCols]

/-- The step's gradient, before the sum over a group's states. -/
theorem final13 : (dat0 V c).arrAt 13 cfg0.N = fun i => ofCols dStep (tA V c) (aA V c) (bA V c) (brA V c) (biA V c) (drA V c) (diA V c) (lA V c) (lA' V c) (i 1) := by
  refine (dat0 V c).arrAt_eq_of_covers 13 _ (by decide +kernel) fun t hf y => ?_
  blk_simp
  rw [after0_13, out13]; blk_point [iblk0, idx0 t, ofCols]

/-- The second kernel sums over a group's states. -/
theorem final2 : (dat1 V c).arrAt 2 cfg1.N = fun i : S64x1.Idx => (∑ n : Fin 64, sA V c (ix2 (i 0) n)) * Ideal.exp (uA V c i) := by
  refine (dat1 V c).arrAt_eq_of_covers 2 _ (by decide +kernel) fun t hf y => ?_
  blk_simp
  rw [after1_2]; frame_out; rw [out2]; blk_point [iblk1, idx1 t]

end Cert.Kernel7Ideal.Hand

end
-- ==== Proof.PrepRun.lean ====
module

public import proofs.«01_k».proof.Proof.PrepKernel

/-! The run of the two kernels of the discretisation's gradient, with the packing before them: every array after the launch, and the results as functions of the arguments. -/

@[expose] public section

set_option maxRecDepth 16384

noncomputable section

namespace Cert.Kernel7Ideal.Hand

open Cert.Kernel7Ideal Cert.Kernel7Ideal.Gen Cert.Prep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every unscoped array ends at the last boundary's contents. -/
theorem run_all : θ_run defs (onTc (τ := τ) (main (F := Ideal))) ⟨m, fun _ => 0, ρ⟩ (fun r => ∀ c : Dev nD, ∀ b ∈ Pipeline.ucRefs τ sig,
    r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-! What the first kernel finds: the packed arguments. -/

theorem tA_found (c : Dev nD) : tA (V1 m ρ) c = fun i : S1x4096.Idx => m (c.tc.loc main_arg0) (ix2 0 (grp (i 1))) := by
  show StableHlo.after hostOps0 (W0 m ρ c) (Proc.devRef .tc main_v1) = _
  unfold_abbrev_sides; after_results; funext i; pointwise []
theorem aA_found (c : Dev nD) : aA (V1 m ρ) c = fun i : S1x4096.Idx => rate (m (c.tc.loc main_arg1)) (i 1) := by
  show StableHlo.after hostOps0 (W0 m ρ c) (Proc.devRef .tc main_v2) = _
  unfold_abbrev_sides; after_results; funext i; pointwise []
theorem bA_found (c : Dev nD) : bA (V1 m ρ) c = fun i : S1x4096.Idx => rate (m (c.tc.loc main_arg2)) (i 1) := by
  show StableHlo.after hostOps0 (W0 m ρ c) (Proc.devRef .tc main_v3) = _
  unfold_abbrev_sides; after_results; funext i; pointwise []
theorem brA_found (c : Dev nD) : brA (V1 m ρ) c = fun i : S16x4096.Idx => coef (m (c.tc.loc main_arg3)) (i 1) (i 0) := by
  show StableHlo.after hostOps0 (W0 m ρ c) (Proc.devRef .tc main_v5) = _
  unfold_abbrev_sides; after_results; funext i; pointwise []
theorem biA_found (c : Dev nD) : biA (V1 m ρ) c = fun i : S16x4096.Idx => coef (m (c.tc.loc main_arg4)) (i 1) (i 0) := by
  show StableHlo.after hostOps0 (W0 m ρ c) (Proc.devRef .tc main_v7) = _
  unfold_abbrev_sides; after_results; funext i; pointwise []
theorem drA_found (c : Dev nD) : drA (V1 m ρ) c = fun i : S16x4096.Idx => coef (m (c.tc.loc main_arg5)) (i 1) (i 0) := by
  show StableHlo.after hostOps0 (W0 m ρ c) (Proc.devRef .tc main_v9) = _
  unfold_abbrev_sides; after_results; funext i; pointwise []
theorem diA_found (c : Dev nD) : diA (V1 m ρ) c = fun i : S16x4096.Idx => coef (m (c.tc.loc main_arg6)) (i 1) (i 0) := by
  show StableHlo.after hostOps0 (W0 m ρ c) (Proc.devRef .tc main_v11) = _
  unfold_abbrev_sides; after_results; funext i; pointwise []
theorem lA_found (c : Dev nD) : lA (V1 m ρ) c = fun i : S1x4096.Idx => rate (m (c.tc.loc main_arg7)) (i 1) := by
  show StableHlo.after hostOps0 (W0 m ρ c) (Proc.devRef .tc main_v12) = _
  unfold_abbrev_sides; after_results; funext i; pointwise []
theorem lA'_found (c : Dev nD) : lA' (V1 m ρ) c = fun i : S1x4096.Idx => rate (m (c.tc.loc main_arg8)) (i 1) := by
  show StableHlo.after hostOps0 (W0 m ρ c) (Proc.devRef .tc main_v13) = _
  unfold_abbrev_sides; after_results; funext i; pointwise []

/-- What a column of the first kernel computes from the packed arguments. -/
theorem ofCols_found (c : Dev nD) (f : EReal → EReal → EReal → EReal → EReal → EReal → EReal → EReal) (j : Fin 4096) :
    ofCols f (tA (V1 m ρ) c) (aA (V1 m ρ) c) (bA (V1 m ρ) c) (brA (V1 m ρ) c) (biA (V1 m ρ) c) (drA (V1 m ρ) c) (diA (V1 m ρ) c) (lA (V1 m ρ) c) (lA' (V1 m ρ) c) j
      = ofLine (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) f (grp j) (sta j) := by
  rw [tA_found, aA_found, bA_found, brA_found, biA_found, drA_found, diA_found, lA_found, lA'_found]; rfl

/-- What the second kernel finds. -/
theorem uA_found (c : Dev nD) : uA (V3 m ρ) c = fun i : S64x1.Idx => m (c.tc.loc main_arg0) (ix2 0 (i 0)) := by
  have h : W2 m ρ c (Proc.devRef .tc main_arg0) = m (c.tc.loc main_arg0) := W2_args m ρ c main_arg0 (by decide)
  show StableHlo.after hostOps1 (W2 m ρ c) (Proc.devRef .tc main_v16) = _
  unfold_abbrev_sides; after_results; rw [h]; funext i; pointwise []

theorem sA_found (c : Dev nD) : sA (V3 m ρ) c = fun i : S64x64.Idx => ofLine (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) dStep (i 0) (i 1) := by
  have h : W2 m ρ c (Proc.devRef .tc main_v14_4) = _ := (W2_arr m ρ c 13).trans (final13 (V1 m ρ) c)
  show StableHlo.after hostOps1 (W2 m ρ c) (Proc.devRef .tc main_v15) = _
  unfold_abbrev_sides; after_results; rw [h]; funext i; pointwise []
  exact (ofCols_found m ρ c dStep _).trans (congrArg₂ (ofLine _ _ _ _ _ _ _ _ _ dStep) (grp_mk (i 0) (i 1) _) (sta_mk (i 0) (i 1) _))

/-- The kernel's results, as functions of its arguments. -/
theorem run : θ_run defs (onTc (τ := τ) (main (F := Ideal))) ⟨m, fun _ => 0, ρ⟩ fun r => ∀ c : Dev nD,
    r.2.mem (c.tc.loc main_v14_0) = resBRe (m (c.tc.loc main_arg0)) (m (c.tc.loc main_arg1)) (m (c.tc.loc main_arg2)) (m (c.tc.loc main_arg5)) (m (c.tc.loc main_arg6))
    ∧ r.2.mem (c.tc.loc main_v14_1) = resBIm (m (c.tc.loc main_arg0)) (m (c.tc.loc main_arg1)) (m (c.tc.loc main_arg2)) (m (c.tc.loc main_arg5)) (m (c.tc.loc main_arg6))
    ∧ r.2.mem (c.tc.loc main_v14_2) = resA (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) dRe
    ∧ r.2.mem (c.tc.loc main_v14_3) = resA (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) dIm
    ∧ r.2.mem (c.tc.loc main_v17) = resT (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) dStep
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8) := by
  refine (θ_run defs _ _).mono (fun r h c => ?_) (run_all m ρ)
  have k : ∀ a : Ref sig .tc, a ∈ [main_v14_0, main_v14_1, main_v14_2, main_v14_3] → W4 m ρ c (Proc.devRef .tc a) = W2 m ρ c (Proc.devRef .tc a) :=
    fun a ha => (W4_of m ρ c a (ListAll.forall_mem_of_all_decide (l := [main_v14_0, main_v14_1, main_v14_2, main_v14_3])
      (p := fun a => ∀ w : Fin cfg1.W, Pipeline.arrRef spec1 w = a → (cfg1.win w).isOut = false) (by decide +kernel) a ha)).trans
      (W3_of m ρ c a (ListAll.forall_mem_of_all_decide (l := [main_v14_0, main_v14_1, main_v14_2, main_v14_3]) (p := fun a => a ∉ hostOps1_W) (by decide +kernel) a ha))
  refine ⟨(h c _ (mem_uc main_v14_0 (by decide))).trans ((k _ (by decide)).trans ((W2_arr m ρ c 9).trans ((final9 (V1 m ρ) c).trans ?_))),
    (h c _ (mem_uc main_v14_1 (by decide))).trans ((k _ (by decide)).trans ((W2_arr m ρ c 10).trans ((final10 (V1 m ρ) c).trans ?_))),
    (h c _ (mem_uc main_v14_2 (by decide))).trans ((k _ (by decide)).trans ((W2_arr m ρ c 11).trans ((final11 (V1 m ρ) c).trans ?_))),
    (h c _ (mem_uc main_v14_3 (by decide))).trans ((k _ (by decide)).trans ((W2_arr m ρ c 12).trans ((final12 (V1 m ρ) c).trans ?_))),
    (h c _ (mem_uc main_v17 (by decide))).trans ((W4_arr m ρ c 2).trans ((final2 (V3 m ρ) c).trans ?_)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩
  · rw [tA_found, aA_found, bA_found, drA_found, diA_found]; rfl
  · rw [tA_found, aA_found, bA_found, drA_found, diA_found]; rfl
  · funext i; exact ofCols_found m ρ c dRe (i 1)
  · funext i; exact ofCols_found m ρ c dIm (i 1)
  · rw [sA_found, uA_found]; rfl

end Cert.Kernel7Ideal.Hand

end
-- ==== Proof.PrepRef.lean ====
module

public import proofs.«01_k».proof.Proof.Gen.Reference7Ideal.Run
public import proofs.«01_k».proof.Proof.PrepMath

/-! What the derivative of the discretisation computes, element by element. -/

@[expose] public section

set_option maxRecDepth 16384

noncomputable section

open Idealize.ShloMosaic Idealize.ShloMosaic.TcCoe Idealize.SL.Sem

namespace Cert.Reference7Ideal.Hand

open Cert.Reference7Ideal Cert.Reference7Ideal.Gen Cert.Prep

/-! The derivative's intermediate arrays, by name. -/

abbrev Mat2 : Type := FVec Ideal S64x64 .f32
abbrev Mat3 : Type := FVec Ideal S64x64x16 .f32

def vT (t : FVec Ideal S1x64 .f32) : FVec Ideal S64 .f32 := Host.exp (shapeCast S64 t shapeCasts_S1x64_S64)
def vS (t : FVec Ideal S1x64 .f32) : Mat2 := broadcastInDim S64x64 ![0, 1] bcast_S64x1_S64x64_0_1 (broadcastInDim S64x1 ![0] bcast_S64_S64x1_0 (vT t))
def vOne : Mat2 := broadcastInDim S64x64 ![] bcast_S_S64x64 (constant S_ .f32 0x3F800000#32)
def vSum (x y : Mat3) : FVec Ideal S64x64x1 .f32 :=
  shapeCast S64x64x1 (Host.reduceAdd (mulf x y) (constant S_ .f32 0x00000000#32) reducesTo_S64x64x16_S64x64_d2 h_S_) shapeCasts_S64x64_S64x64x1
def vBoth (x y : FVec Ideal S64x64x1 .f32) : Mat2 := Host.reduceAdd (addf x y) (constant S_ .f32 0x00000000#32) reducesTo_S64x64x1_S64x64_d2 h_S_
def vRow (x : Mat2) : FVec Ideal S64x1 .f32 := shapeCast S64x1 (Host.reduceAdd x (constant S_ .f32 0x00000000#32) reducesTo_S64x64_S64_d1 h_S_) shapeCasts_S64_S64x1
def vSpread (x : Mat2) : Mat3 := broadcastInDim S64x64x16 ![0, 1, 2] bcast_S64x64x1_S64x64x16_0_1_2 (broadcastInDim S64x64x1 ![0, 1] bcast_S64x64_S64x64x1_0_1 x)

section
variable (t : FVec Ideal S1x64 .f32) (A B l l' : Mat2) (br bi dr di : Mat3)

def vX : Mat2 := Host.exp (mulf A (vS t))
def vC : Mat2 := Host.cos (mulf B (vS t))
def vN : Mat2 := Host.sin (mulf B (vS t))
def vI : Mat2 := mulf (vX t A) (vN t B)
def vM : Mat2 := subf (mulf (vX t A) (vC t B)) vOne
def vD : Mat2 := addf (mulf A A) (mulf B B)
def vNr : Mat2 := addf (mulf (vM t A B) A) (mulf (vI t A B) B)
def vNi : Mat2 := subf (mulf (vI t A B) A) (mulf (vM t A B) B)
def vFr : Mat2 := Host.divf (vNr t A B) (vD A B)
def vFi : Mat2 := Host.divf (vNi t A B) (vD A B)
def vR : Mat2 := Host.divf vOne (mulf (vD A B) (vD A B))
def vH : Mat2 := vBoth (vSum (shapeCast S64x64x16 di shapeCasts_S64x64x16_S64x64x16) br) (vSum (Host.negf dr) bi)
def vG : Mat2 := vBoth (vSum (shapeCast S64x64x16 di shapeCasts_S64x64x16_S64x64x16) bi) (vSum (shapeCast S64x64x16 dr shapeCasts_S64x64x16_S64x64x16) br)

theorem vS_at (i) : vS t i = Ideal.exp (t (ix2 0 (i 0))) := by pointwise [vS, vT]
theorem vX_at (i) : vX t A i = Ideal.exp (A i * Ideal.exp (t (ix2 0 (i 0)))) := by pointwise [vX, vS_at]
theorem vC_at (i) : vC t B i = Ideal.cos (B i * Ideal.exp (t (ix2 0 (i 0)))) := by pointwise [vC, vS_at]
theorem vN_at (i) : vN t B i = Ideal.sin (B i * Ideal.exp (t (ix2 0 (i 0)))) := by pointwise [vN, vS_at]
theorem vOne_at (i) : vOne i = 1 := by pointwise [vOne]
theorem vI_at (i) : vI t A B i = lamIm (A i) (B i) (Ideal.exp (t (ix2 0 (i 0)))) := by pointwise [vI, vX_at, vN_at, lamIm]
theorem vM_at (i) : vM t A B i = lamRe (A i) (B i) (Ideal.exp (t (ix2 0 (i 0)))) - 1 := by pointwise [vM, vX_at, vC_at, vOne_at, lamRe]
theorem vD_at (i) : vD A B i = Prep.sq (A i) (B i) := by pointwise [vD, Prep.sq]
theorem vNr_at (i) : vNr t A B i = numRe (A i) (B i) (Ideal.exp (t (ix2 0 (i 0)))) := by pointwise [vNr, vM_at, vI_at, numRe]
theorem vNi_at (i) : vNi t A B i = numIm (A i) (B i) (Ideal.exp (t (ix2 0 (i 0)))) := by pointwise [vNi, vM_at, vI_at, numIm]
theorem vFr_at (i) : vFr t A B i = fRe (A i) (B i) (Ideal.exp (t (ix2 0 (i 0)))) := by pointwise [vFr, vNr_at, vD_at, fRe]
theorem vFi_at (i) : vFi t A B i = fIm (A i) (B i) (Ideal.exp (t (ix2 0 (i 0)))) := by pointwise [vFi, vNi_at, vD_at, fIm]
theorem vR_at (i) : vR A B i = Ideal.div 1 (Prep.sq (A i) (B i) * Prep.sq (A i) (B i)) := by pointwise [vR, vOne_at, vD_at]
theorem vH_at (i) : vH br bi dr di i = hs (fun k => br (ix3 (i 0) (i 1) k)) (fun k => bi (ix3 (i 0) (i 1) k)) (fun k => dr (ix3 (i 0) (i 1) k)) (fun k => di (ix3 (i 0) (i 1) k)) := by
  pointwise [vH, vBoth, vSum, Finset.univ_unique, Finset.sum_singleton, hs_eq]
theorem vG_at (i) : vG br bi dr di i = gs (fun k => br (ix3 (i 0) (i 1) k)) (fun k => bi (ix3 (i 0) (i 1) k)) (fun k => dr (ix3 (i 0) (i 1) k)) (fun k => di (ix3 (i 0) (i 1) k)) := by
  pointwise [vG, vBoth, vSum, Finset.univ_unique, Finset.sum_singleton, gs_eq]
end

section
variable (t : FVec Ideal S1x64 .f32) (A B l l' G H : Mat2)

def vQ : Mat2 := addf (Host.negf (mulf (mulf H (vR A B)) (vNi t A B))) (Host.negf (mulf (mulf G (vR A B)) (vNr t A B)))
def vW : Mat2 := addf (addf l (mulf (Host.negf (Host.divf H (vD A B))) B)) (mulf (Host.divf G (vD A B)) A)
def vV : Mat2 := addf (addf l' (mulf (Host.divf H (vD A B)) A)) (mulf (Host.divf G (vD A B)) B)
def vK : Mat2 := mulf (mulf (vX t A) (vV A B l' G H)) (vC t B)
def vO : Mat2 := mulf (Host.negf (mulf (vX t A) (vW A B l G H))) (vN t B)
def vP : Mat2 := mulf (addf (mulf (vV A B l' G H) (vN t B)) (mulf (vW A B l G H) (vC t B))) (vX t A)
def vA : Mat2 := addf (addf (addf (addf (mulf (vI t A B) (Host.divf H (vD A B))) (mulf (vM t A B) (Host.divf G (vD A B)))) (mulf A (vQ t A B G H)))
  (mulf (vQ t A B G H) A)) (mulf (vP t A B l l' G H) (vS t))
def vB : Mat2 := addf (addf (addf (addf (addf (mulf (vM t A B) (Host.negf (Host.divf H (vD A B)))) (mulf (vI t A B) (Host.divf G (vD A B)))) (mulf B (vQ t A B G H)))
  (mulf (vQ t A B G H) B)) (mulf (vK t A B l' G H) (vS t))) (mulf (vO t A B l G H) (vS t))
def vL : FVec Ideal S64 .f32 := mulf (Host.reduceAdd (addf (addf (vRow (mulf B (vK t A B l' G H))) (vRow (mulf B (vO t A B l G H)))) (vRow (mulf A (vP t A B l l' G H))))
  (constant S_ .f32 0x00000000#32) reducesTo_S64x1_S64_d1 h_S_) (vT t)

theorem vQ_at (i) : vQ t A B G H i = cSq (A i) (B i) (Ideal.exp (t (ix2 0 (i 0)))) (G i) (H i) := by pointwise [vQ, vR_at, vNi_at, vNr_at, cSq]
theorem vW_at (i) : vW A B l G H i = cRe (A i) (B i) (G i) (H i) (l i) := by pointwise [vW, vD_at, cRe]
theorem vV_at (i) : vV A B l' G H i = cIm (A i) (B i) (G i) (H i) (l' i) := by pointwise [vV, vD_at, cIm]
theorem vK_at (i) : vK t A B l' G H i = cCos (A i) (B i) (Ideal.exp (t (ix2 0 (i 0)))) (G i) (H i) (l' i) := by pointwise [vK, vX_at, vV_at, vC_at, cCos]
theorem vO_at (i) : vO t A B l G H i = cSin (A i) (B i) (Ideal.exp (t (ix2 0 (i 0)))) (G i) (H i) (l i) := by pointwise [vO, vX_at, vW_at, vN_at, cSin]
theorem vP_at (i) : vP t A B l l' G H i = cExp (A i) (B i) (Ideal.exp (t (ix2 0 (i 0)))) (G i) (H i) (l i) (l' i) := by
  pointwise [vP, vX_at, vV_at, vW_at, vC_at, vN_at, cExp]
theorem vA_at (i) : vA t A B l l' G H i = rRe (A i) (B i) (Ideal.exp (t (ix2 0 (i 0)))) (G i) (H i) (l i) (l' i) := by
  pointwise [vA, vI_at, vM_at, vD_at, vQ_at, vP_at, vS_at, rRe]
theorem vB_at (i) : vB t A B l l' G H i = rIm (A i) (B i) (Ideal.exp (t (ix2 0 (i 0)))) (G i) (H i) (l i) (l' i) := by
  pointwise [vB, vI_at, vM_at, vD_at, vQ_at, vK_at, vO_at, vS_at, rIm]
end

section
variable (t : FVec Ideal S1x64 .f32) (A B : Mat2) (dr di : Mat3)

/-- The gradient of the input matrix, as its packed columns. -/
theorem bre_at : transpose S16x4096 [1, 0] (shapeCast S4096x16 (addf (mulf (vSpread (vFi t A B)) (shapeCast S64x64x16 di shapeCasts_S64x64x16_S64x64x16))
    (mulf (vSpread (vFr t A B)) (shapeCast S64x64x16 dr shapeCasts_S64x64x16_S64x64x16))) shapeCasts_S64x64x16_S4096x16) transposes_S4096x16_S16x4096_1_0
      = resBRe t A B dr di := by
  funext i
  pointwise [vSpread, vFr_at, vFi_at, resBRe, bRe]
  exact add_comm (G := EReal) _ _
theorem bim_at : transpose S16x4096 [1, 0] (shapeCast S4096x16 (addf (mulf (vSpread (vFr t A B)) (shapeCast S64x64x16 di shapeCasts_S64x64x16_S64x64x16))
    (mulf (vSpread (vFi t A B)) (Host.negf dr))) shapeCasts_S64x64x16_S4096x16) transposes_S4096x16_S16x4096_1_0 = resBIm t A B dr di := by
  funext i
  pointwise [vSpread, vFr_at, vFi_at, resBIm, bIm]
  exact sub_of_neg _ _ _
end

variable (m : (ℓ : Loc nD τ sig) → Buf (Elt Ideal) ℓ) (ρ : Dev nD → PrngReg) (c : Dev nD)

theorem are_ref : Value.res_main_v144 (F := Ideal) m c = resA (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) rRe := by
  rw [show Value.res_main_v144 (F := Ideal) m c = shapeCast S1x4096 (vA (m (c.tc.loc main_arg0)) (m (c.tc.loc main_arg1)) (m (c.tc.loc main_arg2)) (m (c.tc.loc main_arg7)) (m (c.tc.loc main_arg8)) (vG (m (c.tc.loc main_arg3)) (m (c.tc.loc main_arg4)) (m (c.tc.loc main_arg5)) (m (c.tc.loc main_arg6))) (vH (m (c.tc.loc main_arg3)) (m (c.tc.loc main_arg4)) (m (c.tc.loc main_arg5)) (m (c.tc.loc main_arg6)))) shapeCasts_S64x64_S1x4096 from rfl]
  funext i
  pointwise [vA_at, vG_at, vH_at, resA, ofLine]
theorem aim_ref : Value.res_main_v145 (F := Ideal) m c = resA (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) rIm := by
  rw [show Value.res_main_v145 (F := Ideal) m c = shapeCast S1x4096 (vB (m (c.tc.loc main_arg0)) (m (c.tc.loc main_arg1)) (m (c.tc.loc main_arg2)) (m (c.tc.loc main_arg7)) (m (c.tc.loc main_arg8)) (vG (m (c.tc.loc main_arg3)) (m (c.tc.loc main_arg4)) (m (c.tc.loc main_arg5)) (m (c.tc.loc main_arg6))) (vH (m (c.tc.loc main_arg3)) (m (c.tc.loc main_arg4)) (m (c.tc.loc main_arg5)) (m (c.tc.loc main_arg6)))) shapeCasts_S64x64_S1x4096 from rfl]
  funext i
  pointwise [vB_at, vG_at, vH_at, resA, ofLine]
theorem dt_ref : Value.res_main_v146 (F := Ideal) m c = resTAuto (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  rw [show Value.res_main_v146 (F := Ideal) m c = shapeCast S64x1 (vL (m (c.tc.loc main_arg0)) (m (c.tc.loc main_arg1)) (m (c.tc.loc main_arg2)) (m (c.tc.loc main_arg7)) (m (c.tc.loc main_arg8)) (vG (m (c.tc.loc main_arg3)) (m (c.tc.loc main_arg4)) (m (c.tc.loc main_arg5)) (m (c.tc.loc main_arg6))) (vH (m (c.tc.loc main_arg3)) (m (c.tc.loc main_arg4)) (m (c.tc.loc main_arg5)) (m (c.tc.loc main_arg6)))) shapeCasts_S64_S64x1 from rfl]
  funext i
  pointwise [vL, vT, vRow, vK_at, vO_at, vP_at, vG_at, vH_at, resTAuto, ofLine, Finset.univ_unique, Finset.sum_singleton]

theorem run : θ_run defs (onTc (τ := τ) (main (F := Ideal))) ⟨m, fun _ => 0, ρ⟩ fun r => ∀ c : Dev nD,
    r.2.mem (c.tc.loc main_v141) = resBRe (m (c.tc.loc main_arg0)) (m (c.tc.loc main_arg1)) (m (c.tc.loc main_arg2)) (m (c.tc.loc main_arg5)) (m (c.tc.loc main_arg6))
    ∧ r.2.mem (c.tc.loc main_v143) = resBIm (m (c.tc.loc main_arg0)) (m (c.tc.loc main_arg1)) (m (c.tc.loc main_arg2)) (m (c.tc.loc main_arg5)) (m (c.tc.loc main_arg6))
    ∧ r.2.mem (c.tc.loc main_v144) = resA (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) rRe
    ∧ r.2.mem (c.tc.loc main_v145) = resA (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) rIm
    ∧ r.2.mem (c.tc.loc main_v146) = resTAuto (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8) := by
  refine (θ_run defs _ _).mono (fun r h c => ?_) (Value.run m ρ)
  obtain ⟨h0, h1, h2, h3, h4, h5⟩ := h c
  exact ⟨h0.trans (bre_at _ _ _ _ _), h1.trans (bim_at _ _ _ _ _), h2.trans (are_ref m c), h3.trans (aim_ref m c), h4.trans (dt_ref m c), h5⟩

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8)) ∧ r.2.sem = fun _ => 0 :=
  (θ_run defs _ _).mono (fun r h => ⟨fun c => (h c).2.2.2.2.2, sem_eq_zero_of_no_sems (by decide) r.2⟩) (Value.run m ρ)

end Cert.Reference7Ideal.Hand

end
-- ==== Proof.Prep.lean ====
module

public import proofs.«01_k».proof.Defs
public import proofs.«01_k».proof.Proof.PrepRun
public import proofs.«01_k».proof.Proof.PrepRef
public import Idealize.ShloMosaic.Lib.Affine

/-! The gradients of the state-space layer's rates, input matrix and step: that the kernel's results are the reference's. -/

@[expose] public section

set_option maxRecDepth 16384

noncomputable section

open Idealize.ShloMosaic Idealize.ShloMosaic.TcCoe Idealize.SL.Sem

namespace Cert.Prep

open Cert.Reals

instance preFacts : Cert.Pre_finite_prep.Facts where
  bcast_S_S1x64 := by decide
  reducesTo_S1x64_S_d0_1 := by decide
  h_S_ := by decide
  bcast_S_S64x64 := by decide
  reducesTo_S64x64_S_d0_1 := by decide
  bcast_S_S64x64x16 := by decide
  reducesTo_S64x64x16_S_d0_1_2 := by decide

/-- The precondition says the arrays are real, and no rate is zero. -/
theorem real_of_pre (t : Steps) (A B : Rates) (br bi dr di : Coefs) (l l' : Rates)
    (h : Cert.Pre_finite_prep.fn (F := Ideal) t A B br bi dr di l l' = fun _ => 1#1) :
    AllReal t ∧ AllReal A ∧ AllReal B ∧ AllReal br ∧ AllReal bi ∧ AllReal dr ∧ AllReal di ∧ AllReal l ∧ AllReal l' ∧ ∀ i, sq (A i) (B i) ≠ 0 := by
  have h0 := congrFun h (fun k => k.elim0)
  simp only [Cert.Pre_finite_prep.fn, Cert.Pre_finite_prep.fn_part1, Cert.Pre_finite_prep.fn_part2] at h0
  obtain ⟨h1, r0⟩ := IntOp.andi_eq_one.mp h0
  obtain ⟨h2, r1⟩ := IntOp.andi_eq_one.mp h1
  obtain ⟨h3, r2⟩ := IntOp.andi_eq_one.mp h2
  obtain ⟨h4, r3⟩ := IntOp.andi_eq_one.mp h3
  obtain ⟨h5, r4⟩ := IntOp.andi_eq_one.mp h4
  obtain ⟨h6, r5⟩ := IntOp.andi_eq_one.mp h5
  obtain ⟨h7, r6⟩ := IntOp.andi_eq_one.mp h6
  obtain ⟨h8, r7⟩ := IntOp.andi_eq_one.mp h7
  obtain ⟨h9, r8⟩ := IntOp.andi_eq_one.mp h8
  refine ⟨real_of_all _ _ _ _ _ h9, real_of_all _ _ _ _ _ r8, real_of_all _ _ _ _ _ r7, real_of_all _ _ _ _ _ r6, real_of_all _ _ _ _ _ r5, real_of_all _ _ _ _ _ r4,
    real_of_all _ _ _ _ _ r3, real_of_all _ _ _ _ _ r2, real_of_all _ _ _ _ _ r1, fun i e => ?_⟩
  haveI : Subsingleton (⟨0, ![]⟩ : Shape).Idx := ⟨fun x y => funext fun k => k.elim0⟩
  have hi : BitVec.ofBool (decide (Ideal.ofBits .f32 0x00000000#32 < sq (A i) (B i))) = 1#1 := Host.reduce_andi_all _ _ _ _ _ r0 i
  rw [Ideal.ofBits_zero .f32, e] at hi
  simp at hi

section
variable {t : Steps} {A B : Rates} {br bi dr di : Coefs} {l l' : Rates}
  (ht : AllReal t) (hA : AllReal A) (hB : AllReal B) (hbr : AllReal br) (hbi : AllReal bi) (hdr : AllReal dr) (hdi : AllReal di) (hl : AllReal l) (hl' : AllReal l')
  (h0 : ∀ i, sq (A i) (B i) ≠ 0)

include ht hA hB hbr hbi hdr hdi hl hl' h0

/-- For every state the kernel's lines are the reference's. -/
theorem state_eq (g n : Fin 64) : ofLine t A B br bi dr di l l' dRe g n = ofLine t A B br bi dr di l l' rRe g n
    ∧ ofLine t A B br bi dr di l l' dIm g n = ofLine t A B br bi dr di l l' rIm g n ∧ ofLine t A B br bi dr di l l' dStep g n = ofLine t A B br bi dr di l l' rStep g n :=
  lines_eq (hA _) (hB _) (by rw [ht (ix2 0 g), exp_coe]; exact IsReal.coe _)
    (IsReal.sum _ fun k => ((hbr _).mul (hdr _)).add ((hbi _).mul (hdi _))) (IsReal.sum _ fun k => ((hbr _).mul (hdi _)).sub ((hbi _).mul (hdr _))) (hl _) (hl' _) (h0 _)

theorem resA_re : resA t A B br bi dr di l l' dRe = resA t A B br bi dr di l l' rRe :=
  funext fun i => (state_eq ht hA hB hbr hbi hdr hdi hl hl' h0 (grp (i 1)) (sta (i 1))).1
theorem resA_im : resA t A B br bi dr di l l' dIm = resA t A B br bi dr di l l' rIm :=
  funext fun i => (state_eq ht hA hB hbr hbi hdr hdi hl hl' h0 (grp (i 1)) (sta (i 1))).2.1
theorem resT_step : resT t A B br bi dr di l l' dStep = resTAuto t A B br bi dr di l l' :=
  (funext fun (i : (⟨2, ![64, 1]⟩ : Shape).Idx) => congrArg (· * Ideal.exp (t (ix2 0 (i 0))))
    (Finset.sum_congr rfl fun n _ => (state_eq ht hA hB hbr hbi hdr hdi hl hl' h0 (i 0) n).2.2)).trans (resT_auto t A B br bi dr di l l')

end

theorem alg : Cert.algebraic_Kernel7Ideal_Reference7Ideal_pre_finite_prep
    (hKernel7Ideal := Cert.Kernel7Ideal.Gen.facts) (hReference7Ideal := Cert.Reference7Ideal.Gen.facts) (hPre_finite_prep := preFacts) := by
  pair_intro
  · run_from Cert.Kernel7Ideal.Hand.run m g
  · run_from Cert.Reference7Ideal.Hand.run m' g'
    all_goals obtain ⟨ht, hA, hB, hbr, hbi, hdr, hdi, hl, hl', h0⟩ := real_of_pre _ _ _ _ _ _ _ _ _ (hpre c)
    · exact (resA_re ht hA hB hbr hbi hdr hdi hl hl' h0).symm
    · exact (resA_im ht hA hB hbr hbi hdr hdi hl hl' h0).symm
    · exact (resT_step ht hA hB hbr hbi hdr hdi hl hl' h0).symm

end Cert.Prep

end
-- ==== Proof.WAda.lean ====
module

public import proofs.«01_k».proof.Defs
public import proofs.«01_k».proof.Proof.Gen.Kernel8Ideal.Frame
public import proofs.«01_k».proof.Proof.Gen.Reference8Ideal.Run
public import proofs.«01_k».proof.Proof.Reals
public import Idealize.ShloMosaic.Lib.Pipeline.ValueKit

/-! The gradient of the conditioning product's weight, and that weight's optimiser step. -/

@[expose] public section

set_option maxRecDepth 16384

noncomputable section

open Idealize.ShloMosaic Idealize.ShloMosaic.TcCoe Idealize.SL.Sem
open Idealize.ShloMosaic.Pipeline (Dat)

namespace Cert.WAda

open Cert.Reals

abbrev Conds : Type := FVec Ideal (⟨2, ![8, 2048]⟩ : Shape) .f32
abbrev Cots : Type := FVec Ideal (⟨2, ![8, 3072]⟩ : Shape) .f32
abbrev Weight : Type := FVec Ideal (⟨2, ![2048, 3072]⟩ : Shape) .f32

/-- A gate's value. -/
def silu (x : EReal) : EReal := x * Ideal.div 1 (1 + Ideal.exp (-x))

/-- The gradient: one term for each of the eight sequences. -/
def grad (s d : Fin 8 → EReal) : EReal := ∑ b : Fin 8, silu (s b) * d b

/-! The optimiser's step for one number `w` of gradient `g` and moments `m`, `v`. -/

def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)
def delta (w g m v : EReal) : EReal := Ideal.ofBits .f32 0xBA83126F#32 *
  (Ideal.div (Ideal.div (newM g m) (Ideal.ofBits .f32 0x3F26BD02#32)) (Ideal.sqrt (Ideal.div (newV g v) (Ideal.ofBits .f32 0x3C231ACC#32)) + Ideal.ofBits .f32 0x322BCC77#32)
    + Ideal.ofBits .f32 0x3C23D70A#32 * w)

section
variable (c : Conds) (d : Cots) (w m v : Weight)
def gradA : Weight := fun i => grad (fun b => c (ix2 b (i 0))) (fun b => d (ix2 b (i 1)))
def newMA : Weight := fun i => newM (gradA c d i) (m i)
def newVA : Weight := fun i => newV (gradA c d i) (v i)
def deltaA : Weight := fun i => delta (w i) (gradA c d i) (m i) (v i)
end

end Cert.WAda

namespace Cert.Kernel8Ideal.Hand

open Cert.Kernel8Ideal Cert.Kernel8Ideal.Gen Cert.WAda

variable (m : (ℓ : Loc nD τ sig) → Buf (Elt Ideal) ℓ) (c : Dev nD)

theorem idx : ∀ t : Fin cfg0.N, win0_0.index t = ![t.val / 3, 0] ∧ win0_1.index t = ![0, t.val % 3] ∧ win0_2.index t = ![t.val / 3, t.val % 3]
    ∧ win0_3.index t = ![t.val / 3, t.val % 3] ∧ win0_4.index t = ![t.val / 3, t.val % 3] ∧ win0_5.index t = ![t.val / 3, t.val % 3]
    ∧ win0_6.index t = ![t.val / 3, t.val % 3] ∧ win0_7.index t = ![t.val / 3, t.val % 3] ∧ win0_8.index t = ![t.val / 3, t.val % 3]
    ∧ t.val < 24 := (by decide +kernel : ∀ t : Fin grid0.N, _)

/-- The host's transposition. -/
theorem host : V (F := Ideal) m c main_v0 = fun y => m (c.tc.loc main_arg0) (ix2 (y 1) (y 0)) := by
  unfold_abbrev_sides
  after_results
  funext y
  idx_vars y
  pointwise []

section
variable (x : Vec Ideal S256x8 .f32) (d : Vec Ideal S8x1024 .f32) (w p q : Vec Ideal S256x1024 .f32) (i : S256x1024.Idx)

abbrev gradB : EReal := grad (fun b => x (ix2 (i 0) b)) (fun b => d (ix2 b (i 1)))

theorem out5 : out0_5 (F := Ideal) x d w p q i = gradB x d i := by
  frame_out; pointwise [k0_pay1, k0_pay2, k0_pay3, k0_pay4, k0_pay8, k0_pay9, k0_pay10, grad, silu, zero_sub, Fin.sum_univ_eight]
theorem out7 : out0_7 (F := Ideal) x d w p q i = newM (gradB x d i) (p i) := by
  frame_out; pointwise [k0_pay1, k0_pay2, k0_pay3, k0_pay4, k0_pay5, k0_pay8, k0_pay9, k0_pay10, grad, silu, zero_sub, Fin.sum_univ_eight, newM]
theorem out8 : out0_8 (F := Ideal) x d w p q i = newV (gradB x d i) (q i) := by
  frame_out; pointwise [k0_pay1, k0_pay2, k0_pay3, k0_pay4, k0_pay6, k0_pay8, k0_pay9, k0_pay10, grad, silu, zero_sub, Fin.sum_univ_eight, newV]
theorem out6 : out0_6 (F := Ideal) x d w p q i = delta (w i) (gradB x d i) (p i) (q i) := by
  frame_out; pointwise [k0_pay1, k0_pay2, k0_pay3, k0_pay4, k0_pay5, k0_pay6, k0_pay7, k0_pay8, k0_pay9, k0_pay10, grad, silu, zero_sub, Fin.sum_univ_eight, newM, newV, delta]
end

/-- The rows and columns of block `t`. -/
abbrev rowAt (t : Fin cfg0.N) (i : Fin 256) : Fin 2048 := ⟨t.val / 3 * 256 + i.val, by have := (idx t).2.2.2.2.2.2.2.2.2; omega⟩
abbrev colAt (t : Fin cfg0.N) (j : Fin 1024) : Fin 3072 := ⟨t.val % 3 * 1024 + j.val, by omega⟩

/-- Block `t` of a matrix. -/
def tileOf (a : Weight) (t : Fin cfg0.N) : Vec Ideal S256x1024 .f32 := fun y => a (ix2 (rowAt t (y 0)) (colAt t (y 1)))

theorem blk0 (t) : iblk m c 0 t = fun y => m (c.tc.loc main_arg0) (ix2 (y 1) (rowAt t (y 0))) := by
  have h : iblk m c 0 t = fun y => V (F := Ideal) m c main_v0 (ix2 (rowAt t (y 0)) (y 1)) := by unfold iblk; funext y; blk_ext [idx t]
  rw [h, host]; rfl
theorem blk1 (t) : iblk m c 1 t = fun y => m (c.tc.loc main_arg1) (ix2 (y 0) (colAt t (y 1))) := by funext y; blk_ext [iblk, V, idx t]
theorem blk2 (t) : iblk m c 2 t = tileOf (m (c.tc.loc main_arg2)) t := by funext y; blk_ext [iblk, V, idx t, tileOf]
theorem blk3 (t) : iblk m c 3 t = tileOf (m (c.tc.loc main_arg3)) t := by funext y; blk_ext [iblk, V, idx t, tileOf]
theorem blk4 (t) : iblk m c 4 t = tileOf (m (c.tc.loc main_arg4)) t := by funext y; blk_ext [iblk, V, idx t, tileOf]

theorem tile5 (a : Weight) (t : Fin cfg0.N) (y : ((cfg0.win 5).xblock (cfg0.grid.coords t)).Idx) :
    a ((win0_5.blk t).view.emb y) = a (ix2 (rowAt t (y 0)) (colAt t (y 1))) := by
  blk_ext [idx t]
theorem tile6 (a : Weight) (t : Fin cfg0.N) (y : ((cfg0.win 6).xblock (cfg0.grid.coords t)).Idx) :
    a ((win0_6.blk t).view.emb y) = a (ix2 (rowAt t (y 0)) (colAt t (y 1))) := by
  blk_ext [idx t]
theorem tile7 (a : Weight) (t : Fin cfg0.N) (y : ((cfg0.win 7).xblock (cfg0.grid.coords t)).Idx) :
    a ((win0_7.blk t).view.emb y) = a (ix2 (rowAt t (y 0)) (colAt t (y 1))) := by
  blk_ext [idx t]
theorem tile8 (a : Weight) (t : Fin cfg0.N) (y : ((cfg0.win 8).xblock (cfg0.grid.coords t)).Idx) :
    a ((win0_8.blk t).view.emb y) = a (ix2 (rowAt t (y 0)) (colAt t (y 1))) := by
  blk_ext [idx t]

theorem final5 : (dats m 0 c).arrAt 5 (cfgs 0).N = gradA (m (c.tc.loc main_arg0)) (m (c.tc.loc main_arg1)) := by
  refine (dats m 0 c).arrAt_eq_of_covers 5 _ (by decide +kernel) fun t hf y => ?_
  blk_simp
  rw [after0_5]
  refine Eq.trans ?_ (tile5 _ t y).symm
  rw [out5, blk0, blk1]
  rfl

theorem final6 : (dats m 0 c).arrAt 6 (cfgs 0).N = deltaA (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  refine Eq.trans ?_ (tile6 _ t y).symm
  rw [out6, blk0, blk1, blk2, blk3, blk4]
  rfl

theorem final7 : (dats m 0 c).arrAt 7 (cfgs 0).N = newMA (m (c.tc.loc main_arg0)) (m (c.tc.loc main_arg1)) (m (c.tc.loc main_arg3)) := by
  refine (dats m 0 c).arrAt_eq_of_covers 7 _ (by decide +kernel) fun t hf y => ?_
  blk_simp
  rw [after0_7]
  refine Eq.trans ?_ (tile7 _ t y).symm
  rw [out7, blk0, blk1, blk3]
  rfl

theorem final8 : (dats m 0 c).arrAt 8 (cfgs 0).N = newVA (m (c.tc.loc main_arg0)) (m (c.tc.loc main_arg1)) (m (c.tc.loc main_arg4)) := by
  refine (dats m 0 c).arrAt_eq_of_covers 8 _ (by decide +kernel) fun t hf y => ?_
  blk_simp
  rw [after0_8]
  refine Eq.trans ?_ (tile8 _ t y).symm
  rw [out8, blk0, blk1, blk4]
  rfl

variable (ρ : Dev nD → PrngReg)

/-- A window that is only read keeps its array. -/
theorem kept (r : PUnit × MemSt nD τ sig (Elt Ideal)) (h : Pipeline.FramePost cfgs (dats m) 0 (V m) r) (w : Fin 9) (hw : (cfg0.win w).isOut = false) :
    r.2.mem (c.tc.loc (Pipeline.arrRef spec0 w)) = V m c (Pipeline.arrRef spec0 w) :=
  ((h c).1 w).trans (((dats m 0 c).arrAt_in w hw _).trans (A_eq m c w))

/-- The kernel's results, and its arguments as they were. -/
theorem run : θ_run defs (onTc (τ := τ) (main (F := Ideal))) ⟨m, fun _ => 0, ρ⟩ fun r => ∀ c : Dev nD,
    r.2.mem (c.tc.loc main_v1_0) = (dats m 0 c).arrAt 5 cfg0.N
    ∧ r.2.mem (c.tc.loc main_v1_1) = (dats m 0 c).arrAt 6 cfg0.N
    ∧ r.2.mem (c.tc.loc main_v1_2) = (dats m 0 c).arrAt 7 cfg0.N
    ∧ r.2.mem (c.tc.loc main_v1_3) = (dats m 0 c).arrAt 8 cfg0.N
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) :=
  (θ_run defs _ _).mono (fun r h c => ⟨(h c).1 5, (h c).1 6, (h c).1 7, (h c).1 8,
    ((h c).2 main_arg0 (Pipeline.mem_restRefs_of main_arg0 (by decide) (by decide))).trans (V_main_arg0 m c),
    (kept m c r h 1 rfl).trans (V_main_arg1 m c), (kept m c r h 2 rfl).trans (V_main_arg2 m c),
    (kept m c r h 3 rfl).trans (V_main_arg3 m c), (kept m c r h 4 rfl).trans (V_main_arg4 m c)⟩) (run_main m ρ)

end Cert.Kernel8Ideal.Hand

namespace Cert.Reference8Ideal.Hand

open Cert.Reference8Ideal Cert.Reference8Ideal.Gen Cert.WAda

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)) ∧ r.2.sem = fun _ => 0 :=
  (θ_run defs _ _).mono (fun r h => ⟨fun c => (h c).2.2.2.2, sem_eq_zero_of_no_sems (by decide) r.2⟩) (Value.run m ρ)

/-- The gradient, as the reference transposes it. -/
theorem grad_eq (x : Conds) (d : Cots) (w : S2048x3072.Idx) :
    (∑ b : Fin 8, d (ix2 b (w 1)) * silu (x (ix2 b (w 0)))) = gradA x d w :=
  Finset.sum_congr rfl fun _ _ => mul_comm _ _

/-- The reference's results, as functions of its arguments. -/
theorem run : θ_run defs (onTc (τ := τ) (main (F := Ideal))) ⟨m, fun _ => 0, ρ⟩ fun r => ∀ c : Dev nD,
    r.2.mem (c.tc.loc main_v3) = gradA (m (c.tc.loc main_arg0)) (m (c.tc.loc main_arg1))
    ∧ r.2.mem (c.tc.loc main_v27) = deltaA (m (c.tc.loc main_arg0)) (m (c.tc.loc main_arg1)) (m (c.tc.loc main_arg2)) (m (c.tc.loc main_arg3)) (m (c.tc.loc main_arg4))
    ∧ r.2.mem (c.tc.loc main_v8) = newMA (m (c.tc.loc main_arg0)) (m (c.tc.loc main_arg1)) (m (c.tc.loc main_arg3))
    ∧ r.2.mem (c.tc.loc main_v14) = newVA (m (c.tc.loc main_arg0)) (m (c.tc.loc main_arg1)) (m (c.tc.loc main_arg4))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) := by
  refine (θ_run defs _ _).mono (fun r h c => ?_) (Value.run m ρ)
  obtain ⟨h0, h1, h2, h3, h4⟩ := h c
  refine ⟨h0.trans ?_, h1.trans ?_, h2.trans ?_, h3.trans ?_, h4⟩
  · funext i
    rw [← grad_eq]; pointwise [silu]
  · funext i
    unfold deltaA; rw [← grad_eq]; pointwise [silu, delta, newM, newV]
  · funext i
    unfold newMA; rw [← grad_eq]; pointwise [silu, newM]
  · funext i
    unfold newVA; rw [← grad_eq]; pointwise [silu, newV]

end Cert.Reference8Ideal.Hand

namespace Cert.WAda

theorem alg : Cert.algebraic_Kernel8Ideal_Reference8Ideal (hKernel8Ideal := Cert.Kernel8Ideal.Gen.facts) (hReference8Ideal := Cert.Reference8Ideal.Gen.facts) := by
  pair_intro
  · run_from Cert.Kernel8Ideal.Hand.run m g
  · run_from Cert.Reference8Ideal.Hand.run m' g'
    · exact (Cert.Kernel8Ideal.Hand.final5 m c).symm
    · exact (Cert.Kernel8Ideal.Hand.final6 m c).symm
    · exact (Cert.Kernel8Ideal.Hand.final7 m c).symm
    · exact (Cert.Kernel8Ideal.Hand.final8 m c).symm

end Cert.WAda

end
-- ==== Proof.PremixFwd.lean ====
module

public import proofs.«01_k».proof.Defs
public import proofs.«01_k».proof.Proof.Gen.Kernel9Ideal.Value
public import proofs.«01_k».proof.Proof.Gen.Reference9Ideal.Run
public import proofs.«01_k».proof.Proof.PremixMath
public import Idealize.ShloMosaic.Lib.Pipeline.ValueKit

/-! The norm and modulation before the mixing layers. -/

@[expose] public section

set_option maxRecDepth 16384

noncomputable section

open Idealize.ShloMosaic Idealize.ShloMosaic.TcCoe Idealize.SL.Sem
open Idealize.ShloMosaic.Pipeline (Dat)

namespace Cert.PremixFwd

open Cert.RmsGrad Cert.Premix

/-- A matrix, its rows normed, weighted, scaled and shifted. -/
def normed (x : Mat) (g sc sh : Row) : FVec Ideal (⟨2, ![2048, 2048]⟩ : Shape) .bf16 := fun j =>
  x j * Ideal.rsqrt (meanSq len eps (rowOf x (j 0))) * g (ix2 0 (j 1)) * (1 + sc (ix2 0 (j 1))) + sh (ix2 0 (j 1))

end Cert.PremixFwd

namespace Cert.Kernel9Ideal.Hand

open Cert.Kernel9Ideal Cert.Kernel9Ideal.Gen Cert.RmsGrad Cert.Premix Cert.PremixFwd

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ t.val < 8 := (by decide +kernel : ∀ t : Fin grid0.N, _)

/-- What a block's rows become. -/
theorem out4 (x g sc sh i) : out0_4 (F := Ideal) x g sc sh i = x i * Ideal.rsqrt (meanSq len eps fun k : Fin 2048 => x (ix2 (i 0) k)) * g (ix2 0 (i 1))
    * (1 + sc (ix2 0 (i 1))) + sh (ix2 0 (i 1)) := by
  frame_out; pointwise [k0_pay1, meanSq]

theorem final4 : (dats m 0 c).arrAt 4 (cfgs 0).N = normed (m (c.tc.loc main_arg0)) (m (c.tc.loc main_arg1)) (m (c.tc.loc main_arg2)) (m (c.tc.loc main_arg3)) := by
  unfold normed rowOf
  refine (dats m 0 c).arrAt_eq_of_covers 4 _ (by decide +kernel) fun t hf y => ?_
  blk_simp
  rw [after0_4, out4]; blk_point [iblk, V, idx t, meanSq]

end Cert.Kernel9Ideal.Hand

namespace Cert.Reference9Ideal.Hand

open Cert.Reference9Ideal Cert.Reference9Ideal.Gen Cert.RmsGrad Cert.Premix Cert.PremixFwd

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)) ∧ r.2.sem = fun _ => 0 :=
  (θ_run defs _ _).mono (fun r h => ⟨fun c => (h c).2, sem_eq_zero_of_no_sems (by decide) r.2⟩) (Value.run m ρ)

/-- The reference's result, as a function of its arguments. -/
theorem run : θ_run defs (onTc (τ := τ) (main (F := Ideal))) ⟨m, fun _ => 0, ρ⟩ fun r => ∀ c : Dev nD,
    r.2.mem (c.tc.loc main_v18) = normed (m (c.tc.loc main_arg0)) (m (c.tc.loc main_arg1)) (m (c.tc.loc main_arg2)) (m (c.tc.loc main_arg3))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) := by
  refine (θ_run defs _ _).mono (fun r h c => ?_) (Value.run m ρ)
  obtain ⟨h0, h1⟩ := h c
  refine ⟨h0.trans ?_, h1⟩
  funext i
  pointwise [normed, meanSq]

end Cert.Reference9Ideal.Hand

namespace Cert.PremixFwd

theorem alg : Cert.algebraic_Kernel9Ideal_Reference9Ideal (hKernel9Ideal := Cert.Kernel9Ideal.Gen.facts) (hReference9Ideal := Cert.Reference9Ideal.Gen.facts) := by
  pair_intro
  · run_from Cert.Kernel9Ideal.Value.run_blocks m g
  · run_from Cert.Reference9Ideal.Hand.run m' g'
    exact (Cert.Kernel9Ideal.Hand.final4 m c).symm

end Cert.PremixFwd

end
-- ==== Proof.MidFwd.lean ====
module

public import proofs.«01_k».proof.Defs
public import proofs.«01_k».proof.Proof.Gen.Kernel10Ideal.Value
public import proofs.«01_k».proof.Proof.Gen.Reference10Ideal.Run
public import proofs.«01_k».proof.Proof.MidMath
public import proofs.«01_k».proof.Proof.PremixFwd
public import Idealize.ShloMosaic.Lib.Pipeline.ValueKit

/-! The residual branch after the mixers, and the modulated norm before the feed-forward block. -/

@[expose] public section

set_option maxRecDepth 16384

noncomputable section

open Idealize.ShloMosaic Idealize.ShloMosaic.TcCoe Idealize.SL.Sem
open Idealize.ShloMosaic.Pipeline (Dat)

namespace Cert.Kernel10Ideal.Hand

open Cert.Kernel10Ideal Cert.Kernel10Ideal.Gen Cert.RmsGrad Cert.Premix Cert.Mid Cert.PremixFwd

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ t.val < 8 := (by decide +kernel : ∀ t : Fin grid0.N, _)

/-- What a block's rows of the stream become, at a row's entry. -/
abbrev added (o x : Vec Ideal S256x2048 .f32) (gt gp : Vec Ideal S1x2048 .f32) (i : Fin 256) (k : Fin 2048) : EReal :=
  x (ix2 i k) + gt (ix2 0 k) * (o (ix2 i k) * Ideal.rsqrt (meanSq len eps fun l : Fin 2048 => o (ix2 i l)) * gp (ix2 0 k))

theorem out7 (o x gt gp g2 sc sh) : out0_7 (F := Ideal) o x gt gp g2 sc sh = fun i => added o x gt gp (i 0) (i 1) := by
  funext i
  frame_out; pointwise [k0_pay1, k0_pay2, k0_pay3, k0_pay4, meanSq, added]

theorem pay2_eq (o x gt gp) : k0_pay2 (F := Ideal) o x gt gp = fun i => added o x gt gp (i 0) (i 1) := by
  funext i
  pointwise [k0_pay1, k0_pay2, meanSq, added]

theorem out8 (o x gt gp g2 sc sh) : out0_8 (F := Ideal) o x gt gp g2 sc sh = fun i => added o x gt gp (i 0) (i 1)
    * Ideal.rsqrt (meanSq len eps fun k : Fin 2048 => added o x gt gp (i 0) k) * g2 (ix2 0 (i 1)) * (1 + sc (ix2 0 (i 1))) + sh (ix2 0 (i 1)) := by
  funext i
  frame_out; pointwise [k0_pay1, k0_pay2, k0_pay3, k0_pay4, meanSq, added]

/-- Row `k` of block `t`, and the rows of a block. -/
abbrev rowAt (t : Fin cfg0.N) (k : Fin 256) : Fin 2048 := ⟨t.val * 256 + k.val, by have := (idx t).2.2.2.2.2.2.2.2.2; omega⟩
def rowsOf (a : Mat) (t : Fin cfg0.N) : Vec Ideal S256x2048 .f32 := fun y => a (ix2 (rowAt t (y 0)) (y 1))

theorem blk0 (t) : iblk m c 0 t = rowsOf (m (c.tc.loc main_arg0)) t := by funext y; blk_ext [iblk, V, idx t, rowsOf]
theorem blk1 (t) : iblk m c 1 t = rowsOf (m (c.tc.loc main_arg1)) t := by funext y; blk_ext [iblk, V, idx t, rowsOf]
theorem blk2 (t) : iblk m c 2 t = m (c.tc.loc main_arg2) := by funext y; blk_ext [iblk, V, idx t]
theorem blk3 (t) : iblk m c 3 t = m (c.tc.loc main_arg3) := by funext y; blk_ext [iblk, V, idx t]

theorem blk4 (t) : iblk m c 4 t = m (c.tc.loc main_arg4) := by funext y; blk_ext [iblk, V, idx t]
theorem blk5 (t) : iblk m c 5 t = m (c.tc.loc main_arg5) := by funext y; blk_ext [iblk, V, idx t]
theorem blk6 (t) : iblk m c 6 t = m (c.tc.loc main_arg6) := by funext y; blk_ext [iblk, V, idx t]

theorem tile7 (a : Mat) (t : Fin cfg0.N) (y : ((cfg0.win 7).xblock (cfg0.grid.coords t)).Idx) :
    a ((win0_7.blk t).view.emb y) = a (ix2 (rowAt t (y 0)) (y 1)) := by
  blk_ext [idx t]
theorem tile8 (a : FVec Ideal (⟨2, ![2048, 2048]⟩ : Shape) .bf16) (t : Fin cfg0.N) (y : ((cfg0.win 8).xblock (cfg0.grid.coords t)).Idx) :
    a ((win0_8.blk t).view.emb y) = a (ix2 (rowAt t (y 0)) (y 1)) := by
  blk_ext [idx t]

theorem final7 : (dats m 0 c).arrAt 7 (cfgs 0).N = stream (m (c.tc.loc main_arg1)) (m (c.tc.loc main_arg0)) (m (c.tc.loc main_arg2)) (m (c.tc.loc main_arg3)) := by
  refine (dats m 0 c).arrAt_eq_of_covers 7 _ (by decide +kernel) fun t hf y => ?_
  blk_simp
  rw [after0_7]
  refine Eq.trans ?_ (tile7 _ t y).symm
  rw [out7, blk0, blk1, blk2, blk3]
  rfl

theorem final8 : (dats m 0 c).arrAt 8 (cfgs 0).N = normed (stream (m (c.tc.loc main_arg1)) (m (c.tc.loc main_arg0)) (m (c.tc.loc main_arg2)) (m (c.tc.loc main_arg3)))
    (m (c.tc.loc main_arg4)) (m (c.tc.loc main_arg5)) (m (c.tc.loc main_arg6)) := by
  refine (dats m 0 c).arrAt_eq_of_covers 8 _ (by decide +kernel) fun t hf y => ?_
  blk_simp
  rw [after0_8]
  refine Eq.trans ?_ (tile8 _ t y).symm
  rw [out8, blk0, blk1, blk2, blk3, blk4, blk5, blk6]
  rfl

end Cert.Kernel10Ideal.Hand

namespace Cert.Reference10Ideal.Hand

open Cert.Reference10Ideal Cert.Reference10Ideal.Gen Cert.RmsGrad Cert.Premix Cert.Mid Cert.PremixFwd

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)) ∧ r.2.sem = fun _ => 0 :=
  (θ_run defs _ _).mono (fun r h => ⟨fun c => (h c).2.2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v14) = stream (m (c.tc.loc main_arg1)) (m (c.tc.loc main_arg0)) (m (c.tc.loc main_arg2)) (m (c.tc.loc main_arg3))
    ∧ r.2.mem (c.tc.loc main_v33) = normed (stream (m (c.tc.loc main_arg1)) (m (c.tc.loc main_arg0)) (m (c.tc.loc main_arg2)) (m (c.tc.loc main_arg3)))
      (m (c.tc.loc main_arg4)) (m (c.tc.loc main_arg5)) (m (c.tc.loc main_arg6))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6) := by
  refine (θ_run defs _ _).mono (fun r h c => ?_) (Value.run m ρ)
  obtain ⟨h0, h1, h2⟩ := h c
  refine ⟨h0.trans ?_, h1.trans ?_, h2⟩
  · funext i
    pointwise [stream, meanSq]
  · funext i
    pointwise [normed, stream, meanSq]

end Cert.Reference10Ideal.Hand

namespace Cert.MidFwd

theorem alg : Cert.algebraic_Kernel10Ideal_Reference10Ideal (hKernel10Ideal := Cert.Kernel10Ideal.Gen.facts) (hReference10Ideal := Cert.Reference10Ideal.Gen.facts) := by
  pair_intro
  · run_from Cert.Kernel10Ideal.Value.run_blocks m g
  · run_from Cert.Reference10Ideal.Hand.run m' g'
    · exact (Cert.Kernel10Ideal.Hand.final7 m c).symm
    · exact (Cert.Kernel10Ideal.Hand.final8 m c).symm

end Cert.MidFwd

end
-- ==== Proof.MixFwd.lean ====
module

public import proofs.«01_k».proof.Defs
public import proofs.«01_k».proof.Proof.Gen.Kernel11Ideal.Value
public import proofs.«01_k».proof.Proof.Gen.Reference11Ideal.Run
public import proofs.«01_k».proof.Proof.MixMath
public import proofs.«01_k».proof.Proof.SguKernel
public import Idealize.ShloMosaic.Lib.Pipeline.ValueKit

/-! The two mixers' norms, side by side. -/

@[expose] public section

set_option maxRecDepth 16384

noncomputable section

open Idealize.ShloMosaic Idealize.ShloMosaic.TcCoe Idealize.SL.Sem
open Idealize.ShloMosaic.Pipeline (Dat)

namespace Cert.MixFwd

open Cert.RmsGrad Cert.MixNorm

variable {n : ℕ}

/-- The two normed and weighted matrices, the first one in the columns before 1024. -/
def sides (y u : Tall n) (g h : Tall 1) : FVec Ideal (⟨2, ![n, 2048]⟩ : Shape) .bf16 := fun j =>
  if hj : (j 1).val < 1024 then unit y (j 0) ⟨(j 1).val, hj⟩ * g (ix2 0 ⟨(j 1).val, hj⟩)
  else unit u (j 0) ⟨(j 1).val - 1024, by have : (j 1).val < 2048 := (j 1).isLt; omega⟩ * h (ix2 0 ⟨(j 1).val - 1024, by have : (j 1).val < 2048 := (j 1).isLt; omega⟩)

end Cert.MixFwd

namespace Cert.Kernel11Ideal.Hand

open Cert.Kernel11Ideal Cert.Kernel11Ideal.Gen Cert.RmsGrad Cert.MixNorm Cert.MixFwd

variable (m : (ℓ : Loc nD τ sig) → Buf (Elt Ideal) ℓ) (c : Dev nD)

abbrev yA : Tall 2048 := m (c.tc.loc main_arg0)
abbrev uA : Tall 2048 := m (c.tc.loc main_arg1)
abbrev gA : Tall 1 := m (c.tc.loc main_arg2)
abbrev hA : Tall 1 := m (c.tc.loc main_arg3)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ t.val < 8 := (by decide +kernel : ∀ t : Fin grid0.N, _)

/-- Row `k` of block `t`. -/
abbrev rowAt (t : Fin cfg0.N) (k : Fin 256) : Fin 2048 := ⟨t.val * 256 + k.val, by have := (idx t).2.2.2.2.2; omega⟩

/-- Rows `256 t` to `256 t + 255` of a matrix. -/
def rowsOf (a : Tall 2048) (t : Fin cfg0.N) : Tall 256 := fun y => a (ix2 (rowAt t (y 0)) (y 1))

theorem blk0 (t) : iblk m c 0 t = rowsOf (yA m c) t := by funext y; blk_ext [iblk, V, idx t, rowsOf]
theorem blk1 (t) : iblk m c 1 t = rowsOf (uA m c) t := by funext y; blk_ext [iblk, V, idx t, rowsOf]
theorem blk2 (t) : iblk m c 2 t = gA m c := by funext y; blk_ext [iblk, V, idx t]
theorem blk3 (t) : iblk m c 3 t = hA m c := by funext y; blk_ext [iblk, V, idx t]

/-- A load of everything. -/
theorem ld_all {n w : ℕ} {e : EltTy} {inb : ∀ a, (![0, 0] : Fin 2 → ℕ) a + (⟨2, ![n, w]⟩ : Shape).size a ≤ (⟨2, ![n, w]⟩ : Shape).size a}
    (x : (⟨2, ![n, w]⟩ : Shape).Idx → Elt Ideal e) : View.ld x (Rect.unit (s := ⟨2, ![n, w]⟩) ![0, 0] (⟨2, ![n, w]⟩ : Shape).size inb) = x :=
  View.ld_unit_zero (by funext a; fin_cases a <;> rfl) inb x

theorem pay1 (y g j) : k0_pay1 (F := Ideal) y g j = unit (n := 256) y (j 0) (j 1) * g (ix2 0 (j 1)) := by
  pointwise [k0_pay1, unit, meanSq]
theorem pay2 (y g j) : k0_pay2 (F := Ideal) y g j = unit (n := 256) y (j 0) (j 1) * g (ix2 0 (j 1)) := by
  pointwise [k0_pay2, unit, meanSq]

/-- What a block's rows become. -/
theorem out4 (y u g h) : out0_4 (F := Ideal) y u g h = sides (n := 256) y u g h := by
  funext i
  obtain ⟨r, k, rfl⟩ : ∃ (r : Fin 256) (k : Fin 2048), i = ix2 r k := ⟨_, _, (ix2_eta i).symm⟩
  unfold out0_4
  refine (Cert.Kernel5Ideal.Hand.canon_cols (o := 1024) _ _ _ _).trans ?_
  by_cases hk : k.val < 1024
  · rw [dif_neg (by omega)]
    refine (Cert.Kernel5Ideal.Hand.canon_cols (o := 0) _ _ _ _).trans ?_
    rw [dif_pos ⟨Nat.zero_le _, by omega⟩, pay1]
    refine Eq.trans ?_ (dif_pos hk).symm
    rw [ld_all, ld_all]
    rfl
  · rw [dif_pos ⟨by omega, by omega⟩, pay2]
    refine Eq.trans ?_ (dif_neg hk).symm
    rw [ld_all, ld_all]
    rfl

theorem tile4 (a : FVec Ideal (⟨2, ![2048, 2048]⟩ : Shape) .bf16) (t : Fin cfg0.N) (y : ((cfg0.win 4).xblock (cfg0.grid.coords t)).Idx) :
    a ((win0_4.blk t).view.emb y) = a (ix2 (rowAt t (y 0)) (y 1)) := by
  blk_ext [idx t]

theorem final4 : (dats m 0 c).arrAt 4 (cfgs 0).N = sides (yA m c) (uA m c) (gA m c) (hA m c) := by
  refine (dats m 0 c).arrAt_eq_of_covers 4 _ (by decide +kernel) fun t hf y => ?_
  blk_simp
  rw [after0_4]
  refine Eq.trans ?_ (tile4 _ t y).symm
  rw [out4, blk0, blk1, blk2, blk3]
  rfl

end Cert.Kernel11Ideal.Hand

namespace Cert.Reference11Ideal.Hand

open Cert.Reference11Ideal Cert.Reference11Ideal.Gen Cert.RmsGrad Cert.MixNorm Cert.MixFwd

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)) ∧ r.2.sem = fun _ => 0 :=
  (θ_run defs _ _).mono (fun r h => ⟨fun c => (h c).2, sem_eq_zero_of_no_sems (by decide) r.2⟩) (Value.run m ρ)

/-- The reference's result, as a function of its arguments. -/
theorem run : θ_run defs (onTc (τ := τ) (main (F := Ideal))) ⟨m, fun _ => 0, ρ⟩ fun r => ∀ c : Dev nD,
    r.2.mem (c.tc.loc main_v25) = sides (m (c.tc.loc main_arg0)) (m (c.tc.loc main_arg1)) (m (c.tc.loc main_arg2)) (m (c.tc.loc main_arg3))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) := by
  refine (θ_run defs _ _).mono (fun r h c => ?_) (Value.run m ρ)
  obtain ⟨h0, h1⟩ := h c
  refine ⟨h0.trans ?_, h1⟩
  funext i
  pointwise [sides, unit, meanSq]

end Cert.Reference11Ideal.Hand

namespace Cert.MixFwd

theorem alg : Cert.algebraic_Kernel11Ideal_Reference11Ideal (hKernel11Ideal := Cert.Kernel11Ideal.Gen.facts) (hReference11Ideal := Cert.Reference11Ideal.Gen.facts) := by
  pair_intro
  · run_from Cert.Kernel11Ideal.Value.run_blocks m g
  · run_from Cert.Reference11Ideal.Hand.run m' g'
    exact (Cert.Kernel11Ideal.Hand.final4 m c).symm

end Cert.MixFwd

end
-- ==== Proof.ConvFwd.lean ====
module

public import proofs.«01_k».proof.Defs
public import proofs.«01_k».proof.Proof.Gen.Kernel12Ideal.Value
public import proofs.«01_k».proof.Proof.Gen.Reference12Ideal.Run
public import proofs.«01_k».proof.Proof.ConvMath
public import proofs.«01_k».proof.Proof.ConvRef
public import proofs.«01_k».proof.Proof.MixFwd
public import Idealize.ShloMosaic.Lib.Pipeline.ValueKit

/-! The causal convolution and its gate. -/

@[expose] public section

set_option maxRecDepth 16384

noncomputable section

open Idealize.ShloMosaic Idealize.ShloMosaic.TcCoe Idealize.SL.Sem
open Idealize.ShloMosaic.Pipeline (Dat)

namespace Cert.ConvFwd

open Cert.Conv

/-- The gated convolution of the two halves. -/
def gated {n w : ℕ} (x y : Blk n w) (k l : Blk 3 w) (b e : Blk 1 w) : FVec Ideal ⟨2, ![n, w]⟩ .bf16 := fun i =>
  halfConv x k b (i 1) (i 0).val * sg (halfConv x k b (i 1) (i 0).val) * halfConv y l e (i 1) (i 0).val

end Cert.ConvFwd

namespace Cert.Kernel12Ideal.Hand

open Cert.Kernel12Ideal Cert.Kernel12Ideal.Gen Cert.Conv Cert.ConvFwd

variable (m : (ℓ : Loc nD τ sig) → Buf (Elt Ideal) ℓ) (c : Dev nD)

abbrev xs : Blk 2048 11264 := m (c.tc.loc main_arg0)
abbrev ws : Blk 3 11264 := m (c.tc.loc main_arg1)
abbrev bs : Blk 1 11264 := m (c.tc.loc main_arg2)

theorem idx : ∀ t : Fin cfg0.N, win0_0.index t = ![0, t.val] ∧ win0_1.index t = ![0, t.val + 22] ∧ win0_2.index t = ![0, t.val]
    ∧ win0_3.index t = ![0, t.val + 22] ∧ win0_4.index t = ![0, t.val] ∧ win0_5.index t = ![0, t.val + 22] ∧ win0_6.index t = ![0, t.val]
    ∧ t.val < 22 := (by decide +kernel : ∀ t : Fin grid0.N, _)

/-- Column `j` of block `t`. -/
abbrev colAt (t : Fin cfg0.N) (j : Fin 256) : Fin 5632 := ⟨t.val * 256 + j.val, by have := (idx t).2.2.2.2.2.2.2; omega⟩

/-- Columns `256 t` to `256 t + 255` of a half. -/
def colsOf {n : ℕ} (a : Blk n 5632) (t : Fin cfg0.N) : Blk n 256 := fun y => a (ix2 (y 0) (colAt t (y 1)))

/-- The right half starts at block 22. -/
theorem shift (t j : ℕ) : (t + 22) * 256 + j = 5632 + (t * 256 + j) := by omega

theorem blk0 (t) : iblk m c 0 t = colsOf (left (xs m c)) t := by funext y; blk_ext [iblk, V, idx t, colsOf, left]; rfl
theorem blk1 (t) : iblk m c 1 t = colsOf (right (xs m c)) t := by funext y; blk_ext [iblk, V, idx t, colsOf, right]; exact shift _ _
theorem blk2 (t) : iblk m c 2 t = colsOf (left (ws m c)) t := by funext y; blk_ext [iblk, V, idx t, colsOf, left]; rfl
theorem blk3 (t) : iblk m c 3 t = colsOf (right (ws m c)) t := by funext y; blk_ext [iblk, V, idx t, colsOf, right]; exact shift _ _
theorem blk4 (t) : iblk m c 4 t = colsOf (left (bs m c)) t := by funext y; blk_ext [iblk, V, idx t, colsOf, left]; rfl
theorem blk5 (t) : iblk m c 5 t = colsOf (right (bs m c)) t := by funext y; blk_ext [iblk, V, idx t, colsOf, right]; exact shift _ _

/-- The rotated column below its zeros. -/
theorem sel_at {k : ℕ} (hk : k < 3) (x : Blk 2048 256) (i : Fin 2048) (j : Fin 256) (p) (a : EReal) :
    Scalar.select (IntOp.cmpi .sge (BitVec.ofNat 32 i.val) (BitVec.ofNat 32 k)) (a * x (ix2 ⟨(i.val + 2048 - k) % 2048, p⟩ j)) 0 = a * lag (col x j) k i.val := by
  have hi := i.isLt
  rw [WordCmp.cmpi_sge_ofNat (by omega) (by omega)]
  unfold lag col
  by_cases h : k ≤ i.val
  · have e : (i.val + 2048 - k) % 2048 = i.val - k := by omega
    rw [if_pos h, dif_pos (by omega : i.val - k < 2048), decide_eq_true h]
    simp only [e]
    rfl
  · rw [if_neg h, decide_eq_false h, mul_zero]
    rfl

theorem col_at (x : Blk 2048 256) (i : Fin 2048) (j : Fin 256) : col x j i.val = x (ix2 i j) := dif_pos i.isLt

theorem pay2 (x : Blk 2048 256) (b k0 k1 k2 : Blk 1 256) (i j) : k0_pay2 (F := Ideal) x b k0 k1 k2 (ix2 i j)
    = b (ix2 0 j) + k0 (ix2 0 j) * lag (col x j) 2 i.val + k1 (ix2 0 j) * lag (col x j) 1 i.val + k2 (ix2 0 j) * col x j i.val := by
  pointwise [k0_pay2]
  rw [sel_at (by decide), sel_at (by decide), col_at]

theorem pay1 (a y : Blk 2048 256) (b k0 k1 k2 : Blk 1 256) (i j) : k0_pay1 (F := Ideal) a y b k0 k0_pay3 (k0_pay4 y) (Scalar.ofBits .f32 0x00000000#32) k1 k2 (ix2 i j)
    = a (ix2 i j) * sg (a (ix2 i j))
      * (b (ix2 0 j) + k0 (ix2 0 j) * lag (col y j) 2 i.val + k1 (ix2 0 j) * lag (col y j) 1 i.val + k2 (ix2 0 j) * col y j i.val) := by
  pointwise [k0_pay1, k0_pay3, k0_pay4, sg]
  rw [sel_at (by decide), sel_at (by decide), col_at]

/-- A load of one tap. -/
theorem ld_tap {o : ℕ} {inb : ∀ a, (![o, 0] : Fin 2 → ℕ) a + S1x256.size a ≤ S3x256.size a} (k : Blk 3 256) (j : Fin 256) (ho : o < 3) :
    View.ld (Val := Elt Ideal) (e' := .f32) k (Rect.unit (s := S3x256) ![o, 0] S1x256.size inb) (ix2 0 j) = k (ix2 ⟨o, ho⟩ j) := by
  rw [View.ld_apply]; pointwise []

/-- A load of the bias. -/
theorem ld_row (b : Blk 1 256) (j : Fin 256) : View.ld (Val := Elt Ideal) (e' := .f32) b r0_1 (ix2 0 j) = b (ix2 0 j) := by
  rw [View.ld_apply]; pointwise []

/-- What a block's columns become. -/
theorem out6 (x y k l b e) : out0_6 (F := Ideal) x y k l b e = gated (n := 2048) (w := 256) x y k l b e := by
  funext i
  obtain ⟨r, j, rfl⟩ : ∃ (r : Fin 2048) (j : Fin 256), i = ix2 r j := ⟨_, _, (ix2_eta i).symm⟩
  unfold out0_6
  rw [View.canon_unit_zero (by funext a; fin_cases a <;> rfl)]
  refine (pay1 _ _ _ _ _ _ _ _).trans ?_
  rw [pay2]
  rw [ld_tap k j (by decide), ld_tap k j (by decide), ld_tap k j (by decide), ld_tap l j (by decide), ld_tap l j (by decide), ld_tap l j (by decide)]
  rw [ld_row b, ld_row e]
  simp only [Cert.Kernel11Ideal.Hand.ld_all]
  rfl

theorem tile6 (a : FVec Ideal (⟨2, ![2048, 5632]⟩ : Shape) .bf16) (t : Fin cfg0.N) (y : ((cfg0.win 6).xblock (cfg0.grid.coords t)).Idx) :
    a ((win0_6.blk t).view.emb y) = a (ix2 (y 0) (colAt t (y 1))) := by
  blk_ext [idx t]

theorem final6 : (dats m 0 c).arrAt 6 (cfgs 0).N = gated (left (xs m c)) (right (xs m c)) (left (ws m c)) (right (ws m c)) (left (bs m c)) (right (bs m c)) := by
  refine (dats m 0 c).arrAt_eq_of_covers 6 _ (by decide +kernel) fun t hf y => ?_
  blk_simp
  rw [after0_6]
  refine Eq.trans ?_ (tile6 _ t y).symm
  rw [out6, blk0, blk1, blk2, blk3, blk4, blk5]
  rfl

end Cert.Kernel12Ideal.Hand

namespace Cert.Reference12Ideal.Hand

open Cert.Reference12Ideal Cert.Reference12Ideal.Gen Cert.Conv Cert.ConvFwd
open Cert.Reference4Ideal.Hand (up upA upB sgm up_at)

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)) ∧ r.2.sem = fun _ => 0 :=
  (θ_run defs _ _).mono (fun r h => ⟨fun c => (h c).2, sem_eq_zero_of_no_sems (by decide) r.2⟩) (Value.run m ρ)

/-- The reference's term in the arrays named for the convolution's gradient. -/
theorem named (c : Dev nD) : Value.res_main_v30 (F := Ideal) m c = fun i =>
    (upA (m (c.tc.loc main_arg0)) (m (c.tc.loc main_arg1)) (m (c.tc.loc main_arg2)) i * sgm (upA (m (c.tc.loc main_arg0)) (m (c.tc.loc main_arg1)) (m (c.tc.loc main_arg2))) i)
      * upB (m (c.tc.loc main_arg0)) (m (c.tc.loc main_arg1)) (m (c.tc.loc main_arg2)) i := rfl

theorem upA_at (x w b t j) : upA x w b (ix2 t j) = halfConv (left x) (left w) (left b) j t.val := by
  refine Eq.trans (b := up x w b (ix2 t (j.castLE (show 5632 ≤ 11264 by decide)))) (by pointwise [upA]; rfl) (up_at _ _ _ _ _)
theorem upB_at (x w b t j) : upB x w b (ix2 t j) = halfConv (right x) (right w) (right b) j t.val := by
  refine Eq.trans (b := up x w b (ix2 t (j.natAdd 5632))) (by pointwise [upB]; rfl) (up_at _ _ _ _ _)

/-- The reference's result, as a function of its arguments. -/
theorem run : θ_run defs (onTc (τ := τ) (main (F := Ideal))) ⟨m, fun _ => 0, ρ⟩ fun r => ∀ c : Dev nD,
    r.2.mem (c.tc.loc main_v30) = gated (left (m (c.tc.loc main_arg0))) (right (m (c.tc.loc main_arg0))) (left (m (c.tc.loc main_arg1))) (right (m (c.tc.loc main_arg1)))
      (left (m (c.tc.loc main_arg2))) (right (m (c.tc.loc main_arg2)))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) := by
  refine (θ_run defs _ _).mono (fun r h c => ?_) (Value.run m ρ)
  obtain ⟨h0, h1⟩ := h c
  refine ⟨h0.trans ?_, h1⟩
  rw [named]
  funext i
  obtain ⟨t, j, rfl⟩ : ∃ t j, i = ix2 t j := ⟨_, _, (ix2_eta i).symm⟩
  rw [upA_at, upB_at]
  refine congrArg₂ _ (congrArg₂ _ rfl ?_) rfl
  refine Eq.trans (b := sgAuto (upA (m (c.tc.loc main_arg0)) (m (c.tc.loc main_arg1)) (m (c.tc.loc main_arg2)) (ix2 t j))) ?_ ?_
  · pointwise [sgm, Cert.Reference4Ideal.Hand.one, sgAuto]
  · rw [sgAuto_eq, upA_at]; rfl

end Cert.Reference12Ideal.Hand

namespace Cert.ConvFwd

theorem alg : Cert.algebraic_Kernel12Ideal_Reference12Ideal (hKernel12Ideal := Cert.Kernel12Ideal.Gen.facts) (hReference12Ideal := Cert.Reference12Ideal.Gen.facts) := by
  pair_intro
  · run_from Cert.Kernel12Ideal.Value.run_blocks m g
  · run_from Cert.Reference12Ideal.Hand.run m' g'
    exact (Cert.Kernel12Ideal.Hand.final6 m c).symm

end Cert.ConvFwd

end
-- ==== Proof.SguFwd.lean ====
module

public import proofs.«01_k».proof.Defs
public import proofs.«01_k».proof.Proof.Gen.Kernel13Ideal.Value
public import proofs.«01_k».proof.Proof.Gen.Reference13Ideal.Run
public import proofs.«01_k».proof.Proof.SguRef
public import proofs.«01_k».proof.Proof.SguKernel
public import proofs.«01_k».proof.Proof.MixFwd
public import Idealize.ShloMosaic.Lib.Pipeline.ValueKit

/-! The spatial gating unit. -/

@[expose] public section

set_option maxRecDepth 16384

noncomputable section

open Idealize.ShloMosaic Idealize.ShloMosaic.TcCoe Idealize.SL.Sem
open Idealize.ShloMosaic.Pipeline (Dat)

namespace Cert.SguFwd

open Cert.Sgu

/-- A chunk of the joined input and the unit's parameters; a chunk's cotangent is not used here. -/
abbrev part (z : Blk 2048 3072) (g b : Blk 1 1024) (w : FVec Ideal ⟨3, ![8, 128, 128]⟩ .f32) (s : FVec Ideal ⟨2, ![8, 128]⟩ .f32) (q : Fin 16) : Chunk :=
  chunkOf z (fun _ => 0) g b w s q

/-- The gated and mixed rows of a chunk. -/
def rows (D : Chunk) (i : Fin 128) (k : Fin 1024) : EReal := gl (D.u i k) * D.mix ⟨k.val / 128, by omega⟩ i ⟨k.val % 128, by omega⟩

/-- The rows of all the chunks. -/
def out (D : Fin 16 → Chunk) : Blk 2048 1024 := fun y =>
  rows (D ⟨(y 0).val / 128, by have : (y 0).val < 2048 := (y 0).isLt; omega⟩) ⟨(y 0).val % 128, by omega⟩ (y 1)

theorem rows_at (D : Chunk) (i : Fin 128) (b : Fin 8) (d : Fin 128) : rows D i (at' b d) = gl (D.u i (at' b d)) * D.mix b i d := by
  have h1 : (b.val * 128 + d.val) / 128 = b.val := by omega
  have h2 : (b.val * 128 + d.val) % 128 = d.val := by omega
  unfold rows
  congr 2 <;> apply Fin.ext <;> assumption

/-- The constant of gelu stands for the decimal it is written as. -/
theorem named : Cert.preserves_Kernel13_Kernel13Ideal :=
  IdealRules.named_const.statement Cert.Kernel13Ideal.κ "gelu_cubic" .f32 0x3D372713#32 ((8943 / 200000 : ℝ) : EReal) rfl

end Cert.SguFwd

namespace Cert.Kernel13Ideal.Hand

open Cert.Kernel13Ideal Cert.Kernel13Ideal.Gen Cert.Sgu Cert.SguFwd
open Cert.Kernel5Ideal.Hand (cols_ext col_hit col_miss at_zero)

variable (m : (ℓ : Loc nD τ sig) → Buf (Elt Ideal) ℓ) (c : Dev nD)

theorem named_cub : Named.named (F := Ideal) κ "gelu_cubic" (φ := .f32) 0x3D372713#32 = cub := IdealRules.named_const.ideal_named_scalar _ _ _ _ rfl

section
variable (x0 x1 : Blk 128 1024) (x2 x3 : Blk 1 1024) (x4 : FVec Ideal ⟨3, ![8, 128, 128]⟩ .bf16) (x5 : FVec Ideal ⟨3, ![8, 128, 1]⟩ .f32)

/-- The chunk of one step's blocks. -/
def chunk : Chunk :=
  ⟨fun i k => x0 (ix2 i k), fun i k => x1 (ix2 i k), fun _ _ => 0, fun k => x2 (ix2 0 k), fun k => x3 (ix2 0 k),
    fun h i j => x4 (ix3 h i j), fun h i => x5 (ix3 h i 0)⟩

/-- The gate. -/
theorem gate_eq : k0_pay2 (F := Ideal) x0 = fun y => gl (x0 y) := by
  funext y
  pointwise [k0_pay2, named_cub, gl, th]

/-- The centred value. -/
theorem ctr_eq : k0_pay3 (F := Ideal) x1 = fun y => ctr (fun l => gl (x1 (ix2 (y 0) l))) (y 1) := by
  funext y
  pointwise [k0_pay3, named_cub, gl, th, ctr, mean]

/-- The reciprocal of its deviation. -/
theorem rstd_eq : k0_pay4 (F := Ideal) x1 = fun y => rstd (fun l => gl (x1 (ix2 (y 0) l))) := by
  funext y
  pointwise [k0_pay4, ctr_eq, rstd]

/-- The value normalised. -/
theorem val_eq : k0_pay5 (F := Ideal) (k0_pay3 x1) (k0_pay4 x1) x2 x3 = fun y => (chunk x0 x1 x2 x3 x4 x5).val (y 0) (y 1) := by
  funext y
  rw [ctr_eq, rstd_eq]
  pointwise [k0_pay5, chunk, Chunk.val, Chunk.row, unit]

/-- Loads of everything. -/
theorem ld_block (x : Blk 128 1024) : View.ld (Val := Elt Ideal) (e' := .f32) x r0_0 = x := View.ld_unit_zero (by funext a; fin_cases a <;> rfl) _ _
theorem ld_row (x : Blk 1 1024) : View.ld (Val := Elt Ideal) (e' := .f32) x r0_1 = x := View.ld_unit_zero (by funext a; fin_cases a <;> rfl) _ _

theorem pay21 : k0_pay21 (F := Ideal) x0 x1 x2 x3 x4 x5 = fun y => gl (x0 y) := by
  unfold k0_pay21; rw [ld_block]; exact gate_eq x0
theorem pay24 : k0_pay24 (F := Ideal) x0 x1 x2 x3 x4 x5 = fun y => (chunk x0 x1 x2 x3 x4 x5).val (y 0) (y 1) := by
  unfold k0_pay24 k0_pay22 k0_pay23; rw [ld_block, ld_row, ld_row]; exact val_eq x0 x1 x2 x3 x4 x5
theorem pay5 : k0_pay5 (F := Ideal) (k0_pay22 (F := Ideal) x0 x1 x2 x3 x4 x5) (k0_pay23 (F := Ideal) x0 x1 x2 x3 x4 x5) x2 x3
    = fun y => (chunk x0 x1 x2 x3 x4 x5).val (y 0) (y 1) := by
  unfold k0_pay22 k0_pay23; rw [ld_block]; exact val_eq x0 x1 x2 x3 x4 x5

set_option maxHeartbeats 2000000 in -- eight strips
/-- What a step's blocks become. -/
theorem out6 : out0_6 (F := Ideal) x0 x1 x2 x3 x4 x5 = fun y => rows (chunk x0 x1 x2 x3 x4 x5) (y 0) (y 1) := by
  refine cols_ext fun a b d => ?_
  rw [rows_at]
  unfold out0_6
  rw [ld_row, ld_row, pay21, pay24]
  simp only [k0_pay6, k0_pay7, k0_pay8]
  rw [pay5]
  fin_cases b
  all_goals
    repeat refine (col_miss _ _ _ _ _ (by decide)).trans ?_
    refine (col_hit _ _ _ _ _ rfl).trans ?_
    unfold_payloads
    pointwise [Chunk.mix]
    try simp only [at_zero]
    try rfl
end

theorem idx : ∀ t : Fin cfg0.N, win0_0.index t = ![t.val, 1] ∧ win0_1.index t = ![t.val, 2] ∧ win0_2.index t = ![0, 0]
    ∧ win0_3.index t = ![0, 0] ∧ win0_4.index t = ![0, 0, 0] ∧ win0_5.index t = ![0, 0, 0] ∧ win0_6.index t = ![t.val, 0]
    ∧ t.val < 16 := (by decide +kernel : ∀ t : Fin grid0.N, _)

abbrev zA : Blk 2048 3072 := m (c.tc.loc main_arg0)
abbrev gA : Blk 1 1024 := m (c.tc.loc main_arg1)
abbrev bA : Blk 1 1024 := m (c.tc.loc main_arg2)
abbrev wA : FVec Ideal ⟨3, ![8, 128, 128]⟩ .f32 := m (c.tc.loc main_arg3)
abbrev eA : FVec Ideal ⟨2, ![8, 128]⟩ .f32 := m (c.tc.loc main_arg4)

abbrev rowAt (t : Fin cfg0.N) (k : Fin 128) : Fin 2048 := ⟨t.val * 128 + k.val, by have := (idx t).2.2.2.2.2.2.2; omega⟩

/-- The host's two lines: the masked matrices and the column of biases. -/
theorem hostW : V (F := Ideal) m c main_v5 = fun y => if (y 2).val ≤ (y 1).val then wA m c y else 0 := by
  unfold_abbrev_sides
  simp only [List.flatten_cons, List.flatten_nil, List.append_nil, List.cons_append, List.nil_append]
  after_results
  funext y
  idx_vars y
  pointwise []
  show wA m c (ix3 y0 y1 y2) * select (cmpi .sge (addi (iotaInDim S128x128 32 0) (broadcastInDim S128x128 ![] bcast_S_S128x128 (constantI S_ 32 0#32)))
    (iotaInDim S128x128 32 1)) (broadcastInDim S128x128 ![] bcast_S_S128x128 (constant S_ .f32 0x3F800000#32))
    (broadcastInDim S128x128 ![] bcast_S_S128x128 (constant (F := Ideal) S_ .f32 0x00000000#32)) (ix2 y1 y2) = _
  pointwise []
  exact mask_at _ _ _

theorem hostB : V (F := Ideal) m c main_v6 = fun y => eA m c (ix2 (y 0) (y 1)) := by
  unfold_abbrev_sides
  simp only [List.flatten_cons, List.flatten_nil, List.append_nil, List.cons_append, List.nil_append]
  after_results
  funext y
  idx_vars y
  pointwise []

/-- The chunk of rows `128 q` to `128 q + 127`. -/
abbrev chunks (q : Fin 16) : Chunk := part (zA m c) (gA m c) (bA m c) (wA m c) (eA m c) q

/-- A step's blocks are a chunk of the whole arrays. -/
theorem chunk_eq (t : Fin cfg0.N) : chunk (iblk m c 0 t) (iblk m c 1 t) (iblk m c 2 t) (iblk m c 3 t) (iblk m c 4 t) (iblk m c 5 t)
    = chunks m c ⟨t.val, (idx t).2.2.2.2.2.2.2⟩ := by
  have h0 : iblk m c 0 t = fun y => zA m c (ix2 (rowAt t (y 0)) ⟨1024 + (y 1).val, by have : (y 1).val < 1024 := (y 1).isLt; omega⟩) := by
    funext y; blk_ext [iblk, V, idx t]
  have h1 : iblk m c 1 t = fun y => zA m c (ix2 (rowAt t (y 0)) ⟨2048 + (y 1).val, by have : (y 1).val < 1024 := (y 1).isLt; omega⟩) := by
    funext y; blk_ext [iblk, V, idx t]
  have h2 : iblk m c 2 t = gA m c := by funext y; blk_ext [iblk, V, idx t]
  have h3 : iblk m c 3 t = bA m c := by funext y; blk_ext [iblk, V, idx t]
  have h4 : iblk m c 4 t = V (F := Ideal) m c main_v5 := by unfold iblk; funext y; blk_ext [idx t]
  have h5 : iblk m c 5 t = V (F := Ideal) m c main_v6 := by unfold iblk; funext y; blk_ext [idx t]
  rw [h0, h1, h2, h3, h4, h5, hostW, hostB]
  rfl

theorem tile6 (a : Blk 2048 1024) (t : Fin cfg0.N) (y : ((cfg0.win 6).xblock (cfg0.grid.coords t)).Idx) :
    a ((win0_6.blk t).view.emb y) = a (ix2 (rowAt t (y 0)) (y 1)) := by
  blk_ext [idx t]

theorem final6 : (dats m 0 c).arrAt 6 (cfgs 0).N = out (chunks m c) := by
  refine (dats m 0 c).arrAt_eq_of_covers 6 _ (by decide +kernel) fun t hf y => ?_
  blk_simp
  rw [after0_6]
  refine Eq.trans ?_ (tile6 _ t y).symm
  rw [out6, chunk_eq m c t]
  idx_vars y
  show rows (chunks m c ⟨t.val, _⟩) y0 y1 = rows (chunks m c ⟨(t.val * 128 + y0.val) / 128, _⟩) ⟨(t.val * 128 + y0.val) % 128, _⟩ y1
  have e1 : (t.val * 128 + y0.val) / 128 = t.val := by omega
  have e2 : (t.val * 128 + y0.val) % 128 = y0.val := by omega
  simp only [e1, e2]

end Cert.Kernel13Ideal.Hand

namespace Cert.Reference13Ideal.Hand

open Cert.Reference13Ideal Cert.Reference13Ideal.Gen Cert.Sgu Cert.SguFwd
open Cert.Reference5Ideal.Hand (rq ri kh kd row_eq quot mask_or)

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)) ∧ r.2.sem = fun _ => 0 :=
  (θ_run defs _ _).mono (fun r h => ⟨fun c => (h c).2, sem_eq_zero_of_no_sems (by decide) r.2⟩) (Value.run m ρ)

section
variable (z : Blk 2048 3072) (g b : Blk 1 1024) (w : FVec Ideal ⟨3, ![8, 128, 128]⟩ .f32) (e : FVec Ideal ⟨2, ![8, 128]⟩ .f32)

/-! The reference's arrays, by name. -/

/-- Gelu of a matrix. -/
def gelu (u : Blk 2048 1024) : Blk 2048 1024 :=
  mulf u (mulf (broadcastInDim S2048x1024 ![] bcast_S_S2048x1024 (constant S_ .f32 0x3F000000#32)) (addf (broadcastInDim S2048x1024 ![] bcast_S_S2048x1024 (constant S_ .f32 0x3F800000#32))
    (Host.tanh (mulf (broadcastInDim S2048x1024 ![] bcast_S_S2048x1024 (constant S_ .f32 0x3F4C422A#32)) (addf u
      (mulf (broadcastInDim S2048x1024 ![] bcast_S_S2048x1024 (Host.divf (constant S_ .f32 0x472EAB00#32) (constant S_ .f32 0x49742400#32))) (mulf (mulf u u) u)))))))

def gate : Blk 2048 1024 := gelu (extractStridedSlice S2048x1024 ![0, 1024] z slices_S2048x3072_S2048x1024_0_1024)
def value : Blk 2048 1024 := gelu (extractStridedSlice S2048x1024 ![0, 2048] z slices_S2048x3072_S2048x1024_0_2048)

/-- The mean of each row. -/
def means (v : Blk 2048 1024) : Blk 2048 1 :=
  Host.divf (broadcastInDim S2048x1 ![0] bcast_S2048_S2048x1_0 (Host.reduceAdd v (constant S_ .f32 0x00000000#32) reducesTo_S2048x1024_S2048_d1 h_S_))
    (broadcastInDim S2048x1 ![] bcast_S_S2048x1 (constant S_ .f32 0x44800000#32))

def centred (v : Blk 2048 1024) : Blk 2048 1024 := subf v (broadcastInDim S2048x1024 ![0, 1] bcast_S2048x1_S2048x1024_0_1 (means v))

def dev (v : Blk 2048 1024) : Blk 2048 1 :=
  Host.rsqrt (addf (means (mulf (centred v) (centred v))) (broadcastInDim S2048x1 ![] bcast_S_S2048x1 (constant S_ .f32 0x358637BD#32)))

def norm : FVec Ideal ⟨4, ![16, 128, 8, 128]⟩ .f32 :=
  shapeCast _ (addf (mulf (mulf (centred (value z)) (broadcastInDim S2048x1024 ![0, 1] bcast_S2048x1_S2048x1024_0_1 (dev (value z))))
    (broadcastInDim S2048x1024 ![0, 1] bcast_S1x1024_S2048x1024_0_1 g)) (broadcastInDim S2048x1024 ![0, 1] bcast_S1x1024_S2048x1024_0_1 b)) shapeCasts_S2048x1024_S16x128x8x128

/-- The matrices below their diagonals. -/
def lower : FVec Ideal ⟨3, ![8, 128, 128]⟩ .f32 :=
  select (broadcastInDim S8x128x128 ![0, 1, 2] bcast_S1x128x128_S8x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1)))))
    w (broadcastInDim S8x128x128 ![] bcast_S_S8x128x128 (id (constant S_ .f32 0x00000000#32)))

def mixed : Blk 2048 1024 :=
  shapeCast _ (addf (transpose S16x128x8x128 [1, 3, 0, 2] (Host.dotGeneral dot_S16x128x8x128_S8x128x128_S8x16x128x128_1_2_03_1_2_0 none (norm z g b) (lower w))
      transposes_S8x16x128x128_S16x128x8x128_1_3_0_2)
    (broadcastInDim S16x128x8x128 ![0, 1, 2, 3] bcast_S1x128x8x128_S16x128x8x128_0_1_2_3 (broadcastInDim S1x128x8x128 ![1, 2, 3] bcast_S128x8x128_S1x128x8x128_1_2_3
      (broadcastInDim S128x8x128 ![0, 1, 2] bcast_S128x8x1_S128x8x128_0_1_2 (broadcastInDim S128x8x1 ![0, 1] bcast_S128x8_S128x8x1_0_1
        (transpose S128x8 [1, 0] e transposes_S8x128_S128x8_1_0)))))) shapeCasts_S16x128x8x128_S2048x1024

/-! The arrays at an index. -/

/-- The value's gelu. -/
def vg (r : Fin 2048) : Row := fun k => gl (z (ix2 r ⟨2048 + k.val, by omega⟩))

theorem gelu_at (u : Blk 2048 1024) (i) : gelu u i = gl (u i) := by
  refine Eq.trans ?_ (gl_auto _)
  pointwise [gelu, quot, th]
theorem gate_at (r k) : gate z (ix2 r k) = gl (z (ix2 r ⟨1024 + k.val, by omega⟩)) := by
  unfold gate; rw [gelu_at]; pointwise []
theorem value_at (r k) : value z (ix2 r k) = vg z r k := by
  unfold value; rw [gelu_at]; pointwise [vg]
theorem centred_at (v : Blk 2048 1024) (r k) : centred v (ix2 r k) = ctr (fun l => v (ix2 r l)) k := by
  pointwise [centred, means, ctr, mean]
theorem dev_at (v : Blk 2048 1024) (r) (o : Fin 1) : dev v (ix2 r o) = rstd (fun l => v (ix2 r l)) := by
  pointwise [dev, means, centred_at, rstd]
theorem lower_at (h i j) : lower w (ix3 h i j) = if j.val ≤ i.val then w (ix3 h i j) else 0 := by
  have h0 : (id (constant (F := Ideal) S_ .f32 0#32) ix0 : EReal) = 0 := Ideal.ofBits_zero .f32
  refine Eq.trans ?_ (mask_or i j _)
  pointwise [lower]
  rw [h0]
theorem norm_at (q j h d) : norm z g b (ix4 q j h d) = (part z g b w e q).val j (at' h d) := by
  pointwise [norm, centred_at, dev_at, value_at]
  rfl
theorem mixed_at (r k) : mixed z g b w e (ix2 r k) = (part z g b w e (rq r)).mix (kh k) (ri r) (kd k) := by
  pointwise [mixed, norm_at z g b w e, lower_at]
  exact congrArg (fun x : EReal => x + _) (Finset.sum_congr (M := EReal) rfl fun _ _ => mul_comm (G := EReal) _ _)
end

/-- The reference's result, as a function of its arguments. -/
theorem run : θ_run defs (onTc (τ := τ) (main (F := Ideal))) ⟨m, fun _ => 0, ρ⟩ fun r => ∀ c : Dev nD,
    r.2.mem (c.tc.loc main_v65) = out (part (m (c.tc.loc main_arg0)) (m (c.tc.loc main_arg1)) (m (c.tc.loc main_arg2)) (m (c.tc.loc main_arg3)) (m (c.tc.loc main_arg4)))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) := by
  refine (θ_run defs _ _).mono (fun r h c => ?_) (Value.run m ρ)
  obtain ⟨h0, h1⟩ := h c
  refine ⟨h0.trans ?_, h1⟩
  have named : Value.res_main_v65 (F := Ideal) m c = mulf (gate (m (c.tc.loc main_arg0)))
      (mixed (m (c.tc.loc main_arg0)) (m (c.tc.loc main_arg1)) (m (c.tc.loc main_arg2)) (m (c.tc.loc main_arg3)) (m (c.tc.loc main_arg4))) := rfl
  rw [named]
  funext i
  obtain ⟨r, k, rfl⟩ : ∃ r k, i = ix2 r k := ⟨_, _, (ix2_eta i).symm⟩
  refine Eq.trans (b := gate (m (c.tc.loc main_arg0)) (ix2 r k) * mixed (m (c.tc.loc main_arg0)) (m (c.tc.loc main_arg1)) (m (c.tc.loc main_arg2)) (m (c.tc.loc main_arg3)) (m (c.tc.loc main_arg4)) (ix2 r k))
    rfl ?_
  rw [gate_at, mixed_at]
  show _ = gl (m (c.tc.loc main_arg0) (ix2 ⟨r.val / 128 * 128 + r.val % 128, _⟩ _)) * _
  rw [row_eq r]
  rfl

end Cert.Reference13Ideal.Hand

namespace Cert.SguFwd

theorem alg : Cert.algebraic_Kernel13Ideal_Reference13Ideal (hKernel13Ideal := Cert.Kernel13Ideal.Gen.facts) (hReference13Ideal := Cert.Reference13Ideal.Gen.facts) := by
  pair_intro
  · run_from Cert.Kernel13Ideal.Value.run_blocks m g
  · run_from Cert.Reference13Ideal.Hand.run m' g'
    exact (Cert.Kernel13Ideal.Hand.final6 m c).symm

end Cert.SguFwd

end
-- ==== Proof.ModPart.lean ====
module

public import proofs.«01_k».proof.Defs
public import proofs.«01_k».proof.Proof.Gen.Kernel14Ideal.Value
public import proofs.«01_k».proof.Proof.Gen.Reference14Ideal.Run
public import proofs.«01_k».proof.Proof.WAda
public import Idealize.ShloMosaic.Lib.Pipeline.ValueKit

/-! The conditioning product: gated conditions times a weight, and a bias. -/

@[expose] public section

set_option maxRecDepth 16384

noncomputable section

open Idealize.ShloMosaic Idealize.ShloMosaic.TcCoe Idealize.SL.Sem
open Idealize.ShloMosaic.Pipeline (Dat)

namespace Cert.ModPart

open Cert.WAda

abbrev Bias : Type := FVec Ideal (⟨2, ![1, 3072]⟩ : Shape) .f32

/-- Each sequence's modulation: its gated condition against each column, and that column's bias. -/
def mods (c : Conds) (w : Weight) (b : Bias) : Cots := fun i =>
  (∑ k : Fin 2048, silu (c (ix2 (i 0) k)) * w (ix2 k (i 1))) + b (ix2 0 (i 1))

end Cert.ModPart

namespace Cert.Kernel14Ideal.Hand

open Cert.Kernel14Ideal Cert.Kernel14Ideal.Gen Cert.WAda Cert.ModPart

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val]
    ∧ win0_3.index t = ![0, t.val] ∧ t.val < 6 := (by decide +kernel : ∀ t : Fin grid0.N, _)

/-- Column `j` of block `t`. -/
abbrev colAt (t : Fin cfg0.N) (j : Fin 512) : Fin 3072 := ⟨t.val * 512 + j.val, by have := (idx t).2.2.2.2; omega⟩

/-- What a block of columns becomes. -/
theorem out3 (x : Vec Ideal S8x2048 .f32) (w : Vec Ideal S2048x512 .f32) (b : Vec Ideal S1x512 .f32) (i : S8x512.Idx) :
    out0_3 (F := Ideal) x w b i = (∑ k : Fin 2048, silu (x (ix2 (i 0) k)) * w (ix2 k (i 1))) + b (ix2 0 (i 1)) := by
  frame_out; pointwise [k0_pay1, silu, zero_sub]

theorem blk0 (t) : iblk m c 0 t = (m (c.tc.loc main_arg0) : Conds) := by funext y; blk_ext [iblk, V, idx t]
theorem blk1 (t) : iblk m c 1 t = fun y => m (c.tc.loc main_arg1) (ix2 (y 0) (colAt t (y 1))) := by funext y; blk_ext [iblk, V, idx t]
theorem blk2 (t) : iblk m c 2 t = fun y => m (c.tc.loc main_arg2) (ix2 (y 0) (colAt t (y 1))) := by funext y; blk_ext [iblk, V, idx t]

theorem tile3 (a : Cots) (t : Fin cfg0.N) (y : ((cfg0.win 3).xblock (cfg0.grid.coords t)).Idx) :
    a ((win0_3.blk t).view.emb y) = a (ix2 (y 0) (colAt t (y 1))) := by
  blk_ext [idx t]

theorem final3 : (dats m 0 c).arrAt 3 (cfgs 0).N = mods (m (c.tc.loc main_arg0)) (m (c.tc.loc main_arg1)) (m (c.tc.loc main_arg2)) := by
  refine (dats m 0 c).arrAt_eq_of_covers 3 _ (by decide +kernel) fun t hf y => ?_
  blk_simp
  rw [after0_3]
  refine Eq.trans ?_ (tile3 _ t y).symm
  rw [out3, blk0, blk1, blk2]
  rfl

end Cert.Kernel14Ideal.Hand

namespace Cert.Reference14Ideal.Hand

open Cert.Reference14Ideal Cert.Reference14Ideal.Gen Cert.WAda Cert.ModPart

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)) ∧ r.2.sem = fun _ => 0 :=
  (θ_run defs _ _).mono (fun r h => ⟨fun c => (h c).2, sem_eq_zero_of_no_sems (by decide) r.2⟩) (Value.run m ρ)

/-- The reference's result, as a function of its arguments. -/
theorem run : θ_run defs (onTc (τ := τ) (main (F := Ideal))) ⟨m, fun _ => 0, ρ⟩ fun r => ∀ c : Dev nD,
    r.2.mem (c.tc.loc main_v3) = mods (m (c.tc.loc main_arg0)) (m (c.tc.loc main_arg1)) (m (c.tc.loc main_arg2))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) := by
  refine (θ_run defs _ _).mono (fun r h c => ?_) (Value.run m ρ)
  obtain ⟨h0, h1⟩ := h c
  refine ⟨h0.trans ?_, h1⟩
  funext i
  pointwise [mods, silu]

end Cert.Reference14Ideal.Hand

namespace Cert.ModPart

theorem alg : Cert.algebraic_Kernel14Ideal_Reference14Ideal (hKernel14Ideal := Cert.Kernel14Ideal.Gen.facts) (hReference14Ideal := Cert.Reference14Ideal.Gen.facts) := by
  pair_intro
  · run_from Cert.Kernel14Ideal.Value.run_blocks m g
  · run_from Cert.Reference14Ideal.Hand.run m' g'
    exact (Cert.Kernel14Ideal.Hand.final3 m c).symm

end Cert.ModPart

end
-- ==== Proof.MmUp.lean ====
module

public import proofs.«01_k».proof.Defs
public import proofs.«01_k».proof.Proof.Gen.Kernel15Ideal.Value
public import proofs.«01_k».proof.Proof.Gen.Reference15Ideal.Run
public import Idealize.ShloMosaic.Lib.Pipeline.ValueKit

/-! A plain product whose second factor's columns lie in four parts. -/

@[expose] public section

set_option maxRecDepth 16384

noncomputable section

open Idealize.ShloMosaic Idealize.ShloMosaic.TcCoe Idealize.SL.Sem
open Idealize.ShloMosaic.Pipeline (Dat)

namespace Cert.Mm

/-- A number of a product of two matrices. -/
def prod {n k p : ℕ} {e f : FTy} (a : FVec Ideal (⟨2, ![n, k]⟩ : Shape) e) (b : FVec Ideal (⟨2, ![k, p]⟩ : Shape) f) (i : Fin n) (j : Fin p) : EReal :=
  ∑ q : Fin k, a (ix2 i q) * b (ix2 q j)

/-- A number of a product of a matrix, transposed, with another. -/
def tprod {n k p : ℕ} {e f : FTy} (a : FVec Ideal (⟨2, ![k, n]⟩ : Shape) e) (b : FVec Ideal (⟨2, ![k, p]⟩ : Shape) f) (i : Fin n) (j : Fin p) : EReal :=
  ∑ q : Fin k, a (ix2 q i) * b (ix2 q j)

theorem tprod_comm {n k p : ℕ} {e f : FTy} (a : FVec Ideal (⟨2, ![k, n]⟩ : Shape) e) (b : FVec Ideal (⟨2, ![k, p]⟩ : Shape) f) (i j) :
    tprod a b i j = ∑ q : Fin k, b (ix2 q j) * a (ix2 q i) := Finset.sum_congr rfl fun _ _ => mul_comm _ _

end Cert.Mm

namespace Cert.MmUp

open Cert.Mm

/-- The whole product. -/
def whole (a : FVec Ideal (⟨2, ![2048, 2048]⟩ : Shape) .bf16) (b : FVec Ideal (⟨2, ![2048, 11264]⟩ : Shape) .f32) : FVec Ideal (⟨2, ![2048, 11264]⟩ : Shape) .f32 :=
  fun i => prod a b (i 0) (i 1)

end Cert.MmUp

namespace Cert.Kernel15Ideal.Hand

open Cert.Kernel15Ideal Cert.Kernel15Ideal.Gen Cert.Mm Cert.MmUp

variable (m : (ℓ : Loc nD τ sig) → Buf (Elt Ideal) ℓ) (c : Dev nD)

theorem idx : ∀ t : Fin cfg0.N, win0_0.index t = ![t.val % 4, 0] ∧ win0_1.index t = ![t.val / 8, 0, t.val / 4 % 2] ∧ win0_2.index t = ![t.val % 4, t.val / 4]
    ∧ t.val < 32 := (by decide +kernel : ∀ t : Fin grid0.N, _)

abbrev rowAt (t : Fin cfg0.N) (k : Fin 512) : Fin 2048 := ⟨t.val % 4 * 512 + k.val, by omega⟩
abbrev colAt (t : Fin cfg0.N) (j : Fin 1408) : Fin 11264 := ⟨t.val / 4 * 1408 + j.val, by have := (idx t).2.2.2; omega⟩

/-- The host's four parts of the columns. -/
theorem host : V (F := Ideal) m c main_v2 = fun y => m (c.tc.loc main_arg1)
    (ix2 (y 1) (⟨(y 0).val * 2816 + (y 2).val, by have h : (y 0).val < 4 := (y 0).isLt; have k : (y 2).val < 2816 := (y 2).isLt; omega⟩ : Fin 11264)) := by
  unfold_abbrev_sides
  after_results
  funext y
  idx_vars y
  pointwise []

theorem blk0 (t) : iblk m c 0 t = fun y => m (c.tc.loc main_arg0) (ix2 (rowAt t (y 0)) (y 1)) := by funext y; blk_ext [iblk, V, idx t]
theorem blk1 (t) : iblk m c 1 t = fun y => m (c.tc.loc main_arg1) (ix2 (y 1) (colAt t (y 2))) := by
  have h : iblk m c 1 t = fun y => V (F := Ideal) m c main_v2 (ix3 (⟨t.val / 8, by have := (idx t).2.2.2; omega⟩ : Fin 4) (y 1)
      (⟨t.val / 4 % 2 * 1408 + (y 2).val, by have k : (y 2).val < 1408 := (y 2).isLt; omega⟩ : Fin 2816)) := by
    unfold iblk; funext y; blk_ext [idx t]
  rw [h, host]
  funext y
  exact congrArg (fun j => m (c.tc.loc main_arg1) (ix2 (y 1) j)) (Fin.ext (by simp; omega))

theorem out2 (x : Vec Ideal S512x2048 .bf16) (w : Vec Ideal S1x2048x1408 .bf16) (i : S512x1408.Idx) :
    out0_2 (F := Ideal) x w i = ∑ k : Fin 2048, x (ix2 (i 0) k) * w (ix3 0 k (i 1)) := by
  frame_out; pointwise [k0_pay1]

theorem tile2 (a : FVec Ideal (⟨2, ![2048, 11264]⟩ : Shape) .f32) (t : Fin cfg0.N) (y : ((cfg0.win 2).xblock (cfg0.grid.coords t)).Idx) :
    a ((win0_2.blk t).view.emb y) = a (ix2 (rowAt t (y 0)) (colAt t (y 1))) := by
  blk_ext [idx t]

theorem final2 : (dats m 0 c).arrAt 2 (cfgs 0).N = whole (m (c.tc.loc main_arg0)) (m (c.tc.loc main_arg1)) := by
  refine (dats m 0 c).arrAt_eq_of_covers 2 _ (by decide +kernel) fun t hf y => ?_
  blk_simp
  rw [after0_2]
  refine Eq.trans ?_ (tile2 _ t y).symm
  rw [out2, blk0, blk1]
  rfl

end Cert.Kernel15Ideal.Hand

namespace Cert.Reference15Ideal.Hand

open Cert.Reference15Ideal Cert.Reference15Ideal.Gen Cert.Mm Cert.MmUp

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)) ∧ r.2.sem = fun _ => 0 :=
  (θ_run defs _ _).mono (fun r h => ⟨fun c => (h c).2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v1) = whole (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun r h c => ?_) (Value.run m ρ)
  obtain ⟨h0, h1⟩ := h c
  refine ⟨h0.trans ?_, h1⟩
  funext i
  pointwise [whole, prod]

end Cert.Reference15Ideal.Hand

namespace Cert.MmUp

theorem alg : Cert.algebraic_Kernel15Ideal_Reference15Ideal (hKernel15Ideal := Cert.Kernel15Ideal.Gen.facts) (hReference15Ideal := Cert.Reference15Ideal.Gen.facts) := by
  pair_intro
  · run_from Cert.Kernel15Ideal.Value.run_blocks m g
  · run_from Cert.Reference15Ideal.Hand.run m' g'
    exact (Cert.Kernel15Ideal.Hand.final2 m c).symm

end Cert.MmUp

end
-- ==== Proof.MmGradUp.lean ====
module

public import proofs.«01_k».proof.Defs
public import proofs.«01_k».proof.Proof.Gen.Kernel16Ideal.Value
public import proofs.«01_k».proof.Proof.Gen.Reference16Ideal.Run
public import proofs.«01_k».proof.Proof.MmUp
public import Idealize.ShloMosaic.Lib.Pipeline.ValueKit

/-! A weight's gradient, in two halves of rows and four parts of columns. -/

@[expose] public section

set_option maxRecDepth 16384

noncomputable section

open Idealize.ShloMosaic Idealize.ShloMosaic.TcCoe Idealize.SL.Sem
open Idealize.ShloMosaic.Pipeline (Dat)

namespace Cert.MmGradUp

open Cert.Mm

/-- The product of `h` transposed with `d`: the second index takes the part of the columns, the first one the half of the rows. -/
def parts (h : FVec Ideal (⟨2, ![2048, 2048]⟩ : Shape) .bf16) (d : FVec Ideal (⟨2, ![2048, 11264]⟩ : Shape) .bf16) : FVec Ideal (⟨4, ![2, 4, 1024, 2816]⟩ : Shape) .bf16 := fun i =>
  tprod h d (⟨(i 0).val * 1024 + (i 2).val, by have h : (i 0).val < 2 := (i 0).isLt; have k : (i 2).val < 1024 := (i 2).isLt; omega⟩ : Fin 2048)
    (⟨(i 1).val * 2816 + (i 3).val, by have h : (i 1).val < 4 := (i 1).isLt; have k : (i 3).val < 2816 := (i 3).isLt; omega⟩ : Fin 11264)

end Cert.MmGradUp

namespace Cert.Kernel16Ideal.Hand

open Cert.Kernel16Ideal Cert.Kernel16Ideal.Gen Cert.Mm Cert.MmGradUp

variable (m : (ℓ : Loc nD τ sig) → Buf (Elt Ideal) ℓ) (c : Dev nD)

theorem idx : ∀ t : Fin cfg0.N, win0_0.index t = ![0, t.val % 2] ∧ win0_1.index t = ![t.val / 8, 0, t.val / 2 % 4]
    ∧ win0_2.index t = ![t.val % 2, t.val / 4, 0, t.val / 2 % 2] ∧ t.val < 16 := (by decide +kernel : ∀ t : Fin grid0.N, _)

abbrev rowAt (t : Fin cfg0.N) (k : Fin 1024) : Fin 2048 := ⟨t.val % 2 * 1024 + k.val, by omega⟩
abbrev colAt (t : Fin cfg0.N) (j : Fin 1408) : Fin 11264 := ⟨t.val / 2 * 1408 + j.val, by have := (idx t).2.2.2; omega⟩

/-- The host's two halves of the columns. -/
theorem host : V (F := Ideal) m c main_v1 = fun y => m (c.tc.loc main_arg1)
    (ix2 (y 1) (⟨(y 0).val * 5632 + (y 2).val, by have h : (y 0).val < 2 := (y 0).isLt; have k : (y 2).val < 5632 := (y 2).isLt; omega⟩ : Fin 11264)) := by
  unfold_abbrev_sides
  after_results
  funext y
  idx_vars y
  pointwise []

theorem blk0 (t) : iblk m c 0 t = fun y => m (c.tc.loc main_arg0) (ix2 (y 0) (rowAt t (y 1))) := by funext y; blk_ext [iblk, V, idx t]
theorem blk1 (t) : iblk m c 1 t = fun y => m (c.tc.loc main_arg1) (ix2 (y 1) (colAt t (y 2))) := by
  have h : iblk m c 1 t = fun y => V (F := Ideal) m c main_v1 (ix3 (⟨t.val / 8, by have := (idx t).2.2.2; omega⟩ : Fin 2) (y 1)
      (⟨t.val / 2 % 4 * 1408 + (y 2).val, by have k : (y 2).val < 1408 := (y 2).isLt; omega⟩ : Fin 5632)) := by
    unfold iblk; funext y; blk_ext [idx t]
  rw [h, host]
  funext y
  exact congrArg (fun j => m (c.tc.loc main_arg1) (ix2 (y 1) j)) (Fin.ext (by simp; omega))

theorem out2 (x : Vec Ideal S2048x1024 .bf16) (w : Vec Ideal S1x2048x1408 .bf16) (i : S1x1x1024x1408.Idx) :
    out0_2 (F := Ideal) x w i = ∑ k : Fin 2048, x (ix2 k (i 2)) * w (ix3 0 k (i 3)) := by
  frame_out; pointwise [k0_pay1]

theorem tile2 (a : FVec Ideal (⟨4, ![2, 4, 1024, 2816]⟩ : Shape) .bf16) (t : Fin cfg0.N) (y : ((cfg0.win 2).xblock (cfg0.grid.coords t)).Idx) :
    a ((win0_2.blk t).view.emb y) = a (ix4 (⟨t.val % 2, by omega⟩ : Fin 2) (⟨t.val / 4, by have := (idx t).2.2.2; omega⟩ : Fin 4) (y 2)
      (⟨t.val / 2 % 2 * 1408 + (y 3).val, by have k : (y 3).val < 1408 := (y 3).isLt; omega⟩ : Fin 2816)) := by
  blk_ext [idx t]

theorem final2 : (dats m 0 c).arrAt 2 (cfgs 0).N = parts (m (c.tc.loc main_arg0)) (m (c.tc.loc main_arg1)) := by
  refine (dats m 0 c).arrAt_eq_of_covers 2 _ (by decide +kernel) fun t hf y => ?_
  blk_simp
  rw [after0_2]
  refine Eq.trans ?_ (tile2 _ t y).symm
  rw [out2, blk0, blk1]
  exact congrArg (fun j => tprod (m (c.tc.loc main_arg0)) (m (c.tc.loc main_arg1)) (rowAt t (y 2)) j) (Fin.ext (by simp; omega))

end Cert.Kernel16Ideal.Hand

namespace Cert.Reference16Ideal.Hand

open Cert.Reference16Ideal Cert.Reference16Ideal.Gen Cert.Mm Cert.MmGradUp

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)) ∧ r.2.sem = fun _ => 0 :=
  (θ_run defs _ _).mono (fun r h => ⟨fun c => (h c).2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v8) = parts (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun r h c => ?_) (Value.run m ρ)
  obtain ⟨h0, h1⟩ := h c
  refine ⟨h0.trans ?_, h1⟩
  funext i
  idx_vars i
  unfold parts
  rw [tprod_comm]
  pointwise []

end Cert.Reference16Ideal.Hand

namespace Cert.MmGradUp

theorem alg : Cert.algebraic_Kernel16Ideal_Reference16Ideal (hKernel16Ideal := Cert.Kernel16Ideal.Gen.facts) (hReference16Ideal := Cert.Reference16Ideal.Gen.facts) := by
  pair_intro
  · run_from Cert.Kernel16Ideal.Value.run_blocks m g
  · run_from Cert.Reference16Ideal.Hand.run m' g'
    exact (Cert.Kernel16Ideal.Hand.final2 m c).symm

end Cert.MmGradUp

end
-- ==== Proof.MmGradDown.lean ====
module

public import proofs.«01_k».proof.Defs
public import proofs.«01_k».proof.Proof.Gen.Kernel17Ideal.Value
public import proofs.«01_k».proof.Proof.Gen.Reference17Ideal.Run
public import proofs.«01_k».proof.Proof.MmUp
public import Idealize.ShloMosaic.Lib.Pipeline.ValueKit

/-! A weight's gradient, in two halves of columns and four parts of rows. -/

@[expose] public section

set_option maxRecDepth 16384

noncomputable section

open Idealize.ShloMosaic Idealize.ShloMosaic.TcCoe Idealize.SL.Sem
open Idealize.ShloMosaic.Pipeline (Dat)

namespace Cert.MmGradDown

open Cert.Mm

/-- The product of `h` transposed with `d`: the second index takes the part of the rows, the first one the half of the columns. -/
def parts (h : FVec Ideal (⟨2, ![2048, 5632]⟩ : Shape) .bf16) (d : FVec Ideal (⟨2, ![2048, 2048]⟩ : Shape) .bf16) : FVec Ideal (⟨4, ![2, 4, 1408, 1024]⟩ : Shape) .bf16 := fun i =>
  tprod h d (⟨(i 1).val * 1408 + (i 2).val, by have h : (i 1).val < 4 := (i 1).isLt; have k : (i 2).val < 1408 := (i 2).isLt; omega⟩ : Fin 5632)
    (⟨(i 0).val * 1024 + (i 3).val, by have h : (i 0).val < 2 := (i 0).isLt; have k : (i 3).val < 1024 := (i 3).isLt; omega⟩ : Fin 2048)

end Cert.MmGradDown

namespace Cert.Kernel17Ideal.Hand

open Cert.Kernel17Ideal Cert.Kernel17Ideal.Gen Cert.Mm Cert.MmGradDown

variable (m : (ℓ : Loc nD τ sig) → Buf (Elt Ideal) ℓ) (c : Dev nD)

theorem idx : ∀ t : Fin cfg0.N, win0_0.index t = ![0, t.val % 4] ∧ win0_1.index t = ![0, t.val / 4]
    ∧ win0_2.index t = ![t.val / 4, t.val % 4, 0, 0] ∧ t.val < 8 := (by decide +kernel : ∀ t : Fin grid0.N, _)

abbrev rowAt (t : Fin cfg0.N) (k : Fin 1408) : Fin 5632 := ⟨t.val % 4 * 1408 + k.val, by omega⟩
abbrev colAt (t : Fin cfg0.N) (j : Fin 1024) : Fin 2048 := ⟨t.val / 4 * 1024 + j.val, by have := (idx t).2.2.2; omega⟩

theorem blk0 (t) : iblk m c 0 t = fun y => m (c.tc.loc main_arg0) (ix2 (y 0) (rowAt t (y 1))) := by funext y; blk_ext [iblk, V, idx t]
theorem blk1 (t) : iblk m c 1 t = fun y => m (c.tc.loc main_arg1) (ix2 (y 0) (colAt t (y 1))) := by funext y; blk_ext [iblk, V, idx t]

theorem out2 (x : Vec Ideal S2048x1408 .bf16) (w : Vec Ideal S2048x1024 .bf16) (i : S1x1x1408x1024.Idx) :
    out0_2 (F := Ideal) x w i = ∑ k : Fin 2048, x (ix2 k (i 2)) * w (ix2 k (i 3)) := by
  frame_out; pointwise [k0_pay1]

theorem tile2 (a : FVec Ideal (⟨4, ![2, 4, 1408, 1024]⟩ : Shape) .bf16) (t : Fin cfg0.N) (y : ((cfg0.win 2).xblock (cfg0.grid.coords t)).Idx) :
    a ((win0_2.blk t).view.emb y) = a (ix4 (⟨t.val / 4, by have := (idx t).2.2.2; omega⟩ : Fin 2) (⟨t.val % 4, by omega⟩ : Fin 4) (y 2) (y 3)) := by
  blk_ext [idx t]

theorem final2 : (dats m 0 c).arrAt 2 (cfgs 0).N = parts (m (c.tc.loc main_arg0)) (m (c.tc.loc main_arg1)) := by
  refine (dats m 0 c).arrAt_eq_of_covers 2 _ (by decide +kernel) fun t hf y => ?_
  blk_simp
  rw [after0_2]
  refine Eq.trans ?_ (tile2 _ t y).symm
  rw [out2, blk0, blk1]
  rfl

end Cert.Kernel17Ideal.Hand

namespace Cert.Reference17Ideal.Hand

open Cert.Reference17Ideal Cert.Reference17Ideal.Gen Cert.Mm Cert.MmGradDown

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)) ∧ r.2.sem = fun _ => 0 :=
  (θ_run defs _ _).mono (fun r h => ⟨fun c => (h c).2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v8) = parts (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun r h c => ?_) (Value.run m ρ)
  obtain ⟨h0, h1⟩ := h c
  refine ⟨h0.trans ?_, h1⟩
  funext i
  idx_vars i
  unfold parts
  rw [tprod_comm]
  pointwise []

end Cert.Reference17Ideal.Hand

namespace Cert.MmGradDown

theorem alg : Cert.algebraic_Kernel17Ideal_Reference17Ideal (hKernel17Ideal := Cert.Kernel17Ideal.Gen.facts) (hReference17Ideal := Cert.Reference17Ideal.Gen.facts) := by
  pair_intro
  · run_from Cert.Kernel17Ideal.Value.run_blocks m g
  · run_from Cert.Reference17Ideal.Hand.run m' g'
    exact (Cert.Kernel17Ideal.Hand.final2 m c).symm

end Cert.MmGradDown

end
-- ==== Proof.AdamW.lean ====
module

public import proofs.«01_k».proof.Defs
public import proofs.«01_k».proof.Proof.Gen.Kernel18Ideal.Value
public import proofs.«01_k».proof.Proof.Gen.Reference18Ideal.Run
public import proofs.«01_k».proof.Proof.WAda
public import Idealize.ShloMosaic.Lib.Pipeline.ValueKit

/-! The optimiser's step of a matrix. -/

@[expose] public section

set_option maxRecDepth 16384

noncomputable section

open Idealize.ShloMosaic Idealize.ShloMosaic.TcCoe Idealize.SL.Sem
open Idealize.ShloMosaic.Pipeline (Dat)

namespace Cert.AdamW

open Cert.WAda

variable {s : Shape}

/-! The optimiser's step, number by number. -/

def newMs (g p : FVec Ideal s .f32) : FVec Ideal s .f32 := fun i => newM (g i) (p i)
def newVs (g q : FVec Ideal s .f32) : FVec Ideal s .f32 := fun i => newV (g i) (q i)
def deltas (w g p q : FVec Ideal s .f32) : FVec Ideal s .f32 := fun i => delta (w i) (g i) (p i) (q i)

end Cert.AdamW

namespace Cert.Kernel18Ideal.Hand

open Cert.Kernel18Ideal Cert.Kernel18Ideal.Gen Cert.WAda Cert.AdamW

variable (m : (ℓ : Loc nD τ sig) → Buf (Elt Ideal) ℓ) (c : Dev nD)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] ∧ t.val < 32 := (by decide +kernel : ∀ t : Fin grid0.N, _)

/-- Row `k` of block `t`. -/
abbrev rowAt (t : Fin cfg0.N) (k : Fin 64) : Fin 2048 := ⟨t.val * 64 + k.val, by have := (idx t).2.2.2.2.2.2.2.2; omega⟩

/-- Block `t` of a matrix. -/
def tileOf (a : FVec Ideal (⟨2, ![2048, 2816]⟩ : Shape) .f32) (t : Fin cfg0.N) : Vec Ideal S64x2816 .f32 := fun y => a (ix2 (rowAt t (y 0)) (y 1))

/-! What a block becomes. -/

section
variable (w g p q : Vec Ideal S64x2816 .f32)

theorem out4 : out0_4 (F := Ideal) w g p q = g := by
  funext i; frame_out
theorem out6 : out0_6 (F := Ideal) w g p q = newMs g p := by
  funext i; frame_out; pointwise [k0_pay1, newMs, newM]
theorem out7 : out0_7 (F := Ideal) w g p q = newVs g q := by
  funext i; frame_out; pointwise [k0_pay2, newVs, newV]
theorem out5 : out0_5 (F := Ideal) w g p q = deltas w g p q := by
  funext i; frame_out; pointwise [k0_pay1, k0_pay2, k0_pay3, deltas, delta, newM, newV]
end

theorem blk0 (t) : iblk m c 0 t = tileOf (m (c.tc.loc main_arg0)) t := by funext y; blk_ext [iblk, V, idx t, tileOf]
theorem blk1 (t) : iblk m c 1 t = tileOf (m (c.tc.loc main_arg1)) t := by funext y; blk_ext [iblk, V, idx t, tileOf]
theorem blk2 (t) : iblk m c 2 t = tileOf (m (c.tc.loc main_arg2)) t := by funext y; blk_ext [iblk, V, idx t, tileOf]
theorem blk3 (t) : iblk m c 3 t = tileOf (m (c.tc.loc main_arg3)) t := by funext y; blk_ext [iblk, V, idx t, tileOf]

theorem tile4 (a : FVec Ideal (⟨2, ![2048, 2816]⟩ : Shape) .f32) (t : Fin cfg0.N) (y : ((cfg0.win 4).xblock (cfg0.grid.coords t)).Idx) :
    a ((win0_4.blk t).view.emb y) = tileOf a t y := by
  blk_ext [idx t, tileOf]

theorem final4 : (dats m 0 c).arrAt 4 (cfgs 0).N = (m (c.tc.loc main_arg1)) := by
  refine (dats m 0 c).arrAt_eq_of_covers 4 _ (by decide +kernel) fun t hf y => ?_
  blk_simp
  rw [after0_4]
  refine Eq.trans ?_ (tile4 _ t y).symm
  rw [out4, blk1]

theorem tile5 (a : FVec Ideal (⟨2, ![2048, 2816]⟩ : Shape) .f32) (t : Fin cfg0.N) (y : ((cfg0.win 5).xblock (cfg0.grid.coords t)).Idx) :
    a ((win0_5.blk t).view.emb y) = tileOf a t y := by
  blk_ext [idx t, tileOf]

theorem final5 : (dats m 0 c).arrAt 5 (cfgs 0).N = deltas (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  refine Eq.trans ?_ (tile5 _ t y).symm
  rw [out5, blk0, blk1, blk2, blk3]
  rfl

theorem tile6 (a : FVec Ideal (⟨2, ![2048, 2816]⟩ : Shape) .f32) (t : Fin cfg0.N) (y : ((cfg0.win 6).xblock (cfg0.grid.coords t)).Idx) :
    a ((win0_6.blk t).view.emb y) = tileOf a t y := by
  blk_ext [idx t, tileOf]

theorem final6 : (dats m 0 c).arrAt 6 (cfgs 0).N = newMs (m (c.tc.loc main_arg1)) (m (c.tc.loc main_arg2)) := by
  refine (dats m 0 c).arrAt_eq_of_covers 6 _ (by decide +kernel) fun t hf y => ?_
  blk_simp
  rw [after0_6]
  refine Eq.trans ?_ (tile6 _ t y).symm
  rw [out6, blk1, blk2]
  rfl

theorem tile7 (a : FVec Ideal (⟨2, ![2048, 2816]⟩ : Shape) .f32) (t : Fin cfg0.N) (y : ((cfg0.win 7).xblock (cfg0.grid.coords t)).Idx) :
    a ((win0_7.blk t).view.emb y) = tileOf a t y := by
  blk_ext [idx t, tileOf]

theorem final7 : (dats m 0 c).arrAt 7 (cfgs 0).N = newVs (m (c.tc.loc main_arg1)) (m (c.tc.loc main_arg3)) := by
  refine (dats m 0 c).arrAt_eq_of_covers 7 _ (by decide +kernel) fun t hf y => ?_
  blk_simp
  rw [after0_7]
  refine Eq.trans ?_ (tile7 _ t y).symm
  rw [out7, blk1, blk3]
  rfl

end Cert.Kernel18Ideal.Hand

namespace Cert.Reference18Ideal.Hand

open Cert.Reference18Ideal Cert.Reference18Ideal.Gen Cert.WAda Cert.AdamW

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)) ∧ r.2.sem = fun _ => 0 :=
  (θ_run defs _ _).mono (fun r h => ⟨fun c => (h c).2.2.2.2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_arg1) = (m (c.tc.loc main_arg1))
    ∧ r.2.mem (c.tc.loc main_v23) = deltas (m (c.tc.loc main_arg0)) (m (c.tc.loc main_arg1)) (m (c.tc.loc main_arg2)) (m (c.tc.loc main_arg3))
    ∧ r.2.mem (c.tc.loc main_v4) = newMs (m (c.tc.loc main_arg1)) (m (c.tc.loc main_arg2))
    ∧ r.2.mem (c.tc.loc main_v10) = newVs (m (c.tc.loc main_arg1)) (m (c.tc.loc main_arg3))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) := by
  refine (θ_run defs _ _).mono (fun r h c => ?_) (Value.run m ρ)
  obtain ⟨h0, h1, h2, h3, h4⟩ := h c
  refine ⟨h0, h1.trans ?_, h2.trans ?_, h3.trans ?_, h4⟩
  · funext i
    pointwise [deltas, delta, newM, newV]
  · funext i
    pointwise [newMs, newM]
  · funext i
    pointwise [newVs, newV]

end Cert.Reference18Ideal.Hand

namespace Cert.AdamW

theorem alg : Cert.algebraic_Kernel18Ideal_Reference18Ideal (hKernel18Ideal := Cert.Kernel18Ideal.Gen.facts) (hReference18Ideal := Cert.Reference18Ideal.Gen.facts) := by
  pair_intro
  · run_from Cert.Kernel18Ideal.Value.run_blocks m g
  · run_from Cert.Reference18Ideal.Hand.run m' g'
    · exact (Cert.Kernel18Ideal.Hand.final4 m c).symm
    · exact (Cert.Kernel18Ideal.Hand.final5 m c).symm
    · exact (Cert.Kernel18Ideal.Hand.final6 m c).symm
    · exact (Cert.Kernel18Ideal.Hand.final7 m c).symm

end Cert.AdamW

end
-- ==== Proof.AdamHalves.lean ====
module

public import proofs.«01_k».proof.Defs
public import proofs.«01_k».proof.Proof.Gen.Kernel19Ideal.Value
public import proofs.«01_k».proof.Proof.Gen.Reference19Ideal.Run
public import proofs.«01_k».proof.Proof.AdamW
public import Idealize.ShloMosaic.Lib.Pipeline.ValueKit

/-! The optimiser's step of a matrix whose gradient comes in two halves of columns. -/

@[expose] public section

set_option maxRecDepth 16384

noncomputable section

open Idealize.ShloMosaic Idealize.ShloMosaic.TcCoe Idealize.SL.Sem
open Idealize.ShloMosaic.Pipeline (Dat)

namespace Cert.Kernel19Ideal.Hand

open Cert.Kernel19Ideal Cert.Kernel19Ideal.Gen Cert.WAda Cert.AdamW

variable (m : (ℓ : Loc nD τ sig) → Buf (Elt Ideal) ℓ) (c : Dev nD)

theorem idx : ∀ t : Fin cfg0.N, win0_0.index t = ![t.val / 2, t.val % 2]
    ∧ win0_1.index t = ![t.val % 2, t.val / 2, 0]
    ∧ win0_2.index t = ![t.val / 2, t.val % 2]
    ∧ win0_3.index t = ![t.val / 2, t.val % 2]
    ∧ win0_4.index t = ![t.val / 2, t.val % 2]
    ∧ win0_5.index t = ![t.val / 2, t.val % 2]
    ∧ win0_6.index t = ![t.val / 2, t.val % 2]
    ∧ win0_7.index t = ![t.val / 2, t.val % 2] ∧ t.val < 16 := (by decide +kernel : ∀ t : Fin grid0.N, _)

/-- The rows and columns of block `t`. -/
abbrev rowAt (t : Fin cfg0.N) (k : Fin 176) : Fin 1408 := ⟨t.val / 2 * 176 + k.val, by have := (idx t).2.2.2.2.2.2.2.2; omega⟩
abbrev colAt (t : Fin cfg0.N) (k : Fin 1024) : Fin 2048 := ⟨t.val % 2 * 1024 + k.val, by omega⟩

/-- The host's two halves of the columns. -/
theorem host : V (F := Ideal) m c main_v1 = fun y => m (c.tc.loc main_arg1)
    (ix2 (y 1) (⟨(y 0).val * 1024 + (y 2).val, by have h : (y 0).val < 2 := (y 0).isLt; have k : (y 2).val < 1024 := (y 2).isLt; omega⟩ : Fin 2048)) := by
  unfold_abbrev_sides
  after_results
  funext y
  idx_vars y
  pointwise []

/-- Block `t` of a matrix. -/
def tileOf (a : FVec Ideal (⟨2, ![1408, 2048]⟩ : Shape) .f32) (t : Fin cfg0.N) : Vec Ideal S176x1024 .f32 := fun y => a (ix2 (rowAt t (y 0)) (colAt t (y 1)))

/-! What a block becomes. -/

section
variable (w : Vec Ideal S176x1024 .f32) (g : Vec Ideal S1x176x1024 .f32) (p q : Vec Ideal S176x1024 .f32)

/-- A block without its leading index. -/
abbrev flat : Vec Ideal S176x1024 .f32 := fun y => g (ix3 0 (y 0) (y 1))

theorem out4 : out0_4 (F := Ideal) w g p q = flat g := by
  funext i; frame_out; pointwise [k0_pay1]
theorem out6 : out0_6 (F := Ideal) w g p q = newMs (flat g) p := by
  funext i; frame_out; pointwise [k0_pay1, k0_pay2, newMs, newM]
theorem out7 : out0_7 (F := Ideal) w g p q = newVs (flat g) q := by
  funext i; frame_out; pointwise [k0_pay1, k0_pay3, newVs, newV]
theorem out5 : out0_5 (F := Ideal) w g p q = deltas w (flat g) p q := by
  funext i; frame_out; pointwise [k0_pay1, k0_pay2, k0_pay3, k0_pay4, deltas, delta, newM, newV]
end

theorem blk0 (t) : iblk m c 0 t = tileOf (m (c.tc.loc main_arg0)) t := by funext y; blk_ext [iblk, V, idx t, tileOf]
theorem blk2 (t) : iblk m c 2 t = tileOf (m (c.tc.loc main_arg2)) t := by funext y; blk_ext [iblk, V, idx t, tileOf]
theorem blk3 (t) : iblk m c 3 t = tileOf (m (c.tc.loc main_arg3)) t := by funext y; blk_ext [iblk, V, idx t, tileOf]
theorem blk1 (t) : iblk m c 1 t = fun y => tileOf (m (c.tc.loc main_arg1)) t (ix2 (y 1) (y 2)) := by
  have h : iblk m c 1 t = fun y => V (F := Ideal) m c main_v1 (ix3 (⟨t.val % 2, by omega⟩ : Fin 2) (rowAt t (y 1)) (y 2)) := by
    unfold iblk; funext y; blk_ext [idx t]
  rw [h, host]
  rfl

theorem tile4 (a : FVec Ideal (⟨2, ![1408, 2048]⟩ : Shape) .f32) (t : Fin cfg0.N) (y : ((cfg0.win 4).xblock (cfg0.grid.coords t)).Idx) :
    a ((win0_4.blk t).view.emb y) = tileOf a t y := by
  blk_ext [idx t, tileOf]

theorem final4 : (dats m 0 c).arrAt 4 (cfgs 0).N = (m (c.tc.loc main_arg1)) := by
  refine (dats m 0 c).arrAt_eq_of_covers 4 _ (by decide +kernel) fun t hf y => ?_
  blk_simp
  rw [after0_4]
  refine Eq.trans ?_ (tile4 _ t y).symm
  rw [out4, blk1]
  rfl

theorem tile5 (a : FVec Ideal (⟨2, ![1408, 2048]⟩ : Shape) .f32) (t : Fin cfg0.N) (y : ((cfg0.win 5).xblock (cfg0.grid.coords t)).Idx) :
    a ((win0_5.blk t).view.emb y) = tileOf a t y := by
  blk_ext [idx t, tileOf]

theorem final5 : (dats m 0 c).arrAt 5 (cfgs 0).N = deltas (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  refine Eq.trans ?_ (tile5 _ t y).symm
  rw [out5, blk0, blk1, blk2, blk3]
  rfl

theorem tile6 (a : FVec Ideal (⟨2, ![1408, 2048]⟩ : Shape) .f32) (t : Fin cfg0.N) (y : ((cfg0.win 6).xblock (cfg0.grid.coords t)).Idx) :
    a ((win0_6.blk t).view.emb y) = tileOf a t y := by
  blk_ext [idx t, tileOf]

theorem final6 : (dats m 0 c).arrAt 6 (cfgs 0).N = newMs (m (c.tc.loc main_arg1)) (m (c.tc.loc main_arg2)) := by
  refine (dats m 0 c).arrAt_eq_of_covers 6 _ (by decide +kernel) fun t hf y => ?_
  blk_simp
  rw [after0_6]
  refine Eq.trans ?_ (tile6 _ t y).symm
  rw [out6, blk1, blk2]
  rfl

theorem tile7 (a : FVec Ideal (⟨2, ![1408, 2048]⟩ : Shape) .f32) (t : Fin cfg0.N) (y : ((cfg0.win 7).xblock (cfg0.grid.coords t)).Idx) :
    a ((win0_7.blk t).view.emb y) = tileOf a t y := by
  blk_ext [idx t, tileOf]

theorem final7 : (dats m 0 c).arrAt 7 (cfgs 0).N = newVs (m (c.tc.loc main_arg1)) (m (c.tc.loc main_arg3)) := by
  refine (dats m 0 c).arrAt_eq_of_covers 7 _ (by decide +kernel) fun t hf y => ?_
  blk_simp
  rw [after0_7]
  refine Eq.trans ?_ (tile7 _ t y).symm
  rw [out7, blk1, blk3]
  rfl

end Cert.Kernel19Ideal.Hand

namespace Cert.Reference19Ideal.Hand

open Cert.Reference19Ideal Cert.Reference19Ideal.Gen Cert.WAda Cert.AdamW

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)) ∧ r.2.sem = fun _ => 0 :=
  (θ_run defs _ _).mono (fun r h => ⟨fun c => (h c).2.2.2.2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_arg1) = (m (c.tc.loc main_arg1))
    ∧ r.2.mem (c.tc.loc main_v23) = deltas (m (c.tc.loc main_arg0)) (m (c.tc.loc main_arg1)) (m (c.tc.loc main_arg2)) (m (c.tc.loc main_arg3))
    ∧ r.2.mem (c.tc.loc main_v4) = newMs (m (c.tc.loc main_arg1)) (m (c.tc.loc main_arg2))
    ∧ r.2.mem (c.tc.loc main_v10) = newVs (m (c.tc.loc main_arg1)) (m (c.tc.loc main_arg3))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3) := by
  refine (θ_run defs _ _).mono (fun r h c => ?_) (Value.run m ρ)
  obtain ⟨h0, h1, h2, h3, h4⟩ := h c
  refine ⟨h0, h1.trans ?_, h2.trans ?_, h3.trans ?_, h4⟩
  · funext i
    pointwise [deltas, delta, newM, newV]
  · funext i
    pointwise [newMs, newM]
  · funext i
    pointwise [newVs, newV]

end Cert.Reference19Ideal.Hand

namespace Cert.AdamHalves

theorem alg : Cert.algebraic_Kernel19Ideal_Reference19Ideal (hKernel19Ideal := Cert.Kernel19Ideal.Gen.facts) (hReference19Ideal := Cert.Reference19Ideal.Gen.facts) := by
  pair_intro
  · run_from Cert.Kernel19Ideal.Value.run_blocks m g
  · run_from Cert.Reference19Ideal.Hand.run m' g'
    · exact (Cert.Kernel19Ideal.Hand.final4 m c).symm
    · exact (Cert.Kernel19Ideal.Hand.final5 m c).symm
    · exact (Cert.Kernel19Ideal.Hand.final6 m c).symm
    · exact (Cert.Kernel19Ideal.Hand.final7 m c).symm

end Cert.AdamHalves

end
-- ==== Proof.SmallSum.lean ====
module

public import proofs.«01_k».proof.Defs
public import proofs.«01_k».proof.Proof.Gen.Kernel21Ideal.Value
public import proofs.«01_k».proof.Proof.Gen.Reference21Ideal.Run
public import Idealize.ShloMosaic.Lib.Pipeline.ValueKit

/-! The sum of eight matrices. -/

@[expose] public section

set_option maxRecDepth 16384

noncomputable section

open Idealize.ShloMosaic Idealize.ShloMosaic.TcCoe Idealize.SL.Sem
open Idealize.ShloMosaic.Pipeline (Dat)

namespace Cert.SmallSum

/-- The sum over the first index. -/
def total (a : FVec Ideal (⟨3, ![8, 4096, 128]⟩ : Shape) .f32) : FVec Ideal (⟨2, ![4096, 128]⟩ : Shape) .f32 := fun i =>
  ∑ k : Fin 8, a (ix3 k (i 0) (i 1))

end Cert.SmallSum

namespace Cert.Kernel21Ideal.Hand

open Cert.Kernel21Ideal Cert.Kernel21Ideal.Gen Cert.SmallSum

variable (m : (ℓ : Loc nD τ sig) → Buf (Elt Ideal) ℓ) (c : Dev nD)

theorem idx : ∀ t : Fin cfg0.N, win0_0.index t = ![0, t.val, 0] ∧ win0_1.index t = ![t.val, 0] ∧ t.val < 8 := (by decide +kernel : ∀ t : Fin grid0.N, _)

/-- Row `k` of block `t`. -/
abbrev rowAt (t : Fin cfg0.N) (k : Fin 512) : Fin 4096 := ⟨t.val * 512 + k.val, by have := (idx t).2.2; omega⟩

theorem blk0 (t) : iblk m c 0 t = fun y => m (c.tc.loc main_arg0) (ix3 (y 0) (rowAt t (y 1)) (y 2)) := by funext y; blk_ext [iblk, V, idx t]

theorem out1 (x : Vec Ideal S8x512x128 .f32) (i : S512x128.Idx) : out0_1 (F := Ideal) x i = ∑ k : Fin 8, x (ix3 k (i 0) (i 1)) := by
  rw [Fin.sum_univ_eight]; frame_out; pointwise [k0_pay1]

theorem tile1 (a : FVec Ideal (⟨2, ![4096, 128]⟩ : Shape) .f32) (t : Fin cfg0.N) (y : ((cfg0.win 1).xblock (cfg0.grid.coords t)).Idx) :
    a ((win0_1.blk t).view.emb y) = a (ix2 (rowAt t (y 0)) (y 1)) := by
  blk_ext [idx t]

theorem final1 : (dats m 0 c).arrAt 1 (cfgs 0).N = total (m (c.tc.loc main_arg0)) := by
  refine (dats m 0 c).arrAt_eq_of_covers 1 _ (by decide +kernel) fun t hf y => ?_
  blk_simp
  rw [after0_1]
  refine Eq.trans ?_ (tile1 _ t y).symm
  rw [out1, blk0]
  rfl

end Cert.Kernel21Ideal.Hand

namespace Cert.Reference21Ideal.Hand

open Cert.Reference21Ideal Cert.Reference21Ideal.Gen Cert.SmallSum

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)) ∧ r.2.sem = fun _ => 0 :=
  (θ_run defs _ _).mono (fun r h => ⟨fun c => (h c).2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v0) = total (m (c.tc.loc main_arg0))
    ∧ r.2.mem (c.tc.loc main_arg0) = m (c.tc.loc main_arg0) := by
  refine (θ_run defs _ _).mono (fun r h c => ?_) (Value.run m ρ)
  obtain ⟨h0, h1⟩ := h c
  refine ⟨h0.trans ?_, h1⟩
  funext i
  pointwise [total]

end Cert.Reference21Ideal.Hand

namespace Cert.SmallSum

theorem alg : Cert.algebraic_Kernel21Ideal_Reference21Ideal (hKernel21Ideal := Cert.Kernel21Ideal.Gen.facts) (hReference21Ideal := Cert.Reference21Ideal.Gen.facts) := by
  pair_intro
  · run_from Cert.Kernel21Ideal.Value.run_blocks m g
  · run_from Cert.Reference21Ideal.Hand.run m' g'
    exact (Cert.Kernel21Ideal.Hand.final1 m c).symm

end Cert.SmallSum

end
-- ==== Proof.MmGradIn.lean ====
module

public import proofs.«01_k».proof.Defs
public import proofs.«01_k».proof.Proof.Gen.Kernel22Ideal.Value
public import proofs.«01_k».proof.Proof.Gen.Reference22Ideal.Run
public import Idealize.ShloMosaic.Lib.Pipeline.ValueKit

/-! A product against a transposed weight, summed over four parts of the columns. -/

@[expose] public section

set_option maxRecDepth 16384

noncomputable section

open Idealize.ShloMosaic Idealize.ShloMosaic.TcCoe Idealize.SL.Sem
open Idealize.ShloMosaic.Pipeline (Dat)

namespace Cert.MmGradIn

abbrev Rows : Type := FVec Ideal (⟨2, ![2048, 11264]⟩ : Shape) .bf16
abbrev Weight : Type := FVec Ideal (⟨2, ![2048, 11264]⟩ : Shape) .f32

/-- A column of part `k`. -/
abbrev col (k : Fin 4) (q : Fin 2816) : Fin 11264 := ⟨k.val * 2816 + q.val, by omega⟩

/-- What the columns of part `k` give. -/
def part (d : Rows) (w : Weight) (k : Fin 4) (i j : Fin 2048) : EReal := ∑ q : Fin 2816, d (ix2 i (col k q)) * w (ix2 j (col k q))

/-- The product over all columns. -/
def back (d : Rows) (w : Weight) : FVec Ideal (⟨2, ![2048, 2048]⟩ : Shape) .f32 := fun i => ∑ q : Fin 11264, d (ix2 (i 0) q) * w (ix2 (i 1) q)

/-- A sum over the columns is the four parts' sums. -/
theorem sum_parts (f : Fin 11264 → EReal) : ∑ q, f q = ∑ k : Fin 4, ∑ q : Fin 2816, f (col k q) :=
  ((Fintype.sum_equiv (finProdFinEquiv (m := 4) (n := 2816)).symm f (fun p => f (col p.1 p.2)) fun q => congrArg f (Fin.ext (by
    show q.val = q.val / 2816 * 2816 + q.val % 2816
    omega))).trans (Fintype.sum_prod_type _))

theorem back_eq (d : Rows) (w : Weight) (i) : back d w i = part d w 0 (i 0) (i 1) + part d w 1 (i 0) (i 1) + part d w 2 (i 0) (i 1) + part d w 3 (i 0) (i 1) := by
  unfold back
  rw [sum_parts, Fin.sum_univ_four]
  rfl

end Cert.MmGradIn

namespace Cert.Kernel22Ideal.Hand

open Cert.Kernel22Ideal Cert.Kernel22Ideal.Gen Cert.MmGradIn

variable (m : (ℓ : Loc nD τ sig) → Buf (Elt Ideal) ℓ) (c : Dev nD)

theorem idx : ∀ t : Fin cfg0.N, win0_0.index t = ![t.val % 4 / 2, t.val / 4, t.val % 2] ∧ win0_1.index t = ![t.val % 4, 0, 0]
    ∧ win0_2.index t = ![t.val / 4, 0] ∧ t.val < 16 := (by decide +kernel : ∀ t : Fin grid0.N, _)

abbrev dA : Rows := m (c.tc.loc main_arg0)
abbrev wA : Weight := m (c.tc.loc main_arg1)

/-- Row `k` of block `t`, and the part of the columns. -/
abbrev rowAt (t : Fin cfg0.N) (k : Fin 512) : Fin 2048 := ⟨t.val / 4 * 512 + k.val, by have := (idx t).2.2.2; omega⟩
abbrev partAt (t : Fin cfg0.N) : Fin 4 := ⟨t.val % 4, by omega⟩

/-- The host's two halves of one matrix's columns, and the four parts of the other's. -/
theorem host0 : V (F := Ideal) m c main_v1 = fun y => dA m c
    (ix2 (y 1) (⟨(y 0).val * 5632 + (y 2).val, by have h : (y 0).val < 2 := (y 0).isLt; have k : (y 2).val < 5632 := (y 2).isLt; omega⟩ : Fin 11264)) := by
  unfold_abbrev_sides
  after_results
  funext y
  idx_vars y
  pointwise []
theorem host1 : V (F := Ideal) m c main_v4 = fun y => wA m c
    (ix2 (y 1) (⟨(y 0).val * 2816 + (y 2).val, by have h : (y 0).val < 4 := (y 0).isLt; have k : (y 2).val < 2816 := (y 2).isLt; omega⟩ : Fin 11264)) := by
  unfold_abbrev_sides
  after_results
  funext y
  idx_vars y
  pointwise []

theorem blk0 (t) : iblk m c 0 t = fun y => dA m c (ix2 (rowAt t (y 1)) (col (partAt t) (y 2))) := by
  have h : iblk m c 0 t = fun y => V (F := Ideal) m c main_v1 (ix3 (⟨t.val % 4 / 2, by omega⟩ : Fin 2) (rowAt t (y 1))
      (⟨t.val % 2 * 2816 + (y 2).val, by have k : (y 2).val < 2816 := (y 2).isLt; omega⟩ : Fin 5632)) := by
    unfold iblk; funext y; blk_ext [idx t]
  rw [h, host0]
  funext y
  exact congrArg (fun j => dA m c (ix2 (rowAt t (y 1)) j)) (Fin.ext (by simp; omega))
theorem blk1 (t) : iblk m c 1 t = fun y => wA m c (ix2 (y 1) (col (partAt t) (y 2))) := by
  have h : iblk m c 1 t = fun y => V (F := Ideal) m c main_v4 (ix3 (partAt t) (y 1) (y 2)) := by
    unfold iblk; funext y; blk_ext [idx t]
  rw [h, host1]
  rfl

/-- What a step adds, of its blocks. -/
abbrev inner (x : Vec Ideal S1x512x2816 .bf16) (w : Vec Ideal S1x2048x2816 .bf16) (i : S512x2048.Idx) : EReal := ∑ q : Fin 2816, x (ix3 0 (i 0) q) * w (ix3 0 (i 1) q)

theorem adds (t : Fin cfg0.N) (i : S512x2048.Idx) : inner (iblk m c 0 t) (iblk m c 1 t) i
    = part (dA m c) (wA m c) (partAt t) (rowAt t (i 0)) (i 1) := by
  rw [blk0, blk1]
  rfl

theorem stepA (t : Fin cfg0.N) (h0 : t.val % 4 = 0) (i : S512x2048.Idx) :
    (outsAt0 m c t.val t.isLt).2 i = part (dA m c) (wA m c) (partAt t) (rowAt t (i 0)) (i 1) := by
  rw [outsAt0_A m c t h0 (by omega), ← adds]
  generalize iblk m c 0 t = x0, iblk m c 1 t = x1
  frame_out
  pointwise [k0_pay1, k0_pay2]
theorem stepB (t : Fin cfg0.N) (h0 : ¬t.val % 4 = 0) (h1 : ¬t.val % 4 = 3) (i : S512x2048.Idx) :
    (outsAt0 m c t.val t.isLt).2 i = (outsAt0 m c (t.val - 1) (by omega)).2 i + part (dA m c) (wA m c) (partAt t) (rowAt t (i 0)) (i 1) := by
  rw [outsAt0_B m c t h0 h1, ← adds]
  generalize iblk m c 0 t = x0, iblk m c 1 t = x1
  frame_out
  pointwise [k0_pay2]
  exact congrArg (· + _) (congrFun (Memref.IsWhole.read_unread _ _) i)
theorem stepC (t : Fin cfg0.N) (h0 : ¬t.val % 4 = 0) (h1 : t.val % 4 = 3) (i : S512x2048.Idx) :
    (outsAt0 m c t.val t.isLt).1 i = (outsAt0 m c (t.val - 1) (by omega)).2 i + part (dA m c) (wA m c) (partAt t) (rowAt t (i 0)) (i 1) := by
  rw [outsAt0_C m c t h0 h1, ← adds]
  generalize iblk m c 0 t = x0, iblk m c 1 t = x1
  frame_out
  pointwise [k0_pay2]
  exact congrArg (· + _) (congrFun (Memref.IsWhole.read_unread _ _) i)

/-- What the last of a block's four steps writes back. -/
theorem out2 (t : Fin cfg0.N) (h : t.val % 4 = 3) (i : S512x2048.Idx) :
    (outsAt0 m c t.val t.isLt).1 i = back (dA m c) (wA m c) (ix2 (rowAt t (i 0)) (i 1)) := by
  obtain ⟨n, hn⟩ := t
  have h' : n % 4 = 3 := h
  have r : ∀ s : Fin cfg0.N, s.val / 4 = n / 4 → rowAt s (i 0) = rowAt ⟨n, hn⟩ (i 0) := fun s hs => Fin.ext (by show s.val / 4 * 512 + _ = n / 4 * 512 + _; rw [hs])
  have p : ∀ (s : Fin cfg0.N) (k : Fin 4), s.val % 4 = k.val → partAt s = k := fun s k hs => Fin.ext hs
  rw [stepC m c ⟨n, hn⟩ (by omega) h, stepB m c ⟨n - 1, by omega⟩ (by simp; omega) (by simp; omega), stepB m c ⟨n - 1 - 1, by omega⟩ (by simp; omega) (by simp; omega),
    stepA m c ⟨n - 1 - 1 - 1, by omega⟩ (by simp; omega), back_eq,
    r ⟨n - 1 - 1 - 1, by omega⟩ (by simp; omega), r ⟨n - 1 - 1, by omega⟩ (by simp; omega), r ⟨n - 1, by omega⟩ (by simp; omega),
    p ⟨n - 1 - 1 - 1, by omega⟩ 0 (by simp; omega), p ⟨n - 1 - 1, by omega⟩ 1 (by simp; omega), p ⟨n - 1, by omega⟩ 2 (by simp; omega), p ⟨n, hn⟩ 3 h']
  rfl

theorem tile2 (a : FVec Ideal (⟨2, ![2048, 2048]⟩ : Shape) .f32) (t : Fin cfg0.N) (y : ((cfg0.win 2).xblock (cfg0.grid.coords t)).Idx) :
    a ((win0_2.blk t).view.emb y) = a (ix2 (rowAt t (y 0)) (y 1)) := by
  blk_ext [idx t]

theorem final2 : (dats m 0 c).arrAt 2 (cfgs 0).N = back (dA m c) (wA m c) := by
  refine (dats m 0 c).arrAt_eq_of_covers 2 _ (by decide +kernel) fun t hf y => ?_
  blk_simp
  rw [after0_2]
  refine Eq.trans ?_ (tile2 _ t y).symm
  exact out2 m c t ((flush0_2 t).mp hf) _

end Cert.Kernel22Ideal.Hand

namespace Cert.Reference22Ideal.Hand

open Cert.Reference22Ideal Cert.Reference22Ideal.Gen Cert.MmGradIn

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)) ∧ r.2.sem = fun _ => 0 :=
  (θ_run defs _ _).mono (fun r h => ⟨fun c => (h c).2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v3) = back (m (c.tc.loc main_arg0)) (m (c.tc.loc main_arg1))
    ∧ r.2.mem (c.tc.loc main_arg0) = m (c.tc.loc main_arg0)
    ∧ r.2.mem (c.tc.loc main_arg1) = m (c.tc.loc main_arg1) := by
  refine (θ_run defs _ _).mono (fun r h c => ?_) (Value.run m ρ)
  obtain ⟨h0, h1⟩ := h c
  refine ⟨h0.trans ?_, h1⟩
  funext i
  pointwise [back]

end Cert.Reference22Ideal.Hand

namespace Cert.MmGradIn

theorem alg : Cert.algebraic_Kernel22Ideal_Reference22Ideal (hKernel22Ideal := Cert.Kernel22Ideal.Gen.facts) (hReference22Ideal := Cert.Reference22Ideal.Gen.facts) := by
  pair_intro
  · run_from Cert.Kernel22Ideal.Value.run_blocks m g
  · run_from Cert.Reference22Ideal.Hand.run m' g'
    exact (Cert.Kernel22Ideal.Hand.final2 m c).symm

end Cert.MmGradIn

end
-- ==== Proof.SsmPrep.lean ====
module

public import proofs.«01_k».proof.Defs
public import proofs.«01_k».proof.Proof.Gen.Kernel23Ideal.Value
public import proofs.«01_k».proof.Proof.Gen.Reference23Ideal.Run
public import proofs.«01_k».proof.Proof.PrepMath
public import Idealize.ShloMosaic.Lib.Pipeline.ValueKit

/-! The state-space layer's discretisation, and the powers of its eigenvalues at any exponents. -/

@[expose] public section

set_option maxRecDepth 16384

noncomputable section

open Idealize.ShloMosaic Idealize.ShloMosaic.TcCoe Idealize.SL.Sem
open Idealize.ShloMosaic.Pipeline (Dat)

namespace Cert.SsmPrep

open Cert.Prep

abbrev Powers : Type := FVec Ideal (⟨2, ![72, 1]⟩ : Shape) .f32
abbrev PowTable : Type := FVec Ideal (⟨2, ![72, 4096]⟩ : Shape) .f32

/-- A power of an eigenvalue, its real or its imaginary part: `a + ib` the rate, `d` the step, `k` the exponent. -/
def power (turn : EReal → EReal) (k a b d : EReal) : EReal := Ideal.exp (k * (a * d)) * turn (k * (b * d))

/-- An entry of the discretised input matrix, its real and its imaginary part. -/
def inRe (a b d p q : EReal) : EReal := fRe a b d * p - fIm a b d * q
def inIm (a b d p q : EReal) : EReal := fRe a b d * q + fIm a b d * p

/-- The tables of powers, a row for each exponent, and the input matrices, a column for each state. -/
def table (turn : EReal → EReal) (k : Powers) (t : Steps) (A B : Rates) : PowTable := fun i =>
  power turn (k (ix2 (i 0) 0)) (rate A (i 1)) (rate B (i 1)) (step t (i 1))
def sheet (f : EReal → EReal → EReal → EReal → EReal → EReal) (t : Steps) (A B : Rates) (p q : Coefs) : Sheet := fun i =>
  f (rate A (i 1)) (rate B (i 1)) (step t (i 1)) (coef p (i 1) (i 0)) (coef q (i 1) (i 0))

end Cert.SsmPrep

namespace Cert.Kernel23Ideal.Hand

open Cert.Kernel23Ideal Cert.Kernel23Ideal.Gen Cert.Prep Cert.SsmPrep

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] := (by decide +kernel : ∀ t : Fin grid0.N, _)

/-! The packed arguments. -/

theorem host1 : V (F := Ideal) m c main_v1 = fun y => m (c.tc.loc main_arg1) (ix2 0 (grp (y 1))) := by
  unfold_abbrev_sides; after_results; funext i; pointwise []
theorem host2 : V (F := Ideal) m c main_v2 = fun y => rate (m (c.tc.loc main_arg2)) (y 1) := by
  unfold_abbrev_sides; after_results; funext i; pointwise []
theorem host3 : V (F := Ideal) m c main_v3 = fun y => rate (m (c.tc.loc main_arg3)) (y 1) := by
  unfold_abbrev_sides; after_results; funext i; pointwise []
theorem host5 : V (F := Ideal) m c main_v5 = fun y => coef (m (c.tc.loc main_arg4)) (y 1) (y 0) := by
  unfold_abbrev_sides; after_results; funext i; pointwise []
theorem host7 : V (F := Ideal) m c main_v7 = fun y => coef (m (c.tc.loc main_arg5)) (y 1) (y 0) := by
  unfold_abbrev_sides; after_results; funext i; pointwise []

/-! What the call makes of its operands. -/

section
variable (t a b : Line) (p q : Sheet) (k : Powers)

theorem out6 (i : S72x4096.Idx) : out0_6 (F := Ideal) t a b p q k i
    = power Ideal.cos (k (ix2 (i 0) 0)) (a (ix2 0 (i 1))) (b (ix2 0 (i 1))) (Ideal.exp (t (ix2 0 (i 1)))) := by
  frame_out; pointwise [k0_pay8, k0_pay7, k0_pay6, k0_pay5, k0_pay4, k0_pay3, power]
theorem out7 (i : S72x4096.Idx) : out0_7 (F := Ideal) t a b p q k i
    = power Ideal.sin (k (ix2 (i 0) 0)) (a (ix2 0 (i 1))) (b (ix2 0 (i 1))) (Ideal.exp (t (ix2 0 (i 1)))) := by
  frame_out; pointwise [k0_pay9, k0_pay7, k0_pay6, k0_pay5, k0_pay4, k0_pay3, power]
theorem out8 (i : S16x4096.Idx) : out0_8 (F := Ideal) t a b p q k i
    = inRe (a (ix2 0 (i 1))) (b (ix2 0 (i 1))) (Ideal.exp (t (ix2 0 (i 1)))) (p (ix2 (i 0) (i 1))) (q (ix2 (i 0) (i 1))) := by
  frame_out; pointwise [k0_pay1, k0_pay17, k0_pay16, k0_pay15, k0_pay14, k0_pay13, k0_pay12, k0_pay11, k0_pay10, k0_pay5, k0_pay4, k0_pay3, inRe, fRe, fIm, numRe, numIm, Prep.sq, lamRe, lamIm]
theorem out9 (i : S16x4096.Idx) : out0_9 (F := Ideal) t a b p q k i
    = inIm (a (ix2 0 (i 1))) (b (ix2 0 (i 1))) (Ideal.exp (t (ix2 0 (i 1)))) (p (ix2 (i 0) (i 1))) (q (ix2 (i 0) (i 1))) := by
  frame_out; pointwise [k0_pay2, k0_pay17, k0_pay16, k0_pay15, k0_pay14, k0_pay13, k0_pay12, k0_pay11, k0_pay10, k0_pay5, k0_pay4, k0_pay3, inIm, fRe, fIm, numRe, numIm, Prep.sq, lamRe, lamIm]
end

theorem blk0 (t) : iblk m c 0 t = fun y => m (c.tc.loc main_arg1) (ix2 0 (grp (y 1))) := by
  refine Eq.trans ?_ (host1 m c); unfold iblk; funext y; blk_ext [idx t]
theorem blk1 (t) : iblk m c 1 t = fun y => rate (m (c.tc.loc main_arg2)) (y 1) := by
  refine Eq.trans ?_ (host2 m c); unfold iblk; funext y; blk_ext [idx t]
theorem blk2 (t) : iblk m c 2 t = fun y => rate (m (c.tc.loc main_arg3)) (y 1) := by
  refine Eq.trans ?_ (host3 m c); unfold iblk; funext y; blk_ext [idx t]
theorem blk3 (t) : iblk m c 3 t = fun y => coef (m (c.tc.loc main_arg4)) (y 1) (y 0) := by
  refine Eq.trans ?_ (host5 m c); unfold iblk; funext y; blk_ext [idx t]
theorem blk4 (t) : iblk m c 4 t = fun y => coef (m (c.tc.loc main_arg5)) (y 1) (y 0) := by
  refine Eq.trans ?_ (host7 m c); unfold iblk; funext y; blk_ext [idx t]
theorem blk5 (t) : iblk m c 5 t = (m (c.tc.loc main_arg0) : Powers) := by funext y; blk_ext [iblk, V, idx t]

theorem tile6 (a : PowTable) (t : Fin cfg0.N) (y : ((cfg0.win 6).xblock (cfg0.grid.coords t)).Idx) : a ((win0_6.blk t).view.emb y) = a y := by blk_ext [idx t]
theorem tile7 (a : PowTable) (t : Fin cfg0.N) (y : ((cfg0.win 7).xblock (cfg0.grid.coords t)).Idx) : a ((win0_7.blk t).view.emb y) = a y := by blk_ext [idx t]
theorem tile8 (a : Sheet) (t : Fin cfg0.N) (y : ((cfg0.win 8).xblock (cfg0.grid.coords t)).Idx) : a ((win0_8.blk t).view.emb y) = a y := by blk_ext [idx t]
theorem tile9 (a : Sheet) (t : Fin cfg0.N) (y : ((cfg0.win 9).xblock (cfg0.grid.coords t)).Idx) : a ((win0_9.blk t).view.emb y) = a y := by blk_ext [idx t]

theorem final6 : (dats m 0 c).arrAt 6 (cfgs 0).N
    = table Ideal.cos (m (c.tc.loc main_arg0)) (m (c.tc.loc main_arg1)) (m (c.tc.loc main_arg2)) (m (c.tc.loc main_arg3)) := by
  refine (dats m 0 c).arrAt_eq_of_covers 6 _ (by decide +kernel) fun t hf y => ?_
  blk_simp
  rw [after0_6]
  refine Eq.trans ?_ (tile6 _ t y).symm
  rw [out6, blk0, blk1, blk2, blk5]
  rfl
theorem final7 : (dats m 0 c).arrAt 7 (cfgs 0).N
    = table Ideal.sin (m (c.tc.loc main_arg0)) (m (c.tc.loc main_arg1)) (m (c.tc.loc main_arg2)) (m (c.tc.loc main_arg3)) := by
  refine (dats m 0 c).arrAt_eq_of_covers 7 _ (by decide +kernel) fun t hf y => ?_
  blk_simp
  rw [after0_7]
  refine Eq.trans ?_ (tile7 _ t y).symm
  rw [out7, blk0, blk1, blk2, blk5]
  rfl
theorem final8 : (dats m 0 c).arrAt 8 (cfgs 0).N
    = sheet inRe (m (c.tc.loc main_arg1)) (m (c.tc.loc main_arg2)) (m (c.tc.loc main_arg3)) (m (c.tc.loc main_arg4)) (m (c.tc.loc main_arg5)) := by
  refine (dats m 0 c).arrAt_eq_of_covers 8 _ (by decide +kernel) fun t hf y => ?_
  blk_simp
  rw [after0_8]
  refine Eq.trans ?_ (tile8 _ t y).symm
  rw [out8, blk0, blk1, blk2, blk3, blk4]
  rfl
theorem final9 : (dats m 0 c).arrAt 9 (cfgs 0).N
    = sheet inIm (m (c.tc.loc main_arg1)) (m (c.tc.loc main_arg2)) (m (c.tc.loc main_arg3)) (m (c.tc.loc main_arg4)) (m (c.tc.loc main_arg5)) := by
  refine (dats m 0 c).arrAt_eq_of_covers 9 _ (by decide +kernel) fun t hf y => ?_
  blk_simp
  rw [after0_9]
  refine Eq.trans ?_ (tile9 _ t y).symm
  rw [out9, blk0, blk1, blk2, blk3, blk4]
  rfl

end Cert.Kernel23Ideal.Hand

namespace Cert.Reference23Ideal.Hand

open Cert.Reference23Ideal Cert.Reference23Ideal.Gen Cert.Prep Cert.SsmPrep

variable (m : (ℓ : Loc nD τ sig) → Buf (Elt Ideal) ℓ) (ρ : Dev nD → PrngReg)

/-- The reference leaves its arguments as they were, and it has no semaphore. -/
theorem frame : θ_run defs (onTc (τ := τ) (main (F := Ideal))) ⟨m, fun _ => 0, ρ⟩ fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)) ∧ r.2.sem = fun _ => 0 :=
  (θ_run defs _ _).mono (fun r h => ⟨fun c => (h c).2.2.2.2, sem_eq_zero_of_no_sems (by decide) r.2⟩) (Value.run m ρ)

/-- The reference's results, as functions of its arguments. -/
theorem run : θ_run defs (onTc (τ := τ) (main (F := Ideal))) ⟨m, fun _ => 0, ρ⟩ fun r => ∀ c : Dev nD,
    r.2.mem (c.tc.loc main_v59) = table Ideal.cos (m (c.tc.loc main_arg0)) (m (c.tc.loc main_arg1)) (m (c.tc.loc main_arg2)) (m (c.tc.loc main_arg3))
    ∧ r.2.mem (c.tc.loc main_v62) = table Ideal.sin (m (c.tc.loc main_arg0)) (m (c.tc.loc main_arg1)) (m (c.tc.loc main_arg2)) (m (c.tc.loc main_arg3))
    ∧ r.2.mem (c.tc.loc main_v64) = sheet inRe (m (c.tc.loc main_arg1)) (m (c.tc.loc main_arg2)) (m (c.tc.loc main_arg3)) (m (c.tc.loc main_arg4)) (m (c.tc.loc main_arg5))
    ∧ r.2.mem (c.tc.loc main_v66) = sheet inIm (m (c.tc.loc main_arg1)) (m (c.tc.loc main_arg2)) (m (c.tc.loc main_arg3)) (m (c.tc.loc main_arg4)) (m (c.tc.loc main_arg5))
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5) := by
  refine (θ_run defs _ _).mono (fun r h c => ?_) (Value.run m ρ)
  obtain ⟨h0, h1, h2, h3, h4⟩ := h c
  refine ⟨h0.trans ?_, h1.trans ?_, h2.trans ?_, h3.trans ?_, h4⟩
  · funext i; pointwise [table, power]
  · funext i; pointwise [table, power]
  · funext i; pointwise [sheet, inRe, fRe, fIm, numRe, numIm, Prep.sq, lamRe, lamIm]
  · funext i; pointwise [sheet, inIm, fRe, fIm, numRe, numIm, Prep.sq, lamRe, lamIm]

end Cert.Reference23Ideal.Hand

namespace Cert.SsmPrep

theorem alg : Cert.algebraic_Kernel23Ideal_Reference23Ideal (hKernel23Ideal := Cert.Kernel23Ideal.Gen.facts) (hReference23Ideal := Cert.Reference23Ideal.Gen.facts) := by
  pair_intro
  · run_from Cert.Kernel23Ideal.Value.run_blocks m g
  · run_from Cert.Reference23Ideal.Hand.run m' g'
    · exact (Cert.Kernel23Ideal.Hand.final6 m c).symm
    · exact (Cert.Kernel23Ideal.Hand.final7 m c).symm
    · exact (Cert.Kernel23Ideal.Hand.final8 m c).symm
    · exact (Cert.Kernel23Ideal.Hand.final9 m c).symm

end Cert.SsmPrep

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Premix
public import proofs.«01_k».proof.Proof.Loss
public import proofs.«01_k».proof.Proof.Mix
public import proofs.«01_k».proof.Proof.Conv
public import proofs.«01_k».proof.Proof.Sgu
public import proofs.«01_k».proof.Proof.Mid
public import proofs.«01_k».proof.Proof.Prep
public import proofs.«01_k».proof.Proof.WAda
public import proofs.«01_k».proof.Proof.PremixFwd
public import proofs.«01_k».proof.Proof.MidFwd
public import proofs.«01_k».proof.Proof.MixFwd
public import proofs.«01_k».proof.Proof.ConvFwd
public import proofs.«01_k».proof.Proof.SguFwd
public import proofs.«01_k».proof.Proof.ModPart
public import proofs.«01_k».proof.Proof.MmUp
public import proofs.«01_k».proof.Proof.MmGradUp
public import proofs.«01_k».proof.Proof.MmGradDown
public import proofs.«01_k».proof.Proof.AdamW
public import proofs.«01_k».proof.Proof.AdamHalves
public import proofs.«01_k».proof.Proof.SmallSum
public import proofs.«01_k».proof.Proof.MmGradIn
public import proofs.«01_k».proof.Proof.SsmPrep

/-! The certificate's claims, from the generated frames and the value proofs of the modules beside it. -/

@[expose] public section

open Idealize.ShloMosaic

/-- Every claim of the certificate. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Premix.preFacts, Cert.Loss.preFacts, Cert.MixNorm.preFacts, Cert.Conv.preFacts, Cert.Sgu.preFacts, Cert.Mid.preFacts, Cert.Prep.preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Hand.frame m ρ, fun m ρ _ => Cert.ReferenceIdeal.Hand.frame m ρ,
    fun m ρ _ => Cert.Kernel2.Gen.frame m ρ, fun m ρ _ => Cert.Kernel2Ideal.Gen.frame m ρ, fun m ρ _ => Cert.Kernel2Ideal.Gen.frame m ρ,
    fun m ρ _ => Cert.Reference2Ideal.Hand.frame m ρ, fun m ρ _ => Cert.Reference2Ideal.Hand.frame m ρ,
    fun m ρ _ => Cert.Kernel3.Gen.frame m ρ, fun m ρ _ => Cert.Kernel3Ideal.Gen.frame m ρ, fun m ρ _ => Cert.Kernel3Ideal.Gen.frame m ρ,
    fun m ρ _ => Cert.Reference3Ideal.Hand.frame m ρ, fun m ρ _ => Cert.Reference3Ideal.Hand.frame m ρ,
    fun m ρ _ => Cert.Kernel4.Gen.frame m ρ, fun m ρ _ => Cert.Kernel4Ideal.Gen.frame m ρ, fun m ρ _ => Cert.Kernel4Ideal.Gen.frame m ρ,
    fun m ρ _ => Cert.Reference4Ideal.Hand.frame m ρ, fun m ρ _ => Cert.Reference4Ideal.Hand.frame m ρ,
    fun m ρ _ => Cert.Kernel5.Gen.frame m ρ, fun m ρ _ => Cert.Kernel5Ideal.Gen.frame m ρ, fun m ρ _ => Cert.Kernel5Ideal.Gen.frame m ρ,
    fun m ρ _ => Cert.Reference5Ideal.Hand.frame m ρ, fun m ρ _ => Cert.Reference5Ideal.Hand.frame m ρ,
    fun m ρ _ => Cert.Kernel6.Gen.frame m ρ, fun m ρ _ => Cert.Kernel6Ideal.Gen.frame m ρ, fun m ρ _ => Cert.Kernel6Ideal.Gen.frame m ρ,
    fun m ρ _ => Cert.Reference6Ideal.Hand.frame m ρ, fun m ρ _ => Cert.Reference6Ideal.Hand.frame m ρ,
    fun m ρ _ => Cert.Kernel7.Gen.frame m ρ, fun m ρ _ => Cert.Kernel7Ideal.Gen.frame m ρ, fun m ρ _ => Cert.Kernel7Ideal.Gen.frame m ρ,
    fun m ρ _ => Cert.Reference7Ideal.Hand.frame m ρ, fun m ρ _ => Cert.Reference7Ideal.Hand.frame m ρ,
    fun m ρ _ => Cert.Kernel8.Gen.frame m ρ, fun m ρ _ => Cert.Kernel8Ideal.Gen.frame m ρ, fun m ρ _ => Cert.Reference8Ideal.Hand.frame m ρ,
    fun m ρ _ => Cert.Kernel9.Gen.frame m ρ, fun m ρ _ => Cert.Kernel9Ideal.Gen.frame m ρ, fun m ρ _ => Cert.Reference9Ideal.Hand.frame m ρ,
    fun m ρ _ => Cert.Kernel10.Gen.frame m ρ, fun m ρ _ => Cert.Kernel10Ideal.Gen.frame m ρ, fun m ρ _ => Cert.Reference10Ideal.Hand.frame m ρ,
    fun m ρ _ => Cert.Kernel11.Gen.frame m ρ, fun m ρ _ => Cert.Kernel11Ideal.Gen.frame m ρ, fun m ρ _ => Cert.Reference11Ideal.Hand.frame m ρ,
    fun m ρ _ => Cert.Kernel12.Gen.frame m ρ, fun m ρ _ => Cert.Kernel12Ideal.Gen.frame m ρ, fun m ρ _ => Cert.Reference12Ideal.Hand.frame m ρ,
    fun m ρ _ => Cert.Kernel13.Gen.frame m ρ, fun m ρ _ => Cert.Kernel13Ideal.Gen.frame m ρ, fun m ρ _ => Cert.Reference13Ideal.Hand.frame m ρ,
    fun m ρ _ => Cert.Kernel14.Gen.frame m ρ, fun m ρ _ => Cert.Kernel14Ideal.Gen.frame m ρ, fun m ρ _ => Cert.Reference14Ideal.Hand.frame m ρ,
    fun m ρ _ => Cert.Kernel15.Gen.frame m ρ, fun m ρ _ => Cert.Kernel15Ideal.Gen.frame m ρ, fun m ρ _ => Cert.Reference15Ideal.Hand.frame m ρ,
    fun m ρ _ => Cert.Kernel16.Gen.frame m ρ, fun m ρ _ => Cert.Kernel16Ideal.Gen.frame m ρ, fun m ρ _ => Cert.Reference16Ideal.Hand.frame m ρ,
    fun m ρ _ => Cert.Kernel17.Gen.frame m ρ, fun m ρ _ => Cert.Kernel17Ideal.Gen.frame m ρ, fun m ρ _ => Cert.Reference17Ideal.Hand.frame m ρ,
    fun m ρ _ => Cert.Kernel18.Gen.frame m ρ, fun m ρ _ => Cert.Kernel18Ideal.Gen.frame m ρ, fun m ρ _ => Cert.Reference18Ideal.Hand.frame m ρ,
    fun m ρ _ => Cert.Kernel19.Gen.frame m ρ, fun m ρ _ => Cert.Kernel19Ideal.Gen.frame m ρ, fun m ρ _ => Cert.Reference19Ideal.Hand.frame m ρ,
    fun m ρ _ => Cert.Kernel21.Gen.frame m ρ, fun m ρ _ => Cert.Kernel21Ideal.Gen.frame m ρ, fun m ρ _ => Cert.Reference21Ideal.Hand.frame m ρ,
    fun m ρ _ => Cert.Kernel22.Gen.frame m ρ, fun m ρ _ => Cert.Kernel22Ideal.Gen.frame m ρ, fun m ρ _ => Cert.Reference22Ideal.Hand.frame m ρ,
    fun m ρ _ => Cert.Kernel23.Gen.frame m ρ, fun m ρ _ => Cert.Kernel23Ideal.Gen.frame m ρ, fun m ρ _ => Cert.Reference23Ideal.Hand.frame m ρ,
    trivial, Cert.Premix.alg, trivial, Cert.Loss.alg, trivial, Cert.MixNorm.alg, trivial, Cert.Conv.alg, Cert.Sgu.named, Cert.Sgu.alg, trivial, Cert.Mid.alg, trivial, Cert.Prep.alg, trivial, Cert.WAda.alg, trivial, Cert.PremixFwd.alg, trivial, Cert.MidFwd.alg, trivial, Cert.MixFwd.alg, trivial, Cert.ConvFwd.alg, Cert.SguFwd.named, Cert.SguFwd.alg, trivial, Cert.ModPart.alg, trivial, Cert.MmUp.alg, trivial, Cert.MmGradUp.alg, trivial, Cert.MmGradDown.alg, trivial, Cert.AdamW.alg, trivial, Cert.AdamHalves.alg, trivial, Cert.SmallSum.alg, trivial, Cert.MmGradIn.alg, trivial, Cert.SsmPrep.alg⟩
